-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_in [hPre_finite_in : Cert.Pre_finite_in.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_in.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_in [hPre_finite_in : Cert.Pre_finite_in.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_in.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_sample [hPre_finite_sample : Cert.Pre_finite_sample.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_sample.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_sample [hPre_finite_sample : Cert.Pre_finite_sample.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_sample.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite_in [hKernel4Ideal : Cert.Kernel4Ideal.Facts] [hPre_finite_in : Cert.Pre_finite_in.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_in m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite_in [hReference4Ideal : Cert.Reference4Ideal.Facts] [hPre_finite_in : Cert.Pre_finite_in.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_in m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Kernel8Ideal_pre_finite_sample [hKernel8Ideal : Cert.Kernel8Ideal.Facts] [hPre_finite_sample : Cert.Pre_finite_sample.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_sample m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Reference8Ideal_pre_finite_sample [hReference8Ideal : Cert.Reference8Ideal.Facts] [hPre_finite_sample : Cert.Pre_finite_sample.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_sample m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)) (v3 : (c : Dev Cert.Kernel2Ideal.nD) → Buf (Elt Ideal) ((c.tc : Thread Cert.Kernel2Ideal.nD Cert.Kernel2Ideal.τ).loc Cert.Kernel2Ideal.main_v12_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_v12_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_v32) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_in [hKernel4Ideal : Cert.Kernel4Ideal.Facts] [hReference4Ideal : Cert.Reference4Ideal.Facts] [hPre_finite_in : Cert.Pre_finite_in.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_in m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v90_0)) (v1 : (c : Dev Cert.Kernel4Ideal.nD) → Buf (Elt Ideal) ((c.tc : Thread Cert.Kernel4Ideal.nD Cert.Kernel4Ideal.τ).loc Cert.Kernel4Ideal.main_v90_1)) (v2 : (c : Dev Cert.Kernel4Ideal.nD) → Buf (Elt Ideal) ((c.tc : Thread Cert.Kernel4Ideal.nD Cert.Kernel4Ideal.τ).loc Cert.Kernel4Ideal.main_v90_2)) (v3 : (c : Dev Cert.Kernel4Ideal.nD) → Buf (Elt Ideal) ((c.tc : Thread Cert.Kernel4Ideal.nD Cert.Kernel4Ideal.τ).loc Cert.Kernel4Ideal.main_v90_3)) (v4 : (c : Dev Cert.Kernel4Ideal.nD) → Buf (Elt Ideal) ((c.tc : Thread Cert.Kernel4Ideal.nD Cert.Kernel4Ideal.τ).loc Cert.Kernel4Ideal.main_v90_4)) (v5 : (c : Dev Cert.Kernel4Ideal.nD) → Buf (Elt Ideal) ((c.tc : Thread Cert.Kernel4Ideal.nD Cert.Kernel4Ideal.τ).loc Cert.Kernel4Ideal.main_v90_5)) (v6 : (c : Dev Cert.Kernel4Ideal.nD) → Buf (Elt Ideal) ((c.tc : Thread Cert.Kernel4Ideal.nD Cert.Kernel4Ideal.τ).loc Cert.Kernel4Ideal.main_v90_6)) (v7 : (c : Dev Cert.Kernel4Ideal.nD) → Buf (Elt Ideal) ((c.tc : Thread Cert.Kernel4Ideal.nD Cert.Kernel4Ideal.τ).loc Cert.Kernel4Ideal.main_v90_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v90_0) = v0 c
          ∧ r.2.mem ((c.tc : Thread Cert.Kernel4Ideal.nD Cert.Kernel4Ideal.τ).loc Cert.Kernel4Ideal.main_v90_1) = v1 c
          ∧ r.2.mem ((c.tc : Thread Cert.Kernel4Ideal.nD Cert.Kernel4Ideal.τ).loc Cert.Kernel4Ideal.main_v90_2) = v2 c
          ∧ r.2.mem ((c.tc : Thread Cert.Kernel4Ideal.nD Cert.Kernel4Ideal.τ).loc Cert.Kernel4Ideal.main_v90_3) = v3 c
          ∧ r.2.mem ((c.tc : Thread Cert.Kernel4Ideal.nD Cert.Kernel4Ideal.τ).loc Cert.Kernel4Ideal.main_v90_4) = v4 c
          ∧ r.2.mem ((c.tc : Thread Cert.Kernel4Ideal.nD Cert.Kernel4Ideal.τ).loc Cert.Kernel4Ideal.main_v90_5) = v5 c
          ∧ r.2.mem ((c.tc : Thread Cert.Kernel4Ideal.nD Cert.Kernel4Ideal.τ).loc Cert.Kernel4Ideal.main_v90_6) = v6 c
          ∧ r.2.mem ((c.tc : Thread Cert.Kernel4Ideal.nD Cert.Kernel4Ideal.τ).loc Cert.Kernel4Ideal.main_v90_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v139) = v0 c
          ∧ r.2.mem ((c.tc : Thread Cert.Reference4Ideal.nD Cert.Reference4Ideal.τ).loc Cert.Reference4Ideal.main_v96) = v1 c
          ∧ r.2.mem ((c.tc : Thread Cert.Reference4Ideal.nD Cert.Reference4Ideal.τ).loc Cert.Reference4Ideal.main_v129) = v2 c
          ∧ r.2.mem ((c.tc : Thread Cert.Reference4Ideal.nD Cert.Reference4Ideal.τ).loc Cert.Reference4Ideal.main_v140) = v3 c
          ∧ r.2.mem ((c.tc : Thread Cert.Reference4Ideal.nD Cert.Reference4Ideal.τ).loc Cert.Reference4Ideal.main_v30) = v4 c
          ∧ r.2.mem ((c.tc : Thread Cert.Reference4Ideal.nD Cert.Reference4Ideal.τ).loc Cert.Reference4Ideal.main_v136) = v5 c
          ∧ r.2.mem ((c.tc : Thread Cert.Reference4Ideal.nD Cert.Reference4Ideal.τ).loc Cert.Reference4Ideal.main_v143) = v6 c
          ∧ r.2.mem ((c.tc : Thread Cert.Reference4Ideal.nD Cert.Reference4Ideal.τ).loc Cert.Reference4Ideal.main_v146) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)) (v2 : (c : Dev Cert.Kernel6Ideal.nD) → Buf (Elt Ideal) ((c.tc : Thread Cert.Kernel6Ideal.nD Cert.Kernel6Ideal.τ).loc Cert.Kernel6Ideal.main_v12_2)) (v3 : (c : Dev Cert.Kernel6Ideal.nD) → Buf (Elt Ideal) ((c.tc : Thread Cert.Kernel6Ideal.nD Cert.Kernel6Ideal.τ).loc Cert.Kernel6Ideal.main_v12_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_v12_2) = v2 c
          ∧ r.2.mem ((c.tc : Thread Cert.Kernel6Ideal.nD Cert.Kernel6Ideal.τ).loc Cert.Kernel6Ideal.main_v12_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v30) = v2 c
          ∧ r.2.mem ((c.tc : Thread Cert.Reference6Ideal.nD Cert.Reference6Ideal.τ).loc Cert.Reference6Ideal.main_v32) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal_pre_finite_sample [hKernel8Ideal : Cert.Kernel8Ideal.Facts] [hReference8Ideal : Cert.Reference8Ideal.Facts] [hPre_finite_sample : Cert.Pre_finite_sample.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_sample m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v92_0)) (v1 : (c : Dev Cert.Kernel8Ideal.nD) → Buf (Elt Ideal) ((c.tc : Thread Cert.Kernel8Ideal.nD Cert.Kernel8Ideal.τ).loc Cert.Kernel8Ideal.main_v92_1)) (v2 : (c : Dev Cert.Kernel8Ideal.nD) → Buf (Elt Ideal) ((c.tc : Thread Cert.Kernel8Ideal.nD Cert.Kernel8Ideal.τ).loc Cert.Kernel8Ideal.main_v92_2)) (v3 : (c : Dev Cert.Kernel8Ideal.nD) → Buf (Elt Ideal) ((c.tc : Thread Cert.Kernel8Ideal.nD Cert.Kernel8Ideal.τ).loc Cert.Kernel8Ideal.main_v92_3)) (v4 : (c : Dev Cert.Kernel8Ideal.nD) → Buf (Elt Ideal) ((c.tc : Thread Cert.Kernel8Ideal.nD Cert.Kernel8Ideal.τ).loc Cert.Kernel8Ideal.main_v92_4)) (v5 : (c : Dev Cert.Kernel8Ideal.nD) → Buf (Elt Ideal) ((c.tc : Thread Cert.Kernel8Ideal.nD Cert.Kernel8Ideal.τ).loc Cert.Kernel8Ideal.main_v92_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v92_0) = v0 c
          ∧ r.2.mem ((c.tc : Thread Cert.Kernel8Ideal.nD Cert.Kernel8Ideal.τ).loc Cert.Kernel8Ideal.main_v92_1) = v1 c
          ∧ r.2.mem ((c.tc : Thread Cert.Kernel8Ideal.nD Cert.Kernel8Ideal.τ).loc Cert.Kernel8Ideal.main_v92_2) = v2 c
          ∧ r.2.mem ((c.tc : Thread Cert.Kernel8Ideal.nD Cert.Kernel8Ideal.τ).loc Cert.Kernel8Ideal.main_v92_3) = v3 c
          ∧ r.2.mem ((c.tc : Thread Cert.Kernel8Ideal.nD Cert.Kernel8Ideal.τ).loc Cert.Kernel8Ideal.main_v92_4) = v4 c
          ∧ r.2.mem ((c.tc : Thread Cert.Kernel8Ideal.nD Cert.Kernel8Ideal.τ).loc Cert.Kernel8Ideal.main_v92_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v90) = v0 c
          ∧ r.2.mem ((c.tc : Thread Cert.Reference8Ideal.nD Cert.Reference8Ideal.τ).loc Cert.Reference8Ideal.main_v103) = v1 c
          ∧ r.2.mem ((c.tc : Thread Cert.Reference8Ideal.nD Cert.Reference8Ideal.τ).loc Cert.Reference8Ideal.main_v136) = v2 c
          ∧ r.2.mem ((c.tc : Thread Cert.Reference8Ideal.nD Cert.Reference8Ideal.τ).loc Cert.Reference8Ideal.main_v137) = v3 c
          ∧ r.2.mem ((c.tc : Thread Cert.Reference8Ideal.nD Cert.Reference8Ideal.τ).loc Cert.Reference8Ideal.main_v32) = v4 c
          ∧ r.2.mem ((c.tc : Thread Cert.Reference8Ideal.nD Cert.Reference8Ideal.τ).loc Cert.Reference8Ideal.main_v87) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_qk : Cert.Pre_finite_qk.Facts) (hPre_finite_in : Cert.Pre_finite_in.Facts) (hPre_finite_sample : Cert.Pre_finite_sample.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_in (hKernel4Ideal := hKernel4Ideal) (hPre_finite_in := hPre_finite_in)
    ∧ quiescent_Reference4Ideal (hReference4Ideal := hReference4Ideal)
    ∧ quiescent_Reference4Ideal_pre_finite_in (hReference4Ideal := hReference4Ideal) (hPre_finite_in := hPre_finite_in)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_sample (hKernel8Ideal := hKernel8Ideal) (hPre_finite_sample := hPre_finite_sample)
    ∧ quiescent_Reference8Ideal (hReference8Ideal := hReference8Ideal)
    ∧ quiescent_Reference8Ideal_pre_finite_sample (hReference8Ideal := hReference8Ideal) (hPre_finite_sample := hPre_finite_sample)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_in (hKernel4Ideal := hKernel4Ideal) (hReference4Ideal := hReference4Ideal) (hPre_finite_in := hPre_finite_in)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_sample (hKernel8Ideal := hKernel8Ideal) (hReference8Ideal := hReference8Ideal) (hPre_finite_sample := hPre_finite_sample)
-- ==== Pre_finite_in.lean ====
abbrev S4x8192x1024 : Shape := ⟨3, ![4, 8192, 1024]⟩
abbrev S4x1x1024 : Shape := ⟨3, ![4, 1, 1024]⟩
abbrev S1024 : Shape := ⟨1, ![1024]⟩
abbrev S1024x3240 : Shape := ⟨2, ![1024, 3240]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S_ : Shape := ⟨0, ![]⟩

class Facts : Prop where
  bcast_S_S4x1x1024 : S_.BroadcastsInDim S4x1x1024 (![] : Fin 0 → Fin S4x1x1024.rank)
  reducesTo_S4x1x1024_S_d0_1_2 : S4x1x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x3240 : S_.BroadcastsInDim S1024x3240 (![] : Fin 0 → Fin S1024x3240.rank)
  reducesTo_S1024x3240_S_d0_1 : S1024x3240.ReducesTo [0, 1] S_
  bcast_S_S384 : S_.BroadcastsInDim S384 (![] : Fin 0 → Fin S384.rank)
  reducesTo_S384_S_d0 : S384.ReducesTo [0] S_
  bcast_S_S384x8x96 : S_.BroadcastsInDim S384x8x96 (![] : Fin 0 → Fin S384x8x96.rank)
  reducesTo_S384x8x96_S_d0_1_2 : S384x8x96.ReducesTo [0, 1, 2] S_

variable [Facts]

def fn_part1 {F : FTy → Type} [FloatOps F] (main_arg5 : FVec F S384 .f32) (main_arg6 : FVec F S384x8x96 .f32) (main_v13 : IVec S_ 1) (main_v16 : IVec S1024x3240 1) : IVec S_ 1 :=
  let main_c_5 : IVec S_ 1 := constantI S_ 1 1#1
  let main_v17 : IVec S_ 1 := (fun x v => Host.reduce IntOp.andi x v reducesTo_S1024x3240_S_d0_1 h_S_) main_v16 main_c_5
  let main_v18 : IVec S_ 1 := andi main_v13 main_v17
  let main_v19 : FVec F S384 .f32 := Host.absf main_arg5
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384x8x96 .f32 := Host.absf main_arg6
  let main_cst_8 : FVec F S_ .f32 := constant S_ .f32 0x7F800000#32
  let main_v25 : FVec F S384x8x96 .f32 := broadcastInDim S384x8x96 ![] bcast_S_S384x8x96 main_cst_8
  let main_v26 : IVec S384x8x96 1 := cmpf .olt main_v24 main_v25
  let main_c_9 : IVec S_ 1 := constantI S_ 1 1#1
  let main_v27 : IVec S_ 1 := (fun x v => Host.reduce IntOp.andi x v reducesTo_S384x8x96_S_d0_1_2 h_S_) main_v26 main_c_9
  let main_v28 : IVec S_ 1 := andi main_v23 main_v27
  main_v28

def fn {F : FTy → Type} [FloatOps F] (main_arg0 : FVec F S4x8192x1024 .f32) (main_arg1 : FVec F S4x1x1024 .f32) (main_arg2 : FVec F S4x1x1024 .f32) (main_arg3 : FVec F S1024 .f32) (main_arg4 : FVec F S1024x3240 .f32) (main_arg5 : FVec F S384 .f32) (main_arg6 : FVec F S384x8x96 .f32) (main_arg7 : FVec F S256 .f32) (main_arg8 : FVec F S256x8x128 .f32) : IVec S_ 1 :=
  let main_v0 : FVec F S4x1x1024 .f32 := Host.absf main_arg1
  let main_cst : FVec F S_ .f32 := constant S_ .f32 0x7F800000#32
  let main_v1 : FVec F S4x1x1024 .f32 := broadcastInDim S4x1x1024 ![] bcast_S_S4x1x1024 main_cst
  let main_v2 : IVec S4x1x1024 1 := cmpf .olt main_v0 main_v1
  let main_c : IVec S_ 1 := constantI S_ 1 1#1
  let main_v3 : IVec S_ 1 := (fun x v => Host.reduce IntOp.andi x v reducesTo_S4x1x1024_S_d0_1_2 h_S_) main_v2 main_c
  let main_v4 : FVec F S4x1x1024 .f32 := Host.absf main_arg2
  let main_cst_0 : FVec F S_ .f32 := constant S_ .f32 0x7F800000#32
  let main_v5 : FVec F S4x1x1024 .f32 := broadcastInDim S4x1x1024 ![] bcast_S_S4x1x1024 main_cst_0
  let main_v6 : IVec S4x1x1024 1 := cmpf .olt main_v4 main_v5
  let main_c_1 : IVec S_ 1 := constantI S_ 1 1#1
  let main_v7 : IVec S_ 1 := (fun x v => Host.reduce IntOp.andi x v reducesTo_S4x1x1024_S_d0_1_2 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x3240 .f32 := Host.absf main_arg4
  let main_cst_4 : FVec F S_ .f32 := constant S_ .f32 0x7F800000#32
  let main_v15 : FVec F S1024x3240 .f32 := broadcastInDim S1024x3240 ![] bcast_S_S1024x3240 main_cst_4
  let main_v16 : IVec S1024x3240 1 := cmpf .olt main_v14 main_v15
  fn_part1 (F := F) main_arg5 main_arg6 main_v13 main_v16
-- ==== Pre_finite_qk.lean ====
abbrev S4x8192x1024 : Shape := ⟨3, ![4, 8192, 1024]⟩
abbrev S4x8192x512 : Shape := ⟨3, ![4, 8192, 512]⟩
abbrev S_ : Shape := ⟨0, ![]⟩

class Facts : Prop where
  bitsLt_bf16_f32 : FTy.bits .bf16 < FTy.bits .f32
  bcast_S_S4x8192x1024 : S_.BroadcastsInDim S4x8192x1024 (![] : Fin 0 → Fin S4x8192x1024.rank)

variable [Facts]

def fn {F : FTy → Type} [FloatOps F] (main_arg0 : FVec F S4x8192x1024 .bf16) (main_arg1 : FVec F S4x8192x1024 .bf16) (main_arg2 : FVec F S4x8192x512 .bf16) : IVec S4x8192x1024 1 :=
  let main_v0 : FVec F S4x8192x1024 .f32 := (extf .f32 · bitsLt_bf16_f32) main_arg0
  let main_v1 : FVec F S4x8192x1024 .f32 := Host.absf main_v0
  let main_cst : FVec F S_ .f32 := constant S_ .f32 0x7F800000#32
  let main_v2 : FVec F S4x8192x1024 .f32 := broadcastInDim S4x8192x1024 ![] bcast_S_S4x8192x1024 main_cst
  let main_v3 : IVec S4x8192x1024 1 := cmpf .olt main_v1 main_v2
  let main_v4 : FVec F S4x8192x1024 .f32 := (extf .f32 · bitsLt_bf16_f32) main_arg1
  let main_v5 : FVec F S4x8192x1024 .f32 := Host.absf main_v4
  let main_cst_0 : FVec F S_ .f32 := constant S_ .f32 0x7F800000#32
  let main_v6 : FVec F S4x8192x1024 .f32 := broadcastInDim S4x8192x1024 ![] bcast_S_S4x8192x1024 main_cst_0
  let main_v7 : IVec S4x8192x1024 1 := cmpf .olt main_v5 main_v6
  let main_v8 : IVec S4x8192x1024 1 := andi main_v3 main_v7
  main_v8
-- ==== Pre_finite_sample.lean ====
abbrev S32x64x1024 : Shape := ⟨3, ![32, 64, 1024]⟩
abbrev S32x1x1024 : Shape := ⟨3, ![32, 1, 1024]⟩
abbrev S1024 : Shape := ⟨1, ![1024]⟩
abbrev S1024x3240 : Shape := ⟨2, ![1024, 3240]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S_ : Shape := ⟨0, ![]⟩

class Facts : Prop where
  bcast_S_S32x1x1024 : S_.BroadcastsInDim S32x1x1024 (![] : Fin 0 → Fin S32x1x1024.rank)
  reducesTo_S32x1x1024_S_d0_1_2 : S32x1x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x3240 : S_.BroadcastsInDim S1024x3240 (![] : Fin 0 → Fin S1024x3240.rank)
  reducesTo_S1024x3240_S_d0_1 : S1024x3240.ReducesTo [0, 1] S_
  bcast_S_S384 : S_.BroadcastsInDim S384 (![] : Fin 0 → Fin S384.rank)
  reducesTo_S384_S_d0 : S384.ReducesTo [0] S_
  bcast_S_S384x8x96 : S_.BroadcastsInDim S384x8x96 (![] : Fin 0 → Fin S384x8x96.rank)
  reducesTo_S384x8x96_S_d0_1_2 : S384x8x96.ReducesTo [0, 1, 2] S_

variable [Facts]

def fn_part1 {F : FTy → Type} [FloatOps F] (main_arg5 : FVec F S384 .f32) (main_arg6 : FVec F S384x8x96 .f32) (main_v13 : IVec S_ 1) (main_v16 : IVec S1024x3240 1) : IVec S_ 1 :=
  let main_c_5 : IVec S_ 1 := constantI S_ 1 1#1
  let main_v17 : IVec S_ 1 := (fun x v => Host.reduce IntOp.andi x v reducesTo_S1024x3240_S_d0_1 h_S_) main_v16 main_c_5
  let main_v18 : IVec S_ 1 := andi main_v13 main_v17
  let main_v19 : FVec F S384 .f32 := Host.absf main_arg5
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384x8x96 .f32 := Host.absf main_arg6
  let main_cst_8 : FVec F S_ .f32 := constant S_ .f32 0x7F800000#32
  let main_v25 : FVec F S384x8x96 .f32 := broadcastInDim S384x8x96 ![] bcast_S_S384x8x96 main_cst_8
  let main_v26 : IVec S384x8x96 1 := cmpf .olt main_v24 main_v25
  let main_c_9 : IVec S_ 1 := constantI S_ 1 1#1
  let main_v27 : IVec S_ 1 := (fun x v => Host.reduce IntOp.andi x v reducesTo_S384x8x96_S_d0_1_2 h_S_) main_v26 main_c_9
  let main_v28 : IVec S_ 1 := andi main_v23 main_v27
  main_v28

def fn {F : FTy → Type} [FloatOps F] (main_arg0 : FVec F S32x64x1024 .f32) (main_arg1 : FVec F S32x1x1024 .f32) (main_arg2 : FVec F S32x1x1024 .f32) (main_arg3 : FVec F S1024 .f32) (main_arg4 : FVec F S1024x3240 .f32) (main_arg5 : FVec F S384 .f32) (main_arg6 : FVec F S384x8x96 .f32) (main_arg7 : FVec F S256 .f32) (main_arg8 : FVec F S256x8x128 .f32) : IVec S_ 1 :=
  let main_v0 : FVec F S32x1x1024 .f32 := Host.absf main_arg1
  let main_cst : FVec F S_ .f32 := constant S_ .f32 0x7F800000#32
  let main_v1 : FVec F S32x1x1024 .f32 := broadcastInDim S32x1x1024 ![] bcast_S_S32x1x1024 main_cst
  let main_v2 : IVec S32x1x1024 1 := cmpf .olt main_v0 main_v1
  let main_c : IVec S_ 1 := constantI S_ 1 1#1
  let main_v3 : IVec S_ 1 := (fun x v => Host.reduce IntOp.andi x v reducesTo_S32x1x1024_S_d0_1_2 h_S_) main_v2 main_c
  let main_v4 : FVec F S32x1x1024 .f32 := Host.absf main_arg2
  let main_cst_0 : FVec F S_ .f32 := constant S_ .f32 0x7F800000#32
  let main_v5 : FVec F S32x1x1024 .f32 := broadcastInDim S32x1x1024 ![] bcast_S_S32x1x1024 main_cst_0
  let main_v6 : IVec S32x1x1024 1 := cmpf .olt main_v4 main_v5
  let main_c_1 : IVec S_ 1 := constantI S_ 1 1#1
  let main_v7 : IVec S_ 1 := (fun x v => Host.reduce IntOp.andi x v reducesTo_S32x1x1024_S_d0_1_2 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x3240 .f32 := Host.absf main_arg4
  let main_cst_4 : FVec F S_ .f32 := constant S_ .f32 0x7F800000#32
  let main_v15 : FVec F S1024x3240 .f32 := broadcastInDim S1024x3240 ![] bcast_S_S1024x3240 main_cst_4
  let main_v16 : IVec S1024x3240 1 := cmpf .olt main_v14 main_v15
  fn_part1 (F := F) main_arg5 main_arg6 main_v13 main_v16
-- ==== Kernel.lean ====
abbrev S4x8192x1024 : Shape := ⟨3, ![4, 8192, 1024]⟩
abbrev S4x8192x512 : Shape := ⟨3, ![4, 8192, 512]⟩
abbrev S1x512x1024 : Shape := ⟨3, ![1, 512, 1024]⟩
abbrev S1x512x512 : Shape := ⟨3, ![1, 512, 512]⟩
abbrev S8x512x1 : Shape := ⟨3, ![8, 512, 1]⟩
abbrev S8x512x64 : Shape := ⟨3, ![8, 512, 64]⟩
abbrev S1x512x128 : Shape := ⟨3, ![1, 512, 128]⟩
abbrev S512x128 : Shape := ⟨2, ![512, 128]⟩
abbrev S1x512x64 : Shape := ⟨3, ![1, 512, 64]⟩
abbrev S512x64 : Shape := ⟨2, ![512, 64]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩

abbrev nBuf : Space → Nat
  | .hbm => 4
  | .vmem => 11
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x512, .bf16⟩
  | .hbm, ⟨3, _⟩ => ⟨S4x8192x512, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .f32⟩
  | .local _ .vmem, ⟨7, _⟩ => ⟨S1x512x512, .f32⟩
  | .local _ .vmem, ⟨8, _⟩ => ⟨S8x512x1, .f32⟩
  | .local _ .vmem, ⟨9, _⟩ => ⟨S8x512x1, .f32⟩
  | .local _ .vmem, ⟨10, _⟩ => ⟨S8x512x64, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 16], ![false, false, false]⟩

def k0_cond3 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S4x8192x1024 : Shape := ⟨3, ![4, 8192, 1024]⟩
abbrev S4x8192x512 : Shape := ⟨3, ![4, 8192, 512]⟩
abbrev S4x8192x8x128 : Shape := ⟨4, ![4, 8192, 8, 128]⟩
abbrev S4x8192x8x64 : Shape := ⟨4, ![4, 8192, 8, 64]⟩
abbrev S8192 : Shape := ⟨1, ![8192]⟩
abbrev S4x8x8192x8192 : Shape := ⟨4, ![4, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩

abbrev nBuf : Space → Nat
  | .hbm => 74
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x512, .bf16⟩
  | .hbm, ⟨3, _⟩ => ⟨S4x8192x1024, .f32⟩
  | .hbm, ⟨4, _⟩ => ⟨S4x8192x8x128, .f32⟩
  | .hbm, ⟨5, _⟩ => ⟨S4x8192x1024, .f32⟩
  | .hbm, ⟨6, _⟩ => ⟨S4x8192x8x128, .f32⟩
  | .hbm, ⟨7, _⟩ => ⟨S4x8192x512, .f32⟩
  | .hbm, ⟨8, _⟩ => ⟨S4x8192x8x64, .f32⟩
  | .hbm, ⟨9, _⟩ => ⟨S8192, .i32⟩
  | .hbm, ⟨10, _⟩ => ⟨S4x8x8192x8192, .f32⟩
  | .hbm, ⟨11, _⟩ => ⟨S_, .i32⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S8192, .i1⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S1x8192, .i32⟩
  | .hbm, ⟨30, _⟩ => ⟨S_, .i32⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S8192x1, .i32⟩
  | .hbm, ⟨49, _⟩ => ⟨S8192x8192, .i32⟩
  | .hbm, ⟨50, _⟩ => ⟨S8192x8192, .i32⟩
  | .hbm, ⟨51, _⟩ => ⟨S8192x8192, .i1⟩
  | .hbm, ⟨52, _⟩ => ⟨S_, .f32⟩
  | .hbm, ⟨53, _⟩ => ⟨S_, .f32⟩
  | .hbm, ⟨54, _⟩ => ⟨S4x8x8192x8192, .i1⟩
  | .hbm, ⟨55, _⟩ => ⟨S4x8x8192x8192, .f32⟩
  | .hbm, ⟨56, _⟩ => ⟨S4x8x8192x8192, .f32⟩
  | .hbm, ⟨57, _⟩ => ⟨S_, .f32⟩
  | .hbm, ⟨58, _⟩ => ⟨S4x8x8192, .f32⟩
  | .hbm, ⟨59, _⟩ => ⟨S_, .f32⟩
  | .hbm, ⟨60, _⟩ => ⟨S4x8x8192, .f32⟩
  | .hbm, ⟨61, _⟩ => ⟨S4x8x8192, .f32⟩
  | .hbm, ⟨62, _⟩ => ⟨S4x8x8192x1, .f32⟩
  | .hbm, ⟨63, _⟩ => ⟨S4x8x8192x8192, .f32⟩
  | .hbm, ⟨64, _⟩ => ⟨S4x8x8192x8192, .f32⟩
  | .hbm, ⟨65, _⟩ => ⟨S4x8x8192x8192, .f32⟩
  | .hbm, ⟨66, _⟩ => ⟨S_, .f32⟩
  | .hbm, ⟨67, _⟩ => ⟨S4x8x8192, .f32⟩
  | .hbm, ⟨68, _⟩ => ⟨S4x8x8192x1, .f32⟩
  | .hbm, ⟨69, _⟩ => ⟨S4x8x8192x8192, .f32⟩
  | .hbm, ⟨70, _⟩ => ⟨S4x8x8192x8192, .f32⟩
  | .hbm, ⟨71, _⟩ => ⟨S4x8x64x8192, .f32⟩
  | .hbm, ⟨72, _⟩ => ⟨S4x8192x8x64, .f32⟩
  | .hbm, ⟨73, _⟩ => ⟨S4x8192x512, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v15 : Ref sig .tc := ⟨.hbm, 56, rfl⟩
abbrev main_cst_1 : Ref sig .tc := ⟨.hbm, 57, rfl⟩
abbrev main_v16 : Ref sig .tc := ⟨.hbm, 58, rfl⟩
abbrev main_cst_2 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_3 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩

abbrev nD : Nat := 1
abbrev τ : Topo := Topo.v7x

variable {F : FTy → Type} [FloatOps F]
-- ==== Kernel2.lean ====
abbrev S4x8192x512 : Shape := ⟨3, ![4, 8192, 512]⟩
abbrev S4x8192x1024 : Shape := ⟨3, ![4, 8192, 1024]⟩
abbrev S4x1x1024 : Shape := ⟨3, ![4, 1, 1024]⟩
abbrev S1024x1024 : Shape := ⟨2, ![1024, 1024]⟩
abbrev S1024 : Shape := ⟨1, ![1024]⟩
abbrev S1024x4112 : Shape := ⟨2, ![1024, 4112]⟩
abbrev S1024x3072 : Shape := ⟨2, ![1024, 3072]⟩
abbrev S1024x8 : Shape := ⟨2, ![1024, 8]⟩
abbrev S1024x16 : Shape := ⟨2, ![1024, 16]⟩
abbrev S_ : Shape := ⟨0, ![]⟩
abbrev S1024x128 : Shape := ⟨2, ![1024, 128]⟩
abbrev S1 : Shape := ⟨1, ![1]⟩
abbrev S1024x4224 : Shape := ⟨2, ![1024, 4224]⟩
abbrev S1x1024 : Shape := ⟨2, ![1, 1024]⟩
abbrev S4x8192x3072 : Shape := ⟨3, ![4, 8192, 3072]⟩
abbrev S4x8192x128 : Shape := ⟨3, ![4, 8192, 128]⟩
abbrev S1x256x512 : Shape := ⟨3, ![1, 256, 512]⟩
abbrev S1x256x1024 : Shape := ⟨3, ![1, 256, 1024]⟩
abbrev S1x1x1024 : Shape := ⟨3, ![1, 1, 1024]⟩
abbrev S1x256x3072 : Shape := ⟨3, ![1, 256, 3072]⟩
abbrev S1x256x128 : Shape := ⟨3, ![1, 256, 128]⟩
abbrev S256x1024 : Shape := ⟨2, ![256, 1024]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S256x4224 : Shape := ⟨2, ![256, 4224]⟩
abbrev S256x3072 : Shape := ⟨2, ![256, 3072]⟩
abbrev S256x128 : Shape := ⟨2, ![256, 128]⟩

abbrev nBuf : Space → Nat
  | .hbm => 28
  | .vmem => 25
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x1024, .f32⟩
  | .hbm, ⟨3, _⟩ => ⟨S4x8192x1024, .f32⟩
  | .hbm, ⟨4, _⟩ => ⟨S4x1x1024, .f32⟩
  | .hbm, ⟨5, _⟩ => ⟨S1024x1024, .f32⟩
  | .hbm, ⟨6, _⟩ => ⟨S4x1x1024, .f32⟩
  | .hbm, ⟨7, _⟩ => ⟨S4x1x1024, .f32⟩
  | .hbm, ⟨8, _⟩ => ⟨S1024, .f32⟩
  | .hbm, ⟨9, _⟩ => ⟨S1024x4112, .f32⟩
  | .hbm, ⟨10, _⟩ => ⟨S1024x1024, .bf16⟩
  | .hbm, ⟨11, _⟩ => ⟨S1024x3072, .f32⟩
  | .hbm, ⟨12, _⟩ => ⟨S1024x8, .f32⟩
  | .hbm, ⟨13, _⟩ => ⟨S1024x8, .f32⟩
  | .hbm, ⟨14, _⟩ => ⟨S1024x1024, .f32⟩
  | .hbm, ⟨15, _⟩ => ⟨S1024x16, .f32⟩
  | .hbm, ⟨16, _⟩ => ⟨S_, .f32⟩
  | .hbm, ⟨17, _⟩ => ⟨S1024x128, .f32⟩
  | .hbm, ⟨18, _⟩ => ⟨S_, .i32⟩
  | .hbm, ⟨19, _⟩ => ⟨S1, .i32⟩
  | .hbm, ⟨20, _⟩ => ⟨S1024x128, .f32⟩
  | .hbm, ⟨21, _⟩ => ⟨S1024x4224, .f32⟩
  | .hbm, ⟨22, _⟩ => ⟨S1024x4224, .bf16⟩
  | .hbm, ⟨23, _⟩ => ⟨S1x1024, .f32⟩
  | .hbm, ⟨24, _⟩ => ⟨S4x8192x1024, .f32⟩
  | .hbm, ⟨25, _⟩ => ⟨S4x8192x3072, .f32⟩
  | .hbm, ⟨26, _⟩ => ⟨S4x8192x1024, .f32⟩
  | .hbm, ⟨27, _⟩ => ⟨S4x8192x128, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | .local _ .vmem, ⟨16, _⟩ => ⟨S1024x4224, .bf16⟩
  | .local _ .vmem, ⟨17, _⟩ => ⟨S1x256x1024, .f32⟩
  | .local _ .vmem, ⟨18, _⟩ => ⟨S1x256x1024, .f32⟩
  | .local _ .vmem, ⟨19, _⟩ => ⟨S1x256x3072, .f32⟩
  | .local _ .vmem, ⟨20, _⟩ => ⟨S1x256x3072, .f32⟩
  | .local _ .vmem, ⟨21, _⟩ => ⟨S1x256x1024, .f32⟩
  | .local _ .vmem, ⟨22, _⟩ => ⟨S1x256x1024, .f32⟩
  | .local _ .vmem, ⟨23, _⟩ => ⟨S1x256x128, .f32⟩
  | .local _ .vmem, ⟨24, _⟩ => ⟨S1x256x128, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x4224 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x3072 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel2Ideal.lean ====
abbrev S4x8192x512 : Shape := ⟨3, ![4, 8192, 512]⟩
abbrev S4x8192x1024 : Shape := ⟨3, ![4, 8192, 1024]⟩
abbrev S4x1x1024 : Shape := ⟨3, ![4, 1, 1024]⟩
abbrev S1024x1024 : Shape := ⟨2, ![1024, 1024]⟩
abbrev S1024 : Shape := ⟨1, ![1024]⟩
abbrev S1024x4112 : Shape := ⟨2, ![1024, 4112]⟩
abbrev S1024x3072 : Shape := ⟨2, ![1024, 3072]⟩
abbrev S1024x8 : Shape := ⟨2, ![1024, 8]⟩
abbrev S1024x16 : Shape := ⟨2, ![1024, 16]⟩
abbrev S_ : Shape := ⟨0, ![]⟩
abbrev S1024x128 : Shape := ⟨2, ![1024, 128]⟩
abbrev S1 : Shape := ⟨1, ![1]⟩
abbrev S1024x4224 : Shape := ⟨2, ![1024, 4224]⟩
abbrev S1x1024 : Shape := ⟨2, ![1, 1024]⟩
abbrev S4x8192x3072 : Shape := ⟨3, ![4, 8192, 3072]⟩
abbrev S4x8192x128 : Shape := ⟨3, ![4, 8192, 128]⟩
abbrev S1x256x512 : Shape := ⟨3, ![1, 256, 512]⟩
abbrev S1x256x1024 : Shape := ⟨3, ![1, 256, 1024]⟩
abbrev S1x1x1024 : Shape := ⟨3, ![1, 1, 1024]⟩
abbrev S1x256x3072 : Shape := ⟨3, ![1, 256, 3072]⟩
abbrev S1x256x128 : Shape := ⟨3, ![1, 256, 128]⟩
abbrev S256x1024 : Shape := ⟨2, ![256, 1024]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S256x4224 : Shape := ⟨2, ![256, 4224]⟩
abbrev S256x3072 : Shape := ⟨2, ![256, 3072]⟩
abbrev S256x128 : Shape := ⟨2, ![256, 128]⟩

abbrev nBuf : Space → Nat
  | .hbm => 28
  | .vmem => 25
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x1024, .f32⟩
  | .hbm, ⟨3, _⟩ => ⟨S4x8192x1024, .f32⟩
  | .hbm, ⟨4, _⟩ => ⟨S4x1x1024, .f32⟩
  | .hbm, ⟨5, _⟩ => ⟨S1024x1024, .f32⟩
  | .hbm, ⟨6, _⟩ => ⟨S4x1x1024, .f32⟩
  | .hbm, ⟨7, _⟩ => ⟨S4x1x1024, .f32⟩
  | .hbm, ⟨8, _⟩ => ⟨S1024, .f32⟩
  | .hbm, ⟨9, _⟩ => ⟨S1024x4112, .f32⟩
  | .hbm, ⟨10, _⟩ => ⟨S1024x1024, .bf16⟩
  | .hbm, ⟨11, _⟩ => ⟨S1024x3072, .f32⟩
  | .hbm, ⟨12, _⟩ => ⟨S1024x8, .f32⟩
  | .hbm, ⟨13, _⟩ => ⟨S1024x8, .f32⟩
  | .hbm, ⟨14, _⟩ => ⟨S1024x1024, .f32⟩
  | .hbm, ⟨15, _⟩ => ⟨S1024x16, .f32⟩
  | .hbm, ⟨16, _⟩ => ⟨S_, .f32⟩
  | .hbm, ⟨17, _⟩ => ⟨S1024x128, .f32⟩
  | .hbm, ⟨18, _⟩ => ⟨S_, .i32⟩
  | .hbm, ⟨19, _⟩ => ⟨S1, .i32⟩
  | .hbm, ⟨20, _⟩ => ⟨S1024x128, .f32⟩
  | .hbm, ⟨21, _⟩ => ⟨S1024x4224, .f32⟩
  | .hbm, ⟨22, _⟩ => ⟨S1024x4224, .bf16⟩
  | .hbm, ⟨23, _⟩ => ⟨S1x1024, .f32⟩
  | .hbm, ⟨24, _⟩ => ⟨S4x8192x1024, .f32⟩
  | .hbm, ⟨25, _⟩ => ⟨S4x8192x3072, .f32⟩
  | .hbm, ⟨26, _⟩ => ⟨S4x8192x1024, .f32⟩
  | .hbm, ⟨27, _⟩ => ⟨S4x8192x128, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | .local _ .vmem, ⟨16, _⟩ => ⟨S1024x4224, .bf16⟩
  | .local _ .vmem, ⟨17, _⟩ => ⟨S1x256x1024, .f32⟩
  | .local _ .vmem, ⟨18, _⟩ => ⟨S1x256x1024, .f32⟩
  | .local _ .vmem, ⟨19, _⟩ => ⟨S1x256x3072, .f32⟩
  | .local _ .vmem, ⟨20, _⟩ => ⟨S1x256x3072, .f32⟩
  | .local _ .vmem, ⟨21, _⟩ => ⟨S1x256x1024, .f32⟩
  | .local _ .vmem, ⟨22, _⟩ => ⟨S1x256x1024, .f32⟩
  | .local _ .vmem, ⟨23, _⟩ => ⟨S1x256x128, .f32⟩
  | .local _ .vmem, ⟨24, _⟩ => ⟨S1x256x128, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x4224 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x3072 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S4x8192x512 : Shape := ⟨3, ![4, 8192, 512]⟩
abbrev S4x8192x1024 : Shape := ⟨3, ![4, 8192, 1024]⟩
abbrev S4x1x1024 : Shape := ⟨3, ![4, 1, 1024]⟩
abbrev S1024x1024 : Shape := ⟨2, ![1024, 1024]⟩
abbrev S1024 : Shape := ⟨1, ![1024]⟩
abbrev S1024x4112 : Shape := ⟨2, ![1024, 4112]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4112 : Shape := ⟨3, ![4, 8192, 4112]⟩
abbrev S4x8192x3072 : Shape := ⟨3, ![4, 8192, 3072]⟩
abbrev S4x8192x8 : Shape := ⟨3, ![4, 8192, 8]⟩
abbrev S4x8192x16 : Shape := ⟨3, ![4, 8192, 16]⟩
abbrev S4x8192x128 : Shape := ⟨3, ![4, 8192, 128]⟩

abbrev nBuf : Space → Nat
  | .hbm => 57
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x1024, .f32⟩
  | .hbm, ⟨3, _⟩ => ⟨S4x8192x1024, .f32⟩
  | .hbm, ⟨4, _⟩ => ⟨S4x1x1024, .f32⟩
  | .hbm, ⟨5, _⟩ => ⟨S1024x1024, .f32⟩
  | .hbm, ⟨6, _⟩ => ⟨S4x1x1024, .f32⟩
  | .hbm, ⟨7, _⟩ => ⟨S4x1x1024, .f32⟩
  | .hbm, ⟨8, _⟩ => ⟨S1024, .f32⟩
  | .hbm, ⟨9, _⟩ => ⟨S1024x4112, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S_, .f32⟩
  | .hbm, ⟨14, _⟩ => ⟨S4x8192x1024, .f32⟩
  | .hbm, ⟨15, _⟩ => ⟨S4x8192x1024, .f32⟩
  | .hbm, ⟨16, _⟩ => ⟨S_, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S_, .f32⟩
  | .hbm, ⟨33, _⟩ => ⟨S4x8192x1, .f32⟩
  | .hbm, ⟨34, _⟩ => ⟨S4x8192x1, .f32⟩
  | .hbm, ⟨35, _⟩ => ⟨S4x8192x1, .f32⟩
  | .hbm, ⟨36, _⟩ => ⟨S4x8192x1024, .f32⟩
  | .hbm, ⟨37, _⟩ => ⟨S4x8192x1024, .f32⟩
  | .hbm, ⟨38, _⟩ => ⟨S1x1x1024, .f32⟩
  | .hbm, ⟨39, _⟩ => ⟨S4x8192x1024, .f32⟩
  | .hbm, ⟨40, _⟩ => ⟨S4x8192x1024, .f32⟩
  | .hbm, ⟨41, _⟩ => ⟨S_, .f32⟩
  | .hbm, ⟨42, _⟩ => ⟨S4x1x1024, .f32⟩
  | .hbm, ⟨43, _⟩ => ⟨S4x1x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S4x8192x4112, .f32⟩
  | .hbm, ⟨49, _⟩ => ⟨S4x8192x3072, .f32⟩
  | .hbm, ⟨50, _⟩ => ⟨S4x8192x8, .f32⟩
  | .hbm, ⟨51, _⟩ => ⟨S4x8192x8, .f32⟩
  | .hbm, ⟨52, _⟩ => ⟨S4x8192x1024, .f32⟩
  | .hbm, ⟨53, _⟩ => ⟨S4x8192x16, .f32⟩
  | .hbm, ⟨54, _⟩ => ⟨S_, .i32⟩
  | .hbm, ⟨55, _⟩ => ⟨S_, .f32⟩
  | .hbm, ⟨56, _⟩ => ⟨S4x8192x128, .f32⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c : Ref sig .tc := ⟨.hbm, 54, rfl⟩
abbrev main_call1_v0 : Ref sig .tc := ⟨.hbm, 55, rfl⟩
abbrev main_v32 : Ref sig .tc := ⟨.hbm, 56, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x1x1024 : Shape := ⟨3, ![4, 1, 1024]⟩
abbrev S1024x1024 : Shape := ⟨2, ![1024, 1024]⟩
abbrev S1024 : Shape := ⟨1, ![1024]⟩
abbrev S1x1024 : Shape := ⟨2, ![1, 1024]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x1x1024, .f32⟩
  | .hbm, ⟨4, _⟩ => ⟨S1024x1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel3Ideal.lean ====
abbrev S4x8192x1024 : Shape := ⟨3, ![4, 8192, 1024]⟩
abbrev S4x1x1024 : Shape := ⟨3, ![4, 1, 1024]⟩
abbrev S1024x1024 : Shape := ⟨2, ![1024, 1024]⟩
abbrev S1024 : Shape := ⟨1, ![1024]⟩
abbrev S1x1024 : Shape := ⟨2, ![1, 1024]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x1x1024, .f32⟩
  | .hbm, ⟨4, _⟩ => ⟨S1024x1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4x8192x1024 : Shape := ⟨3, ![4, 8192, 1024]⟩
abbrev S4x1x1024 : Shape := ⟨3, ![4, 1, 1024]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x1x1024, .f32⟩
  | .hbm, ⟨4, _⟩ => ⟨S1024x1024, .f32⟩
  | .hbm, ⟨5, _⟩ => ⟨S1024, .f32⟩
  | .hbm, ⟨6, _⟩ => ⟨S4x8192x1024, .f32⟩
  | .hbm, ⟨7, _⟩ => ⟨S4x8192x1024, .f32⟩
  | .hbm, ⟨8, _⟩ => ⟨S_, .f32⟩
  | .hbm, ⟨9, _⟩ => ⟨S4x8192x1024, .f32⟩
  | .hbm, ⟨10, _⟩ => ⟨S4x8192x1024, .f32⟩
  | .hbm, ⟨11, _⟩ => ⟨S_, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S4x8192x1, .f32⟩
  | .hbm, ⟨31, _⟩ => ⟨S4x8192x1024, .f32⟩
  | .hbm, ⟨32, _⟩ => ⟨S4x8192x1024, .f32⟩
  | .hbm, ⟨33, _⟩ => ⟨S1x1x1024, .f32⟩
  | .hbm, ⟨34, _⟩ => ⟨S4x8192x1024, .f32⟩
  | .hbm, ⟨35, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x1x1024 : Shape := ⟨3, ![4, 1, 1024]⟩
abbrev S1024 : Shape := ⟨1, ![1024]⟩
abbrev S1024x3240 : Shape := ⟨2, ![1024, 3240]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S1024x4 : Shape := ⟨2, ![1024, 4]⟩
abbrev S1024x1024 : Shape := ⟨2, ![1024, 1024]⟩
abbrev S_ : Shape := ⟨0, ![]⟩
abbrev S1024x128 : Shape := ⟨2, ![1024, 128]⟩
abbrev S1 : Shape := ⟨1, ![1]⟩
abbrev S1024x16 : Shape := ⟨2, ![1024, 16]⟩
abbrev S1024x8 : Shape := ⟨2, ![1024, 8]⟩
abbrev S1024x3584 : Shape := ⟨2, ![1024, 3584]⟩
abbrev S384x8x32 : Shape := ⟨3, ![384, 8, 32]⟩
abbrev S384x8x128 : Shape := ⟨3, ![384, 8, 128]⟩
abbrev S384x1024 : Shape := ⟨2, ![384, 1024]⟩
abbrev S384x8x16 : Shape := ⟨3, ![384, 8, 16]⟩
abbrev S384x2048 : Shape := ⟨2, ![384, 2048]⟩
abbrev S256x8x64 : Shape := ⟨3, ![256, 8, 64]⟩
abbrev S256x1024 : Shape := ⟨2, ![256, 1024]⟩
abbrev S256x512 : Shape := ⟨2, ![256, 512]⟩
abbrev S256x1536 : Shape := ⟨2, ![256, 1536]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x128 : Shape := ⟨2, ![8192, 128]⟩
abbrev S8192x64 : Shape := ⟨2, ![8192, 64]⟩
abbrev S8192x512 : Shape := ⟨2, ![8192, 512]⟩
abbrev S1x1024 : Shape := ⟨2, ![1, 1024]⟩
abbrev S1x384 : Shape := ⟨2, ![1, 384]⟩
abbrev S1x256 : Shape := ⟨2, ![1, 256]⟩
abbrev S4x8192x256 : Shape := ⟨3, ![4, 8192, 256]⟩
abbrev S4x8192x32 : Shape := ⟨3, ![4, 8192, 32]⟩
abbrev S4x8192x1536 : Shape := ⟨3, ![4, 8192, 1536]⟩
abbrev S4x8192x128 : Shape := ⟨3, ![4, 8192, 128]⟩
abbrev S4x8192x512 : Shape := ⟨3, ![4, 8192, 512]⟩
abbrev S1x256x1024 : Shape := ⟨3, ![1, 256, 1024]⟩
abbrev S1x1x1024 : Shape := ⟨3, ![1, 1, 1024]⟩
abbrev S1x256x256 : Shape := ⟨3, ![1, 256, 256]⟩
abbrev S1x256x32 : Shape := ⟨3, ![1, 256, 32]⟩
abbrev S1x256x1536 : Shape := ⟨3, ![1, 256, 1536]⟩
abbrev S1x256x128 : Shape := ⟨3, ![1, 256, 128]⟩
abbrev S1x256x512 : Shape := ⟨3, ![1, 256, 512]⟩
abbrev S256x1 : Shape := ⟨2, ![256, 1]⟩
abbrev S256x3584 : Shape := ⟨2, ![256, 3584]⟩
abbrev S256x384 : Shape := ⟨2, ![256, 384]⟩
abbrev S256x256 : Shape := ⟨2, ![256, 256]⟩
abbrev S256x128 : Shape := ⟨2, ![256, 128]⟩
abbrev S256x2048 : Shape := ⟨2, ![256, 2048]⟩
abbrev S256x32 : Shape := ⟨2, ![256, 32]⟩

abbrev nBuf : Space → Nat
  | .hbm => 131
  | .vmem => 30
  | .smem => 0
  | _ => 0

abbrev hbmTy0_0 (i : Nat) : BufTy := match i % 128 with
  | 0 => ⟨S4x8192x1024, .f32⟩
  | 1 => ⟨S4x1x1024, .f32⟩
  | 2 => ⟨S4x1x1024, .f32⟩
  | 3 => ⟨S1024, .f32⟩
  | 4 => ⟨S1024x3240, .f32⟩
  | 5 => ⟨S384, .f32⟩
  | 6 => ⟨S384x8x96, .f32⟩
  | 7 => ⟨S256, .f32⟩
  | 8 => ⟨S256x8x128, .f32⟩
  | 9 => ⟨S1024x384, .f32⟩
  | 10 => ⟨S1024x256, .f32⟩
  | 11 => ⟨S1024x32, .f32⟩
  | 12 => ⟨S1024x256, .f32⟩
  | 13 => ⟨S1024x256, .f32⟩
  | 14 => ⟨S1024x512, .f32⟩
  | 15 => ⟨S1024x4, .f32⟩
  | 16 => ⟨S1024x4, .f32⟩
  | 17 => ⟨S1024x512, .f32⟩
  | 18 => ⟨S1024x1024, .f32⟩
  | 19 => ⟨S_, .f32⟩
  | 20 => ⟨S1024x128, .f32⟩
  | 21 => ⟨S_, .i32⟩
  | 22 => ⟨S1, .i32⟩
  | 23 => ⟨S1024x128, .f32⟩
  | 24 => ⟨S1024x16, .f32⟩
  | 25 => ⟨S1024x16, .f32⟩
  | 26 => ⟨S1024x16, .f32⟩
  | 27 => ⟨S1024x32, .f32⟩
  | 28 => ⟨S_, .f32⟩
  | 29 => ⟨S1024x128, .f32⟩
  | 30 => ⟨S_, .i32⟩
  | 31 => ⟨S1, .i32⟩
  | 32 => ⟨S1024x128, .f32⟩
  | 33 => ⟨S1024x8, .f32⟩
  | 34 => ⟨S_, .f32⟩
  | 35 => ⟨S1024x128, .f32⟩
  | 36 => ⟨S_, .i32⟩
  | 37 => ⟨S1, .i32⟩
  | 38 => ⟨S1024x128, .f32⟩
  | 39 => ⟨S1024x3584, .f32⟩
  | 40 => ⟨S1024x3584, .bf16⟩
  | 41 => ⟨S384x8x32, .f32⟩
  | 42 => ⟨S_, .f32⟩
  | 43 => ⟨S384x8x128, .f32⟩
  | 44 => ⟨S_, .i32⟩
  | 45 => ⟨S1, .i32⟩
  | 46 => ⟨S384x8x128, .f32⟩
  | 47 => ⟨S384x1024, .f32⟩
  | 48 => ⟨S384x8x16, .f32⟩
  | 49 => ⟨S384x8x16, .f32⟩
  | 50 => ⟨S384x8x16, .f32⟩
  | 51 => ⟨S384x8x32, .f32⟩
  | 52 => ⟨S_, .f32⟩
  | 53 => ⟨S384x8x128, .f32⟩
  | 54 => ⟨S_, .i32⟩
  | 55 => ⟨S1, .i32⟩
  | 56 => ⟨S384x8x128, .f32⟩
  | 57 => ⟨S384x1024, .f32⟩
  | 58 => ⟨S384x2048, .f32⟩
  | 59 => ⟨S384x2048, .bf16⟩
  | 60 => ⟨S256x8x64, .f32⟩
  | 61 => ⟨S_, .f32⟩
  | 62 => ⟨S256x8x128, .f32⟩
  | 63 => ⟨S_, .i32⟩
  | 64 => ⟨S1, .i32⟩
  | 65 => ⟨S256x8x128, .f32⟩
  | 66 => ⟨S256x1024, .f32⟩
  | 67 => ⟨S256x8x64, .f32⟩
  | 68 => ⟨S256x512, .f32⟩
  | 69 => ⟨S256x1536, .f32⟩
  | 70 => ⟨S256x1536, .bf16⟩
  | 71 => ⟨S8192, .i32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S16, .f32⟩
  | 83 => ⟨S8192, .f32⟩
  | 84 => ⟨S8192x1, .f32⟩
  | 85 => ⟨S1x16, .f32⟩
  | 86 => ⟨S8192x16, .f32⟩
  | 87 => ⟨S8192x16, .f32⟩
  | 88 => ⟨S8192x16, .f32⟩
  | 89 => ⟨S8192x16, .f32⟩
  | 90 => ⟨S8192x16, .f32⟩
  | 91 => ⟨S8192x32, .f32⟩
  | 92 => ⟨S8192x16, .f32⟩
  | 93 => ⟨S8192x16, .f32⟩
  | 94 => ⟨S8192x32, .f32⟩
  | 95 => ⟨S_, .f32⟩
  | 96 => ⟨S8192x128, .f32⟩
  | 97 => ⟨S_, .i32⟩
  | 98 => ⟨S1, .i32⟩
  | 99 => ⟨S8192x128, .f32⟩
  | 100 => ⟨S_, .f32⟩
  | 101 => ⟨S8192x128, .f32⟩
  | 102 => ⟨S_, .i32⟩
  | 103 => ⟨S1, .i32⟩
  | 104 => ⟨S8192x128, .f32⟩
  | 105 => ⟨S_, .f32⟩
  | 106 => ⟨S8192x64, .f32⟩
  | 107 => ⟨S_, .f32⟩
  | 108 => ⟨S8192x128, .f32⟩
  | 109 => ⟨S_, .i32⟩
  | 110 => ⟨S1, .i32⟩
  | 111 => ⟨S8192x128, .f32⟩
  | 112 => ⟨S8192x128, .f32⟩
  | 113 => ⟨S_, .f32⟩
  | 114 => ⟨S8192x128, .f32⟩
  | 115 => ⟨S8192x128, .f32⟩
  | 116 => ⟨S_, .f32⟩
  | 117 => ⟨S8192x128, .f32⟩
  | 118 => ⟨S8192x128, .f32⟩
  | 119 => ⟨S8192x512, .f32⟩
  | 120 => ⟨S1x1024, .f32⟩
  | 121 => ⟨S1x384, .f32⟩
  | 122 => ⟨S1x256, .f32⟩
  | 123 => ⟨S4x8192x1024, .bf16⟩
  | 124 => ⟨S4x8192x256, .f32⟩
  | 125 => ⟨S4x8192x32, .f32⟩
  | 126 => ⟨S4x8192x1536, .f32⟩
  | 127 => ⟨S4x8192x1024, .f32⟩
  | _ => ⟨S4x8192x1024, .f32⟩

abbrev hbmTy0_1 (i : Nat) : BufTy := match i % 128 with
  | 0 => ⟨S4x8192x128, .f32⟩
  | 1 => ⟨S4x8192x1024, .bf16⟩
  | 2 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3584, .bf16⟩
  | .local _ .vmem, ⟨8, _⟩ => ⟨S1x384, .f32⟩
  | .local _ .vmem, ⟨9, _⟩ => ⟨S384x2048, .bf16⟩
  | .local _ .vmem, ⟨10, _⟩ => ⟨S1x256, .f32⟩
  | .local _ .vmem, ⟨11, _⟩ => ⟨S256x1536, .bf16⟩
  | .local _ .vmem, ⟨12, _⟩ => ⟨S256x512, .f32⟩
  | .local _ .vmem, ⟨13, _⟩ => ⟨S256x512, .f32⟩
  | .local _ .vmem, ⟨14, _⟩ => ⟨S1x256x1024, .bf16⟩
  | .local _ .vmem, ⟨15, _⟩ => ⟨S1x256x1024, .bf16⟩
  | .local _ .vmem, ⟨16, _⟩ => ⟨S1x256x256, .f32⟩
  | .local _ .vmem, ⟨17, _⟩ => ⟨S1x256x256, .f32⟩
  | .local _ .vmem, ⟨18, _⟩ => ⟨S1x256x32, .f32⟩
  | .local _ .vmem, ⟨19, _⟩ => ⟨S1x256x32, .f32⟩
  | .local _ .vmem, ⟨20, _⟩ => ⟨S1x256x1536, .f32⟩
  | .local _ .vmem, ⟨21, _⟩ => ⟨S1x256x1536, .f32⟩
  | .local _ .vmem, ⟨22, _⟩ => ⟨S1x256x1024, .f32⟩
  | .local _ .vmem, ⟨23, _⟩ => ⟨S1x256x1024, .f32⟩
  | .local _ .vmem, ⟨24, _⟩ => ⟨S1x256x128, .f32⟩
  | .local _ .vmem, ⟨25, _⟩ => ⟨S1x256x128, .f32⟩
  | .local _ .vmem, ⟨26, _⟩ => ⟨S1x256x1024, .bf16⟩
  | .local _ .vmem, ⟨27, _⟩ => ⟨S1x256x1024, .bf16⟩
  | .local _ .vmem, ⟨28, _⟩ => ⟨S1x256x512, .bf16⟩
  | .local _ .vmem, ⟨29, _⟩ => ⟨S1x256x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_13 : Ref sig .tc := ⟨.hbm, 95, rfl⟩
abbrev main_v71 : Ref sig .tc := ⟨.hbm, 96, rfl⟩
abbrev main_c_14 : Ref sig .tc := ⟨.hbm, 97, rfl⟩
abbrev main_v72 : Ref sig .tc := ⟨.hbm, 98, rfl⟩
abbrev main_v73 : Ref sig .tc := ⟨.hbm, 99, rfl⟩
abbrev main_cst_15 : Ref sig .tc := ⟨.hbm, 100, rfl⟩
abbrev main_v74 : Ref sig .tc := ⟨.hbm, 101, rfl⟩
abbrev main_c_16 : Ref sig .tc := ⟨.hbm, 102, rfl⟩
abbrev main_v75 : Ref sig .tc := ⟨.hbm, 103, rfl⟩
abbrev main_v76 : Ref sig .tc := ⟨.hbm, 104, rfl⟩
abbrev main_cst_17 : Ref sig .tc := ⟨.hbm, 105, rfl⟩
abbrev main_v77 : Ref sig .tc := ⟨.hbm, 106, rfl⟩
abbrev main_cst_18 : Ref sig .tc := ⟨.hbm, 107, rfl⟩
abbrev main_v78 : Ref sig .tc := ⟨.hbm, 108, rfl⟩
abbrev main_c_19 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_20 : Ref sig .tc := ⟨.hbm, 113, rfl⟩
abbrev main_v82 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90_0 : Ref sig .tc := ⟨.hbm, 123, rfl⟩
abbrev main_v90_1 : Ref sig .tc := ⟨.hbm, 124, rfl⟩
abbrev main_v90_2 : Ref sig .tc := ⟨.hbm, 125, rfl⟩
abbrev main_v90_3 : Ref sig .tc := ⟨.hbm, 126, rfl⟩
abbrev main_v90_4 : Ref sig .tc := ⟨.hbm, 127, rfl⟩
abbrev main_v90_5 : Ref sig .tc := ⟨.hbm, 128, rfl⟩
abbrev main_v90_6 : Ref sig .tc := ⟨.hbm, 129, rfl⟩
abbrev main_v90_7 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference4Ideal.lean ====
abbrev S4x8192x1024 : Shape := ⟨3, ![4, 8192, 1024]⟩
abbrev S4x1x1024 : Shape := ⟨3, ![4, 1, 1024]⟩
abbrev S1024 : Shape := ⟨1, ![1024]⟩
abbrev S1024x3240 : Shape := ⟨2, ![1024, 3240]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S8192 : Shape := ⟨1, ![8192]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3240 : Shape := ⟨3, ![4, 8192, 3240]⟩
abbrev S4x8192x384 : Shape := ⟨3, ![4, 8192, 384]⟩
abbrev S4x8192x256 : Shape := ⟨3, ![4, 8192, 256]⟩
abbrev S4x8192x32 : Shape := ⟨3, ![4, 8192, 32]⟩
abbrev S4x8192x512 : Shape := ⟨3, ![4, 8192, 512]⟩
abbrev S4x8192x4 : Shape := ⟨3, ![4, 8192, 4]⟩
abbrev S1x1x384 : Shape := ⟨3, ![1, 1, 384]⟩
abbrev S4x8192x8x96 : Shape := ⟨4, ![4, 8192, 8, 96]⟩
abbrev S4x8192x8x64 : Shape := ⟨4, ![4, 8192, 8, 64]⟩
abbrev S4x8192x8x32 : Shape := ⟨4, ![4, 8192, 8, 32]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S4x8192x8x16 : Shape := ⟨4, ![4, 8192, 8, 16]⟩
abbrev S1x8192x1x16 : Shape := ⟨4, ![1, 8192, 1, 16]⟩
abbrev S1x1x256 : Shape := ⟨3, ![1, 1, 256]⟩
abbrev S4x8192x16 : Shape := ⟨3, ![4, 8192, 16]⟩
abbrev S1x8192x16 : Shape := ⟨3, ![1, 8192, 16]⟩
abbrev S4x8192x8x128 : Shape := ⟨4, ![4, 8192, 8, 128]⟩
abbrev S4x8192x1x32 : Shape := ⟨4, ![4, 8192, 1, 32]⟩
abbrev S4x8192x8 : Shape := ⟨3, ![4, 8192, 8]⟩
abbrev S4x8192x128 : Shape := ⟨3, ![4, 8192, 128]⟩
abbrev S4x8192x1536 : Shape := ⟨3, ![4, 8192, 1536]⟩

abbrev nBuf : Space → Nat
  | .hbm => 179
  | .vmem => 0
  | .smem => 0
  | _ => 0

abbrev hbmTy0_0 (i : Nat) : BufTy := match i % 128 with
  | 0 => ⟨S4x8192x1024, .f32⟩
  | 1 => ⟨S4x1x1024, .f32⟩
  | 2 => ⟨S4x1x1024, .f32⟩
  | 3 => ⟨S1024, .f32⟩
  | 4 => ⟨S1024x3240, .f32⟩
  | 5 => ⟨S384, .f32⟩
  | 6 => ⟨S384x8x96, .f32⟩
  | 7 => ⟨S256, .f32⟩
  | 8 => ⟨S256x8x128, .f32⟩
  | 9 => ⟨S8192, .i32⟩
  | 10 => ⟨S4x8192x1024, .f32⟩
  | 11 => ⟨S_, .f32⟩
  | 12 => ⟨S4x8192, .f32⟩
  | 13 => ⟨S4x8192x1, .f32⟩
  | 14 => ⟨S_, .f32⟩
  | 15 => ⟨S4x8192x1, .f32⟩
  | 16 => ⟨S4x8192x1, .f32⟩
  | 17 => ⟨S_, .f32⟩
  | 18 => ⟨S4x8192x1, .f32⟩
  | 19 => ⟨S4x8192x1, .f32⟩
  | 20 => ⟨S4x8192x1, .f32⟩
  | 21 => ⟨S4x8192x1024, .f32⟩
  | 22 => ⟨S4x8192x1024, .f32⟩
  | 23 => ⟨S1x1x1024, .f32⟩
  | 24 => ⟨S4x8192x1024, .f32⟩
  | 25 => ⟨S4x8192x1024, .f32⟩
  | 26 => ⟨S_, .f32⟩
  | 27 => ⟨S4x1x1024, .f32⟩
  | 28 => ⟨S4x1x1024, .f32⟩
  | 29 => ⟨S4x8192x1024, .f32⟩
  | 30 => ⟨S4x8192x1024, .f32⟩
  | 31 => ⟨S4x8192x1024, .f32⟩
  | 32 => ⟨S4x8192x1024, .f32⟩
  | 33 => ⟨S4x8192x3240, .f32⟩
  | 34 => ⟨S4x8192x384, .f32⟩
  | 35 => ⟨S4x8192x256, .f32⟩
  | 36 => ⟨S4x8192x32, .f32⟩
  | 37 => ⟨S4x8192x256, .f32⟩
  | 38 => ⟨S4x8192x256, .f32⟩
  | 39 => ⟨S4x8192x512, .f32⟩
  | 40 => ⟨S4x8192x4, .f32⟩
  | 41 => ⟨S4x8192x4, .f32⟩
  | 42 => ⟨S4x8192x512, .f32⟩
  | 43 => ⟨S4x8192x1024, .f32⟩
  | 44 => ⟨S4x8192x384, .f32⟩
  | 45 => ⟨S_, .f32⟩
  | 46 => ⟨S4x8192, .f32⟩
  | 47 => ⟨S4x8192x1, .f32⟩
  | 48 => ⟨S_, .f32⟩
  | 49 => ⟨S4x8192x1, .f32⟩
  | 50 => ⟨S4x8192x1, .f32⟩
  | 51 => ⟨S_, .f32⟩
  | 52 => ⟨S4x8192x1, .f32⟩
  | 53 => ⟨S4x8192x1, .f32⟩
  | 54 => ⟨S4x8192x1, .f32⟩
  | 55 => ⟨S4x8192x384, .f32⟩
  | 56 => ⟨S4x8192x384, .f32⟩
  | 57 => ⟨S1x1x384, .f32⟩
  | 58 => ⟨S4x8192x384, .f32⟩
  | 59 => ⟨S4x8192x384, .f32⟩
  | 60 => ⟨S4x8192x8x96, .f32⟩
  | 61 => ⟨S4x8192x8x64, .f32⟩
  | 62 => ⟨S4x8192x8x32, .f32⟩
  | 63 => ⟨S16, .f32⟩
  | 64 => ⟨S_, .f32⟩
  | 65 => ⟨S16, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S16, .f32⟩
  | 74 => ⟨S8192, .f32⟩
  | 75 => ⟨S8192x1, .f32⟩
  | 76 => ⟨S1x16, .f32⟩
  | 77 => ⟨S8192x16, .f32⟩
  | 78 => ⟨S8192x16, .f32⟩
  | 79 => ⟨S8192x16, .f32⟩
  | 80 => ⟨S8192x1x16, .f32⟩
  | 81 => ⟨S8192x1x16, .f32⟩
  | 82 => ⟨S8192x1x16, .f32⟩
  | 83 => ⟨S4x8192x8x16, .f32⟩
  | 84 => ⟨S4x8192x8x16, .f32⟩
  | 85 => ⟨S1x8192x1x16, .f32⟩
  | 86 => ⟨S4x8192x8x16, .f32⟩
  | 87 => ⟨S4x8192x8x16, .f32⟩
  | 88 => ⟨S1x8192x1x16, .f32⟩
  | 89 => ⟨S4x8192x8x16, .f32⟩
  | 90 => ⟨S4x8192x8x16, .f32⟩
  | 91 => ⟨S4x8192x8x16, .f32⟩
  | 92 => ⟨S1x8192x1x16, .f32⟩
  | 93 => ⟨S4x8192x8x16, .f32⟩
  | 94 => ⟨S4x8192x8x16, .f32⟩
  | 95 => ⟨S1x8192x1x16, .f32⟩
  | 96 => ⟨S4x8192x8x16, .f32⟩
  | 97 => ⟨S4x8192x8x16, .f32⟩
  | 98 => ⟨S4x8192x8x16, .f32⟩
  | 99 => ⟨S4x8192x8x32, .f32⟩
  | 100 => ⟨S4x8192x8x96, .f32⟩
  | 101 => ⟨S_, .f32⟩
  | 102 => ⟨S4x8192x8x96, .f32⟩
  | 103 => ⟨S4x8192x8x96, .f32⟩
  | 104 => ⟨S4x8192x256, .f32⟩
  | 105 => ⟨S_, .f32⟩
  | 106 => ⟨S4x8192, .f32⟩
  | 107 => ⟨S4x8192x1, .f32⟩
  | 108 => ⟨S_, .f32⟩
  | 109 => ⟨S4x8192x1, .f32⟩
  | 110 => ⟨S4x8192x1, .f32⟩
  | 111 => ⟨S_, .f32⟩
  | 112 => ⟨S4x8192x1, .f32⟩
  | 113 => ⟨S4x8192x1, .f32⟩
  | 114 => ⟨S4x8192x1, .f32⟩
  | 115 => ⟨S4x8192x256, .f32⟩
  | 116 => ⟨S4x8192x256, .f32⟩
  | 117 => ⟨S1x1x256, .f32⟩
  | 118 => ⟨S4x8192x256, .f32⟩
  | 119 => ⟨S4x8192x256, .f32⟩
  | 120 => ⟨S16, .f32⟩
  | 121 => ⟨S_, .f32⟩
  | 122 => ⟨S16, .f32⟩
  | 123 => ⟨S16, .f32⟩
  | 124 => ⟨S_, .f32⟩
  | 125 => ⟨S16, .f32⟩
  | 126 => ⟨S16, .f32⟩
  | 127 => ⟨S_, .f32⟩
  | _ => ⟨S4x8192x1024, .f32⟩

abbrev hbmTy0_1 (i : Nat) : BufTy := match i % 128 with
  | 0 => ⟨S16, .f32⟩
  | 1 => ⟨S16, .f32⟩
  | 2 => ⟨S16, .f32⟩
  | 3 => ⟨S8192, .f32⟩
  | 4 => ⟨S8192x1, .f32⟩
  | 5 => ⟨S1x16, .f32⟩
  | 6 => ⟨S8192x16, .f32⟩
  | 7 => ⟨S8192x16, .f32⟩
  | 8 => ⟨S8192x16, .f32⟩
  | 9 => ⟨S8192x16, .f32⟩
  | 10 => ⟨S8192x16, .f32⟩
  | 11 => ⟨S4x8192x16, .f32⟩
  | 12 => ⟨S4x8192x16, .f32⟩
  | 13 => ⟨S1x8192x16, .f32⟩
  | 14 => ⟨S4x8192x16, .f32⟩
  | 15 => ⟨S4x8192x16, .f32⟩
  | 16 => ⟨S1x8192x16, .f32⟩
  | 17 => ⟨S4x8192x16, .f32⟩
  | 18 => ⟨S4x8192x16, .f32⟩
  | 19 => ⟨S4x8192x16, .f32⟩
  | 20 => ⟨S1x8192x16, .f32⟩
  | 21 => ⟨S4x8192x16, .f32⟩
  | 22 => ⟨S4x8192x16, .f32⟩
  | 23 => ⟨S1x8192x16, .f32⟩
  | 24 => ⟨S4x8192x16, .f32⟩
  | 25 => ⟨S4x8192x16, .f32⟩
  | 26 => ⟨S4x8192x16, .f32⟩
  | 27 => ⟨S4x8192x32, .f32⟩
  | 28 => ⟨S4x8192x8x128, .f32⟩
  | 29 => ⟨S4x8192x8x64, .f32⟩
  | 30 => ⟨S4x8192x1x32, .f32⟩
  | 31 => ⟨S4x8192x8x32, .f32⟩
  | 32 => ⟨S4x8192x8x96, .f32⟩
  | 33 => ⟨S4x8192x8, .f32⟩
  | 34 => ⟨S_, .i32⟩
  | 35 => ⟨S_, .f32⟩
  | 36 => ⟨S4x8192x128, .f32⟩
  | 37 => ⟨S_, .i32⟩
  | 38 => ⟨S_, .f32⟩
  | 39 => ⟨S4x8192x8x128, .f32⟩
  | 40 => ⟨S4x8192x1024, .f32⟩
  | 41 => ⟨S4x8192x1024, .bf16⟩
  | 42 => ⟨S4x8192x1536, .f32⟩
  | 43 => ⟨S_, .i32⟩
  | 44 => ⟨S_, .f32⟩
  | 45 => ⟨S4x8192x8x128, .f32⟩
  | 46 => ⟨S4x8192x1024, .f32⟩
  | 47 => ⟨S4x8192x1024, .bf16⟩
  | 48 => ⟨S4x8192x8x64, .f32⟩
  | 49 => ⟨S4x8192x512, .f32⟩
  | 50 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_9 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_10 : Ref sig .tc := ⟨.hbm, 105, rfl⟩
abbrev main_v85 : Ref sig .tc := ⟨.hbm, 106, rfl⟩
abbrev main_v86 : Ref sig .tc := ⟨.hbm, 107, rfl⟩
abbrev main_cst_11 : Ref sig .tc := ⟨.hbm, 108, rfl⟩
abbrev main_v87 : Ref sig .tc := ⟨.hbm, 109, rfl⟩
abbrev main_v88 : Ref sig .tc := ⟨.hbm, 110, rfl⟩
abbrev main_cst_12 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_13 : Ref sig .tc := ⟨.hbm, 121, rfl⟩
abbrev main_v98 : Ref sig .tc := ⟨.hbm, 122, rfl⟩
abbrev main_v99 : Ref sig .tc := ⟨.hbm, 123, rfl⟩
abbrev main_cst_14 : Ref sig .tc := ⟨.hbm, 124, rfl⟩
abbrev main_v100 : Ref sig .tc := ⟨.hbm, 125, rfl⟩
abbrev main_v101 : Ref sig .tc := ⟨.hbm, 126, rfl⟩
abbrev main_cst_15 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_c : Ref sig .tc := ⟨.hbm, 162, rfl⟩
abbrev main_call0_v0 : Ref sig .tc := ⟨.hbm, 163, rfl⟩
abbrev main_v136 : Ref sig .tc := ⟨.hbm, 164, rfl⟩
abbrev main_c_16 : Ref sig .tc := ⟨.hbm, 165, rfl⟩
abbrev main_call1_v0 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_c_17 : Ref sig .tc := ⟨.hbm, 171, rfl⟩
abbrev main_call2_v0 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩

abbrev nD : Nat := 1
abbrev τ : Topo := Topo.v7x

variable {F : FTy → Type} [FloatOps F]
-- ==== Kernel5.lean ====
abbrev S4x1024 : Shape := ⟨2, ![4, 1024]⟩
abbrev S32x1024 : Shape := ⟨2, ![32, 1024]⟩
abbrev S1024x3072 : Shape := ⟨2, ![1024, 3072]⟩
abbrev S3072 : Shape := ⟨1, ![3072]⟩
abbrev S36x1024 : Shape := ⟨2, ![36, 1024]⟩
abbrev S_ : Shape := ⟨0, ![]⟩
abbrev S40x1024 : Shape := ⟨2, ![40, 1024]⟩
abbrev S1x3072 : Shape := ⟨2, ![1, 3072]⟩
abbrev S40x3072 : Shape := ⟨2, ![40, 3072]⟩
abbrev S1024x1024 : Shape := ⟨2, ![1024, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S32x1024, .f32⟩
  | .hbm, ⟨2, _⟩ => ⟨S1024x3072, .f32⟩
  | .hbm, ⟨3, _⟩ => ⟨S3072, .f32⟩
  | .hbm, ⟨4, _⟩ => ⟨S36x1024, .f32⟩
  | .hbm, ⟨5, _⟩ => ⟨S_, .i32⟩
  | .hbm, ⟨6, _⟩ => ⟨S_, .f32⟩
  | .hbm, ⟨7, _⟩ => ⟨S40x1024, .f32⟩
  | .hbm, ⟨8, _⟩ => ⟨S1x3072, .f32⟩
  | .hbm, ⟨9, _⟩ => ⟨S40x3072, .f32⟩
  | .local _ .vmem, ⟨0, _⟩ => ⟨S40x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S40x1024, .f32⟩
  | .local _ .vmem, ⟨6, _⟩ => ⟨S40x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x1024 : Shape := ⟨2, ![4, 1024]⟩
abbrev S32x1024 : Shape := ⟨2, ![32, 1024]⟩
abbrev S1024x3072 : Shape := ⟨2, ![1024, 3072]⟩
abbrev S3072 : Shape := ⟨1, ![3072]⟩
abbrev S_ : Shape := ⟨0, ![]⟩
abbrev S40x1024 : Shape := ⟨2, ![40, 1024]⟩
abbrev S40x3072 : Shape := ⟨2, ![40, 3072]⟩
abbrev S1x3072 : Shape := ⟨2, ![1, 3072]⟩

abbrev nBuf : Space → Nat
  | .hbm => 20
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S32x1024, .f32⟩
  | .hbm, ⟨2, _⟩ => ⟨S1024x3072, .f32⟩
  | .hbm, ⟨3, _⟩ => ⟨S3072, .f32⟩
  | .hbm, ⟨4, _⟩ => ⟨S_, .f32⟩
  | .hbm, ⟨5, _⟩ => ⟨S4x1024, .f32⟩
  | .hbm, ⟨6, _⟩ => ⟨S40x1024, .f32⟩
  | .hbm, ⟨7, _⟩ => ⟨S40x1024, .f32⟩
  | .hbm, ⟨8, _⟩ => ⟨S40x1024, .f32⟩
  | .hbm, ⟨9, _⟩ => ⟨S_, .f32⟩
  | .hbm, ⟨10, _⟩ => ⟨S40x1024, .f32⟩
  | .hbm, ⟨11, _⟩ => ⟨S40x1024, .f32⟩
  | .hbm, ⟨12, _⟩ => ⟨S_, .f32⟩
  | .hbm, ⟨13, _⟩ => ⟨S40x1024, .f32⟩
  | .hbm, ⟨14, _⟩ => ⟨S40x1024, .f32⟩
  | .hbm, ⟨15, _⟩ => ⟨S40x1024, .f32⟩
  | .hbm, ⟨16, _⟩ => ⟨S40x3072, .f32⟩
  | .hbm, ⟨17, _⟩ => ⟨S1x3072, .f32⟩
  | .hbm, ⟨18, _⟩ => ⟨S40x3072, .f32⟩
  | .hbm, ⟨19, _⟩ => ⟨S40x3072, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Kernel6.lean ====
abbrev S32x64x512 : Shape := ⟨3, ![32, 64, 512]⟩
abbrev S32x64x1024 : Shape := ⟨3, ![32, 64, 1024]⟩
abbrev S32x1x1024 : Shape := ⟨3, ![32, 1, 1024]⟩
abbrev S1024x1024 : Shape := ⟨2, ![1024, 1024]⟩
abbrev S1024 : Shape := ⟨1, ![1024]⟩
abbrev S1024x4112 : Shape := ⟨2, ![1024, 4112]⟩
abbrev S1024x3072 : Shape := ⟨2, ![1024, 3072]⟩
abbrev S1024x8 : Shape := ⟨2, ![1024, 8]⟩
abbrev S1024x16 : Shape := ⟨2, ![1024, 16]⟩
abbrev S_ : Shape := ⟨0, ![]⟩
abbrev S1024x128 : Shape := ⟨2, ![1024, 128]⟩
abbrev S1 : Shape := ⟨1, ![1]⟩
abbrev S1024x4224 : Shape := ⟨2, ![1024, 4224]⟩
abbrev S1x1024 : Shape := ⟨2, ![1, 1024]⟩
abbrev S32x64x3072 : Shape := ⟨3, ![32, 64, 3072]⟩
abbrev S32x64x128 : Shape := ⟨3, ![32, 64, 128]⟩
abbrev S1x64x512 : Shape := ⟨3, ![1, 64, 512]⟩
abbrev S1x64x1024 : Shape := ⟨3, ![1, 64, 1024]⟩
abbrev S1x1x1024 : Shape := ⟨3, ![1, 1, 1024]⟩
abbrev S1x64x3072 : Shape := ⟨3, ![1, 64, 3072]⟩
abbrev S1x64x128 : Shape := ⟨3, ![1, 64, 128]⟩
abbrev S64x1024 : Shape := ⟨2, ![64, 1024]⟩
abbrev S64x512 : Shape := ⟨2, ![64, 512]⟩
abbrev S512x1024 : Shape := ⟨2, ![512, 1024]⟩
abbrev S64 : Shape := ⟨1, ![64]⟩
abbrev S64x1 : Shape := ⟨2, ![64, 1]⟩
abbrev S64x4224 : Shape := ⟨2, ![64, 4224]⟩
abbrev S64x3072 : Shape := ⟨2, ![64, 3072]⟩
abbrev S64x128 : Shape := ⟨2, ![64, 128]⟩

abbrev nBuf : Space → Nat
  | .hbm => 28
  | .vmem => 25
  | .smem => 0
  | _ => 0

abbrev bufTy : (tb : Table) → Fin (tcTables nBuf tb) → BufTy
  | .hbm, ⟨0, _⟩ => ⟨S32x64x512, .f32⟩
  | .hbm, ⟨1, _⟩ => ⟨S32x64x512, .f32⟩
  | .hbm, ⟨2, _⟩ => ⟨S32x64x1024, .f32⟩
  | .hbm, ⟨3, _⟩ => ⟨S32x64x1024, .f32⟩
  | .hbm, ⟨4, _⟩ => ⟨S32x1x1024, .f32⟩
  | .hbm, ⟨5, _⟩ => ⟨S1024x1024, .f32⟩
  | .hbm, ⟨6, _⟩ => ⟨S32x1x1024, .f32⟩
  | .hbm, ⟨7, _⟩ => ⟨S32x1x1024, .f32⟩
  | .hbm, ⟨8, _⟩ => ⟨S1024, .f32⟩
  | .hbm, ⟨9, _⟩ => ⟨S1024x4112, .f32⟩
  | .hbm, ⟨10, _⟩ => ⟨S1024x1024, .bf16⟩
  | .hbm, ⟨11, _⟩ => ⟨S1024x3072, .f32⟩
  | .hbm, ⟨12, _⟩ => ⟨S1024x8, .f32⟩
  | .hbm, ⟨13, _⟩ => ⟨S1024x8, .f32⟩
  | .hbm, ⟨14, _⟩ => ⟨S1024x1024, .f32⟩
  | .hbm, ⟨15, _⟩ => ⟨S1024x16, .f32⟩
  | .hbm, ⟨16, _⟩ => ⟨S_, .f32⟩
  | .hbm, ⟨17, _⟩ => ⟨S1024x128, .f32⟩
  | .hbm, ⟨18, _⟩ => ⟨S_, .i32⟩
  | .hbm, ⟨19, _⟩ => ⟨S1, .i32⟩
  | .hbm, ⟨20, _⟩ => ⟨S1024x128, .f32⟩
  | .hbm, ⟨21, _⟩ => ⟨S1024x4224, .f32⟩
  | .hbm, ⟨22, _⟩ => ⟨S1024x4224, .bf16⟩
  | .hbm, ⟨23, _⟩ => ⟨S1x1024, .f32⟩
  | .hbm, ⟨24, _⟩ => ⟨S32x64x1024, .f32⟩
  | .hbm, ⟨25, _⟩ => ⟨S32x64x3072, .f32⟩
  | .hbm, ⟨26, _⟩ => ⟨S32x64x1024, .f32⟩
  | .hbm, ⟨27, _⟩ => ⟨S32x64x128, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | .local _ .vmem, ⟨16, _⟩ => ⟨S1024x4224, .bf16⟩
  | .local _ .vmem, ⟨17, _⟩ => ⟨S1x64x1024, .f32⟩
  | .local _ .vmem, ⟨18, _⟩ => ⟨S1x64x1024, .f32⟩
  | .local _ .vmem, ⟨19, _⟩ => ⟨S1x64x3072, .f32⟩
  | .local _ .vmem, ⟨20, _⟩ => ⟨S1x64x3072, .f32⟩
  | .local _ .vmem, ⟨21, _⟩ => ⟨S1x64x1024, .f32⟩
  | .local _ .vmem, ⟨22, _⟩ => ⟨S1x64x1024, .f32⟩
  | .local _ .vmem, ⟨23, _⟩ => ⟨S1x64x128, .f32⟩
  | .local _ .vmem, ⟨24, _⟩ => ⟨S1x64x128, .f32⟩
  | _, _ => ⟨S32x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x4224 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x3072 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference6Ideal.lean ====
abbrev S32x64x512 : Shape := ⟨3, ![32, 64, 512]⟩
abbrev S32x64x1024 : Shape := ⟨3, ![32, 64, 1024]⟩
abbrev S32x1x1024 : Shape := ⟨3, ![32, 1, 1024]⟩
abbrev S1024x1024 : Shape := ⟨2, ![1024, 1024]⟩
abbrev S1024 : Shape := ⟨1, ![1024]⟩
abbrev S1024x4112 : Shape := ⟨2, ![1024, 4112]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S32x64x4112 : Shape := ⟨3, ![32, 64, 4112]⟩
abbrev S32x64x3072 : Shape := ⟨3, ![32, 64, 3072]⟩
abbrev S32x64x8 : Shape := ⟨3, ![32, 64, 8]⟩
abbrev S32x64x16 : Shape := ⟨3, ![32, 64, 16]⟩
abbrev S32x64x128 : Shape := ⟨3, ![32, 64, 128]⟩

abbrev nBuf : Space → Nat
  | .hbm => 57
  | .vmem => 0
  | .smem => 0
  | _ => 0

abbrev bufTy : (tb : Table) → Fin (tcTables nBuf tb) → BufTy
  | .hbm, ⟨0, _⟩ => ⟨S32x64x512, .f32⟩
  | .hbm, ⟨1, _⟩ => ⟨S32x64x512, .f32⟩
  | .hbm, ⟨2, _⟩ => ⟨S32x64x1024, .f32⟩
  | .hbm, ⟨3, _⟩ => ⟨S32x64x1024, .f32⟩
  | .hbm, ⟨4, _⟩ => ⟨S32x1x1024, .f32⟩
  | .hbm, ⟨5, _⟩ => ⟨S1024x1024, .f32⟩
  | .hbm, ⟨6, _⟩ => ⟨S32x1x1024, .f32⟩
  | .hbm, ⟨7, _⟩ => ⟨S32x1x1024, .f32⟩
  | .hbm, ⟨8, _⟩ => ⟨S1024, .f32⟩
  | .hbm, ⟨9, _⟩ => ⟨S1024x4112, .f32⟩
  | .hbm, ⟨10, _⟩ => ⟨S32x64x1024, .f32⟩
  | .hbm, ⟨11, _⟩ => ⟨S32x64x1024, .f32⟩
  | .hbm, ⟨12, _⟩ => ⟨S32x64x1024, .f32⟩
  | .hbm, ⟨13, _⟩ => ⟨S_, .f32⟩
  | .hbm, ⟨14, _⟩ => ⟨S32x64x1024, .f32⟩
  | .hbm, ⟨15, _⟩ => ⟨S32x64x1024, .f32⟩
  | .hbm, ⟨16, _⟩ => ⟨S_, .f32⟩
  | .hbm, ⟨17, _⟩ => ⟨S32x64x1024, .f32⟩
  | .hbm, ⟨18, _⟩ => ⟨S32x64x1024, .f32⟩
  | .hbm, ⟨19, _⟩ => ⟨S32x64x1024, .f32⟩
  | .hbm, ⟨20, _⟩ => ⟨S32x64x1024, .f32⟩
  | .hbm, ⟨21, _⟩ => ⟨S32x64x1024, .f32⟩
  | .hbm, ⟨22, _⟩ => ⟨S32x64x1024, .f32⟩
  | .hbm, ⟨23, _⟩ => ⟨S32x64x1024, .f32⟩
  | .hbm, ⟨24, _⟩ => ⟨S32x64x1024, .f32⟩
  | .hbm, ⟨25, _⟩ => ⟨S32x64x1024, .f32⟩
  | .hbm, ⟨26, _⟩ => ⟨S_, .f32⟩
  | .hbm, ⟨27, _⟩ => ⟨S32x64, .f32⟩
  | .hbm, ⟨28, _⟩ => ⟨S32x64x1, .f32⟩
  | .hbm, ⟨29, _⟩ => ⟨S_, .f32⟩
  | .hbm, ⟨30, _⟩ => ⟨S32x64x1, .f32⟩
  | .hbm, ⟨31, _⟩ => ⟨S32x64x1, .f32⟩
  | .hbm, ⟨32, _⟩ => ⟨S_, .f32⟩
  | .hbm, ⟨33, _⟩ => ⟨S32x64x1, .f32⟩
  | .hbm, ⟨34, _⟩ => ⟨S32x64x1, .f32⟩
  | .hbm, ⟨35, _⟩ => ⟨S32x64x1, .f32⟩
  | .hbm, ⟨36, _⟩ => ⟨S32x64x1024, .f32⟩
  | .hbm, ⟨37, _⟩ => ⟨S32x64x1024, .f32⟩
  | .hbm, ⟨38, _⟩ => ⟨S1x1x1024, .f32⟩
  | .hbm, ⟨39, _⟩ => ⟨S32x64x1024, .f32⟩
  | .hbm, ⟨40, _⟩ => ⟨S32x64x1024, .f32⟩
  | .hbm, ⟨41, _⟩ => ⟨S_, .f32⟩
  | .hbm, ⟨42, _⟩ => ⟨S32x1x1024, .f32⟩
  | .hbm, ⟨43, _⟩ => ⟨S32x1x1024, .f32⟩
  | .hbm, ⟨44, _⟩ => ⟨S32x64x1024, .f32⟩
  | .hbm, ⟨45, _⟩ => ⟨S32x64x1024, .f32⟩
  | .hbm, ⟨46, _⟩ => ⟨S32x64x1024, .f32⟩
  | .hbm, ⟨47, _⟩ => ⟨S32x64x1024, .f32⟩
  | .hbm, ⟨48, _⟩ => ⟨S32x64x4112, .f32⟩
  | .hbm, ⟨49, _⟩ => ⟨S32x64x3072, .f32⟩
  | .hbm, ⟨50, _⟩ => ⟨S32x64x8, .f32⟩
  | .hbm, ⟨51, _⟩ => ⟨S32x64x8, .f32⟩
  | .hbm, ⟨52, _⟩ => ⟨S32x64x1024, .f32⟩
  | .hbm, ⟨53, _⟩ => ⟨S32x64x16, .f32⟩
  | .hbm, ⟨54, _⟩ => ⟨S_, .i32⟩
  | .hbm, ⟨55, _⟩ => ⟨S_, .f32⟩
  | .hbm, ⟨56, _⟩ => ⟨S32x64x128, .f32⟩
  | _, _ => ⟨S32x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c : Ref sig .tc := ⟨.hbm, 54, rfl⟩
abbrev main_call1_v0 : Ref sig .tc := ⟨.hbm, 55, rfl⟩
abbrev main_v32 : Ref sig .tc := ⟨.hbm, 56, rfl⟩

abbrev nD : Nat := 1
abbrev τ : Topo := Topo.v7x

variable {F : FTy → Type} [FloatOps F]
-- ==== Kernel7.lean ====
abbrev S32x64x1024 : Shape := ⟨3, ![32, 64, 1024]⟩
abbrev S32x1x1024 : Shape := ⟨3, ![32, 1, 1024]⟩
abbrev S1024x1024 : Shape := ⟨2, ![1024, 1024]⟩
abbrev S1024 : Shape := ⟨1, ![1024]⟩
abbrev S1x1024 : Shape := ⟨2, ![1, 1024]⟩
abbrev S1x64x1024 : Shape := ⟨3, ![1, 64, 1024]⟩
abbrev S1x1x1024 : Shape := ⟨3, ![1, 1, 1024]⟩
abbrev S64x1024 : Shape := ⟨2, ![64, 1024]⟩
abbrev S64 : Shape := ⟨1, ![64]⟩
abbrev S64x1 : Shape := ⟨2, ![64, 1]⟩

abbrev nBuf : Space → Nat
  | .hbm => 9
  | .vmem => 12
  | .smem => 0
  | _ => 0

abbrev bufTy : (tb : Table) → Fin (tcTables nBuf tb) → BufTy
  | .hbm, ⟨0, _⟩ => ⟨S32x64x1024, .f32⟩
  | .hbm, ⟨1, _⟩ => ⟨S32x64x1024, .f32⟩
  | .hbm, ⟨2, _⟩ => ⟨S32x64x1024, .f32⟩
  | .hbm, ⟨3, _⟩ => ⟨S32x1x1024, .f32⟩
  | .hbm, ⟨4, _⟩ => ⟨S1024x1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S32x64x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1024, .f32⟩
  | .local _ .vmem, ⟨10, _⟩ => ⟨S1x64x1024, .f32⟩
  | .local _ .vmem, ⟨11, _⟩ => ⟨S1x64x1024, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S32x64x1024 : Shape := ⟨3, ![32, 64, 1024]⟩
abbrev S32x1x1024 : Shape := ⟨3, ![32, 1, 1024]⟩
abbrev S1024x1024 : Shape := ⟨2, ![1024, 1024]⟩
abbrev S1024 : Shape := ⟨1, ![1024]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S32x64x1024, .f32⟩
  | .hbm, ⟨2, _⟩ => ⟨S32x64x1024, .f32⟩
  | .hbm, ⟨3, _⟩ => ⟨S32x1x1024, .f32⟩
  | .hbm, ⟨4, _⟩ => ⟨S1024x1024, .f32⟩
  | .hbm, ⟨5, _⟩ => ⟨S1024, .f32⟩
  | .hbm, ⟨6, _⟩ => ⟨S32x64x1024, .f32⟩
  | .hbm, ⟨7, _⟩ => ⟨S32x64x1024, .f32⟩
  | .hbm, ⟨8, _⟩ => ⟨S_, .f32⟩
  | .hbm, ⟨9, _⟩ => ⟨S32x64x1024, .f32⟩
  | .hbm, ⟨10, _⟩ => ⟨S32x64x1024, .f32⟩
  | .hbm, ⟨11, _⟩ => ⟨S_, .f32⟩
  | .hbm, ⟨12, _⟩ => ⟨S32x64x1024, .f32⟩
  | .hbm, ⟨13, _⟩ => ⟨S32x64x1024, .f32⟩
  | .hbm, ⟨14, _⟩ => ⟨S32x64x1024, .f32⟩
  | .hbm, ⟨15, _⟩ => ⟨S32x64x1024, .f32⟩
  | .hbm, ⟨16, _⟩ => ⟨S32x64x1024, .f32⟩
  | .hbm, ⟨17, _⟩ => ⟨S32x64x1024, .f32⟩
  | .hbm, ⟨18, _⟩ => ⟨S32x64x1024, .f32⟩
  | .hbm, ⟨19, _⟩ => ⟨S32x64x1024, .f32⟩
  | .hbm, ⟨20, _⟩ => ⟨S32x64x1024, .f32⟩
  | .hbm, ⟨21, _⟩ => ⟨S_, .f32⟩
  | .hbm, ⟨22, _⟩ => ⟨S32x64, .f32⟩
  | .hbm, ⟨23, _⟩ => ⟨S32x64x1, .f32⟩
  | .hbm, ⟨24, _⟩ => ⟨S_, .f32⟩
  | .hbm, ⟨25, _⟩ => ⟨S32x64x1, .f32⟩
  | .hbm, ⟨26, _⟩ => ⟨S32x64x1, .f32⟩
  | .hbm, ⟨27, _⟩ => ⟨S_, .f32⟩
  | .hbm, ⟨28, _⟩ => ⟨S32x64x1, .f32⟩
  | .hbm, ⟨29, _⟩ => ⟨S32x64x1, .f32⟩
  | .hbm, ⟨30, _⟩ => ⟨S32x64x1, .f32⟩
  | .hbm, ⟨31, _⟩ => ⟨S32x64x1024, .f32⟩
  | .hbm, ⟨32, _⟩ => ⟨S32x64x1024, .f32⟩
  | .hbm, ⟨33, _⟩ => ⟨S1x1x1024, .f32⟩
  | .hbm, ⟨34, _⟩ => ⟨S32x64x1024, .f32⟩
  | .hbm, ⟨35, _⟩ => ⟨S32x64x1024, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== Kernel8.lean ====
abbrev S32x64x1024 : Shape := ⟨3, ![32, 64, 1024]⟩
abbrev S32x1x1024 : Shape := ⟨3, ![32, 1, 1024]⟩
abbrev S1024 : Shape := ⟨1, ![1024]⟩
abbrev S1024x3240 : Shape := ⟨2, ![1024, 3240]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S1024x4 : Shape := ⟨2, ![1024, 4]⟩
abbrev S1024x1024 : Shape := ⟨2, ![1024, 1024]⟩
abbrev S_ : Shape := ⟨0, ![]⟩
abbrev S1024x128 : Shape := ⟨2, ![1024, 128]⟩
abbrev S1 : Shape := ⟨1, ![1]⟩
abbrev S1024x16 : Shape := ⟨2, ![1024, 16]⟩
abbrev S1024x8 : Shape := ⟨2, ![1024, 8]⟩
abbrev S1024x3584 : Shape := ⟨2, ![1024, 3584]⟩
abbrev S384x8x32 : Shape := ⟨3, ![384, 8, 32]⟩
abbrev S384x8x128 : Shape := ⟨3, ![384, 8, 128]⟩
abbrev S384x1024 : Shape := ⟨2, ![384, 1024]⟩
abbrev S384x8x16 : Shape := ⟨3, ![384, 8, 16]⟩
abbrev S384x2048 : Shape := ⟨2, ![384, 2048]⟩
abbrev S256x8x64 : Shape := ⟨3, ![256, 8, 64]⟩
abbrev S256x1024 : Shape := ⟨2, ![256, 1024]⟩
abbrev S256x512 : Shape := ⟨2, ![256, 512]⟩
abbrev S256x1536 : Shape := ⟨2, ![256, 1536]⟩
abbrev S64 : Shape := ⟨1, ![64]⟩
abbrev S16 : Shape := ⟨1, ![16]⟩
abbrev S64x1 : Shape := ⟨2, ![64, 1]⟩
abbrev S1x16 : Shape := ⟨2, ![1, 16]⟩
abbrev S64x16 : Shape := ⟨2, ![64, 16]⟩
abbrev S64x32 : Shape := ⟨2, ![64, 32]⟩
abbrev S64x128 : Shape := ⟨2, ![64, 128]⟩
abbrev S64x64 : Shape := ⟨2, ![64, 64]⟩
abbrev S64x512 : Shape := ⟨2, ![64, 512]⟩
abbrev S1x1024 : Shape := ⟨2, ![1, 1024]⟩
abbrev S1x384 : Shape := ⟨2, ![1, 384]⟩
abbrev S1x256 : Shape := ⟨2, ![1, 256]⟩
abbrev S32x64x256 : Shape := ⟨3, ![32, 64, 256]⟩
abbrev S32x64x32 : Shape := ⟨3, ![32, 64, 32]⟩
abbrev S32x64x1536 : Shape := ⟨3, ![32, 64, 1536]⟩
abbrev S32x64x128 : Shape := ⟨3, ![32, 64, 128]⟩
abbrev S1x64x1024 : Shape := ⟨3, ![1, 64, 1024]⟩
abbrev S1x1x1024 : Shape := ⟨3, ![1, 1, 1024]⟩
abbrev S1x64x256 : Shape := ⟨3, ![1, 64, 256]⟩
abbrev S1x64x32 : Shape := ⟨3, ![1, 64, 32]⟩
abbrev S1x64x1536 : Shape := ⟨3, ![1, 64, 1536]⟩
abbrev S1x64x128 : Shape := ⟨3, ![1, 64, 128]⟩
abbrev S64x1024 : Shape := ⟨2, ![64, 1024]⟩
abbrev S64x3584 : Shape := ⟨2, ![64, 3584]⟩
abbrev S64x384 : Shape := ⟨2, ![64, 384]⟩
abbrev S64x256 : Shape := ⟨2, ![64, 256]⟩
abbrev S64x1536 : Shape := ⟨2, ![64, 1536]⟩
abbrev S64x2048 : Shape := ⟨2, ![64, 2048]⟩

abbrev nBuf : Space → Nat
  | .hbm => 132
  | .vmem => 25
  | .smem => 0
  | _ => 0

abbrev hbmTy0_0 (i : Nat) : BufTy := match i % 128 with
  | 0 => ⟨S32x64x1024, .f32⟩
  | 1 => ⟨S32x1x1024, .f32⟩
  | 2 => ⟨S32x1x1024, .f32⟩
  | 3 => ⟨S1024, .f32⟩
  | 4 => ⟨S1024x3240, .f32⟩
  | 5 => ⟨S384, .f32⟩
  | 6 => ⟨S384x8x96, .f32⟩
  | 7 => ⟨S256, .f32⟩
  | 8 => ⟨S256x8x128, .f32⟩
  | 9 => ⟨S1024x384, .f32⟩
  | 10 => ⟨S1024x256, .f32⟩
  | 11 => ⟨S1024x32, .f32⟩
  | 12 => ⟨S1024x256, .f32⟩
  | 13 => ⟨S1024x256, .f32⟩
  | 14 => ⟨S1024x512, .f32⟩
  | 15 => ⟨S1024x4, .f32⟩
  | 16 => ⟨S1024x4, .f32⟩
  | 17 => ⟨S1024x512, .f32⟩
  | 18 => ⟨S1024x1024, .f32⟩
  | 19 => ⟨S_, .f32⟩
  | 20 => ⟨S1024x128, .f32⟩
  | 21 => ⟨S_, .i32⟩
  | 22 => ⟨S1, .i32⟩
  | 23 => ⟨S1024x128, .f32⟩
  | 24 => ⟨S1024x16, .f32⟩
  | 25 => ⟨S1024x16, .f32⟩
  | 26 => ⟨S1024x16, .f32⟩
  | 27 => ⟨S1024x32, .f32⟩
  | 28 => ⟨S_, .f32⟩
  | 29 => ⟨S1024x128, .f32⟩
  | 30 => ⟨S_, .i32⟩
  | 31 => ⟨S1, .i32⟩
  | 32 => ⟨S1024x128, .f32⟩
  | 33 => ⟨S1024x8, .f32⟩
  | 34 => ⟨S_, .f32⟩
  | 35 => ⟨S1024x128, .f32⟩
  | 36 => ⟨S_, .i32⟩
  | 37 => ⟨S1, .i32⟩
  | 38 => ⟨S1024x128, .f32⟩
  | 39 => ⟨S1024x3584, .f32⟩
  | 40 => ⟨S1024x3584, .bf16⟩
  | 41 => ⟨S384x8x32, .f32⟩
  | 42 => ⟨S_, .f32⟩
  | 43 => ⟨S384x8x128, .f32⟩
  | 44 => ⟨S_, .i32⟩
  | 45 => ⟨S1, .i32⟩
  | 46 => ⟨S384x8x128, .f32⟩
  | 47 => ⟨S384x1024, .f32⟩
  | 48 => ⟨S384x8x16, .f32⟩
  | 49 => ⟨S384x8x16, .f32⟩
  | 50 => ⟨S384x8x16, .f32⟩
  | 51 => ⟨S384x8x32, .f32⟩
  | 52 => ⟨S_, .f32⟩
  | 53 => ⟨S384x8x128, .f32⟩
  | 54 => ⟨S_, .i32⟩
  | 55 => ⟨S1, .i32⟩
  | 56 => ⟨S384x8x128, .f32⟩
  | 57 => ⟨S384x1024, .f32⟩
  | 58 => ⟨S384x2048, .f32⟩
  | 59 => ⟨S384x2048, .bf16⟩
  | 60 => ⟨S256x8x64, .f32⟩
  | 61 => ⟨S_, .f32⟩
  | 62 => ⟨S256x8x128, .f32⟩
  | 63 => ⟨S_, .i32⟩
  | 64 => ⟨S1, .i32⟩
  | 65 => ⟨S256x8x128, .f32⟩
  | 66 => ⟨S256x1024, .f32⟩
  | 67 => ⟨S256x8x64, .f32⟩
  | 68 => ⟨S256x512, .f32⟩
  | 69 => ⟨S256x1536, .f32⟩
  | 70 => ⟨S256x1536, .bf16⟩
  | 71 => ⟨S64, .i32⟩
  | 72 => ⟨S_, .i32⟩
  | 73 => ⟨S64, .i32⟩
  | 74 => ⟨S64, .i32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S_, .f32⟩
  | 83 => ⟨S16, .f32⟩
  | 84 => ⟨S16, .f32⟩
  | 85 => ⟨S16, .f32⟩
  | 86 => ⟨S64, .f32⟩
  | 87 => ⟨S64x1, .f32⟩
  | 88 => ⟨S1x16, .f32⟩
  | 89 => ⟨S64x16, .f32⟩
  | 90 => ⟨S64x16, .f32⟩
  | 91 => ⟨S64x16, .f32⟩
  | 92 => ⟨S64x16, .f32⟩
  | 93 => ⟨S64x16, .f32⟩
  | 94 => ⟨S64x32, .f32⟩
  | 95 => ⟨S64x16, .f32⟩
  | 96 => ⟨S64x16, .f32⟩
  | 97 => ⟨S64x32, .f32⟩
  | 98 => ⟨S_, .f32⟩
  | 99 => ⟨S64x128, .f32⟩
  | 100 => ⟨S_, .i32⟩
  | 101 => ⟨S1, .i32⟩
  | 102 => ⟨S64x128, .f32⟩
  | 103 => ⟨S_, .f32⟩
  | 104 => ⟨S64x128, .f32⟩
  | 105 => ⟨S_, .i32⟩
  | 106 => ⟨S1, .i32⟩
  | 107 => ⟨S64x128, .f32⟩
  | 108 => ⟨S_, .f32⟩
  | 109 => ⟨S64x64, .f32⟩
  | 110 => ⟨S_, .f32⟩
  | 111 => ⟨S64x128, .f32⟩
  | 112 => ⟨S_, .i32⟩
  | 113 => ⟨S1, .i32⟩
  | 114 => ⟨S64x128, .f32⟩
  | 115 => ⟨S64x128, .f32⟩
  | 116 => ⟨S_, .f32⟩
  | 117 => ⟨S64x128, .f32⟩
  | 118 => ⟨S64x128, .f32⟩
  | 119 => ⟨S_, .f32⟩
  | 120 => ⟨S64x128, .f32⟩
  | 121 => ⟨S64x128, .f32⟩
  | 122 => ⟨S64x512, .f32⟩
  | 123 => ⟨S1x1024, .f32⟩
  | 124 => ⟨S1x384, .f32⟩
  | 125 => ⟨S1x256, .f32⟩
  | 126 => ⟨S32x64x1024, .bf16⟩
  | 127 => ⟨S32x64x256, .f32⟩
  | _ => ⟨S32x64x1024, .f32⟩

abbrev hbmTy0_1 (i : Nat) : BufTy := match i % 128 with
  | 0 => ⟨S32x64x32, .f32⟩
  | 1 => ⟨S32x64x1536, .f32⟩
  | 2 => ⟨S32x64x1024, .f32⟩
  | 3 => ⟨S32x64x128, .f32⟩
  | _ => ⟨S32x64x1024, .f32⟩

abbrev hbmTy (i : Nat) : BufTy := match i / 128 with
  | 0 => hbmTy0_0 i
  | 1 => hbmTy0_1 i
  | _ => ⟨S32x64x1024, .f32⟩

abbrev bufTy : (tb : Table) → Fin (tcTables nBuf tb) → BufTy
  | .hbm, ⟨i, _⟩ => hbmTy i
  | .local _ .vmem, ⟨0, _⟩ => ⟨S1x64x1024, .f32⟩
  | .local _ .vmem, ⟨1, _⟩ => ⟨S1x64x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3584, .bf16⟩
  | .local _ .vmem, ⟨8, _⟩ => ⟨S1x384, .f32⟩
  | .local _ .vmem, ⟨9, _⟩ => ⟨S384x2048, .bf16⟩
  | .local _ .vmem, ⟨10, _⟩ => ⟨S1x256, .f32⟩
  | .local _ .vmem, ⟨11, _⟩ => ⟨S256x1536, .bf16⟩
  | .local _ .vmem, ⟨12, _⟩ => ⟨S64x512, .f32⟩
  | .local _ .vmem, ⟨13, _⟩ => ⟨S1x64x1024, .bf16⟩
  | .local _ .vmem, ⟨14, _⟩ => ⟨S1x64x1024, .bf16⟩
  | .local _ .vmem, ⟨15, _⟩ => ⟨S1x64x256, .f32⟩
  | .local _ .vmem, ⟨16, _⟩ => ⟨S1x64x256, .f32⟩
  | .local _ .vmem, ⟨17, _⟩ => ⟨S1x64x32, .f32⟩
  | .local _ .vmem, ⟨18, _⟩ => ⟨S1x64x32, .f32⟩
  | .local _ .vmem, ⟨19, _⟩ => ⟨S1x64x1536, .f32⟩
  | .local _ .vmem, ⟨20, _⟩ => ⟨S1x64x1536, .f32⟩
  | .local _ .vmem, ⟨21, _⟩ => ⟨S1x64x1024, .f32⟩
  | .local _ .vmem, ⟨22, _⟩ => ⟨S1x64x1024, .f32⟩
  | .local _ .vmem, ⟨23, _⟩ => ⟨S1x64x128, .f32⟩
  | .local _ .vmem, ⟨24, _⟩ => ⟨S1x64x128, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_c_15 : Ref sig .tc := ⟨.hbm, 100, rfl⟩
abbrev main_v74 : Ref sig .tc := ⟨.hbm, 101, rfl⟩
abbrev main_v75 : Ref sig .tc := ⟨.hbm, 102, rfl⟩
abbrev main_cst_16 : Ref sig .tc := ⟨.hbm, 103, rfl⟩
abbrev main_v76 : Ref sig .tc := ⟨.hbm, 104, rfl⟩
abbrev main_c_17 : Ref sig .tc := ⟨.hbm, 105, rfl⟩
abbrev main_v77 : Ref sig .tc := ⟨.hbm, 106, rfl⟩
abbrev main_v78 : Ref sig .tc := ⟨.hbm, 107, rfl⟩
abbrev main_cst_18 : Ref sig .tc := ⟨.hbm, 108, rfl⟩
abbrev main_v79 : Ref sig .tc := ⟨.hbm, 109, rfl⟩
abbrev main_cst_19 : Ref sig .tc := ⟨.hbm, 110, rfl⟩
abbrev main_v80 : Ref sig .tc := ⟨.hbm, 111, rfl⟩
abbrev main_c_20 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_v85 : Ref sig .tc := ⟨.hbm, 118, rfl⟩
abbrev main_cst_22 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92_0 : Ref sig .tc := ⟨.hbm, 126, rfl⟩
abbrev main_v92_1 : Ref sig .tc := ⟨.hbm, 127, rfl⟩
abbrev main_v92_2 : Ref sig .tc := ⟨.hbm, 128, rfl⟩
abbrev main_v92_3 : Ref sig .tc := ⟨.hbm, 129, rfl⟩
abbrev main_v92_4 : Ref sig .tc := ⟨.hbm, 130, rfl⟩
abbrev main_v92_5 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 2 → Memref sig .tc .vmem S1x64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference8Ideal.lean ====
abbrev S32x64x1024 : Shape := ⟨3, ![32, 64, 1024]⟩
abbrev S32x1x1024 : Shape := ⟨3, ![32, 1, 1024]⟩
abbrev S1024 : Shape := ⟨1, ![1024]⟩
abbrev S1024x3240 : Shape := ⟨2, ![1024, 3240]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S64 : Shape := ⟨1, ![64]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S32x64x3240 : Shape := ⟨3, ![32, 64, 3240]⟩
abbrev S32x64x384 : Shape := ⟨3, ![32, 64, 384]⟩
abbrev S32x64x256 : Shape := ⟨3, ![32, 64, 256]⟩
abbrev S32x64x32 : Shape := ⟨3, ![32, 64, 32]⟩
abbrev S32x64x512 : Shape := ⟨3, ![32, 64, 512]⟩
abbrev S32x64x4 : Shape := ⟨3, ![32, 64, 4]⟩
abbrev S1x1x384 : Shape := ⟨3, ![1, 1, 384]⟩
abbrev S32x64x8x96 : Shape := ⟨4, ![32, 64, 8, 96]⟩
abbrev S32x64x8x64 : Shape := ⟨4, ![32, 64, 8, 64]⟩
abbrev S32x64x8x32 : Shape := ⟨4, ![32, 64, 8, 32]⟩
abbrev S16 : Shape := ⟨1, ![16]⟩
abbrev S64x1 : Shape := ⟨2, ![64, 1]⟩
abbrev S1x16 : Shape := ⟨2, ![1, 16]⟩
abbrev S64x16 : Shape := ⟨2, ![64, 16]⟩
abbrev S64x1x16 : Shape := ⟨3, ![64, 1, 16]⟩
abbrev S32x64x8x16 : Shape := ⟨4, ![32, 64, 8, 16]⟩
abbrev S1x64x1x16 : Shape := ⟨4, ![1, 64, 1, 16]⟩
abbrev S32x64x8 : Shape := ⟨3, ![32, 64, 8]⟩
abbrev S32x64x128 : Shape := ⟨3, ![32, 64, 128]⟩
abbrev S32x64x8x128 : Shape := ⟨4, ![32, 64, 8, 128]⟩
abbrev S1x1x256 : Shape := ⟨3, ![1, 1, 256]⟩
abbrev S32x64x16 : Shape := ⟨3, ![32, 64, 16]⟩
abbrev S1x64x16 : Shape := ⟨3, ![1, 64, 16]⟩
abbrev S32x64x1536 : Shape := ⟨3, ![32, 64, 1536]⟩

abbrev nBuf : Space → Nat
  | .hbm => 169
  | .vmem => 0
  | .smem => 0
  | _ => 0

abbrev hbmTy0_0 (i : Nat) : BufTy := match i % 128 with
  | 0 => ⟨S32x64x1024, .f32⟩
  | 1 => ⟨S32x1x1024, .f32⟩
  | 2 => ⟨S32x1x1024, .f32⟩
  | 3 => ⟨S1024, .f32⟩
  | 4 => ⟨S1024x3240, .f32⟩
  | 5 => ⟨S384, .f32⟩
  | 6 => ⟨S384x8x96, .f32⟩
  | 7 => ⟨S256, .f32⟩
  | 8 => ⟨S256x8x128, .f32⟩
  | 9 => ⟨S64, .i32⟩
  | 10 => ⟨S_, .i32⟩
  | 11 => ⟨S64, .i32⟩
  | 12 => ⟨S64, .i32⟩
  | 13 => ⟨S32x64x1024, .f32⟩
  | 14 => ⟨S_, .f32⟩
  | 15 => ⟨S32x64, .f32⟩
  | 16 => ⟨S32x64x1, .f32⟩
  | 17 => ⟨S_, .f32⟩
  | 18 => ⟨S32x64x1, .f32⟩
  | 19 => ⟨S32x64x1, .f32⟩
  | 20 => ⟨S_, .f32⟩
  | 21 => ⟨S32x64x1, .f32⟩
  | 22 => ⟨S32x64x1, .f32⟩
  | 23 => ⟨S32x64x1, .f32⟩
  | 24 => ⟨S32x64x1024, .f32⟩
  | 25 => ⟨S32x64x1024, .f32⟩
  | 26 => ⟨S1x1x1024, .f32⟩
  | 27 => ⟨S32x64x1024, .f32⟩
  | 28 => ⟨S32x64x1024, .f32⟩
  | 29 => ⟨S_, .f32⟩
  | 30 => ⟨S32x1x1024, .f32⟩
  | 31 => ⟨S32x1x1024, .f32⟩
  | 32 => ⟨S32x64x1024, .f32⟩
  | 33 => ⟨S32x64x1024, .f32⟩
  | 34 => ⟨S32x64x1024, .f32⟩
  | 35 => ⟨S32x64x1024, .f32⟩
  | 36 => ⟨S32x64x3240, .f32⟩
  | 37 => ⟨S32x64x384, .f32⟩
  | 38 => ⟨S32x64x256, .f32⟩
  | 39 => ⟨S32x64x32, .f32⟩
  | 40 => ⟨S32x64x256, .f32⟩
  | 41 => ⟨S32x64x256, .f32⟩
  | 42 => ⟨S32x64x512, .f32⟩
  | 43 => ⟨S32x64x4, .f32⟩
  | 44 => ⟨S32x64x4, .f32⟩
  | 45 => ⟨S32x64x512, .f32⟩
  | 46 => ⟨S32x64x1024, .f32⟩
  | 47 => ⟨S32x64x384, .f32⟩
  | 48 => ⟨S_, .f32⟩
  | 49 => ⟨S32x64, .f32⟩
  | 50 => ⟨S32x64x1, .f32⟩
  | 51 => ⟨S_, .f32⟩
  | 52 => ⟨S32x64x1, .f32⟩
  | 53 => ⟨S32x64x1, .f32⟩
  | 54 => ⟨S_, .f32⟩
  | 55 => ⟨S32x64x1, .f32⟩
  | 56 => ⟨S32x64x1, .f32⟩
  | 57 => ⟨S32x64x1, .f32⟩
  | 58 => ⟨S32x64x384, .f32⟩
  | 59 => ⟨S32x64x384, .f32⟩
  | 60 => ⟨S1x1x384, .f32⟩
  | 61 => ⟨S32x64x384, .f32⟩
  | 62 => ⟨S32x64x384, .f32⟩
  | 63 => ⟨S32x64x8x96, .f32⟩
  | 64 => ⟨S32x64x8x64, .f32⟩
  | 65 => ⟨S32x64x8x32, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S16, .f32⟩
  | 77 => ⟨S64, .f32⟩
  | 78 => ⟨S64x1, .f32⟩
  | 79 => ⟨S1x16, .f32⟩
  | 80 => ⟨S64x16, .f32⟩
  | 81 => ⟨S64x16, .f32⟩
  | 82 => ⟨S64x16, .f32⟩
  | 83 => ⟨S64x1x16, .f32⟩
  | 84 => ⟨S64x1x16, .f32⟩
  | 85 => ⟨S64x1x16, .f32⟩
  | 86 => ⟨S32x64x8x16, .f32⟩
  | 87 => ⟨S32x64x8x16, .f32⟩
  | 88 => ⟨S1x64x1x16, .f32⟩
  | 89 => ⟨S32x64x8x16, .f32⟩
  | 90 => ⟨S32x64x8x16, .f32⟩
  | 91 => ⟨S1x64x1x16, .f32⟩
  | 92 => ⟨S32x64x8x16, .f32⟩
  | 93 => ⟨S32x64x8x16, .f32⟩
  | 94 => ⟨S32x64x8x16, .f32⟩
  | 95 => ⟨S1x64x1x16, .f32⟩
  | 96 => ⟨S32x64x8x16, .f32⟩
  | 97 => ⟨S32x64x8x16, .f32⟩
  | 98 => ⟨S1x64x1x16, .f32⟩
  | 99 => ⟨S32x64x8x16, .f32⟩
  | 100 => ⟨S32x64x8x16, .f32⟩
  | 101 => ⟨S32x64x8x16, .f32⟩
  | 102 => ⟨S32x64x8x32, .f32⟩
  | 103 => ⟨S32x64x8x96, .f32⟩
  | 104 => ⟨S_, .f32⟩
  | 105 => ⟨S32x64x8x96, .f32⟩
  | 106 => ⟨S32x64x8x96, .f32⟩
  | 107 => ⟨S32x64x8, .f32⟩
  | 108 => ⟨S_, .i32⟩
  | 109 => ⟨S_, .f32⟩
  | 110 => ⟨S32x64x128, .f32⟩
  | 111 => ⟨S_, .i32⟩
  | 112 => ⟨S_, .f32⟩
  | 113 => ⟨S32x64x8x128, .f32⟩
  | 114 => ⟨S32x64x1024, .f32⟩
  | 115 => ⟨S32x64x1024, .bf16⟩
  | 116 => ⟨S32x64x256, .f32⟩
  | 117 => ⟨S_, .f32⟩
  | 118 => ⟨S32x64, .f32⟩
  | 119 => ⟨S32x64x1, .f32⟩
  | 120 => ⟨S_, .f32⟩
  | 121 => ⟨S32x64x1, .f32⟩
  | 122 => ⟨S32x64x1, .f32⟩
  | 123 => ⟨S_, .f32⟩
  | 124 => ⟨S32x64x1, .f32⟩
  | 125 => ⟨S32x64x1, .f32⟩
  | 126 => ⟨S32x64x1, .f32⟩
  | 127 => ⟨S32x64x256, .f32⟩
  | _ => ⟨S32x64x1024, .f32⟩

abbrev hbmTy0_1 (i : Nat) : BufTy := match i % 128 with
  | 0 => ⟨S32x64x256, .f32⟩
  | 1 => ⟨S1x1x256, .f32⟩
  | 2 => ⟨S32x64x256, .f32⟩
  | 3 => ⟨S32x64x256, .f32⟩
  | 4 => ⟨S16, .f32⟩
  | 5 => ⟨S_, .f32⟩
  | 6 => ⟨S16, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S16, .f32⟩
  | 15 => ⟨S64, .f32⟩
  | 16 => ⟨S64x1, .f32⟩
  | 17 => ⟨S1x16, .f32⟩
  | 18 => ⟨S64x16, .f32⟩
  | 19 => ⟨S64x16, .f32⟩
  | 20 => ⟨S64x16, .f32⟩
  | 21 => ⟨S64x16, .f32⟩
  | 22 => ⟨S64x16, .f32⟩
  | 23 => ⟨S32x64x16, .f32⟩
  | 24 => ⟨S32x64x16, .f32⟩
  | 25 => ⟨S1x64x16, .f32⟩
  | 26 => ⟨S32x64x16, .f32⟩
  | 27 => ⟨S32x64x16, .f32⟩
  | 28 => ⟨S1x64x16, .f32⟩
  | 29 => ⟨S32x64x16, .f32⟩
  | 30 => ⟨S32x64x16, .f32⟩
  | 31 => ⟨S32x64x16, .f32⟩
  | 32 => ⟨S1x64x16, .f32⟩
  | 33 => ⟨S32x64x16, .f32⟩
  | 34 => ⟨S32x64x16, .f32⟩
  | 35 => ⟨S1x64x16, .f32⟩
  | 36 => ⟨S32x64x16, .f32⟩
  | 37 => ⟨S32x64x16, .f32⟩
  | 38 => ⟨S32x64x16, .f32⟩
  | 39 => ⟨S32x64x32, .f32⟩
  | 40 => ⟨S32x64x1536, .f32⟩
  | _ => ⟨S32x64x1024, .f32⟩

abbrev hbmTy (i : Nat) : BufTy := match i / 128 with
  | 0 => hbmTy0_0 i
  | 1 => hbmTy0_1 i
  | _ => ⟨S32x64x1024, .f32⟩

abbrev bufTy : (tb : Table) → Fin (tcTables nBuf tb) → BufTy
  | .hbm, ⟨i, _⟩ => hbmTy i
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_9 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_c_10 : Ref sig .tc := ⟨.hbm, 108, rfl⟩
abbrev main_call0_v0 : Ref sig .tc := ⟨.hbm, 109, rfl⟩
abbrev main_v87 : Ref sig .tc := ⟨.hbm, 110, rfl⟩
abbrev main_c_11 : Ref sig .tc := ⟨.hbm, 111, rfl⟩
abbrev main_call1_v0 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_12 : Ref sig .tc := ⟨.hbm, 117, rfl⟩
abbrev main_v92 : Ref sig .tc := ⟨.hbm, 118, rfl⟩
abbrev main_v93 : Ref sig .tc := ⟨.hbm, 119, rfl⟩
abbrev main_cst_13 : Ref sig .tc := ⟨.hbm, 120, rfl⟩
abbrev main_v94 : Ref sig .tc := ⟨.hbm, 121, rfl⟩
abbrev main_v95 : Ref sig .tc := ⟨.hbm, 122, rfl⟩
abbrev main_cst_14 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_15 : Ref sig .tc := ⟨.hbm, 133, rfl⟩
abbrev main_v105 : Ref sig .tc := ⟨.hbm, 134, rfl⟩
abbrev main_v106 : Ref sig .tc := ⟨.hbm, 135, rfl⟩
abbrev main_cst_16 : Ref sig .tc := ⟨.hbm, 136, rfl⟩
abbrev main_v107 : Ref sig .tc := ⟨.hbm, 137, rfl⟩
abbrev main_v108 : Ref sig .tc := ⟨.hbm, 138, rfl⟩
abbrev main_cst_17 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩

abbrev nD : Nat := 1
abbrev τ : Topo := Topo.v7x

variable {F : FTy → Type} [FloatOps F]
-- ==== Proof.Frame.Runs.lean ====
/- The frame of the machine-word kernel: branch conditions and memrefs. -/
module

public import proofs.«01_k».proof.Proof.Gen.Kernel.Frame
public import proofs.«01_k».proof.Proof.Gen.Kernel.Skeleton

@[expose] public section

set_option maxRecDepth 16384

noncomputable section

namespace Cert.Kernel.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame claim from a run to the frame post over any proof data whose arrays are the ones at entry. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 1024 := Nat.lt_of_lt_of_eq t.isLt N_0
    have e0 : (grid0.coords t 0).val = t.val / 256 % 4 := Pipeline.Grid.coords_val t 0 (by decide) rfl
    have e1 : (grid0.coords t 1).val = t.val / 16 % 16 := Pipeline.Grid.coords_val t 1 (by decide) rfl
    have e2 : (grid0.coords t 2).val = t.val / 1 % 16 := Pipeline.Grid.coords_val t 2 (by decide) rfl
    simp only [cond0_0, e0, e1, e2]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 2).val) (BitVec.ofNat 32 (i 1).val))) 0#32) = 1#1
/-- It holds at the points whose coordinates have i2 + 1 ≤ i1 — decided over the grid. -/
theorem hcond0_1 : ∀ t : Fin cfg0.N, cond0_1 (grid0.coords t) ↔ t.val % 16 + 1 ≤ t.val / 16 % 16 :=
  (by decide +kernel : ∀ t : Fin grid0.N, cond0_1 (grid0.coords t) ↔ t.val % 16 + 1 ≤ t.val / 16 % 16)

/-- The condition of the body's `scf.if` 2 (`k0_h3`), from the grid coordinates (the skeleton's scalar
    chain substituted). -/
abbrev cond0_2 (i : grid0.Coords) : Prop := k0_cond3 i = 1#1
/-- It holds at the points whose coordinates have i1 = i2 — decided over the grid. -/
theorem hcond0_2 : ∀ t : Fin cfg0.N, cond0_2 (grid0.coords t) ↔ t.val / 16 % 16 = t.val % 16 :=
  (by decide +kernel : ∀ t : Fin grid0.N, cond0_2 (grid0.coords t) ↔ t.val / 16 % 16 = t.val % 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S8x512x1 .f32 := Memref.whole cc0_scratch0
abbrev scM0_1 : Memref sig .tc .vmem S8x512x1 .f32 := Memref.whole cc0_scratch1
abbrev scM0_2 : Memref sig .tc .vmem S8x512x64 .f32 := Memref.whole cc0_scratch2
/-- The scratch `arg7` the kernel carries between points, as a view: what it holds is stated through it. -/
abbrev VS0_0 : View sig .tc .vmem S8x512x1 .f32 := scM0_0.view
/-- The scratch `arg8` the kernel carries between points, as a view: what it holds is stated through it. -/
abbrev VS0_1 : View sig .tc .vmem S8x512x1 .f32 := scM0_1.view
/-- The scratch `arg9` the kernel carries between points, as a view: what it holds is stated through it. -/
abbrev VS0_2 : View sig .tc .vmem S8x512x64 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Forget

end
-- ==== Proof.Frame.RunA.lean ====
/- The attention body of the machine-word kernel, case A. -/
module

public import proofs.«01_k».proof.Proof.Frame.Runs

@[expose] public section

set_option maxRecDepth 16384

noncomputable section

namespace Cert.Kernel.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in case A: the scratch ends with the stored pieces, the output at anything. -/
noncomputable def kernelRun0_A (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond0_0 i) (hc1 : ¬cond0_1 i) (hc2 : cond0_2 i)
    (x0 : Vec F S1x512x1024 .bf16) (x1 : Vec F S1x512x1024 .bf16) (x2 : Vec F S1x512x512 .bf16) :
    Σ' (LS0 : List (View.Piece (Elt F) S8x512x1 .f32)), Σ' (LS1 : List (View.Piece (Elt F) S8x512x1 .f32)), { LS2 : List (View.Piece (Elt F) S8x512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_flash_attn i arg3 harg3 arg4 harg4 arg5 harg5 arg6 harg6 arg7 harg7 arg8 harg8 arg9 harg9) K } := by
  refine ⟨?_, ?_, ?_, fun E K => ?run⟩
  case run =>
    simp only [cc0_flash_attn_eq_skeleton]; unfold cc0_flash_attn_skel
    simp only [k0_part23_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [HS0]; · iexists _; iexact HS0
    isplitl [HS1]; · iexists _; iexact HS1
    iexists _; iexact HS2

end Cert.Kernel.Forget

end
-- ==== Proof.Frame.RunB.lean ====
/- The attention body of the machine-word kernel, case B. -/
module

public import proofs.«01_k».proof.Proof.Frame.RunA

@[expose] public section

set_option maxRecDepth 16384

noncomputable section

namespace Cert.Kernel.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in case B: the scratch ends with the stored pieces, the output at anything. -/
noncomputable def kernelRun0_B (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond0_0 i) (hc1 : ¬cond0_1 i) (hc2 : ¬cond0_2 i)
    (x0 : Vec F S1x512x1024 .bf16) (x1 : Vec F S1x512x1024 .bf16) (x2 : Vec F S1x512x512 .bf16) (xs0 : Vec F S8x512x1 .f32) (xs1 : Vec F S8x512x1 .f32) (xs2 : Vec F S8x512x64 .f32) :
    Σ' (LS0 : List (View.Piece (Elt F) S8x512x1 .f32)), Σ' (LS1 : List (View.Piece (Elt F) S8x512x1 .f32)), { LS2 : List (View.Piece (Elt F) S8x512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc0_flash_attn i arg3 harg3 arg4 harg4 arg5 harg5 arg6 harg6 arg7 harg7 arg8 harg8 arg9 harg9) K } := by
  refine ⟨[], [], [], fun E K => ?run⟩
  case run =>
    simp only [cc0_flash_attn_eq_skeleton]; unfold cc0_flash_attn_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Forget

end
-- ==== Proof.Frame.RunC.lean ====
/- The attention body of the machine-word kernel, case C. -/
module

public import proofs.«01_k».proof.Proof.Frame.RunB

@[expose] public section

set_option maxRecDepth 16384

noncomputable section

namespace Cert.Kernel.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in case C: the scratch ends with the stored pieces, the output at anything. -/
noncomputable def kernelRun0_C (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond0_0 i) (hc1 : cond0_1 i) (hc2 : ¬cond0_2 i)
    (x0 : Vec F S1x512x1024 .bf16) (x1 : Vec F S1x512x1024 .bf16) (x2 : Vec F S1x512x512 .bf16) :
    Σ' (LS0 : List (View.Piece (Elt F) S8x512x1 .f32)), Σ' (LS1 : List (View.Piece (Elt F) S8x512x1 .f32)), { LS2 : List (View.Piece (Elt F) S8x512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_flash_attn i arg3 harg3 arg4 harg4 arg5 harg5 arg6 harg6 arg7 harg7 arg8 harg8 arg9 harg9) K } := by
  refine ⟨?_, ?_, ?_, fun E K => ?run⟩
  case run =>
    simp only [cc0_flash_attn_eq_skeleton]; unfold cc0_flash_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [HS0]; · iexists _; iexact HS0
    isplitl [HS1]; · iexists _; iexact HS1
    iexists _; iexact HS2

end Cert.Kernel.Forget

end
-- ==== Proof.Frame.RunD.lean ====
/- The attention body of the machine-word kernel, case D. -/
module

public import proofs.«01_k».proof.Proof.Frame.RunC

@[expose] public section

set_option maxRecDepth 16384

noncomputable section

namespace Cert.Kernel.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- The body run in case D: the scratch ends with the stored pieces, the output at anything. -/
noncomputable def kernelRun0_D (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond0_0 i) (hc1 : ¬cond0_1 i) (hc2 : cond0_2 i)
    (x0 : Vec F S1x512x1024 .bf16) (x1 : Vec F S1x512x1024 .bf16) (x2 : Vec F S1x512x512 .bf16) (xs0 : Vec F S8x512x1 .f32) (xs1 : Vec F S8x512x1 .f32) (xs2 : Vec F S8x512x64 .f32) :
    Σ' (LS0 : List (View.Piece (Elt F) S8x512x1 .f32)), Σ' (LS1 : List (View.Piece (Elt F) S8x512x1 .f32)), { LS2 : List (View.Piece (Elt F) S8x512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_flash_attn i arg3 harg3 arg4 harg4 arg5 harg5 arg6 harg6 arg7 harg7 arg8 harg8 arg9 harg9) K } := by
  refine ⟨?_, ?_, ?_, fun E K => ?run⟩
  case run =>
    simp only [cc0_flash_attn_eq_skeleton]; unfold cc0_flash_attn_skel
    simp only [k0_part23_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [HS0]; · iexists _; iexact HS0
    isplitl [HS1]; · iexists _; iexact HS1
    iexists _; iexact HS2

end Cert.Kernel.Forget

end
-- ==== Proof.Frame.RunE.lean ====
/- The attention body of the machine-word kernel, case E. -/
module

public import proofs.«01_k».proof.Proof.Frame.RunD

@[expose] public section

set_option maxRecDepth 16384

noncomputable section

namespace Cert.Kernel.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- The body run in case E: the scratch ends with the stored pieces, the output at anything. -/
noncomputable def kernelRun0_E (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond0_0 i) (hc1 : cond0_1 i) (hc2 : ¬cond0_2 i)
    (x0 : Vec F S1x512x1024 .bf16) (x1 : Vec F S1x512x1024 .bf16) (x2 : Vec F S1x512x512 .bf16) (xs0 : Vec F S8x512x1 .f32) (xs1 : Vec F S8x512x1 .f32) (xs2 : Vec F S8x512x64 .f32) :
    Σ' (LS0 : List (View.Piece (Elt F) S8x512x1 .f32)), Σ' (LS1 : List (View.Piece (Elt F) S8x512x1 .f32)), { LS2 : List (View.Piece (Elt F) S8x512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_flash_attn i arg3 harg3 arg4 harg4 arg5 harg5 arg6 harg6 arg7 harg7 arg8 harg8 arg9 harg9) K } := by
  refine ⟨?_, ?_, ?_, fun E K => ?run⟩
  case run =>
    simp only [cc0_flash_attn_eq_skeleton]; unfold cc0_flash_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [HS0]; · iexists _; iexact HS0
    isplitl [HS1]; · iexists _; iexact HS1
    iexists _; iexact HS2

end Cert.Kernel.Forget

end
-- ==== Proof.Frame.Frame.lean ====
/- The frame of the machine-word kernel, nothing said of the output. -/
module

public import proofs.«01_k».proof.Proof.Frame.RunE
public import Idealize.ShloMosaic.Lib.Claim

@[expose] public section

set_option maxRecDepth 16384

noncomputable section

namespace Cert.Kernel.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole)
  (hc0 : cond0_0 i) (hc1 : ¬cond0_1 i) (hc2 : cond0_2 i)
  (x0 : Vec F S1x512x1024 .bf16) (x1 : Vec F S1x512x1024 .bf16) (x2 : Vec F S1x512x512 .bf16)

theorem scover0_A_0 (y : S8x512x1.Idx) :
    ∃ pc ∈ (kernelRun0_A c i arg3 harg3 arg4 harg4 arg5 harg5 arg6 harg6 arg7 harg7 arg8 harg8 arg9 harg9 hc0 hc1 hc2 x0 x1 x2).1, y ∈ pc.1.set :=
  View.cover_of_wholeMem (kernelRun0_A c i arg3 harg3 arg4 harg4 arg5 harg5 arg6 harg6 arg7 harg7 arg8 harg8 arg9 harg9 hc0 hc1 hc2 x0 x1 x2).1 (by sl_whole_mem) y

/-- What case A leaves in scratch `arg7`: its pieces read back over junk. -/
def sout0_A_0 : Vec F S8x512x1 .f32 :=
  VS0_0.read (Elt F) (VS0_0.writes (Elt F) VS0_0.junk (kernelRun0_A c i arg3 harg3 arg4 harg4 arg5 harg5 arg6 harg6 arg7 harg7 arg8 harg8 arg9 harg9 hc0 hc1 hc2 x0 x1 x2).1)

theorem scover0_A_1 (y : S8x512x1.Idx) :
    ∃ pc ∈ (kernelRun0_A c i arg3 harg3 arg4 harg4 arg5 harg5 arg6 harg6 arg7 harg7 arg8 harg8 arg9 harg9 hc0 hc1 hc2 x0 x1 x2).2.1, y ∈ pc.1.set :=
  View.cover_of_wholeMem (kernelRun0_A c i arg3 harg3 arg4 harg4 arg5 harg5 arg6 harg6 arg7 harg7 arg8 harg8 arg9 harg9 hc0 hc1 hc2 x0 x1 x2).2.1 (by sl_whole_mem) y

/-- What case A leaves in scratch `arg8`: its pieces read back over junk. -/
def sout0_A_1 : Vec F S8x512x1 .f32 :=
  VS0_1.read (Elt F) (VS0_1.writes (Elt F) VS0_1.junk (kernelRun0_A c i arg3 harg3 arg4 harg4 arg5 harg5 arg6 harg6 arg7 harg7 arg8 harg8 arg9 harg9 hc0 hc1 hc2 x0 x1 x2).2.1)

theorem scover0_A_2 (y : S8x512x64.Idx) :
    ∃ pc ∈ (kernelRun0_A c i arg3 harg3 arg4 harg4 arg5 harg5 arg6 harg6 arg7 harg7 arg8 harg8 arg9 harg9 hc0 hc1 hc2 x0 x1 x2).2.2.1, y ∈ pc.1.set :=
  View.cover_of_wholeMem (kernelRun0_A c i arg3 harg3 arg4 harg4 arg5 harg5 arg6 harg6 arg7 harg7 arg8 harg8 arg9 harg9 hc0 hc1 hc2 x0 x1 x2).2.2.1 (by sl_whole_mem) y

/-- What case A leaves in scratch `arg9`: its pieces read back over junk. -/
def sout0_A_2 : Vec F S8x512x64 .f32 :=
  VS0_2.read (Elt F) (VS0_2.writes (Elt F) VS0_2.junk (kernelRun0_A c i arg3 harg3 arg4 harg4 arg5 harg5 arg6 harg6 arg7 harg7 arg8 harg8 arg9 harg9 hc0 hc1 hc2 x0 x1 x2).2.2.1)

end

/-- Case B stores nothing into scratch `arg7`: it holds what the point before left. -/
def sout0_B_0 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond0_0 i) (hc1 : ¬cond0_1 i) (hc2 : ¬cond0_2 i)
    (x0 : Vec F S1x512x1024 .bf16) (x1 : Vec F S1x512x1024 .bf16) (x2 : Vec F S1x512x512 .bf16) (xs0 : Vec F S8x512x1 .f32) (xs1 : Vec F S8x512x1 .f32) (xs2 : Vec F S8x512x64 .f32) : Vec F S8x512x1 .f32 := xs0

/-- Case B stores nothing into scratch `arg8`: it holds what the point before left. -/
def sout0_B_1 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond0_0 i) (hc1 : ¬cond0_1 i) (hc2 : ¬cond0_2 i)
    (x0 : Vec F S1x512x1024 .bf16) (x1 : Vec F S1x512x1024 .bf16) (x2 : Vec F S1x512x512 .bf16) (xs0 : Vec F S8x512x1 .f32) (xs1 : Vec F S8x512x1 .f32) (xs2 : Vec F S8x512x64 .f32) : Vec F S8x512x1 .f32 := xs1

/-- Case B stores nothing into scratch `arg9`: it holds what the point before left. -/
def sout0_B_2 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond0_0 i) (hc1 : ¬cond0_1 i) (hc2 : ¬cond0_2 i)
    (x0 : Vec F S1x512x1024 .bf16) (x1 : Vec F S1x512x1024 .bf16) (x2 : Vec F S1x512x512 .bf16) (xs0 : Vec F S8x512x1 .f32) (xs1 : Vec F S8x512x1 .f32) (xs2 : Vec F S8x512x64 .f32) : Vec F S8x512x64 .f32 := xs2

section
variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole)
  (hc0 : cond0_0 i) (hc1 : cond0_1 i) (hc2 : ¬cond0_2 i)
  (x0 : Vec F S1x512x1024 .bf16) (x1 : Vec F S1x512x1024 .bf16) (x2 : Vec F S1x512x512 .bf16)

theorem scover0_C_0 (y : S8x512x1.Idx) :
    ∃ pc ∈ (kernelRun0_C c i arg3 harg3 arg4 harg4 arg5 harg5 arg6 harg6 arg7 harg7 arg8 harg8 arg9 harg9 hc0 hc1 hc2 x0 x1 x2).1, y ∈ pc.1.set :=
  View.cover_of_wholeMem (kernelRun0_C c i arg3 harg3 arg4 harg4 arg5 harg5 arg6 harg6 arg7 harg7 arg8 harg8 arg9 harg9 hc0 hc1 hc2 x0 x1 x2).1 (by sl_whole_mem) y

/-- What case C leaves in scratch `arg7`: its pieces read back over junk. -/
def sout0_C_0 : Vec F S8x512x1 .f32 :=
  VS0_0.read (Elt F) (VS0_0.writes (Elt F) VS0_0.junk (kernelRun0_C c i arg3 harg3 arg4 harg4 arg5 harg5 arg6 harg6 arg7 harg7 arg8 harg8 arg9 harg9 hc0 hc1 hc2 x0 x1 x2).1)

theorem scover0_C_1 (y : S8x512x1.Idx) :
    ∃ pc ∈ (kernelRun0_C c i arg3 harg3 arg4 harg4 arg5 harg5 arg6 harg6 arg7 harg7 arg8 harg8 arg9 harg9 hc0 hc1 hc2 x0 x1 x2).2.1, y ∈ pc.1.set :=
  View.cover_of_wholeMem (kernelRun0_C c i arg3 harg3 arg4 harg4 arg5 harg5 arg6 harg6 arg7 harg7 arg8 harg8 arg9 harg9 hc0 hc1 hc2 x0 x1 x2).2.1 (by sl_whole_mem) y

/-- What case C leaves in scratch `arg8`: its pieces read back over junk. -/
def sout0_C_1 : Vec F S8x512x1 .f32 :=
  VS0_1.read (Elt F) (VS0_1.writes (Elt F) VS0_1.junk (kernelRun0_C c i arg3 harg3 arg4 harg4 arg5 harg5 arg6 harg6 arg7 harg7 arg8 harg8 arg9 harg9 hc0 hc1 hc2 x0 x1 x2).2.1)

theorem scover0_C_2 (y : S8x512x64.Idx) :
    ∃ pc ∈ (kernelRun0_C c i arg3 harg3 arg4 harg4 arg5 harg5 arg6 harg6 arg7 harg7 arg8 harg8 arg9 harg9 hc0 hc1 hc2 x0 x1 x2).2.2.1, y ∈ pc.1.set :=
  View.cover_of_wholeMem (kernelRun0_C c i arg3 harg3 arg4 harg4 arg5 harg5 arg6 harg6 arg7 harg7 arg8 harg8 arg9 harg9 hc0 hc1 hc2 x0 x1 x2).2.2.1 (by sl_whole_mem) y

/-- What case C leaves in scratch `arg9`: its pieces read back over junk. -/
def sout0_C_2 : Vec F S8x512x64 .f32 :=
  VS0_2.read (Elt F) (VS0_2.writes (Elt F) VS0_2.junk (kernelRun0_C c i arg3 harg3 arg4 harg4 arg5 harg5 arg6 harg6 arg7 harg7 arg8 harg8 arg9 harg9 hc0 hc1 hc2 x0 x1 x2).2.2.1)

end

section
variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole)
  (hc0 : ¬cond0_0 i) (hc1 : ¬cond0_1 i) (hc2 : cond0_2 i)
  (x0 : Vec F S1x512x1024 .bf16) (x1 : Vec F S1x512x1024 .bf16) (x2 : Vec F S1x512x512 .bf16) (xs0 : Vec F S8x512x1 .f32) (xs1 : Vec F S8x512x1 .f32) (xs2 : Vec F S8x512x64 .f32)

theorem scover0_D_0 (y : S8x512x1.Idx) :
    ∃ pc ∈ (kernelRun0_D c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun0_D c i arg3 harg3 arg4 harg4 arg5 harg5 arg6 harg6 arg7 harg7 arg8 harg8 arg9 harg9 hc0 hc1 hc2 x0 x1 x2 xs0 xs1 xs2).1 S1x512x1.size (by sl_kernel_rfl) y

/-- What case D leaves in scratch `arg7`: its pieces read back over junk. -/
def sout0_D_0 : Vec F S8x512x1 .f32 :=
  VS0_0.read (Elt F) (VS0_0.writes (Elt F) VS0_0.junk (kernelRun0_D c i arg3 harg3 arg4 harg4 arg5 harg5 arg6 harg6 arg7 harg7 arg8 harg8 arg9 harg9 hc0 hc1 hc2 x0 x1 x2 xs0 xs1 xs2).1)

theorem scover0_D_1 (y : S8x512x1.Idx) :
    ∃ pc ∈ (kernelRun0_D c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun0_D c i arg3 harg3 arg4 harg4 arg5 harg5 arg6 harg6 arg7 harg7 arg8 harg8 arg9 harg9 hc0 hc1 hc2 x0 x1 x2 xs0 xs1 xs2).2.1 S1x512x1.size (by sl_kernel_rfl) y

/-- What case D leaves in scratch `arg8`: its pieces read back over junk. -/
def sout0_D_1 : Vec F S8x512x1 .f32 :=
  VS0_1.read (Elt F) (VS0_1.writes (Elt F) VS0_1.junk (kernelRun0_D c i arg3 harg3 arg4 harg4 arg5 harg5 arg6 harg6 arg7 harg7 arg8 harg8 arg9 harg9 hc0 hc1 hc2 x0 x1 x2 xs0 xs1 xs2).2.1)

theorem scover0_D_2 (y : S8x512x64.Idx) :
    ∃ pc ∈ (kernelRun0_D c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun0_D c i arg3 harg3 arg4 harg4 arg5 harg5 arg6 harg6 arg7 harg7 arg8 harg8 arg9 harg9 hc0 hc1 hc2 x0 x1 x2 xs0 xs1 xs2).2.2.1 S1x512x64.size (by sl_kernel_rfl) y

/-- What case D leaves in scratch `arg9`: its pieces read back over junk. -/
def sout0_D_2 : Vec F S8x512x64 .f32 :=
  VS0_2.read (Elt F) (VS0_2.writes (Elt F) VS0_2.junk (kernelRun0_D c i arg3 harg3 arg4 harg4 arg5 harg5 arg6 harg6 arg7 harg7 arg8 harg8 arg9 harg9 hc0 hc1 hc2 x0 x1 x2 xs0 xs1 xs2).2.2.1)

end

section
variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole)
  (hc0 : ¬cond0_0 i) (hc1 : cond0_1 i) (hc2 : ¬cond0_2 i)
  (x0 : Vec F S1x512x1024 .bf16) (x1 : Vec F S1x512x1024 .bf16) (x2 : Vec F S1x512x512 .bf16) (xs0 : Vec F S8x512x1 .f32) (xs1 : Vec F S8x512x1 .f32) (xs2 : Vec F S8x512x64 .f32)

theorem scover0_E_0 (y : S8x512x1.Idx) :
    ∃ pc ∈ (kernelRun0_E c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun0_E c i arg3 harg3 arg4 harg4 arg5 harg5 arg6 harg6 arg7 harg7 arg8 harg8 arg9 harg9 hc0 hc1 hc2 x0 x1 x2 xs0 xs1 xs2).1 S1x512x1.size (by sl_kernel_rfl) y

/-- What case E leaves in scratch `arg7`: its pieces read back over junk. -/
def sout0_E_0 : Vec F S8x512x1 .f32 :=
  VS0_0.read (Elt F) (VS0_0.writes (Elt F) VS0_0.junk (kernelRun0_E c i arg3 harg3 arg4 harg4 arg5 harg5 arg6 harg6 arg7 harg7 arg8 harg8 arg9 harg9 hc0 hc1 hc2 x0 x1 x2 xs0 xs1 xs2).1)

theorem scover0_E_1 (y : S8x512x1.Idx) :
    ∃ pc ∈ (kernelRun0_E c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun0_E c i arg3 harg3 arg4 harg4 arg5 harg5 arg6 harg6 arg7 harg7 arg8 harg8 arg9 harg9 hc0 hc1 hc2 x0 x1 x2 xs0 xs1 xs2).2.1 S1x512x1.size (by sl_kernel_rfl) y

/-- What case E leaves in scratch `arg8`: its pieces read back over junk. -/
def sout0_E_1 : Vec F S8x512x1 .f32 :=
  VS0_1.read (Elt F) (VS0_1.writes (Elt F) VS0_1.junk (kernelRun0_E c i arg3 harg3 arg4 harg4 arg5 harg5 arg6 harg6 arg7 harg7 arg8 harg8 arg9 harg9 hc0 hc1 hc2 x0 x1 x2 xs0 xs1 xs2).2.1)

theorem scover0_E_2 (y : S8x512x64.Idx) :
    ∃ pc ∈ (kernelRun0_E c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun0_E c i arg3 harg3 arg4 harg4 arg5 harg5 arg6 harg6 arg7 harg7 arg8 harg8 arg9 harg9 hc0 hc1 hc2 x0 x1 x2 xs0 xs1 xs2).2.2.1 S1x512x64.size (by sl_kernel_rfl) y

/-- What case E leaves in scratch `arg9`: its pieces read back over junk. -/
def sout0_E_2 : Vec F S8x512x64 .f32 :=
  VS0_2.read (Elt F) (VS0_2.writes (Elt F) VS0_2.junk (kernelRun0_E c i arg3 harg3 arg4 harg4 arg5 harg5 arg6 harg6 arg7 harg7 arg8 harg8 arg9 harg9 hc0 hc1 hc2 x0 x1 x2 xs0 xs1 xs2).2.2.1)

end

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x512x1 .f32 × Vec F S8x512x1 .f32 × Vec F S8x512x64 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only) <;> omega)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only) <;> omega)) (iblk m c 0 ⟨0, hn⟩) (iblk m c 1 ⟨0, hn⟩) (iblk m c 2 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only) <;> omega)) (iblk m c 0 ⟨0, hn⟩) (iblk m c 1 ⟨0, hn⟩) (iblk m c 2 ⟨0, hn⟩))
  | n + 1, hn =>
    if h0 : (n + 1) % 16 = 0 then
      if h1 : (n + 1) % 16 + 1 ≤ (n + 1) / 16 % 16 then
        if h2 : (n + 1) / 16 % 16 = (n + 1) % 16 then
          False.elim (by have hN : n + 1 < 1024 := lt_of_lt_of_eq hn (show cfg0.N = 1024 from N_0); omega)
        else
          (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩), sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩), sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩))
      else
        if h2 : (n + 1) / 16 % 16 = (n + 1) % 16 then
          (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩))
        else
          False.elim (by have hN : n + 1 < 1024 := lt_of_lt_of_eq hn (show cfg0.N = 1024 from N_0); omega)
    else
      if h1 : (n + 1) % 16 + 1 ≤ (n + 1) / 16 % 16 then
        if h2 : (n + 1) / 16 % 16 = (n + 1) % 16 then
          False.elim (by have hN : n + 1 < 1024 := lt_of_lt_of_eq hn (show cfg0.N = 1024 from N_0); omega)
        else
          (sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2, sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2, sout0_E_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2)
      else
        if h2 : (n + 1) / 16 % 16 = (n + 1) % 16 then
          (sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2)
        else
          (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 16 = 0) (h1 : ¬t.val % 16 + 1 ≤ t.val / 16 % 16) (h2 : t.val / 16 % 16 = t.val % 16) :
    outsAt0 m c t.val t.isLt = (sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) ((hcond0_2 t).mpr h2) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) ((hcond0_2 t).mpr h2) (iblk m c 0 t) (iblk m c 1 t) (iblk m c 2 t), sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) ((hcond0_2 t).mpr h2) (iblk m c 0 t) (iblk m c 1 t) (iblk m c 2 t)) := by
  obtain ⟨n, hn⟩ := t
  cases n with
  | zero => exact rfl
  | succ n => exact (dif_pos h0).trans ((dif_neg h1).trans ((dif_pos h2).trans rfl))

/-- `outsAt0` at a point of case B: that case's contents, over what the point before left. -/
theorem outsAt0_B (c : Dev nD) (t : Fin cfg0.N) (h0 : ¬t.val % 16 = 0) (h1 : ¬t.val % 16 + 1 ≤ t.val / 16 % 16) (h2 : ¬t.val / 16 % 16 = t.val % 16) :
    outsAt0 m c t.val t.isLt = (sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt0` at a point of case C: that case's contents. -/
theorem outsAt0_C (c : Dev nD) (t : Fin cfg0.N) (h0 : t.val % 16 = 0) (h1 : t.val % 16 + 1 ≤ t.val / 16 % 16) (h2 : ¬t.val / 16 % 16 = t.val % 16) :
    outsAt0 m c t.val t.isLt = (sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t), sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t), sout0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t)) := by
  obtain ⟨n, hn⟩ := t
  cases n with
  | zero => exact (by exfalso; (try dsimp only at h1); exact by omega)
  | succ n => exact (dif_pos h0).trans ((dif_pos h1).trans ((dif_neg h2).trans rfl))

/-- `outsAt0` at a point of case D: that case's contents, over what the point before left. -/
theorem outsAt0_D (c : Dev nD) (t : Fin cfg0.N) (h0 : ¬t.val % 16 = 0) (h1 : ¬t.val % 16 + 1 ≤ t.val / 16 % 16) (h2 : t.val / 16 % 16 = t.val % 16) :
    outsAt0 m c t.val t.isLt = (sout0_D_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_D_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_D_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case E: that case's contents, over what the point before left. -/
theorem outsAt0_E (c : Dev nD) (t : Fin cfg0.N) (h0 : ¬t.val % 16 = 0) (h1 : t.val % 16 + 1 ≤ t.val / 16 % 16) (h2 : ¬t.val / 16 % 16 = t.val % 16) :
    outsAt0 m c t.val t.isLt = (sout0_E_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_E_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_E_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ owns (c : Thread nD τ) scM0_2 fullShare ((outsAt0 m c (n - 1) (by omega)).2.2)) ∗ (∃ r, prngReg c r)) := by
  cases n with
  | zero => exact absurd rfl hz
  | succ n => rfl

/-! ## The pipeline's proof data -/

def forgets0 : Fin 4 → Bool := fun w => w.val == 3

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d))

set_option maxHeartbeats 8000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 1024 := lt_of_lt_of_eq t.isLt (show cfg0.N = 1024 from N_0)
  by_cases h0 : t.val % 16 = 0
  · by_cases h1 : t.val % 16 + 1 ≤ t.val / 16 % 16
    · by_cases h2 : t.val / 16 % 16 = t.val % 16
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        by_cases hz : t.val = 0
        · exfalso; have hN : t.val < 1024 := lt_of_lt_of_eq t.isLt (show cfg0.N = 1024 from N_0); omega
        · rw [PhiS_castSucc m c t, PhiS_pos m c _ _ hz]
          rw [outsAt0_C m c t h0 h1 h2]
          unfold sout0_C_0 sout0_C_1 sout0_C_2; (try dsimp only)
          iintro ⟨⟨⟨HS0, HS1, HS2⟩, Hg⟩, Ho, ⟨%d0, H0⟩, ⟨%d1, H1⟩, ⟨%d2, H2⟩, ⟨%d3, H3⟩⟩
          iapply ((kernelRun0_C c (grid0.coords t) _ _ _ _ _ _ _ _ _ _ _ _ _ _ ((hcond0_0 t).mpr h0) ((hcond0_1 t).mpr h1) (fun h => h2 ((hcond0_2 t).mp h)) (iblk m c 0 t) (iblk m c 1 t) (iblk m c 2 t)).2.2.2 Set.univ _)
          isplitl [H0]; · iexact H0
          isplitl [H1]; · iexact H1
          isplitl [H2]; · iexact H2
          isplitl [H3]; · iexists _; iexact H3
          isplitl [HS0]; · iexists _; iexact HS0
          isplitl [HS1]; · iexists _; iexact HS1
          isplitl [HS2]; · iexists _; iexact HS2
          iintro ⟨H0, H1, H2, H3, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _)
              isplitl [HS1]
              · unfold owns; iexists _; isplitr
                swap; · iexact HS1
                ipureintro; exact View.read_writes_of_cover _ _ _ _ _ (scover0_C_1 c _ _ _ _ _ _ _ _ _ _ _ _ _ _ _ _ _ _ _ _ _)
              unfold owns; iexists _; isplitr
              swap; · iexact HS2
              ipureintro; exact View.read_writes_of_cover _ _ _ _ _ (scover0_C_2 c _ _ _ _ _ _ _ _ _ _ _ _ _ _ _ _ _ _ _ _ _)
            iexact Hg
          isplitl [Ho]; · iexact Ho
          isplitl [H0]; · iexact H0
          isplitl [H1]; · iexact H1
          isplitl [H2]; · iexact H2
          iexact H3
    · by_cases h2 : t.val / 16 % 16 = t.val % 16
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        by_cases hz : t.val = 0
        · rw [PhiS_castSucc m c t, PhiS_zero m c _ _ hz, PhiA0_eq]
          rw [outsAt0_A m c t h0 h1 h2]
          unfold sout0_A_0 sout0_A_1 sout0_A_2; (try dsimp only)
          iintro ⟨⟨⟨HS0, HS1, HS2⟩, Hg⟩, Ho, ⟨%d0, H0⟩, ⟨%d1, H1⟩, ⟨%d2, H2⟩, ⟨%d3, H3⟩⟩
          iapply ((kernelRun0_A c (grid0.coords t) _ _ _ _ _ _ _ _ _ _ _ _ _ _ ((hcond0_0 t).mpr h0) (fun h => h1 ((hcond0_1 t).mp h)) ((hcond0_2 t).mpr h2) (iblk m c 0 t) (iblk m c 1 t) (iblk m c 2 t)).2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _)
            iexact Hg
          isplitl [Ho]; · iexact Ho
          isplitl [H0]; · iexact H0
          isplitl [H1]; · iexact H1
          isplitl [H2]; · iexact H2
          iexact H3
        · rw [PhiS_castSucc m c t, PhiS_pos m c _ _ hz]
          rw [outsAt0_A m c t h0 h1 h2]
          unfold sout0_A_0 sout0_A_1 sout0_A_2; (try dsimp only)
          iintro ⟨⟨⟨HS0, HS1, HS2⟩, Hg⟩, Ho, ⟨%d0, H0⟩, ⟨%d1, H1⟩, ⟨%d2, H2⟩, ⟨%d3, H3⟩⟩
          iapply ((kernelRun0_A c (grid0.coords t) _ _ _ _ _ _ _ _ _ _ _ _ _ _ ((hcond0_0 t).mpr h0) (fun h => h1 ((hcond0_1 t).mp h)) ((hcond0_2 t).mpr h2) (iblk m c 0 t) (iblk m c 1 t) (iblk m c 2 t)).2.2.2 Set.univ _)
          isplitl [H0]; · iexact H0
          isplitl [H1]; · iexact H1
          isplitl [H2]; · iexact H2
          isplitl [H3]; · iexists _; iexact H3
          isplitl [HS0]; · iexists _; iexact HS0
          isplitl [HS1]; · iexists _; iexact HS1
          isplitl [HS2]; · iexists _; iexact HS2
          iintro ⟨H0, H1, H2, H3, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _)
            iexact Hg
          isplitl [Ho]; · iexact Ho
          isplitl [H0]; · iexact H0
          isplitl [H1]; · iexact H1
          isplitl [H2]; · iexact H2
          iexact H3
      · exfalso; omega
  · by_cases h1 : t.val % 16 + 1 ≤ t.val / 16 % 16
    · by_cases h2 : t.val / 16 % 16 = t.val % 16
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        by_cases hz : t.val = 0
        · exfalso; have hN : t.val < 1024 := lt_of_lt_of_eq t.isLt (show cfg0.N = 1024 from N_0); omega
        · rw [PhiS_castSucc m c t, PhiS_pos m c _ _ hz]
          rw [outsAt0_E m c t h0 h1 h2]
          unfold sout0_E_0 sout0_E_1 sout0_E_2; (try dsimp only)
          iintro ⟨⟨⟨HS0, HS1, HS2⟩, Hg⟩, Ho, ⟨%d0, H0⟩, ⟨%d1, H1⟩, ⟨%d2, H2⟩, ⟨%d3, H3⟩⟩
          iapply ((kernelRun0_E c (grid0.coords t) _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) _ _ _).2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_E_0 c _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_E_1 c _ _ _ _ _ _ _ _ _ _ _ _ _ _ _ _ _ _ _ _ _ _ _ _)
              unfold owns; iexists _; isplitr
              swap; · iexact HS2
              ipureintro; exact View.read_writes_of_cover _ _ _ _ _ (scover0_E_2 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          iexact H3
    · by_cases h2 : t.val / 16 % 16 = t.val % 16
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        by_cases hz : t.val = 0
        · exfalso; have hN : t.val < 1024 := lt_of_lt_of_eq t.isLt (show cfg0.N = 1024 from N_0); omega
        · rw [PhiS_castSucc m c t, PhiS_pos m c _ _ hz]
          rw [outsAt0_D m c t h0 h1 h2]
          unfold sout0_D_0 sout0_D_1 sout0_D_2; (try dsimp only)
          iintro ⟨⟨⟨HS0, HS1, HS2⟩, Hg⟩, Ho, ⟨%d0, H0⟩, ⟨%d1, H1⟩, ⟨%d2, H2⟩, ⟨%d3, H3⟩⟩
          iapply ((kernelRun0_D c (grid0.coords t) _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) _ _ _).2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_D_0 c _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_D_1 c _ _ _ _ _ _ _ _ _ _ _ _ _ _ _ _ _ _ _ _ _ _ _ _)
              unfold owns; iexists _; isplitr
              swap; · iexact HS2
              ipureintro; exact View.read_writes_of_cover _ _ _ _ _ (scover0_D_2 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          iexact H3
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        by_cases hz : t.val = 0
        · exfalso; have hN : t.val < 1024 := lt_of_lt_of_eq t.isLt (show cfg0.N = 1024 from N_0); omega
        · rw [PhiS_castSucc m c t, PhiS_pos m c _ _ hz]
          rw [outsAt0_B m c t h0 h1 h2]
          unfold sout0_B_0 sout0_B_1 sout0_B_2; (try dsimp only)
          iintro ⟨⟨⟨HS0, HS1, HS2⟩, Hg⟩, Ho, ⟨%d0, H0⟩, ⟨%d1, H1⟩, ⟨%d2, H2⟩, ⟨%d3, H3⟩⟩
          iapply ((kernelRun0_B c (grid0.coords t) _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) _ _ _).2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, H3, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 1024 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_ofR m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Forget

end
-- ==== Proof.Flash.Runs.lean ====
/- The branch conditions of the attention body in closed form, and its staging and scratch memrefs. -/
module

public import proofs.«01_k».proof.Proof.Gen.KernelIdeal.Frame
public import proofs.«01_k».proof.Proof.Gen.KernelIdeal.Skeleton

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 1024 := Nat.lt_of_lt_of_eq t.isLt N_0
    have e0 : (grid0.coords t 0).val = t.val / 256 % 4 := Pipeline.Grid.coords_val t 0 (by decide) rfl
    have e1 : (grid0.coords t 1).val = t.val / 16 % 16 := Pipeline.Grid.coords_val t 1 (by decide) rfl
    have e2 : (grid0.coords t 2).val = t.val / 1 % 16 := Pipeline.Grid.coords_val t 2 (by decide) rfl
    simp only [cond0_0, e0, e1, e2]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 2).val) (BitVec.ofNat 32 (i 1).val))) 0#32) = 1#1
/-- It holds at the points whose coordinates have i2 + 1 ≤ i1 — decided over the grid. -/
theorem hcond0_1 : ∀ t : Fin cfg0.N, cond0_1 (grid0.coords t) ↔ t.val % 16 + 1 ≤ t.val / 16 % 16 :=
  (by decide +kernel : ∀ t : Fin grid0.N, cond0_1 (grid0.coords t) ↔ t.val % 16 + 1 ≤ t.val / 16 % 16)

/-- The condition of the body's `scf.if` 2 (`k0_h3`), from the grid coordinates (the skeleton's scalar
    chain substituted). -/
abbrev cond0_2 (i : grid0.Coords) : Prop := k0_cond3 i = 1#1
/-- It holds at the points whose coordinates have i1 = i2 — decided over the grid. -/
theorem hcond0_2 : ∀ t : Fin cfg0.N, cond0_2 (grid0.coords t) ↔ t.val / 16 % 16 = t.val % 16 :=
  (by decide +kernel : ∀ t : Fin grid0.N, cond0_2 (grid0.coords t) ↔ t.val / 16 % 16 = t.val % 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S8x512x1 .f32 := Memref.whole cc0_scratch0
abbrev scM0_1 : Memref sig .tc .vmem S8x512x1 .f32 := Memref.whole cc0_scratch1
abbrev scM0_2 : Memref sig .tc .vmem S8x512x64 .f32 := Memref.whole cc0_scratch2
/-- The scratch `arg7` the kernel carries between points, as a view: what it holds is stated through it. -/
abbrev VS0_0 : View sig .tc .vmem S8x512x1 .f32 := scM0_0.view
/-- The scratch `arg8` the kernel carries between points, as a view: what it holds is stated through it. -/
abbrev VS0_1 : View sig .tc .vmem S8x512x1 .f32 := scM0_1.view
/-- The scratch `arg9` the kernel carries between points, as a view: what it holds is stated through it. -/
abbrev VS0_2 : View sig .tc .vmem S8x512x64 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Flash

end
-- ==== Proof.Flash.Heads.lean ====
/- The arithmetic of one head, the parts of the blocks a head loads, and lists of eight heads' stores. -/
module

public import proofs.«01_k».proof.Proof.Flash.Runs
public import Idealize.ShloMosaic.Lib.Pipeline.Value
public import Idealize.ShloMosaic.Lib.Pipeline.ValueKit.Tiles
public import Idealize.ShloMosaic.Lib.Pointwise

@[expose] public section

set_option maxRecDepth 16384

noncomputable section

namespace Cert.KernelIdeal.Flash

open Idealize.ShloMosaic Idealize.ShloMosaic.TcCoe Idealize.ShloMosaic.Tactic
open Cert.KernelIdeal.Gen

variable {F : FTy → Type} [FloatOps F]

/-! ## One head's arithmetic, as the body computes it -/

/-- The scores of one head: queries times keys over the head's 128 columns. -/
def hScore (q k : Vec F S1x512x128 .bf16) : FVec F S512x512 .f32 :=
  matmul dot_S512x128_S512x128_S512x512_1_1_0_0_n_n none (shapeCast S512x128 q shapeCasts_S1x512x128_S512x128)
    (shapeCast S512x128 k shapeCasts_S1x512x128_S512x128) (constant S512x512 .f32 0x00000000#32)
/-- The scores with minus infinity off the mask. -/
def hMask (b : IVec S512x512 1) (s : FVec F S512x512 .f32) : FVec F S512x512 .f32 :=
  select b s (broadcast S512x512 (Scalar.ofBits .f32 0xFF800000#32 : F .f32))
/-- The new running maximum. -/
def hM (s : FVec F S512x512 .f32) (mp : Vec F S1x512x1 .f32) : FVec F S512x1 .f32 :=
  maximumf (shapeCast S512x1 mp shapeCasts_S1x512x1_S512x1)
    (shapeCast S512x1 (multiReduction .maximumf [1] S512 s 0xFF800000#32 reduces_S512x512_S512 (.inl rfl) rfl) shapeCasts_S512_S512x1)
/-- The factor by which the old sums shrink. -/
def hA (s : FVec F S512x512 .f32) (mp : Vec F S1x512x1 .f32) : FVec F S512x1 .f32 :=
  exp (subf (shapeCast S512x1 mp shapeCasts_S1x512x1_S512x1) (hM s mp))
/-- The new terms. -/
def hP (s : FVec F S512x512 .f32) (mp : Vec F S1x512x1 .f32) : FVec F S512x512 .f32 :=
  exp (subf s (broadcastTo S512x512 (hM s mp) broadcasts_S512x1_S512x512))
/-- The running maximum as it is stored. -/
def hMs (s : FVec F S512x512 .f32) (mp : Vec F S1x512x1 .f32) : FVec F S1x512x1 .f32 :=
  shapeCast S1x512x1 (hM s mp) shapeCasts_S512x1_S1x512x1
/-- The running sum as it is stored. -/
def hL (s : FVec F S512x512 .f32) (mp lp : Vec F S1x512x1 .f32) : FVec F S1x512x1 .f32 :=
  shapeCast S1x512x1 (addf (mulf (hA s mp) (shapeCast S512x1 lp shapeCasts_S1x512x1_S512x1))
    (shapeCast S512x1 (multiReduction .add [1] S512 (hP s mp) 0x00000000#32 reduces_S512x512_S512 (.inl rfl) rfl) shapeCasts_S512_S512x1))
    shapeCasts_S512x1_S1x512x1
/-- The running weighted sum of the values as it is stored. -/
def hAcc (s : FVec F S512x512 .f32) (v : Vec F S1x512x64 .bf16) (mp : Vec F S1x512x1 .f32) (ap : Vec F S1x512x64 .f32) : FVec F S1x512x64 .f32 :=
  shapeCast S1x512x64 (addf (mulf (broadcastTo S512x64 (hA s mp) broadcasts_S512x1_S512x64) (shapeCast S512x64 ap shapeCasts_S1x512x64_S512x64))
    (matmul dot_S512x512_S512x64_S512x64_1_0_0_1_n_n none (truncf .bf16 (hP s mp) bitsLt_bf16_f32)
      (shapeCast S512x64 v shapeCasts_S1x512x64_S512x64) (constant S512x64 .f32 0x00000000#32)))
    shapeCasts_S512x64_S1x512x64
/-- The quotient stored to the output. -/
def hO (a : Vec F S1x512x64 .f32) (l : Vec F S1x512x1 .f32) : FVec F S1x512x64 .f32 :=
  shapeCast S1x512x64 (divf (shapeCast S512x64 a shapeCasts_S1x512x64_S512x64)
    (broadcastTo S512x64 (shapeCast S512x1 l shapeCasts_S1x512x1_S512x1) broadcasts_S512x1_S512x64)) shapeCasts_S512x64_S1x512x64

/-- The mask of the diagonal block. -/
def kmask (i : grid0.Coords) : IVec S512x512 1 :=
  k0_pay84 (k0_pay80 (BitVec.ofNat 32 (i 1).val)) (k0_pay81 (BitVec.ofNat 32 (i 2).val)) 64#32
    (k0_pay82 (BitVec.ofNat 32 (i 2).val)) (k0_pay83 (BitVec.ofNat 32 (i 2).val)) 1#32

/-! ## One head's part of a block -/

/-- Head `h` of a scratch buffer of columns. -/
def slM (x : Vec F S8x512x1 .f32) (h : Fin 8) : Vec F S1x512x1 .f32 := fun i => x (ix3 h (i 1) (i 2))
/-- Head `h` of the scratch of weighted sums. -/
def slA (x : Vec F S8x512x64 .f32) (h : Fin 8) : Vec F S1x512x64 .f32 := fun i => x (ix3 h (i 1) (i 2))
theorem slM_apply (x : Vec F S8x512x1 .f32) (h : Fin 8) (a : Fin 1) (b : Fin 512) (c : Fin 1) : slM x h (ix3 a b c) = x (ix3 h b c) := rfl
theorem slA_apply (x : Vec F S8x512x64 .f32) (h : Fin 8) (a : Fin 1) (b : Fin 512) (c : Fin 64) : slA x h (ix3 a b c) = x (ix3 h b c) := rfl
/-- Head `h`'s 128 columns of a block of queries or keys. -/
def slQ (x : Vec F S1x512x1024 .bf16) (h : Fin 8) : Vec F S1x512x128 .bf16 :=
  fun i => x (ix3 (i 0) (i 1) ⟨128 * h.val + (i 2).val, by have h2 : (i 2).val < 128 := (i 2).isLt; have := h.isLt; omega⟩)
/-- Head `h`'s 64 columns of a block of values. -/
def slV (x : Vec F S1x512x512 .bf16) (h : Fin 8) : Vec F S1x512x64 .bf16 :=
  fun i => x (ix3 (i 0) (i 1) ⟨64 * h.val + (i 2).val, by have h2 : (i 2).val < 64 := (i 2).isLt; have := h.isLt; omega⟩)

/-- A head's scores in a block wholly before the diagonal. -/
def scU (x0 x1 : Vec F S1x512x1024 .bf16) (h : Fin 8) : FVec F S512x512 .f32 := hScore (slQ x0 h) (slQ x1 h)
/-- A head's scores in the diagonal block. -/
def scD (i : grid0.Coords) (x0 x1 : Vec F S1x512x1024 .bf16) (h : Fin 8) : FVec F S512x512 .f32 := hMask (kmask i) (scU x0 x1 h)
/-- Minus infinity in every place: where the maximum starts. -/
def iniM : Vec F S1x512x1 .f32 := fun _ => Scalar.ofBits .f32 0xFF800000#32
/-- Zero in every place. -/
def iniL : Vec F S1x512x1 .f32 := fun _ => Scalar.ofBits .f32 0x00000000#32
/-- Zero in every place. -/
def iniA : Vec F S1x512x64 .f32 := fun _ => Scalar.ofBits .f32 0x00000000#32

/-! ## Loads of one head's part -/

theorem inbM (h : Fin 8) : ∀ a, (![h.val, 0, 0] : Fin 3 → Nat) a + S1x512x1.size a ≤ S8x512x1.size a := by revert h; decide
theorem slM_ld (a : Memref sig .tc .vmem S8x512x1 .f32) (ha : a.IsWhole) (x : Vec F S8x512x1 .f32) (h : Fin 8) :
    slM x h = View.readAt (Elt F) a.view (Rect.unit ![h.val, 0, 0] ![1, 512, 1] (inbM h)).toLoadRect (ha.unread x) := by
  rw [View.readAt_eq_ld, ha.read_unread]
  funext j
  symm
  exact View.ld_unit_apply_of _ _ _ _ _ _ (fun b => by
    have h0 : (j 0).val = 0 := Nat.lt_one_iff.mp (j 0).isLt
    fin_cases b <;> simp [h0])
theorem inbA (h : Fin 8) : ∀ a, (![h.val, 0, 0] : Fin 3 → Nat) a + S1x512x64.size a ≤ S8x512x64.size a := by revert h; decide
theorem slA_ld (a : Memref sig .tc .vmem S8x512x64 .f32) (ha : a.IsWhole) (x : Vec F S8x512x64 .f32) (h : Fin 8) :
    slA x h = View.readAt (Elt F) a.view (Rect.unit ![h.val, 0, 0] ![1, 512, 64] (inbA h)).toLoadRect (ha.unread x) := by
  rw [View.readAt_eq_ld, ha.read_unread]
  funext j
  symm
  exact View.ld_unit_apply_of _ _ _ _ _ _ (fun b => by
    have h0 : (j 0).val = 0 := Nat.lt_one_iff.mp (j 0).isLt
    fin_cases b <;> simp [h0])
theorem inbQ (h : Fin 8) : ∀ a, (![0, 0, 128 * h.val] : Fin 3 → Nat) a + S1x512x128.size a ≤ S1x512x1024.size a := by revert h; decide
theorem slQ_ld (a : Memref sig .tc .vmem S1x512x1024 .bf16) (ha : a.IsWhole) (x : Vec F S1x512x1024 .bf16) (h : Fin 8) :
    slQ x h = View.readAt (Elt F) a.view (Rect.unit ![0, 0, 128 * h.val] ![1, 512, 128] (inbQ h)).toLoadRect (ha.unread x) := by
  rw [View.readAt_eq_ld, ha.read_unread]
  funext j
  symm
  exact View.ld_unit_apply_of _ _ _ _ _ _ (fun b => by fin_cases b <;> simp)
theorem inbV (h : Fin 8) : ∀ a, (![0, 0, 64 * h.val] : Fin 3 → Nat) a + S1x512x64.size a ≤ S1x512x512.size a := by revert h; decide
theorem slV_ld (a : Memref sig .tc .vmem S1x512x512 .bf16) (ha : a.IsWhole) (x : Vec F S1x512x512 .bf16) (h : Fin 8) :
    slV x h = View.readAt (Elt F) a.view (Rect.unit ![0, 0, 64 * h.val] ![1, 512, 64] (inbV h)).toLoadRect (ha.unread x) := by
  rw [View.readAt_eq_ld, ha.read_unread]
  funext j
  symm
  exact View.ld_unit_apply_of _ _ _ _ _ _ (fun b => by fin_cases b <;> simp)

/-! ## Lists of eight heads' stores -/

/-- Eight heads' stores over earlier ones. -/
def pm (P : Fin 8 → Vec F S1x512x1 .f32) (tl : List (View.Piece (Elt F) S8x512x1 .f32)) : List (View.Piece (Elt F) S8x512x1 .f32) :=
  ⟨Rect.unit ![7, 0, 0] ![1, 512, 1] inb_S8x512x1_S1x512x1_7_0_0, P 7⟩ :: ⟨Rect.unit ![6, 0, 0] ![1, 512, 1] inb_S8x512x1_S1x512x1_6_0_0, P 6⟩ :: ⟨Rect.unit ![5, 0, 0] ![1, 512, 1] inb_S8x512x1_S1x512x1_5_0_0, P 5⟩ :: ⟨Rect.unit ![4, 0, 0] ![1, 512, 1] inb_S8x512x1_S1x512x1_4_0_0, P 4⟩ :: ⟨Rect.unit ![3, 0, 0] ![1, 512, 1] inb_S8x512x1_S1x512x1_3_0_0, P 3⟩ :: ⟨Rect.unit ![2, 0, 0] ![1, 512, 1] inb_S8x512x1_S1x512x1_2_0_0, P 2⟩ :: ⟨Rect.unit ![1, 0, 0] ![1, 512, 1] inb_S8x512x1_S1x512x1_1_0_0, P 1⟩ :: ⟨Rect.unit ![0, 0, 0] ![1, 512, 1] inb_S8x512x1_S1x512x1_0_0_0, P 0⟩ :: tl

theorem pm_hit (h : ℕ) (h' : Fin 8) (hh : h' = h) (inb) (w : Vec F S1x512x1 .f32) (L : List (View.Piece (Elt F) S8x512x1 .f32)) (r : Fin 512) (c : Fin 1) :
    View.canon ((⟨Rect.unit ![h, 0, 0] ![1, 512, 1] inb, w⟩ : View.Piece (Elt F) S8x512x1 .f32) :: L) (ix3 h' r c) = w (ix3 0 r c) := by
  subst hh
  have e : (ix3 h' r c : S8x512x1.Idx) = (Rect.unit (s := S8x512x1) ![h'.val, 0, 0] ![1, 512, 1] inb).emb (ix3 0 r c) := by
    funext b; apply Fin.ext
    refine Eq.trans ?_ (Rect.idx_unit_val _ _ inb _ b).symm
    fin_cases b <;> simp
  rw [e]; exact View.canon_cons_emb (Rect.unit (s := S8x512x1) ![h'.val, 0, 0] ![1, 512, 1] inb) w L _
theorem pm_miss (h : ℕ) (h' : Fin 8) (hh : h'.val ≠ h) (inb) (w : Vec F S1x512x1 .f32) (L : List (View.Piece (Elt F) S8x512x1 .f32)) (r : Fin 512) (c : Fin 1) :
    View.canon ((⟨Rect.unit ![h, 0, 0] ![1, 512, 1] inb, w⟩ : View.Piece (Elt F) S8x512x1 .f32) :: L) (ix3 h' r c) = View.canon L (ix3 h' r c) := by
  refine View.canon_cons_of_not_mem _ L (fun hm => hh ?_)
  have h0 := ((Rect.mem_set_unit (inb := inb)).mp hm) (0 : Fin 3)
  have h1 : h ≤ h'.val ∧ h'.val < h + 1 := h0
  omega
theorem canon_pm (P : Fin 8 → Vec F S1x512x1 .f32) (tl : List (View.Piece (Elt F) S8x512x1 .f32)) (h : Fin 8) (r : Fin 512) (c : Fin 1) :
    View.canon (pm P tl) (ix3 h r c) = P h (ix3 0 r c) := by
  unfold pm
  obtain ⟨h, hh⟩ := h
  rcases (by omega : h = 0 ∨ h = 1 ∨ h = 2 ∨ h = 3 ∨ h = 4 ∨ h = 5 ∨ h = 6 ∨ h = 7) with rfl | rfl | rfl | rfl | rfl | rfl | rfl | rfl
  · rw [pm_miss 7 _ (by simp)]; rw [pm_miss 6 _ (by simp)]; rw [pm_miss 5 _ (by simp)]; rw [pm_miss 4 _ (by simp)]; rw [pm_miss 3 _ (by simp)]; rw [pm_miss 2 _ (by simp)]; rw [pm_miss 1 _ (by simp)]; exact pm_hit 0 _ rfl _ _ _ r c
  · rw [pm_miss 7 _ (by simp)]; rw [pm_miss 6 _ (by simp)]; rw [pm_miss 5 _ (by simp)]; rw [pm_miss 4 _ (by simp)]; rw [pm_miss 3 _ (by simp)]; rw [pm_miss 2 _ (by simp)]; exact pm_hit 1 _ rfl _ _ _ r c
  · rw [pm_miss 7 _ (by simp)]; rw [pm_miss 6 _ (by simp)]; rw [pm_miss 5 _ (by simp)]; rw [pm_miss 4 _ (by simp)]; rw [pm_miss 3 _ (by simp)]; exact pm_hit 2 _ rfl _ _ _ r c
  · rw [pm_miss 7 _ (by simp)]; rw [pm_miss 6 _ (by simp)]; rw [pm_miss 5 _ (by simp)]; rw [pm_miss 4 _ (by simp)]; exact pm_hit 3 _ rfl _ _ _ r c
  · rw [pm_miss 7 _ (by simp)]; rw [pm_miss 6 _ (by simp)]; rw [pm_miss 5 _ (by simp)]; exact pm_hit 4 _ rfl _ _ _ r c
  · rw [pm_miss 7 _ (by simp)]; rw [pm_miss 6 _ (by simp)]; exact pm_hit 5 _ rfl _ _ _ r c
  · rw [pm_miss 7 _ (by simp)]; exact pm_hit 6 _ rfl _ _ _ r c
  · exact pm_hit 7 _ rfl _ _ _ r c
theorem sl_canon_pm (P : Fin 8 → Vec F S1x512x1 .f32) (tl : List (View.Piece (Elt F) S8x512x1 .f32)) (h : Fin 8) :
    slM (View.canon (pm P tl)) h = P h := by
  have key : ∀ (a : Fin 1) (b : Fin 512) (c : Fin 1), slM (View.canon (pm P tl)) h (ix3 a b c) = P h (ix3 a b c) := fun a b c => by
    obtain rfl : a = 0 := Subsingleton.elim _ _
    rw [slM_apply, canon_pm]
  funext j
  rw [eq_ix3 j]
  exact key _ _ _
theorem readCov_pm (v : View sig .tc .vmem S8x512x1 .f32) (P : Fin 8 → Vec F S1x512x1 .f32) (tl : List (View.Piece (Elt F) S8x512x1 .f32)) (h : Fin 8) (inb) :
    v.readCov (pm P tl) (Rect.unit ![h.val, 0, 0] ![1, 512, 1] inb).toLoadRect = P h := by
  rw [← sl_canon_pm P tl h, View.readCov_eq_canon']
  generalize View.canon (pm P tl) = X
  have key : ∀ (a : Fin 1) (b : Fin 512) (c : Fin 1), X ((Rect.unit (s := S8x512x1) ![h.val, 0, 0] ![1, 512, 1] inb).toLoadRect.idx (ix3 a b c)) = X (ix3 h b c) := fun a b c => by
    obtain rfl : a = 0 := Subsingleton.elim _ _
    refine congrArg X (funext fun x => Fin.ext ((Rect.idx_unit_val _ _ inb _ x).trans ?_))
    fin_cases x <;> simp
  funext j
  rw [eq_ix3 j]
  exact key _ _ _
theorem pm_skip {v : View sig .tc .vmem S8x512x1 .f32} {g h : ℕ} {inb inb'} {w : Vec F S1x512x1 .f32} {L : List (View.Piece (Elt F) S8x512x1 .f32)} {r} (hh : g < h)
    (hr : v.readCov L (Rect.unit ![h, 0, 0] ![1, 512, 1] inb').toLoadRect = r) :
    v.readCov ((⟨Rect.unit ![g, 0, 0] ![1, 512, 1] inb, w⟩ : View.Piece (Elt F) S8x512x1 .f32) :: L) (Rect.unit ![h, 0, 0] ![1, 512, 1] inb').toLoadRect = r := by
  subst hr
  exact View.readCov_cons_of_disjoint v _ L _ (Rect.unit_disjoint (inb := inb) (inb' := inb') (0 : Fin 3) (.inl (by simp; omega)))
theorem pm_whole {v : View sig .tc .vmem S8x512x1 .f32} {h : ℕ} {inb inb'} {w : Vec F S8x512x1 .f32} {x : F .f32} (hw : w = fun _ => x) :
    v.readCov [(⟨Rect.unit ![0, 0, 0] ![8, 512, 1] inb, w⟩ : View.Piece (Elt F) S8x512x1 .f32)] (Rect.unit ![h, 0, 0] ![1, 512, 1] inb').toLoadRect
      = (fun _ => x) := by
  subst hw
  rw [View.readCov_eq_canon']
  funext j
  have hc : View.canon [(⟨Rect.unit ![0, 0, 0] ![8, 512, 1] inb, (fun _ => x : Vec F S8x512x1 .f32)⟩ : View.Piece (Elt F) S8x512x1 .f32)] = (fun _ => x) :=
    View.canon_unit_zero (S := S8x512x1) (by funext b; fin_cases b <;> rfl) inb _
  exact congrFun hc _

/-- Eight heads' stores over earlier ones. -/
def pa (P : Fin 8 → Vec F S1x512x64 .f32) (tl : List (View.Piece (Elt F) S8x512x64 .f32)) : List (View.Piece (Elt F) S8x512x64 .f32) :=
  ⟨Rect.unit ![7, 0, 0] ![1, 512, 64] inb_S8x512x64_S1x512x64_7_0_0, P 7⟩ :: ⟨Rect.unit ![6, 0, 0] ![1, 512, 64] inb_S8x512x64_S1x512x64_6_0_0, P 6⟩ :: ⟨Rect.unit ![5, 0, 0] ![1, 512, 64] inb_S8x512x64_S1x512x64_5_0_0, P 5⟩ :: ⟨Rect.unit ![4, 0, 0] ![1, 512, 64] inb_S8x512x64_S1x512x64_4_0_0, P 4⟩ :: ⟨Rect.unit ![3, 0, 0] ![1, 512, 64] inb_S8x512x64_S1x512x64_3_0_0, P 3⟩ :: ⟨Rect.unit ![2, 0, 0] ![1, 512, 64] inb_S8x512x64_S1x512x64_2_0_0, P 2⟩ :: ⟨Rect.unit ![1, 0, 0] ![1, 512, 64] inb_S8x512x64_S1x512x64_1_0_0, P 1⟩ :: ⟨Rect.unit ![0, 0, 0] ![1, 512, 64] inb_S8x512x64_S1x512x64_0_0_0, P 0⟩ :: tl

theorem pa_hit (h : ℕ) (h' : Fin 8) (hh : h' = h) (inb) (w : Vec F S1x512x64 .f32) (L : List (View.Piece (Elt F) S8x512x64 .f32)) (r : Fin 512) (c : Fin 64) :
    View.canon ((⟨Rect.unit ![h, 0, 0] ![1, 512, 64] inb, w⟩ : View.Piece (Elt F) S8x512x64 .f32) :: L) (ix3 h' r c) = w (ix3 0 r c) := by
  subst hh
  have e : (ix3 h' r c : S8x512x64.Idx) = (Rect.unit (s := S8x512x64) ![h'.val, 0, 0] ![1, 512, 64] inb).emb (ix3 0 r c) := by
    funext b; apply Fin.ext
    refine Eq.trans ?_ (Rect.idx_unit_val _ _ inb _ b).symm
    fin_cases b <;> simp
  rw [e]; exact View.canon_cons_emb (Rect.unit (s := S8x512x64) ![h'.val, 0, 0] ![1, 512, 64] inb) w L _
theorem pa_miss (h : ℕ) (h' : Fin 8) (hh : h'.val ≠ h) (inb) (w : Vec F S1x512x64 .f32) (L : List (View.Piece (Elt F) S8x512x64 .f32)) (r : Fin 512) (c : Fin 64) :
    View.canon ((⟨Rect.unit ![h, 0, 0] ![1, 512, 64] inb, w⟩ : View.Piece (Elt F) S8x512x64 .f32) :: L) (ix3 h' r c) = View.canon L (ix3 h' r c) := by
  refine View.canon_cons_of_not_mem _ L (fun hm => hh ?_)
  have h0 := ((Rect.mem_set_unit (inb := inb)).mp hm) (0 : Fin 3)
  have h1 : h ≤ h'.val ∧ h'.val < h + 1 := h0
  omega
theorem canon_pa (P : Fin 8 → Vec F S1x512x64 .f32) (tl : List (View.Piece (Elt F) S8x512x64 .f32)) (h : Fin 8) (r : Fin 512) (c : Fin 64) :
    View.canon (pa P tl) (ix3 h r c) = P h (ix3 0 r c) := by
  unfold pa
  obtain ⟨h, hh⟩ := h
  rcases (by omega : h = 0 ∨ h = 1 ∨ h = 2 ∨ h = 3 ∨ h = 4 ∨ h = 5 ∨ h = 6 ∨ h = 7) with rfl | rfl | rfl | rfl | rfl | rfl | rfl | rfl
  · rw [pa_miss 7 _ (by simp)]; rw [pa_miss 6 _ (by simp)]; rw [pa_miss 5 _ (by simp)]; rw [pa_miss 4 _ (by simp)]; rw [pa_miss 3 _ (by simp)]; rw [pa_miss 2 _ (by simp)]; rw [pa_miss 1 _ (by simp)]; exact pa_hit 0 _ rfl _ _ _ r c
  · rw [pa_miss 7 _ (by simp)]; rw [pa_miss 6 _ (by simp)]; rw [pa_miss 5 _ (by simp)]; rw [pa_miss 4 _ (by simp)]; rw [pa_miss 3 _ (by simp)]; rw [pa_miss 2 _ (by simp)]; exact pa_hit 1 _ rfl _ _ _ r c
  · rw [pa_miss 7 _ (by simp)]; rw [pa_miss 6 _ (by simp)]; rw [pa_miss 5 _ (by simp)]; rw [pa_miss 4 _ (by simp)]; rw [pa_miss 3 _ (by simp)]; exact pa_hit 2 _ rfl _ _ _ r c
  · rw [pa_miss 7 _ (by simp)]; rw [pa_miss 6 _ (by simp)]; rw [pa_miss 5 _ (by simp)]; rw [pa_miss 4 _ (by simp)]; exact pa_hit 3 _ rfl _ _ _ r c
  · rw [pa_miss 7 _ (by simp)]; rw [pa_miss 6 _ (by simp)]; rw [pa_miss 5 _ (by simp)]; exact pa_hit 4 _ rfl _ _ _ r c
  · rw [pa_miss 7 _ (by simp)]; rw [pa_miss 6 _ (by simp)]; exact pa_hit 5 _ rfl _ _ _ r c
  · rw [pa_miss 7 _ (by simp)]; exact pa_hit 6 _ rfl _ _ _ r c
  · exact pa_hit 7 _ rfl _ _ _ r c
theorem sl_canon_pa (P : Fin 8 → Vec F S1x512x64 .f32) (tl : List (View.Piece (Elt F) S8x512x64 .f32)) (h : Fin 8) :
    slA (View.canon (pa P tl)) h = P h := by
  have key : ∀ (a : Fin 1) (b : Fin 512) (c : Fin 64), slA (View.canon (pa P tl)) h (ix3 a b c) = P h (ix3 a b c) := fun a b c => by
    obtain rfl : a = 0 := Subsingleton.elim _ _
    rw [slA_apply, canon_pa]
  funext j
  rw [eq_ix3 j]
  exact key _ _ _
theorem readCov_pa (v : View sig .tc .vmem S8x512x64 .f32) (P : Fin 8 → Vec F S1x512x64 .f32) (tl : List (View.Piece (Elt F) S8x512x64 .f32)) (h : Fin 8) (inb) :
    v.readCov (pa P tl) (Rect.unit ![h.val, 0, 0] ![1, 512, 64] inb).toLoadRect = P h := by
  rw [← sl_canon_pa P tl h, View.readCov_eq_canon']
  generalize View.canon (pa P tl) = X
  have key : ∀ (a : Fin 1) (b : Fin 512) (c : Fin 64), X ((Rect.unit (s := S8x512x64) ![h.val, 0, 0] ![1, 512, 64] inb).toLoadRect.idx (ix3 a b c)) = X (ix3 h b c) := fun a b c => by
    obtain rfl : a = 0 := Subsingleton.elim _ _
    refine congrArg X (funext fun x => Fin.ext ((Rect.idx_unit_val _ _ inb _ x).trans ?_))
    fin_cases x <;> simp
  funext j
  rw [eq_ix3 j]
  exact key _ _ _
theorem pa_skip {v : View sig .tc .vmem S8x512x64 .f32} {g h : ℕ} {inb inb'} {w : Vec F S1x512x64 .f32} {L : List (View.Piece (Elt F) S8x512x64 .f32)} {r} (hh : g < h)
    (hr : v.readCov L (Rect.unit ![h, 0, 0] ![1, 512, 64] inb').toLoadRect = r) :
    v.readCov ((⟨Rect.unit ![g, 0, 0] ![1, 512, 64] inb, w⟩ : View.Piece (Elt F) S8x512x64 .f32) :: L) (Rect.unit ![h, 0, 0] ![1, 512, 64] inb').toLoadRect = r := by
  subst hr
  exact View.readCov_cons_of_disjoint v _ L _ (Rect.unit_disjoint (inb := inb) (inb' := inb') (0 : Fin 3) (.inl (by simp; omega)))
theorem pa_whole {v : View sig .tc .vmem S8x512x64 .f32} {h : ℕ} {inb inb'} {w : Vec F S8x512x64 .f32} {x : F .f32} (hw : w = fun _ => x) :
    v.readCov [(⟨Rect.unit ![0, 0, 0] ![8, 512, 64] inb, w⟩ : View.Piece (Elt F) S8x512x64 .f32)] (Rect.unit ![h, 0, 0] ![1, 512, 64] inb').toLoadRect
      = (fun _ => x) := by
  subst hw
  rw [View.readCov_eq_canon']
  funext j
  have hc : View.canon [(⟨Rect.unit ![0, 0, 0] ![8, 512, 64] inb, (fun _ => x : Vec F S8x512x64 .f32)⟩ : View.Piece (Elt F) S8x512x64 .f32)] = (fun _ => x) :=
    View.canon_unit_zero (S := S8x512x64) (by funext b; fin_cases b <;> rfl) inb _
  exact congrFun hc _

/-- Eight heads' stores of the output block. -/
def po (P : Fin 8 → Vec F S1x512x64 .f32) : List (View.Piece (Elt F) S1x512x512 .f32) :=
  [⟨Rect.unit ![0, 0, 448] ![1, 512, 64] inb_S1x512x512_S1x512x64_0_0_448, P 7⟩,
    ⟨Rect.unit ![0, 0, 384] ![1, 512, 64] inb_S1x512x512_S1x512x64_0_0_384, P 6⟩,
    ⟨Rect.unit ![0, 0, 320] ![1, 512, 64] inb_S1x512x512_S1x512x64_0_0_320, P 5⟩,
    ⟨Rect.unit ![0, 0, 256] ![1, 512, 64] inb_S1x512x512_S1x512x64_0_0_256, P 4⟩,
    ⟨Rect.unit ![0, 0, 192] ![1, 512, 64] inb_S1x512x512_S1x512x64_0_0_192, P 3⟩,
    ⟨Rect.unit ![0, 0, 128] ![1, 512, 64] inb_S1x512x512_S1x512x64_0_0_128, P 2⟩,
    ⟨Rect.unit ![0, 0, 64] ![1, 512, 64] inb_S1x512x512_S1x512x64_0_0_64, P 1⟩,
    ⟨Rect.unit ![0, 0, 0] ![1, 512, 64] inb_S1x512x512_S1x512x64_0_0_0, P 0⟩]
theorem po_hit (h : Fin 8) (n : ℕ) (hn : n = 64 * h.val) (inb) (w : Vec F S1x512x64 .f32) (L : List (View.Piece (Elt F) S1x512x512 .f32)) (r : Fin 512) (c : Fin 64) (hc) :
    View.canon ((⟨Rect.unit ![0, 0, n] ![1, 512, 64] inb, w⟩ : View.Piece (Elt F) S1x512x512 .f32) :: L) (ix3 0 r ⟨64 * h.val + c.val, hc⟩) = w (ix3 0 r c) := by
  subst hn
  have e : (ix3 0 r ⟨64 * h.val + c.val, hc⟩ : S1x512x512.Idx) = (Rect.unit (s := S1x512x512) ![0, 0, 64 * h.val] ![1, 512, 64] inb).emb (ix3 0 r c) := by
    funext b; apply Fin.ext
    refine Eq.trans ?_ (Rect.idx_unit_val _ _ inb _ b).symm
    fin_cases b <;> simp
  rw [e]; exact View.canon_cons_emb (Rect.unit (s := S1x512x512) ![0, 0, 64 * h.val] ![1, 512, 64] inb) w L _
theorem po_miss (h g : Fin 8) (n : ℕ) (hn : n = 64 * g.val) (hg : h < g) (inb) (w : Vec F S1x512x64 .f32) (L : List (View.Piece (Elt F) S1x512x512 .f32)) (r : Fin 512) (c : Fin 64) (hc) :
    View.canon ((⟨Rect.unit ![0, 0, n] ![1, 512, 64] inb, w⟩ : View.Piece (Elt F) S1x512x512 .f32) :: L) (ix3 0 r ⟨64 * h.val + c.val, hc⟩) = View.canon L (ix3 0 r ⟨64 * h.val + c.val, hc⟩) := by
  subst hn
  refine View.canon_cons_of_not_mem _ L (fun hm => ?_)
  have h2 := ((Rect.mem_set_unit (inb := inb)).mp hm) (2 : Fin 3)
  simp at h2
  have := c.isLt; have := Fin.lt_def.mp hg; omega
theorem canon_po (P : Fin 8 → Vec F S1x512x64 .f32) (h : Fin 8) (r : Fin 512) (c : Fin 64) (hc) :
    View.canon (po P) (ix3 0 r ⟨64 * h.val + c.val, hc⟩) = P h (ix3 0 r c) := by
  unfold po
  obtain ⟨h, hh⟩ := h
  rcases (by omega : h = 0 ∨ h = 1 ∨ h = 2 ∨ h = 3 ∨ h = 4 ∨ h = 5 ∨ h = 6 ∨ h = 7) with rfl | rfl | rfl | rfl | rfl | rfl | rfl | rfl
  · rw [po_miss _ 7 448 rfl (by simp [Fin.lt_def])]; rw [po_miss _ 6 384 rfl (by simp [Fin.lt_def])]; rw [po_miss _ 5 320 rfl (by simp [Fin.lt_def])]; rw [po_miss _ 4 256 rfl (by simp [Fin.lt_def])]; rw [po_miss _ 3 192 rfl (by simp [Fin.lt_def])]; rw [po_miss _ 2 128 rfl (by simp [Fin.lt_def])]; rw [po_miss _ 1 64 rfl (by simp [Fin.lt_def])]; exact po_hit ⟨0, hh⟩ 0 rfl _ _ _ r c hc
  · rw [po_miss _ 7 448 rfl (by simp [Fin.lt_def])]; rw [po_miss _ 6 384 rfl (by simp [Fin.lt_def])]; rw [po_miss _ 5 320 rfl (by simp [Fin.lt_def])]; rw [po_miss _ 4 256 rfl (by simp [Fin.lt_def])]; rw [po_miss _ 3 192 rfl (by simp [Fin.lt_def])]; rw [po_miss _ 2 128 rfl (by simp [Fin.lt_def])]; exact po_hit ⟨1, hh⟩ 64 rfl _ _ _ r c hc
  · rw [po_miss _ 7 448 rfl (by simp [Fin.lt_def])]; rw [po_miss _ 6 384 rfl (by simp [Fin.lt_def])]; rw [po_miss _ 5 320 rfl (by simp [Fin.lt_def])]; rw [po_miss _ 4 256 rfl (by simp [Fin.lt_def])]; rw [po_miss _ 3 192 rfl (by simp [Fin.lt_def])]; exact po_hit ⟨2, hh⟩ 128 rfl _ _ _ r c hc
  · rw [po_miss _ 7 448 rfl (by simp [Fin.lt_def])]; rw [po_miss _ 6 384 rfl (by simp [Fin.lt_def])]; rw [po_miss _ 5 320 rfl (by simp [Fin.lt_def])]; rw [po_miss _ 4 256 rfl (by simp [Fin.lt_def])]; exact po_hit ⟨3, hh⟩ 192 rfl _ _ _ r c hc
  · rw [po_miss _ 7 448 rfl (by simp [Fin.lt_def])]; rw [po_miss _ 6 384 rfl (by simp [Fin.lt_def])]; rw [po_miss _ 5 320 rfl (by simp [Fin.lt_def])]; exact po_hit ⟨4, hh⟩ 256 rfl _ _ _ r c hc
  · rw [po_miss _ 7 448 rfl (by simp [Fin.lt_def])]; rw [po_miss _ 6 384 rfl (by simp [Fin.lt_def])]; exact po_hit ⟨5, hh⟩ 320 rfl _ _ _ r c hc
  · rw [po_miss _ 7 448 rfl (by simp [Fin.lt_def])]; exact po_hit ⟨6, hh⟩ 384 rfl _ _ _ r c hc
  · exact po_hit ⟨7, hh⟩ 448 rfl _ _ _ r c hc

end Cert.KernelIdeal.Flash

end
-- ==== Proof.Flash.Eval.lean ====
/- One head's arithmetic over the extended reals, read entry by entry. -/
module

public import proofs.«01_k».proof.Proof.Flash.Heads
public import Idealize.ShloMosaic.Lib.Pointwise

@[expose] public section

set_option maxRecDepth 16384

noncomputable section

namespace Cert.KernelIdeal.Flash

open Idealize.ShloMosaic Idealize.ShloMosaic.TcCoe Idealize.ShloMosaic.Tactic
open Cert.KernelIdeal.Gen
open scoped BigOperators

theorem ninf_val : Ideal.ofBits .f32 0xFF800000#32 = (⊥ : EReal) := by
  simp [Ideal.ofBits, Ideal.ieee]

theorem hScore_apply (q k : Vec Ideal S1x512x128 .bf16) (r c : Fin 512) :
    hScore q k (ix2 r c) = ∑ d : Fin 128, q (ix3 0 r d) * k (ix3 0 c d) := by
  pointwise [hScore]

theorem hMask_apply (b : IVec S512x512 1) (s : FVec Ideal S512x512 .f32) (r c : Fin 512) :
    hMask b s (ix2 r c) = if b (ix2 r c) = 1#1 then s (ix2 r c) else (⊥ : EReal) := by
  pointwise [hMask]
  rw [ninf_val]
  rfl

theorem hM_apply (s : FVec Ideal S512x512 .f32) (mp : Vec Ideal S1x512x1 .f32) (r : Fin 512) :
    hM s mp (ix2 r 0) = max (mp (ix3 0 r 0)) (Finset.univ.sup fun c : Fin 512 => s (ix2 r c)) := by
  pointwise [hM]
  rw [ninf_val]
  rfl

theorem hA_apply (s : FVec Ideal S512x512 .f32) (mp : Vec Ideal S1x512x1 .f32) (r : Fin 512) :
    hA s mp (ix2 r 0) = Ideal.exp (mp (ix3 0 r 0) - hM s mp (ix2 r 0)) := by
  pointwise [hA]

theorem hP_apply (s : FVec Ideal S512x512 .f32) (mp : Vec Ideal S1x512x1 .f32) (r c : Fin 512) :
    hP s mp (ix2 r c) = Ideal.exp (s (ix2 r c) - hM s mp (ix2 r 0)) := by
  pointwise [hP]

theorem hMs_apply (s : FVec Ideal S512x512 .f32) (mp : Vec Ideal S1x512x1 .f32) (r : Fin 512) :
    hMs s mp (ix3 0 r 0) = hM s mp (ix2 r 0) := by
  pointwise [hMs]

theorem hL_apply (s : FVec Ideal S512x512 .f32) (mp lp : Vec Ideal S1x512x1 .f32) (r : Fin 512) :
    hL s mp lp (ix3 0 r 0) = hA s mp (ix2 r 0) * lp (ix3 0 r 0) + ∑ c : Fin 512, hP s mp (ix2 r c) := by
  pointwise [hL]

theorem hAcc_apply (s : FVec Ideal S512x512 .f32) (v : Vec Ideal S1x512x64 .bf16) (mp : Vec Ideal S1x512x1 .f32) (ap : Vec Ideal S1x512x64 .f32) (r : Fin 512) (d : Fin 64) :
    hAcc s v mp ap (ix3 0 r d) = hA s mp (ix2 r 0) * ap (ix3 0 r d) + ∑ c : Fin 512, hP s mp (ix2 r c) * v (ix3 0 c d) := by
  pointwise [hAcc]

theorem hO_apply (a : Vec Ideal S1x512x64 .f32) (l : Vec Ideal S1x512x1 .f32) (r : Fin 512) (d : Fin 64) :
    hO a l (ix3 0 r d) = Ideal.div (a (ix3 0 r d)) (l (ix3 0 r 0)) := by
  pointwise [hO]

end Cert.KernelIdeal.Flash

end
-- ==== Proof.Flash.Words.lean ====
/- The words of the mask: which chunk of 64 a position lies in, by the floor division as it is printed, and the mask of
   a block of 512 queries against a block of 512 keys. -/
module

public import proofs.«01_k».proof.Proof.Flash.Heads
public import Idealize.ShloMosaic.Lib.Pointwise
public import Idealize.ShloMosaic.Lib.WordCmp
public import Idealize.ShloMosaic.Lib.WordArith
public import Idealize.ShloMosaic.Lib.Affine

@[expose] public section

set_option maxRecDepth 16384

noncomputable section

namespace Cert.Soft

open Idealize.ShloMosaic Idealize.ShloMosaic.WordCmp

theorem div_word (u : ArithUnit) (n : ℕ) (hn : n < 2 ^ 31) : IntOp.divsi u (BitVec.ofNat 32 n) 64#32 = BitVec.ofNat 32 (n / 64) := by
  rw [IntOp.divsi, if_neg (IntOp.not_corner_of_pos (by decide)), BitVec.sdiv_eq]
  have hm : (BitVec.ofNat 32 n).msb = false := by
    rw [BitVec.msb_eq_false_iff_two_mul_lt, BitVec.toNat_ofNat]; omega
  rw [hm, show (64#32 : BitVec 32).msb = false by decide]
  apply BitVec.eq_of_toNat_eq
  show (BitVec.ofNat 32 n / 64#32).toNat = _
  rw [BitVec.toNat_udiv, BitVec.toNat_ofNat, BitVec.toNat_ofNat, BitVec.toNat_ofNat, Nat.mod_eq_of_lt (by omega : n < 2 ^ 32),
    Nat.mod_eq_of_lt (by omega : n / 64 < 2 ^ 32)]

/-- The floor division by 64 of a position, where the sign is one or the position is zero. -/
theorem sel_floor (u : ArithUnit) (n : ℕ) (hn : n < 2 ^ 31) (s : BitVec 32) (hs : n ≠ 0 → s = 1#32) :
    Scalar.select (IntOp.andi (IntOp.cmpi .ne s 1#32) (IntOp.cmpi .ne (IntOp.remsi u (BitVec.ofNat 32 n) 64#32) 0#32))
      (IntOp.subi (IntOp.divsi u (BitVec.ofNat 32 n) 64#32) 1#32) (IntOp.divsi u (BitVec.ofNat 32 n) 64#32) = BitVec.ofNat 32 (n / 64) := by
  have hc : ¬IntOp.andi (IntOp.cmpi .ne s 1#32) (IntOp.cmpi .ne (IntOp.remsi u (BitVec.ofNat 32 n) 64#32) 0#32) = 1#1 := by
    rw [IntOp.andi_eq_one, IntOp.cmpi_ne, IntOp.cmpi_ne]
    rintro ⟨h1, h2⟩
    by_cases h0 : n = 0
    · subst h0; exact h2 (by cases u <;> decide)
    · exact h1 (hs h0)
  refine (if_neg hc).trans (div_word u n hn)

theorem chunk_le (a b : ℕ) (ha : a < 2 ^ 31) (hb : b < 2 ^ 31) :
    IntOp.cmpi .sle (BitVec.ofNat 32 (a / 64)) (BitVec.ofNat 32 (b / 64)) = 1#1 ↔ a / 64 ≤ b / 64 :=
  cmpi_sle_ofNat_eq_one_iff (w := 32) (by omega) (by omega)

theorem sgn_word (n : ℕ) (hn : n < 2 ^ 31) (h0 : n ≠ 0) :
    IntOp.subi ((IntOp.cmpi .sgt (BitVec.ofNat 32 n) 0#32).setWidth 32) ((IntOp.cmpi .slt (BitVec.ofNat 32 n) 0#32).setWidth 32) = 1#32 := by
  have h1 : IntOp.cmpi .sgt (BitVec.ofNat 32 n) 0#32 = 1#1 := (cmpi_sgt_ofNat_eq_one_iff (w := 32) (b := 0) (by omega) (by omega)).mpr (by omega)
  have h2 : IntOp.cmpi .slt (BitVec.ofNat 32 n) 0#32 = 0#1 := (cmpi_slt_ofNat_eq_zero_iff (w := 32) (b := 0) (by omega) (by omega)).mpr (by omega)
  rw [h1, h2]; decide

end Cert.Soft

namespace Cert.KernelIdeal.Flash

open Idealize.ShloMosaic Idealize.ShloMosaic.TcCoe Idealize.ShloMosaic.Tactic
open Cert.KernelIdeal.Gen

theorem pos_word (a r : ℕ) (ha : a < 16) (hr : r < 512) :
    IntOp.addi (IntOp.muli (BitVec.ofNat 32 a) 512#32) (BitVec.ofNat 32 r) = BitVec.ofNat 32 (512 * a + r) := by
  apply BitVec.eq_of_toNat_eq
  simp only [IntOp.addi, IntOp.muli, BitVec.toNat_add, BitVec.toNat_mul, BitVec.toNat_ofNat]
  omega

theorem pay80_apply (a : ℕ) (ha : a < 16) (r c : Fin 512) : k0_pay80 (BitVec.ofNat 32 a) (ix2 r c) = BitVec.ofNat 32 ((512 * a + r.val) / 64) := by
  pointwise [k0_pay80]
  rw [show Scalar.muli (BitVec.ofNat 32 a) 512#32 = IntOp.muli (BitVec.ofNat 32 a) 512#32 from rfl, pos_word a r.val ha r.isLt]
  exact Soft.sel_floor .vector _ (by omega) _ (Soft.sgn_word _ (by omega))

theorem kmask_apply (i : grid0.Coords) (r c : Fin 512) :
    kmask i (ix2 r c) = 1#1 ↔ (512 * (i 2).val + c.val) / 64 ≤ (512 * (i 1).val + r.val) / 64 := by
  pointwise [kmask, k0_pay84, k0_pay81, k0_pay82, k0_pay83]
  have h1 : (i 1).val < 16 := (i 1).isLt
  have h2 : (i 2).val < 16 := (i 2).isLt
  rw [show Scalar.muli (BitVec.ofNat 32 (i 2).val) 512#32 = IntOp.muli (BitVec.ofNat 32 (i 2).val) 512#32 from rfl,
    pos_word _ c.val h2 c.isLt, pay80_apply _ h1 r c, Soft.sel_floor .vector _ (by omega) _ (Soft.sgn_word _ (by omega))]
  exact Soft.chunk_le _ _ (by omega) (by omega)

end Cert.KernelIdeal.Flash

end
-- ==== Proof.Flash.Soft.lean ====
/- The softmax of one row of scores, taken a run of keys at a time: the running maximum, the running sum of
   exponentials and the running weighted sum over the first `n` keys, what one more run of keys does to them, and the
   quotient at the end. All over the extended reals. -/
module

public import Idealize.ShloMosaic.PureOps.Ideal

@[expose] public section

noncomputable section

namespace Cert.Soft

open Idealize.ShloMosaic
open scoped BigOperators

/-- The largest of the first `n` scores. -/
def mx (S : ℕ → EReal) (n : ℕ) : EReal := (Finset.range n).sup S
/-- The sum of the first `n` scores' exponentials, each taken below the largest. -/
def sm (S : ℕ → EReal) (n : ℕ) : EReal := ∑ j ∈ Finset.range n, Ideal.exp (S j - mx S n)
/-- The sum of the first `n` values, each by its score's exponential. -/
def ac (S w : ℕ → EReal) (n : ℕ) : EReal := ∑ j ∈ Finset.range n, Ideal.exp (S j - mx S n) * w j

theorem exp_nonneg (x : EReal) : 0 ≤ Ideal.exp x := by
  induction x with
  | bot => simp
  | top => simp
  | coe r => rw [Ideal.exp_coe]; exact_mod_cast (Real.exp_pos r).le

theorem exp_ne_top {x : EReal} (h : x ≠ ⊤) : Ideal.exp x ≠ ⊤ := by
  induction x with
  | bot => simp
  | top => exact absurd rfl h
  | coe r => rw [Ideal.exp_coe]; exact EReal.coe_ne_top _

theorem sub_ne_top {a b : EReal} (h : a ≤ b) : a - b ≠ ⊤ := by
  induction a with
  | bot => simp
  | top => obtain rfl := top_le_iff.mp h; simp
  | coe r =>
    induction b with
    | bot => simp at h
    | top => simp
    | coe s => rw [← EReal.coe_sub]; exact EReal.coe_ne_top _

/-- Moving an exponential from below one maximum to below a larger. -/
theorem exp_shift {s a b : EReal} (h1 : s ≤ a) (h2 : a ≤ b) : Ideal.exp (a - b) * Ideal.exp (s - a) = Ideal.exp (s - b) := by
  induction a with
  | bot => obtain rfl := le_bot_iff.mp h1; simp
  | top => obtain rfl := top_le_iff.mp h2; simp
  | coe x =>
    induction s with
    | bot => simp
    | top => exact absurd (top_le_iff.mp h1) (EReal.coe_ne_top _)
    | coe y =>
      induction b with
      | bot => exact absurd (le_bot_iff.mp h2) (EReal.coe_ne_bot _)
      | top => simp
      | coe z =>
        rw [← EReal.coe_sub, ← EReal.coe_sub, ← EReal.coe_sub, Ideal.exp_coe, Ideal.exp_coe, Ideal.exp_coe, ← EReal.coe_mul, ← Real.exp_add]
        congr 2; ring

theorem mul_sum_of {ι : Type*} (s : Finset ι) (f : ι → EReal) {a : EReal} (h0 : 0 ≤ a) (ht : a ≠ ⊤) : a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

theorem le_mx {S : ℕ → EReal} {n j : ℕ} (h : j < n) : S j ≤ mx S n := Finset.le_sup (f := S) (Finset.mem_range.mpr h)

theorem mx_mono {S : ℕ → EReal} {n k : ℕ} : mx S n ≤ mx S (n + k) :=
  Finset.sup_mono (Finset.range_mono (Nat.le_add_right n k))

theorem mx_zero (S : ℕ → EReal) : mx S 0 = ⊥ := by simp [mx]
theorem sm_zero (S : ℕ → EReal) : sm S 0 = 0 := by simp [sm]
theorem ac_zero (S w : ℕ → EReal) : ac S w 0 = 0 := by simp [ac]

/-- The largest score after `k` more keys. -/
theorem mx_step (S : ℕ → EReal) (n k : ℕ) : max (mx S n) (Finset.univ.sup fun c : Fin k => S (n + c.val)) = mx S (n + k) := by
  apply le_antisymm
  · refine max_le mx_mono (Finset.sup_le fun c _ => le_mx (by have := c.isLt; omega))
  · refine Finset.sup_le fun j hj => ?_
    have hj := Finset.mem_range.mp hj
    by_cases h : j < n
    · exact le_max_of_le_left (le_mx h)
    · refine le_max_of_le_right ?_
      have := Finset.le_sup (f := fun c : Fin k => S (n + c.val)) (Finset.mem_univ (⟨j - n, by omega⟩ : Fin k))
      simpa [Nat.add_sub_cancel' (not_lt.mp h)] using this

/-- A sum carried from the first `n` keys to `k` more. -/
theorem sum_step (S g : ℕ → EReal) (n k : ℕ) :
    Ideal.exp (mx S n - mx S (n + k)) * (∑ j ∈ Finset.range n, Ideal.exp (S j - mx S n) * g j)
      + (∑ c : Fin k, Ideal.exp (S (n + c.val) - mx S (n + k)) * g (n + c.val))
    = ∑ j ∈ Finset.range (n + k), Ideal.exp (S j - mx S (n + k)) * g j := by
  rw [Finset.sum_range_add, mul_sum_of _ _ (exp_nonneg _) (exp_ne_top (sub_ne_top mx_mono)), Finset.sum_range (n := k)]
  congr 1
  refine Finset.sum_congr rfl fun j hj => ?_
  rw [← mul_assoc, exp_shift (le_mx (Finset.mem_range.mp hj)) mx_mono]

/-- The sum of exponentials after `k` more keys. -/
theorem sm_step (S : ℕ → EReal) (n k : ℕ) :
    Ideal.exp (mx S n - mx S (n + k)) * sm S n + (∑ c : Fin k, Ideal.exp (S (n + c.val) - mx S (n + k))) = sm S (n + k) := by
  have := sum_step S (fun _ => 1) n k
  simp only [mul_one] at this
  exact this

/-- The weighted sum after `k` more keys. -/
theorem ac_step (S w : ℕ → EReal) (n k : ℕ) :
    Ideal.exp (mx S n - mx S (n + k)) * ac S w n + (∑ c : Fin k, Ideal.exp (S (n + c.val) - mx S (n + k)) * w (n + c.val)) = ac S w (n + k) :=
  sum_step S w n k

theorem inv_ne_top {L : EReal} (h : 0 < L) : L⁻¹ ≠ ⊤ := by
  induction L with
  | bot => simp at h
  | top => simp
  | coe r => rw [← EReal.coe_inv]; exact EReal.coe_ne_top _

/-- The quotient at the end: dividing the weighted sum of the first `n` keys is weighing all `T` keys by the divided
    exponentials, the keys from `n` on being masked, no score being infinite, the first one finite. -/
theorem quotient (S w : ℕ → EReal) (n T : ℕ) (hn : 0 < n) (hT : n ≤ T) (htop : ∀ j, j < n → S j ≠ ⊤) (h0 : S 0 ≠ ⊥)
    (hm : ∀ j, n ≤ j → S j = ⊥) :
    Ideal.div (ac S w n) (sm S n)
      = ∑ j : Fin T, Ideal.div (Ideal.exp (S j.val - Finset.univ.sup fun i : Fin T => S i.val))
          (∑ i : Fin T, Ideal.exp (S i.val - Finset.univ.sup fun i : Fin T => S i.val)) * w j.val := by
  have hsup : (Finset.univ.sup fun i : Fin T => S i.val) = mx S n := by
    apply le_antisymm
    · refine Finset.sup_le fun j _ => ?_
      by_cases h : j.val < n
      · exact le_mx h
      · rw [hm _ (not_lt.mp h)]; exact bot_le
    · refine Finset.sup_le fun j hj => ?_
      exact Finset.le_sup (f := fun i : Fin T => S i.val) (Finset.mem_univ (⟨j, lt_of_lt_of_le (Finset.mem_range.mp hj) hT⟩ : Fin T))
  have htopM : mx S n ≠ ⊤ := by
    refine ne_of_lt ((Finset.sup_lt_iff (by simp)).mpr fun j hj => ?_)
    exact lt_top_iff_ne_top.mpr (htop j (Finset.mem_range.mp hj))
  have hbotM : mx S n ≠ ⊥ := fun h => h0 (le_bot_iff.mp (h ▸ le_mx hn))
  have hz : ∀ j, n ≤ j → Ideal.exp (S j - mx S n) = 0 := fun j hj => by rw [hm j hj]; simp
  have hsub : ∀ g : ℕ → EReal, (∑ j : Fin T, Ideal.exp (S j.val - mx S n) * g j.val) = ∑ j ∈ Finset.range n, Ideal.exp (S j - mx S n) * g j := by
    intro g
    rw [← Finset.sum_range (f := fun j => Ideal.exp (S j - mx S n) * g j)]
    refine (Finset.sum_subset (Finset.range_mono hT) fun j _ hj => ?_).symm
    rw [hz j (not_lt.mp fun h => hj (Finset.mem_range.mpr h)), zero_mul]
  have hL : (∑ i : Fin T, Ideal.exp (S i.val - mx S n)) = sm S n := by
    have := hsub fun _ => 1
    simp only [mul_one] at this
    exact this
  have hpos : 0 < sm S n := by
    have h1 : Ideal.exp (S 0 - mx S n) ≤ sm S n :=
      Finset.single_le_sum (f := fun j => Ideal.exp (S j - mx S n)) (fun i _ => exp_nonneg _) (Finset.mem_range.mpr hn)
    refine lt_of_lt_of_le ?_ h1
    have h0t := htop 0 hn
    generalize S 0 = a at h0 h0t
    generalize mx S n = b at htopM hbotM
    induction a with
    | bot => exact absurd rfl h0
    | top => exact absurd rfl h0t
    | coe x =>
      induction b with
      | bot => exact absurd rfl hbotM
      | top => exact absurd rfl htopM
      | coe y => rw [← EReal.coe_sub, Ideal.exp_coe]; exact_mod_cast Real.exp_pos _
  have hdiv : ∀ x, Ideal.div x (sm S n) = x * (sm S n)⁻¹ := fun x => by rw [Ideal.div, if_neg hpos.ne']
  rw [hsup, hL]
  simp only [hdiv]
  rw [mul_comm, ac, ← hsub w, mul_sum_of _ _ (EReal.inv_nonneg_of_nonneg hpos.le) (inv_ne_top hpos)]
  refine Finset.sum_congr rfl fun j _ => ?_
  rw [← mul_assoc, mul_comm (sm S n)⁻¹]

end Cert.Soft

end
-- ==== Proof.Flash.Spec.lean ====
/- The attention as a function of its three arrays: the scores of a query against the keys, minus infinity past the
   query's chunk, and the quotient of the weighted sum of the values by the sum of the weights. -/
module

public import proofs.«01_k».proof.Proof.Flash.Soft
public import Idealize.ShloMosaic.Lib.Pointwise

@[expose] public section

noncomputable section

namespace Cert.Soft

open Idealize.ShloMosaic
open scoped BigOperators

/-- Queries or keys: batch, row, column. -/
abbrev QArr := (⟨3, ![4, 8192, 1024]⟩ : Shape).Idx → EReal
/-- Values, and the result: batch, row, column. -/
abbrev VArr := (⟨3, ![4, 8192, 512]⟩ : Shape).Idx → EReal

def qf (x : QArr) (b r c : ℕ) : EReal :=
  x (ix3 ⟨b % 4, Nat.mod_lt _ (by decide)⟩ ⟨r % 8192, Nat.mod_lt _ (by decide)⟩ ⟨c % 1024, Nat.mod_lt _ (by decide)⟩)
def vf (x : VArr) (b r c : ℕ) : EReal :=
  x (ix3 ⟨b % 4, Nat.mod_lt _ (by decide)⟩ ⟨r % 8192, Nat.mod_lt _ (by decide)⟩ ⟨c % 512, Nat.mod_lt _ (by decide)⟩)

theorem qf_eq (x : QArr) (b : Fin 4) (r : Fin 8192) (c : Fin 1024) : qf x b.val r.val c.val = x (ix3 b r c) := by
  unfold qf
  congr 2 <;> exact Fin.ext (Nat.mod_eq_of_lt (Fin.isLt _))
theorem vf_eq (x : VArr) (b : Fin 4) (r : Fin 8192) (c : Fin 512) : vf x b.val r.val c.val = x (ix3 b r c) := by
  unfold vf
  congr 2 <;> exact Fin.ext (Nat.mod_eq_of_lt (Fin.isLt _))

/-- The product of a query and a key over one head's 128 columns. -/
def raw (q k : QArr) (b h row key : ℕ) : EReal := ∑ d : Fin 128, qf q b row (128 * h + d.val) * qf k b key (128 * h + d.val)
/-- The score: the product where the key's chunk of 64 is not after the query's, else minus infinity. -/
def scr (q k : QArr) (b h row key : ℕ) : EReal := if key / 64 ≤ row / 64 then raw q k b h row key else ⊥
/-- One column of one head's values, by key. -/
def vl (v : VArr) (b h d key : ℕ) : EReal := vf v b key (64 * h + d)

/-- The attention of one query: over the keys up to the end of its block of 512. -/
def att (q k : QArr) (v : VArr) (b row h d : ℕ) : EReal :=
  Ideal.div (ac (scr q k b h row) (vl v b h d) (512 * (row / 512 + 1))) (sm (scr q k b h row) (512 * (row / 512 + 1)))

/-- The attention of every query. -/
def attn (q k : QArr) (v : VArr) : VArr := fun i => att q k v (i 0).val (i 1).val ((i 2).val / 64) ((i 2).val % 64)

end Cert.Soft

end
-- ==== Proof.Flash.Step.lean ====
/- What one grid point's stores put into the scratch buffers and the output, in closed form: from the sums over the
   first `n` keys to the sums over 512 more. -/
module

public import proofs.«01_k».proof.Proof.Flash.Eval
public import proofs.«01_k».proof.Proof.Flash.Words
public import proofs.«01_k».proof.Proof.Flash.Spec

@[expose] public section

set_option maxRecDepth 16384

noncomputable section

namespace Cert.KernelIdeal.Flash

open Idealize.ShloMosaic Idealize.ShloMosaic.TcCoe Idealize.ShloMosaic.Tactic
open Cert.KernelIdeal.Gen Cert.Soft
open scoped BigOperators

variable (q k : QArr) (v : VArr) (b qi n : ℕ)

/-- The running maxima of a block of queries over the first `n` keys. -/
def cM : Vec Ideal S8x512x1 .f32 := fun i => mx (scr q k b (i 0).val (512 * qi + (i 1).val)) n
/-- The running sums. -/
def cL : Vec Ideal S8x512x1 .f32 := fun i => sm (scr q k b (i 0).val (512 * qi + (i 1).val)) n
/-- The running weighted sums. -/
def cA : Vec Ideal S8x512x64 .f32 := fun i => ac (scr q k b (i 0).val (512 * qi + (i 1).val)) (vl v b (i 0).val (i 2).val) n
/-- The result's block. -/
def cO : Vec Ideal S1x512x512 .f32 := fun i => att q k v b (512 * qi + (i 1).val) ((i 2).val / 64) ((i 2).val % 64)

theorem ini_M (h : Fin 8) : iniM (F := Ideal) = slM (cM q k b qi 0) h := by
  funext i
  show Ideal.ofBits .f32 0xFF800000#32 = mx (scr q k b h.val (512 * qi + (i 1).val)) 0
  rw [ninf_val, mx_zero]
theorem ini_L (h : Fin 8) : iniL (F := Ideal) = slM (cL q k b qi 0) h := by
  funext i
  show Ideal.ofBits .f32 0x00000000#32 = sm (scr q k b h.val (512 * qi + (i 1).val)) 0
  rw [Ideal.ofBits_zero_f32, sm_zero]
theorem ini_A (h : Fin 8) : iniA (F := Ideal) = slA (cA q k v b qi 0) h := by
  funext i
  show Ideal.ofBits .f32 0x00000000#32 = ac (scr q k b h.val (512 * qi + (i 1).val)) (vl v b h.val (i 2).val) 0
  rw [Ideal.ofBits_zero_f32, ac_zero]

/-- A block of scores: queries from `512 * qi`, keys from `n`. -/
def IsSc (sc : Fin 8 → FVec Ideal S512x512 .f32) : Prop :=
  ∀ (h : Fin 8) (r c : Fin 512), sc h (ix2 r c) = scr q k b h.val (512 * qi + r.val) (n + c.val)
/-- A block of values: keys from `n`. -/
def IsVal (x2 : Vec Ideal S1x512x512 .bf16) : Prop := ∀ (r : Fin 512) (c : Fin 512), x2 (ix3 0 r c) = vf v b (n + r.val) c.val
/-- A block of queries or keys from row `n`. -/
def IsRow (x : Vec Ideal S1x512x1024 .bf16) : Prop := ∀ (r : Fin 512) (c : Fin 1024), x (ix3 0 r c) = qf q b (n + r.val) c.val

variable {q k v b qi n}

theorem scU_raw {x0 x1 : Vec Ideal S1x512x1024 .bf16} (h0 : IsRow q b (512 * qi) x0) (h1 : IsRow k b n x1) (h : Fin 8) (r c : Fin 512) :
    scU x0 x1 h (ix2 r c) = raw q k b h.val (512 * qi + r.val) (n + c.val) := by
  rw [scU, hScore_apply, raw]
  refine Finset.sum_congr rfl fun d _ => ?_
  rw [show slQ x0 h (ix3 0 r d) = x0 (ix3 0 r ⟨128 * h.val + d.val, by have := h.isLt; have := d.isLt; omega⟩) from rfl,
    show slQ x1 h (ix3 0 c d) = x1 (ix3 0 c ⟨128 * h.val + d.val, by have := h.isLt; have := d.isLt; omega⟩) from rfl, h0, h1]

/-- Before the diagonal every key is in an earlier chunk. -/
theorem scU_isSc {ki : ℕ} (hlt : ki < qi) {x0 x1 : Vec Ideal S1x512x1024 .bf16} (h0 : IsRow q b (512 * qi) x0) (h1 : IsRow k b (512 * ki) x1) :
    IsSc q k b qi (512 * ki) (scU x0 x1) := by
  intro h r c
  rw [scU_raw h0 h1, scr, if_pos (by have := r.isLt; have := c.isLt; omega)]

theorem scD_isSc {i : grid0.Coords} {x0 x1 : Vec Ideal S1x512x1024 .bf16} (e1 : (i 1).val = qi) (e2 : (i 2).val = n)
    (h0 : IsRow q b (512 * qi) x0) (h1 : IsRow k b (512 * n) x1) : IsSc q k b qi (512 * n) (scD i x0 x1) := by
  intro h r c
  rw [scD, hMask_apply, scU_raw h0 h1, scr]
  refine if_congr ?_ rfl rfl
  rw [kmask_apply, e1, e2]

section Steps
variable {sc : Fin 8 → FVec Ideal S512x512 .f32} (hsc : IsSc q k b qi n sc) {x2 : Vec Ideal S1x512x512 .bf16} (hv : IsVal v b n x2)
include hsc

theorem hM_step (h : Fin 8) (r : Fin 512) :
    hM (sc h) (slM (cM q k b qi n) h) (ix2 r 0) = mx (scr q k b h.val (512 * qi + r.val)) (n + 512) := by
  rw [hM_apply, ← mx_step]
  simp only [hsc h r]
  rfl

theorem hA_step (h : Fin 8) (r : Fin 512) : hA (sc h) (slM (cM q k b qi n) h) (ix2 r 0)
    = Ideal.exp (mx (scr q k b h.val (512 * qi + r.val)) n - mx (scr q k b h.val (512 * qi + r.val)) (n + 512)) := by
  rw [hA_apply, hM_step hsc]; rfl

theorem hP_step (h : Fin 8) (r c : Fin 512) : hP (sc h) (slM (cM q k b qi n) h) (ix2 r c)
    = Ideal.exp (scr q k b h.val (512 * qi + r.val) (n + c.val) - mx (scr q k b h.val (512 * qi + r.val)) (n + 512)) := by
  rw [hP_apply, hM_step hsc, hsc]

theorem hL_step (h : Fin 8) (r : Fin 512) : hL (sc h) (slM (cM q k b qi n) h) (slM (cL q k b qi n) h) (ix3 0 r 0)
    = sm (scr q k b h.val (512 * qi + r.val)) (n + 512) := by
  rw [hL_apply, hA_step hsc, ← sm_step]
  simp only [hP_step hsc]
  rfl

include hv in
theorem hAcc_step (h : Fin 8) (r : Fin 512) (d : Fin 64) : hAcc (sc h) (slV x2 h) (slM (cM q k b qi n) h) (slA (cA q k v b qi n) h) (ix3 0 r d)
    = ac (scr q k b h.val (512 * qi + r.val)) (vl v b h.val d.val) (n + 512) := by
  rw [hAcc_apply, hA_step hsc, ← ac_step]
  simp only [hP_step hsc]
  congr 1
  refine Finset.sum_congr rfl fun c _ => ?_
  rw [show slV x2 h (ix3 0 c d) = x2 (ix3 0 c ⟨64 * h.val + d.val, by have := h.isLt; have := d.isLt; omega⟩) from rfl, hv]
  rfl

/-- The running maxima after the point. -/
theorem canon_M (tl) : View.canon (pm (fun h => hMs (sc h) (slM (cM q k b qi n) h)) tl) = cM q k b qi (n + 512) := by
  funext j
  obtain ⟨h, r, z, rfl⟩ : ∃ h r z, j = ix3 h r z := ⟨j 0, j 1, j 2, by idx_vars j⟩
  obtain rfl : z = 0 := Subsingleton.elim _ _
  rw [canon_pm, hMs_apply, hM_step hsc]; rfl
/-- The running sums after the point. -/
theorem canon_L (tl) : View.canon (pm (fun h => hL (sc h) (slM (cM q k b qi n) h) (slM (cL q k b qi n) h)) tl) = cL q k b qi (n + 512) := by
  funext j
  obtain ⟨h, r, z, rfl⟩ : ∃ h r z, j = ix3 h r z := ⟨j 0, j 1, j 2, by idx_vars j⟩
  obtain rfl : z = 0 := Subsingleton.elim _ _
  rw [canon_pm, hL_step hsc]; rfl
include hv in
/-- The running weighted sums after the point. -/
theorem canon_A (tl) : View.canon (pa (fun h => hAcc (sc h) (slV x2 h) (slM (cM q k b qi n) h) (slA (cA q k v b qi n) h)) tl) = cA q k v b qi (n + 512) := by
  funext j
  obtain ⟨h, r, d, rfl⟩ : ∃ h r d, j = ix3 h r d := ⟨j 0, j 1, j 2, by idx_vars j⟩
  rw [canon_pa, hAcc_step hsc hv]; rfl
include hv in
/-- The output after the diagonal point. -/
theorem canon_O (hn : n + 512 = 512 * (qi + 1)) :
    View.canon (po (fun h => hO (hAcc (sc h) (slV x2 h) (slM (cM q k b qi n) h) (slA (cA q k v b qi n) h)) (hL (sc h) (slM (cM q k b qi n) h) (slM (cL q k b qi n) h))))
      = cO q k v b qi := by
  funext j
  obtain ⟨z, r, c, rfl⟩ : ∃ z r c, j = ix3 z r c := ⟨j 0, j 1, j 2, by idx_vars j⟩
  obtain rfl : z = 0 := Subsingleton.elim _ _
  have hc := c.isLt
  have key := canon_po (F := Ideal) (fun h => hO (hAcc (sc h) (slV x2 h) (slM (cM q k b qi n) h) (slA (cA q k v b qi n) h)) (hL (sc h) (slM (cM q k b qi n) h) (slM (cL q k b qi n) h)))
    ⟨c.val / 64, by omega⟩ r ⟨c.val % 64, by omega⟩ (by show 64 * (c.val / 64) + c.val % 64 < 512; omega)
  have ec : (⟨64 * (c.val / 64) + c.val % 64, by omega⟩ : Fin 512) = c := Fin.ext (by show 64 * (c.val / 64) + c.val % 64 = c.val; omega)
  simp only [ec] at key
  rw [key, hO_apply, hAcc_step hsc hv, hL_step hsc, hn]
  show _ = att q k v b (512 * qi + r.val) (c.val / 64) (c.val % 64)
  rw [att, show (512 * qi + r.val) / 512 = qi by have := r.isLt; omega]

end Steps

end Cert.KernelIdeal.Flash

end
-- ==== Proof.Flash.Blocks.lean ====
/- Which part of the arrays each grid point is given: the blocks of queries, keys and values read off the arrays, and
   the block of the result. -/
module

public import proofs.«01_k».proof.Proof.Flash.Step
public import proofs.«01_k».proof.Proof.Flash.Runs
public import Idealize.ShloMosaic.Lib.Pipeline.ValueKit

@[expose] public section

set_option maxRecDepth 16384

noncomputable section

namespace Cert.KernelIdeal.Flash

open Idealize.ShloMosaic Idealize.ShloMosaic.TcCoe Idealize.ShloMosaic.Tactic
open Cert.KernelIdeal.Gen Cert.Soft

variable (m : (ℓ : Loc nD τ sig) → Buf (Elt Ideal) ℓ) (c : Dev nD)

/-- The batch, the block of queries and the block of keys of a grid point. -/
abbrev tb (t : Fin cfg0.N) : ℕ := t.val / 256
abbrev tq (t : Fin cfg0.N) : ℕ := t.val / 16 % 16
abbrev tk (t : Fin cfg0.N) : ℕ := t.val % 16

theorem point_lt (t : Fin cfg0.N) : t.val < 1024 := lt_of_lt_of_eq t.isLt (show cfg0.N = 1024 from N_0)

theorem coord_q (t : Fin cfg0.N) : (grid0.coords t 1).val = tq t := Pipeline.Grid.coords_val t 1 (by decide) rfl
theorem coord_k (t : Fin cfg0.N) : (grid0.coords t 2).val = tk t :=
  (Pipeline.Grid.coords_val t 2 (by decide) rfl : (grid0.coords t 2).val = t.val / 1 % 16).trans (by rw [Nat.div_one])

theorem index_0 : ∀ t : Fin cfg0.N, win0_0.index t = ![tb t, tq t, 0] :=
  (by decide +kernel : ∀ t : Fin grid0.N, cc0_transform_0 (grid0.coords t) = ![t.val / 256, t.val / 16 % 16, 0])
theorem index_1 : ∀ t : Fin cfg0.N, win0_1.index t = ![tb t, min (tk t) (tq t), 0] :=
  (by decide +kernel : ∀ t : Fin grid0.N, cc0_transform_1 (grid0.coords t) = ![t.val / 256, min (t.val % 16) (t.val / 16 % 16), 0])
theorem index_2 : ∀ t : Fin cfg0.N, win0_2.index t = ![tb t, min (tk t) (tq t), 0] :=
  (by decide +kernel : ∀ t : Fin grid0.N, cc0_transform_2 (grid0.coords t) = ![t.val / 256, min (t.val % 16) (t.val / 16 % 16), 0])
theorem index_3 : ∀ t : Fin cfg0.N, win0_3.index t = ![tb t, tq t, 0] :=
  (by decide +kernel : ∀ t : Fin grid0.N, cc0_transform_3 (grid0.coords t) = ![t.val / 256, t.val / 16 % 16, 0])

theorem tb_lt (t : Fin cfg0.N) : tb t < 4 := by have := point_lt t; show t.val / 256 < 4; omega
theorem tq_lt (t : Fin cfg0.N) : tq t < 16 := by show t.val / 16 % 16 < 16; omega

/-- The launched queries, keys and values. -/
abbrev aq : QArr := m ((c : Thread nD τ).loc main_arg0)
abbrev ak : QArr := m ((c : Thread nD τ).loc main_arg1)
abbrev av : VArr := m ((c : Thread nD τ).loc main_arg2)

theorem row_0 (t : Fin cfg0.N) : IsRow (aq m c) (tb t) (512 * tq t) (iblk m c 0 t) := by
  intro r cc
  have hb := tb_lt t
  have hq := tq_lt t
  have hr := r.isLt
  have e := qf_eq (aq m c) ⟨tb t, by omega⟩ ⟨512 * tq t + r.val, by omega⟩ cc
  refine Eq.trans ?_ e.symm
  blk_ext [iblk, V, index_0]

theorem row_1 (t : Fin cfg0.N) (h : tk t ≤ tq t) : IsRow (ak m c) (tb t) (512 * tk t) (iblk m c 1 t) := by
  intro r cc
  have hb := tb_lt t
  have hq := tq_lt t
  have hr := r.isLt
  have e := qf_eq (ak m c) ⟨tb t, by omega⟩ ⟨512 * tk t + r.val, by omega⟩ cc
  refine Eq.trans ?_ e.symm
  blk_ext [iblk, V, index_1, min_eq_left h]

theorem val_2 (t : Fin cfg0.N) (h : tk t ≤ tq t) : IsVal (av m c) (tb t) (512 * tk t) (iblk m c 2 t) := by
  intro r cc
  have hb := tb_lt t
  have hq := tq_lt t
  have hr := r.isLt
  have e := vf_eq (av m c) ⟨tb t, by omega⟩ ⟨512 * tk t + r.val, by omega⟩ cc
  refine Eq.trans ?_ e.symm
  blk_ext [iblk, V, index_2, min_eq_left h]

/-- The result's block at a point is that part of the whole result. -/
theorem out_3 (t : Fin cfg0.N) (i : S1x512x512.Idx) :
    ((cfg0.win 3).blk t).view.read (Elt Ideal) (attn (aq m c) (ak m c) (av m c)) i = cO (aq m c) (ak m c) (av m c) (tb t) (tq t) i := by
  obtain ⟨z, r, cc, rfl⟩ : ∃ z r cc, i = ix3 z r cc := ⟨i 0, i 1, i 2, by idx_vars i⟩
  obtain rfl : z = 0 := Subsingleton.elim _ _
  have hb := tb_lt t
  have hq := tq_lt t
  have hr := r.isLt
  show _ = attn (aq m c) (ak m c) (av m c) (ix3 ⟨tb t, by omega⟩ ⟨512 * tq t + r.val, by omega⟩ cc)
  blk_ext [index_3]

theorem covers_3 (i : S4x8192x512.Idx) : ∃ t : Fin cfg0.N, (cfg0.win 3).flush t = true ∧ i ∈ ((cfg0.win 3).blk t).view.set := by
  have h0 : (i 0).val < 4 := (i 0).isLt
  have h1 : (i 1).val < 8192 := (i 1).isLt
  have h2 : (i 2).val < 512 := (i 2).isLt
  obtain ⟨t, ht⟩ : ∃ t : Fin cfg0.N, t.val = 256 * (i 0).val + 16 * ((i 1).val / 512) + 15 :=
    ⟨⟨256 * (i 0).val + 16 * ((i 1).val / 512) + 15, lt_of_lt_of_eq (by omega) N_0.symm⟩, rfl⟩
  refine ⟨t, (flush0_3 t).mpr (by omega), ?_⟩
  mem_blk [index_3]
  simp only [tb, tq]
  omega

end Cert.KernelIdeal.Flash

end
-- ==== Proof.Flash.Cover.lean ====
/- Every cell of a scratch buffer, and of the result's block, is written by one of the eight heads' stores. -/
module

public import proofs.«01_k».proof.Proof.Flash.Heads

@[expose] public section

set_option maxRecDepth 16384

noncomputable section

namespace Cert.KernelIdeal.Flash

open Idealize.ShloMosaic Idealize.ShloMosaic.TcCoe Idealize.ShloMosaic.Tactic
open Cert.KernelIdeal.Gen

variable {F : FTy → Type} [FloatOps F]

theorem pm_cover (P : Fin 8 → Vec F S1x512x1 .f32) (tl : List (View.Piece (Elt F) S8x512x1 .f32)) (y : S8x512x1.Idx) :
    ∃ p ∈ pm P tl, y ∈ p.1.set := by
  have h0 : (y 0).val < 8 := (y 0).isLt
  have h1 : (y 1).val < 512 := (y 1).isLt
  have h2 : (y 2).val < 1 := (y 2).isLt
  have key : ∀ (h : ℕ) (inb), (y 0).val = h → y ∈ (Rect.unit (s := S8x512x1) ![h, 0, 0] ![1, 512, 1] inb).set := fun h inb e =>
    Rect.mem_set_unit.mpr fun a => by fin_cases a <;> simp <;> omega
  simp only [pm, List.mem_cons, exists_eq_or_imp]
  rcases (by omega : (y 0).val = 7 ∨ (y 0).val = 6 ∨ (y 0).val = 5 ∨ (y 0).val = 4 ∨ (y 0).val = 3 ∨ (y 0).val = 2 ∨ (y 0).val = 1 ∨ (y 0).val = 0) with e | e | e | e | e | e | e | e
  · left; exact key _ _ e
  · right; left; exact key _ _ e
  · right; right; left; exact key _ _ e
  · right; right; right; left; exact key _ _ e
  · right; right; right; right; left; exact key _ _ e
  · right; right; right; right; right; left; exact key _ _ e
  · right; right; right; right; right; right; left; exact key _ _ e
  · right; right; right; right; right; right; right; left; exact key _ _ e

theorem pa_cover (P : Fin 8 → Vec F S1x512x64 .f32) (tl : List (View.Piece (Elt F) S8x512x64 .f32)) (y : S8x512x64.Idx) :
    ∃ p ∈ pa P tl, y ∈ p.1.set := by
  have h0 : (y 0).val < 8 := (y 0).isLt
  have h1 : (y 1).val < 512 := (y 1).isLt
  have h2 : (y 2).val < 64 := (y 2).isLt
  have key : ∀ (h : ℕ) (inb), (y 0).val = h → y ∈ (Rect.unit (s := S8x512x64) ![h, 0, 0] ![1, 512, 64] inb).set := fun h inb e =>
    Rect.mem_set_unit.mpr fun a => by fin_cases a <;> simp <;> omega
  simp only [pa, List.mem_cons, exists_eq_or_imp]
  rcases (by omega : (y 0).val = 7 ∨ (y 0).val = 6 ∨ (y 0).val = 5 ∨ (y 0).val = 4 ∨ (y 0).val = 3 ∨ (y 0).val = 2 ∨ (y 0).val = 1 ∨ (y 0).val = 0) with e | e | e | e | e | e | e | e
  · left; exact key _ _ e
  · right; left; exact key _ _ e
  · right; right; left; exact key _ _ e
  · right; right; right; left; exact key _ _ e
  · right; right; right; right; left; exact key _ _ e
  · right; right; right; right; right; left; exact key _ _ e
  · right; right; right; right; right; right; left; exact key _ _ e
  · right; right; right; right; right; right; right; left; exact key _ _ e

theorem po_cover (P : Fin 8 → Vec F S1x512x64 .f32) (y : S1x512x512.Idx) : ∃ p ∈ po P, y ∈ p.1.set := by
  have h0 : (y 0).val < 1 := (y 0).isLt
  have h1 : (y 1).val < 512 := (y 1).isLt
  have h2 : (y 2).val < 512 := (y 2).isLt
  have key : ∀ (n : ℕ) (inb), n ≤ (y 2).val → (y 2).val < n + 64 → y ∈ (Rect.unit (s := S1x512x512) ![0, 0, n] ![1, 512, 64] inb).set := fun n inb e e' =>
    Rect.mem_set_unit.mpr fun a => by fin_cases a <;> simp <;> omega
  simp only [po, List.mem_cons, exists_eq_or_imp]
  rcases (by omega : (y 2).val / 64 = 7 ∨ (y 2).val / 64 = 6 ∨ (y 2).val / 64 = 5 ∨ (y 2).val / 64 = 4 ∨ (y 2).val / 64 = 3 ∨ (y 2).val / 64 = 2 ∨ (y 2).val / 64 = 1 ∨ (y 2).val / 64 = 0) with e | e | e | e | e | e | e | e
  · left; exact key _ _ (by omega) (by omega)
  · right; left; exact key _ _ (by omega) (by omega)
  · right; right; left; exact key _ _ (by omega) (by omega)
  · right; right; right; left; exact key _ _ (by omega) (by omega)
  · right; right; right; right; left; exact key _ _ (by omega) (by omega)
  · right; right; right; right; right; left; exact key _ _ (by omega) (by omega)
  · right; right; right; right; right; right; left; exact key _ _ (by omega) (by omega)
  · right; right; right; right; right; right; right; left; exact key _ _ (by omega) (by omega)

end Cert.KernelIdeal.Flash

end
-- ==== Proof.Flash.RunA.lean ====
/- The attention body, case A. -/
module

public import proofs.«01_k».proof.Proof.Flash.Runs

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in the case of: first key block, on the diagonal. The lists of stored pieces of each buffer (last first) are found by the run. -/
noncomputable def kernelRun0_A (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond0_0 i) (hc1 : ¬cond0_1 i) (hc2 : cond0_2 i)
    (x0 : Vec F S1x512x1024 .bf16) (x1 : Vec F S1x512x1024 .bf16) (x2 : Vec F S1x512x512 .bf16) :
    Σ' (L3 : List (View.Piece (Elt F) S1x512x512 .f32)), Σ' (LS0 : List (View.Piece (Elt F) S8x512x1 .f32)), Σ' (LS1 : List (View.Piece (Elt F) S8x512x1 .f32)), { LS2 : List (View.Piece (Elt F) S8x512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_flash_attn i arg3 harg3 arg4 harg4 arg5 harg5 arg6 harg6 arg7 harg7 arg8 harg8 arg9 harg9) K } := by
  refine ⟨?_, ?_, ?_, ?_, fun E K => ?run⟩
  case run =>
    simp only [cc0_flash_attn_eq_skeleton]; unfold cc0_flash_attn_skel
    simp only [k0_part23_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Flash

end
-- ==== Proof.Flash.ListA.lean ====
/- The stores of case A of the attention body, head by head. -/
module

public import proofs.«01_k».proof.Proof.Flash.Heads
public import proofs.«01_k».proof.Proof.Flash.RunA

@[expose] public section

set_option maxRecDepth 16384

noncomputable section

namespace Cert.KernelIdeal.Flash

open Idealize.ShloMosaic Idealize.ShloMosaic.TcCoe Idealize.ShloMosaic.Tactic
open Cert.KernelIdeal.Gen

variable {F : FTy → Type} [FloatOps F]

section
variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond0_0 i) (hc1 : ¬cond0_1 i) (hc2 : cond0_2 i) (x0 : Vec F S1x512x1024 .bf16) (x1 : Vec F S1x512x1024 .bf16) (x2 : Vec F S1x512x512 .bf16)
open kernelRun0_A in
/-- Case A finds each head's maximum as it was set at the start. -/
theorem A_m : (![sl.v75 c arg7, sl.v116 c i arg3 harg3 arg4 harg4 arg7 x0 x1, sl.v157 c i arg3 harg3 arg4 harg4 arg7 x0 x1, sl.v198 c i arg3 harg3 arg4 harg4 arg7 x0 x1, sl.v239 c i arg3 harg3 arg4 harg4 arg7 x0 x1, sl.v280 c i arg3 harg3 arg4 harg4 arg7 x0 x1, sl.v321 c i arg3 harg3 arg4 harg4 arg7 x0 x1, sl.v362 c i arg3 harg3 arg4 harg4 arg7 x0 x1] : Fin 8 → Vec F S1x512x1 .f32) = fun _ => iniM := by
  funext h
  fin_cases h
  · exact pm_whole rfl
  · iterate 1 refine pm_skip (by decide) ?_
    exact pm_whole rfl
  · iterate 2 refine pm_skip (by decide) ?_
    exact pm_whole rfl
  · iterate 3 refine pm_skip (by decide) ?_
    exact pm_whole rfl
  · iterate 4 refine pm_skip (by decide) ?_
    exact pm_whole rfl
  · iterate 5 refine pm_skip (by decide) ?_
    exact pm_whole rfl
  · iterate 6 refine pm_skip (by decide) ?_
    exact pm_whole rfl
  · iterate 7 refine pm_skip (by decide) ?_
    exact pm_whole rfl
open kernelRun0_A in
/-- Case A finds each head's sum as it was set at the start. -/
theorem A_l : (![sl.v85 c arg8, sl.v126 c i arg3 harg3 arg4 harg4 arg7 arg8 x0 x1, sl.v167 c i arg3 harg3 arg4 harg4 arg7 arg8 x0 x1, sl.v208 c i arg3 harg3 arg4 harg4 arg7 arg8 x0 x1, sl.v249 c i arg3 harg3 arg4 harg4 arg7 arg8 x0 x1, sl.v290 c i arg3 harg3 arg4 harg4 arg7 arg8 x0 x1, sl.v331 c i arg3 harg3 arg4 harg4 arg7 arg8 x0 x1, sl.v372 c i arg3 harg3 arg4 harg4 arg7 arg8 x0 x1] : Fin 8 → Vec F S1x512x1 .f32) = fun _ => iniL := by
  funext h
  fin_cases h
  · exact pm_whole rfl
  · iterate 1 refine pm_skip (by decide) ?_
    exact pm_whole rfl
  · iterate 2 refine pm_skip (by decide) ?_
    exact pm_whole rfl
  · iterate 3 refine pm_skip (by decide) ?_
    exact pm_whole rfl
  · iterate 4 refine pm_skip (by decide) ?_
    exact pm_whole rfl
  · iterate 5 refine pm_skip (by decide) ?_
    exact pm_whole rfl
  · iterate 6 refine pm_skip (by decide) ?_
    exact pm_whole rfl
  · iterate 7 refine pm_skip (by decide) ?_
    exact pm_whole rfl
open kernelRun0_A in
/-- Case A finds each head's weighted sum as it was set at the start. -/
theorem A_a : (![sl.v94 c arg9, sl.v135 c i arg3 harg3 arg4 harg4 arg5 harg5 arg7 arg9 x0 x1 x2, sl.v176 c i arg3 harg3 arg4 harg4 arg5 harg5 arg7 arg9 x0 x1 x2, sl.v217 c i arg3 harg3 arg4 harg4 arg5 harg5 arg7 arg9 x0 x1 x2, sl.v258 c i arg3 harg3 arg4 harg4 arg5 harg5 arg7 arg9 x0 x1 x2, sl.v299 c i arg3 harg3 arg4 harg4 arg5 harg5 arg7 arg9 x0 x1 x2, sl.v340 c i arg3 harg3 arg4 harg4 arg5 harg5 arg7 arg9 x0 x1 x2, sl.v381 c i arg3 harg3 arg4 harg4 arg5 harg5 arg7 arg9 x0 x1 x2] : Fin 8 → Vec F S1x512x64 .f32) = fun _ => iniA := by
  funext h
  fin_cases h
  · exact pa_whole rfl
  · iterate 1 refine pa_skip (by decide) ?_
    exact pa_whole rfl
  · iterate 2 refine pa_skip (by decide) ?_
    exact pa_whole rfl
  · iterate 3 refine pa_skip (by decide) ?_
    exact pa_whole rfl
  · iterate 4 refine pa_skip (by decide) ?_
    exact pa_whole rfl
  · iterate 5 refine pa_skip (by decide) ?_
    exact pa_whole rfl
  · iterate 6 refine pa_skip (by decide) ?_
    exact pa_whole rfl
  · iterate 7 refine pa_skip (by decide) ?_
    exact pa_whole rfl
set_option maxHeartbeats 2000000 in
/-- What case A stores into scratch 0. -/
theorem A_LS0 : (kernelRun0_A c i arg3 harg3 arg4 harg4 arg5 harg5 arg6 harg6 arg7 harg7 arg8 harg8 arg9 harg9 hc0 hc1 hc2 x0 x1 x2).2.1 = pm (fun h => hMs (scD i x0 x1 h) iniM) [⟨Rect.unit ![0, 0, 0] ![8, 512, 1] inb_S8x512x1_S8x512x1_0_0_0, k0_pay1⟩] := by
  refine Eq.trans ?_ (congrArg (fun m : Fin 8 → Vec F S1x512x1 .f32 => pm (fun h => hMs (scD i x0 x1 h) (m h)) _) (A_m c i arg3 harg3 arg4 harg4 arg7 x0 x1))
  simp only [pm, scU, scD, slQ_ld arg3 harg3 x0, slQ_ld arg4 harg4 x1]
  rfl
set_option maxHeartbeats 2000000 in
/-- What case A stores into scratch 1. -/
theorem A_LS1 : (kernelRun0_A c i arg3 harg3 arg4 harg4 arg5 harg5 arg6 harg6 arg7 harg7 arg8 harg8 arg9 harg9 hc0 hc1 hc2 x0 x1 x2).2.2.1 = pm (fun h => hL (scD i x0 x1 h) iniM iniL) [⟨Rect.unit ![0, 0, 0] ![8, 512, 1] inb_S8x512x1_S8x512x1_0_0_0, k0_pay2⟩] := by
  refine Eq.trans ?_ (congrArg₂ (fun m l : Fin 8 → Vec F S1x512x1 .f32 => pm (fun h => hL (scD i x0 x1 h) (m h) (l h)) _) (A_m c i arg3 harg3 arg4 harg4 arg7 x0 x1) (A_l c i arg3 harg3 arg4 harg4 arg7 arg8 x0 x1))
  simp only [pm, scU, scD, slQ_ld arg3 harg3 x0, slQ_ld arg4 harg4 x1]
  rfl
set_option maxHeartbeats 2000000 in
/-- What case A stores into scratch 2. -/
theorem A_LS2 : (kernelRun0_A c i arg3 harg3 arg4 harg4 arg5 harg5 arg6 harg6 arg7 harg7 arg8 harg8 arg9 harg9 hc0 hc1 hc2 x0 x1 x2).2.2.2.1 = pa (fun h => hAcc (scD i x0 x1 h) (slV x2 h) iniM iniA) [⟨Rect.unit ![0, 0, 0] ![8, 512, 64] inb_S8x512x64_S8x512x64_0_0_0, k0_pay3⟩] := by
  refine Eq.trans ?_ (congrArg₂ (fun (m : Fin 8 → Vec F S1x512x1 .f32) (a : Fin 8 → Vec F S1x512x64 .f32) => pa (fun h => hAcc (scD i x0 x1 h) (slV x2 h) (m h) (a h)) _) (A_m c i arg3 harg3 arg4 harg4 arg7 x0 x1) (A_a c i arg3 harg3 arg4 harg4 arg5 harg5 arg7 arg9 x0 x1 x2))
  simp only [pa, scU, scD, slQ_ld arg3 harg3 x0, slQ_ld arg4 harg4 x1, slV_ld arg5 harg5 x2]
  rfl
/-- What case A stores into the output block. -/
theorem A_L3 : (kernelRun0_A c i arg3 harg3 arg4 harg4 arg5 harg5 arg6 harg6 arg7 harg7 arg8 harg8 arg9 harg9 hc0 hc1 hc2 x0 x1 x2).1 = po (fun h => hO (hAcc (scD i x0 x1 h) (slV x2 h) iniM iniA) (hL (scD i x0 x1 h) iniM iniL)) := by
  have e : (kernelRun0_A c i arg3 harg3 arg4 harg4 arg5 harg5 arg6 harg6 arg7 harg7 arg8 harg8 arg9 harg9 hc0 hc1 hc2 x0 x1 x2).1 = po (fun h => hO
      (arg9.view.readCov (kernelRun0_A c i arg3 harg3 arg4 harg4 arg5 harg5 arg6 harg6 arg7 harg7 arg8 harg8 arg9 harg9 hc0 hc1 hc2 x0 x1 x2).2.2.2.1 (Rect.unit ![h.val, 0, 0] ![1, 512, 64] (inbA h)).toLoadRect)
      (arg8.view.readCov (kernelRun0_A c i arg3 harg3 arg4 harg4 arg5 harg5 arg6 harg6 arg7 harg7 arg8 harg8 arg9 harg9 hc0 hc1 hc2 x0 x1 x2).2.2.1 (Rect.unit ![h.val, 0, 0] ![1, 512, 1] (inbM h)).toLoadRect)) := rfl
  refine e.trans (congrArg po (funext fun h => ?_))
  rw [A_LS2, A_LS1, readCov_pa, readCov_pm]
end

end Cert.KernelIdeal.Flash

end
-- ==== Proof.Flash.RunB.lean ====
/- The attention body, case B. -/
module

public import proofs.«01_k».proof.Proof.Flash.RunA

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in the case of: key blocks past the diagonal: nothing is done.  -/
theorem kernelRun0_B (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond0_0 i) (hc1 : ¬cond0_1 i) (hc2 : ¬cond0_2 i)
    (x0 : Vec F S1x512x1024 .bf16) (x1 : Vec F S1x512x1024 .bf16) (x2 : Vec F S1x512x512 .bf16) (xs0 : Vec F S8x512x1 .f32) (xs1 : Vec F S8x512x1 .f32) (xs2 : Vec F S8x512x64 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc0_flash_attn i arg3 harg3 arg4 harg4 arg5 harg5 arg6 harg6 arg7 harg7 arg8 harg8 arg9 harg9) K := by
    intro E K
    simp only [cc0_flash_attn_eq_skeleton]; unfold cc0_flash_attn_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Flash

end
-- ==== Proof.Flash.RunC.lean ====
/- The attention body, case C. -/
module

public import proofs.«01_k».proof.Proof.Flash.RunB

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in the case of: first key block, off the diagonal. The lists of stored pieces of each buffer (last first) are found by the run. -/
noncomputable def kernelRun0_C (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond0_0 i) (hc1 : cond0_1 i) (hc2 : ¬cond0_2 i)
    (x0 : Vec F S1x512x1024 .bf16) (x1 : Vec F S1x512x1024 .bf16) (x2 : Vec F S1x512x512 .bf16) :
    Σ' (LS0 : List (View.Piece (Elt F) S8x512x1 .f32)), Σ' (LS1 : List (View.Piece (Elt F) S8x512x1 .f32)), { LS2 : List (View.Piece (Elt F) S8x512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_flash_attn i arg3 harg3 arg4 harg4 arg5 harg5 arg6 harg6 arg7 harg7 arg8 harg8 arg9 harg9) K } := by
  refine ⟨?_, ?_, ?_, fun E K => ?run⟩
  case run =>
    simp only [cc0_flash_attn_eq_skeleton]; unfold cc0_flash_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    iexists _; iexact HS2

end Cert.KernelIdeal.Flash

end
-- ==== Proof.Flash.ListC.lean ====
/- The stores of case C of the attention body, head by head. -/
module

public import proofs.«01_k».proof.Proof.Flash.Heads
public import proofs.«01_k».proof.Proof.Flash.RunC

@[expose] public section

set_option maxRecDepth 16384

noncomputable section

namespace Cert.KernelIdeal.Flash

open Idealize.ShloMosaic Idealize.ShloMosaic.TcCoe Idealize.ShloMosaic.Tactic
open Cert.KernelIdeal.Gen

variable {F : FTy → Type} [FloatOps F]

section
variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond0_0 i) (hc1 : cond0_1 i) (hc2 : ¬cond0_2 i) (x0 : Vec F S1x512x1024 .bf16) (x1 : Vec F S1x512x1024 .bf16) (x2 : Vec F S1x512x512 .bf16)
open kernelRun0_C in
/-- Case C finds each head's maximum as it was set at the start. -/
theorem C_m : (![sl.v16 c arg7, sl.v55 c arg3 harg3 arg4 harg4 arg7 x0 x1, sl.v94 c arg3 harg3 arg4 harg4 arg7 x0 x1, sl.v133 c arg3 harg3 arg4 harg4 arg7 x0 x1, sl.v172 c arg3 harg3 arg4 harg4 arg7 x0 x1, sl.v211 c arg3 harg3 arg4 harg4 arg7 x0 x1, sl.v250 c arg3 harg3 arg4 harg4 arg7 x0 x1, sl.v289 c arg3 harg3 arg4 harg4 arg7 x0 x1] : Fin 8 → Vec F S1x512x1 .f32) = fun _ => iniM := by
  funext h
  fin_cases h
  · exact pm_whole rfl
  · iterate 1 refine pm_skip (by decide) ?_
    exact pm_whole rfl
  · iterate 2 refine pm_skip (by decide) ?_
    exact pm_whole rfl
  · iterate 3 refine pm_skip (by decide) ?_
    exact pm_whole rfl
  · iterate 4 refine pm_skip (by decide) ?_
    exact pm_whole rfl
  · iterate 5 refine pm_skip (by decide) ?_
    exact pm_whole rfl
  · iterate 6 refine pm_skip (by decide) ?_
    exact pm_whole rfl
  · iterate 7 refine pm_skip (by decide) ?_
    exact pm_whole rfl
open kernelRun0_C in
/-- Case C finds each head's sum as it was set at the start. -/
theorem C_l : (![sl.v26 c arg8, sl.v65 c arg3 harg3 arg4 harg4 arg7 arg8 x0 x1, sl.v104 c arg3 harg3 arg4 harg4 arg7 arg8 x0 x1, sl.v143 c arg3 harg3 arg4 harg4 arg7 arg8 x0 x1, sl.v182 c arg3 harg3 arg4 harg4 arg7 arg8 x0 x1, sl.v221 c arg3 harg3 arg4 harg4 arg7 arg8 x0 x1, sl.v260 c arg3 harg3 arg4 harg4 arg7 arg8 x0 x1, sl.v299 c arg3 harg3 arg4 harg4 arg7 arg8 x0 x1] : Fin 8 → Vec F S1x512x1 .f32) = fun _ => iniL := by
  funext h
  fin_cases h
  · exact pm_whole rfl
  · iterate 1 refine pm_skip (by decide) ?_
    exact pm_whole rfl
  · iterate 2 refine pm_skip (by decide) ?_
    exact pm_whole rfl
  · iterate 3 refine pm_skip (by decide) ?_
    exact pm_whole rfl
  · iterate 4 refine pm_skip (by decide) ?_
    exact pm_whole rfl
  · iterate 5 refine pm_skip (by decide) ?_
    exact pm_whole rfl
  · iterate 6 refine pm_skip (by decide) ?_
    exact pm_whole rfl
  · iterate 7 refine pm_skip (by decide) ?_
    exact pm_whole rfl
open kernelRun0_C in
/-- Case C finds each head's weighted sum as it was set at the start. -/
theorem C_a : (![sl.v35 c arg9, sl.v74 c arg3 harg3 arg4 harg4 arg5 harg5 arg7 arg9 x0 x1 x2, sl.v113 c arg3 harg3 arg4 harg4 arg5 harg5 arg7 arg9 x0 x1 x2, sl.v152 c arg3 harg3 arg4 harg4 arg5 harg5 arg7 arg9 x0 x1 x2, sl.v191 c arg3 harg3 arg4 harg4 arg5 harg5 arg7 arg9 x0 x1 x2, sl.v230 c arg3 harg3 arg4 harg4 arg5 harg5 arg7 arg9 x0 x1 x2, sl.v269 c arg3 harg3 arg4 harg4 arg5 harg5 arg7 arg9 x0 x1 x2, sl.v308 c arg3 harg3 arg4 harg4 arg5 harg5 arg7 arg9 x0 x1 x2] : Fin 8 → Vec F S1x512x64 .f32) = fun _ => iniA := by
  funext h
  fin_cases h
  · exact pa_whole rfl
  · iterate 1 refine pa_skip (by decide) ?_
    exact pa_whole rfl
  · iterate 2 refine pa_skip (by decide) ?_
    exact pa_whole rfl
  · iterate 3 refine pa_skip (by decide) ?_
    exact pa_whole rfl
  · iterate 4 refine pa_skip (by decide) ?_
    exact pa_whole rfl
  · iterate 5 refine pa_skip (by decide) ?_
    exact pa_whole rfl
  · iterate 6 refine pa_skip (by decide) ?_
    exact pa_whole rfl
  · iterate 7 refine pa_skip (by decide) ?_
    exact pa_whole rfl
set_option maxHeartbeats 2000000 in
/-- What case C stores into scratch 0. -/
theorem C_LS0 : (kernelRun0_C c i arg3 harg3 arg4 harg4 arg5 harg5 arg6 harg6 arg7 harg7 arg8 harg8 arg9 harg9 hc0 hc1 hc2 x0 x1 x2).1 = pm (fun h => hMs (scU x0 x1 h) iniM) [⟨Rect.unit ![0, 0, 0] ![8, 512, 1] inb_S8x512x1_S8x512x1_0_0_0, k0_pay1⟩] := by
  refine Eq.trans ?_ (congrArg (fun m : Fin 8 → Vec F S1x512x1 .f32 => pm (fun h => hMs (scU x0 x1 h) (m h)) _) (C_m c arg3 harg3 arg4 harg4 arg7 x0 x1))
  simp only [pm, scU, scD, slQ_ld arg3 harg3 x0, slQ_ld arg4 harg4 x1]
  rfl
set_option maxHeartbeats 2000000 in
/-- What case C stores into scratch 1. -/
theorem C_LS1 : (kernelRun0_C c i arg3 harg3 arg4 harg4 arg5 harg5 arg6 harg6 arg7 harg7 arg8 harg8 arg9 harg9 hc0 hc1 hc2 x0 x1 x2).2.1 = pm (fun h => hL (scU x0 x1 h) iniM iniL) [⟨Rect.unit ![0, 0, 0] ![8, 512, 1] inb_S8x512x1_S8x512x1_0_0_0, k0_pay2⟩] := by
  refine Eq.trans ?_ (congrArg₂ (fun m l : Fin 8 → Vec F S1x512x1 .f32 => pm (fun h => hL (scU x0 x1 h) (m h) (l h)) _) (C_m c arg3 harg3 arg4 harg4 arg7 x0 x1) (C_l c arg3 harg3 arg4 harg4 arg7 arg8 x0 x1))
  simp only [pm, scU, scD, slQ_ld arg3 harg3 x0, slQ_ld arg4 harg4 x1]
  rfl
set_option maxHeartbeats 2000000 in
/-- What case C stores into scratch 2. -/
theorem C_LS2 : (kernelRun0_C c i arg3 harg3 arg4 harg4 arg5 harg5 arg6 harg6 arg7 harg7 arg8 harg8 arg9 harg9 hc0 hc1 hc2 x0 x1 x2).2.2.1 = pa (fun h => hAcc (scU x0 x1 h) (slV x2 h) iniM iniA) [⟨Rect.unit ![0, 0, 0] ![8, 512, 64] inb_S8x512x64_S8x512x64_0_0_0, k0_pay3⟩] := by
  refine Eq.trans ?_ (congrArg₂ (fun (m : Fin 8 → Vec F S1x512x1 .f32) (a : Fin 8 → Vec F S1x512x64 .f32) => pa (fun h => hAcc (scU x0 x1 h) (slV x2 h) (m h) (a h)) _) (C_m c arg3 harg3 arg4 harg4 arg7 x0 x1) (C_a c arg3 harg3 arg4 harg4 arg5 harg5 arg7 arg9 x0 x1 x2))
  simp only [pa, scU, scD, slQ_ld arg3 harg3 x0, slQ_ld arg4 harg4 x1, slV_ld arg5 harg5 x2]
  rfl
end

end Cert.KernelIdeal.Flash

end
-- ==== Proof.Flash.RunD.lean ====
/- The attention body, case D. -/
module

public import proofs.«01_k».proof.Proof.Flash.RunC

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- The body run in the case of: a later key block on the diagonal. The lists of stored pieces of each buffer (last first) are found by the run. -/
noncomputable def kernelRun0_D (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond0_0 i) (hc1 : ¬cond0_1 i) (hc2 : cond0_2 i)
    (x0 : Vec F S1x512x1024 .bf16) (x1 : Vec F S1x512x1024 .bf16) (x2 : Vec F S1x512x512 .bf16) (xs0 : Vec F S8x512x1 .f32) (xs1 : Vec F S8x512x1 .f32) (xs2 : Vec F S8x512x64 .f32) :
    Σ' (L3 : List (View.Piece (Elt F) S1x512x512 .f32)), Σ' (LS0 : List (View.Piece (Elt F) S8x512x1 .f32)), Σ' (LS1 : List (View.Piece (Elt F) S8x512x1 .f32)), { LS2 : List (View.Piece (Elt F) S8x512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_flash_attn i arg3 harg3 arg4 harg4 arg5 harg5 arg6 harg6 arg7 harg7 arg8 harg8 arg9 harg9) K } := by
  refine ⟨?_, ?_, ?_, ?_, fun E K => ?run⟩
  case run =>
    simp only [cc0_flash_attn_eq_skeleton]; unfold cc0_flash_attn_skel
    simp only [k0_part23_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Flash

end
-- ==== Proof.Flash.ListD.lean ====
/- The stores of case D of the attention body, head by head. -/
module

public import proofs.«01_k».proof.Proof.Flash.Heads
public import proofs.«01_k».proof.Proof.Flash.RunD

@[expose] public section

set_option maxRecDepth 16384

noncomputable section

namespace Cert.KernelIdeal.Flash

open Idealize.ShloMosaic Idealize.ShloMosaic.TcCoe Idealize.ShloMosaic.Tactic
open Cert.KernelIdeal.Gen

variable {F : FTy → Type} [FloatOps F]

section
variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond0_0 i) (hc1 : ¬cond0_1 i) (hc2 : cond0_2 i) (x0 : Vec F S1x512x1024 .bf16) (x1 : Vec F S1x512x1024 .bf16) (x2 : Vec F S1x512x512 .bf16) (xs0 : Vec F S8x512x1 .f32) (xs1 : Vec F S8x512x1 .f32) (xs2 : Vec F S8x512x64 .f32)
set_option maxHeartbeats 2000000 in
/-- What case D stores into scratch 0. -/
theorem D_LS0 : (kernelRun0_D c i arg3 harg3 arg4 harg4 arg5 harg5 arg6 harg6 arg7 harg7 arg8 harg8 arg9 harg9 hc0 hc1 hc2 x0 x1 x2 xs0 xs1 xs2).2.1 = pm (fun h => hMs (scD i x0 x1 h) (slM xs0 h)) [] := by
  simp only [pm, scU, scD, slQ_ld arg3 harg3 x0, slQ_ld arg4 harg4 x1, slM_ld arg7 harg7 xs0]
  rfl
set_option maxHeartbeats 2000000 in
/-- What case D stores into scratch 1. -/
theorem D_LS1 : (kernelRun0_D c i arg3 harg3 arg4 harg4 arg5 harg5 arg6 harg6 arg7 harg7 arg8 harg8 arg9 harg9 hc0 hc1 hc2 x0 x1 x2 xs0 xs1 xs2).2.2.1 = pm (fun h => hL (scD i x0 x1 h) (slM xs0 h) (slM xs1 h)) [] := by
  simp only [pm, scU, scD, slQ_ld arg3 harg3 x0, slQ_ld arg4 harg4 x1, slM_ld arg7 harg7 xs0, slM_ld arg8 harg8 xs1]
  rfl
set_option maxHeartbeats 2000000 in
/-- What case D stores into scratch 2. -/
theorem D_LS2 : (kernelRun0_D c i arg3 harg3 arg4 harg4 arg5 harg5 arg6 harg6 arg7 harg7 arg8 harg8 arg9 harg9 hc0 hc1 hc2 x0 x1 x2 xs0 xs1 xs2).2.2.2.1 = pa (fun h => hAcc (scD i x0 x1 h) (slV x2 h) (slM xs0 h) (slA xs2 h)) [] := by
  simp only [pa, scU, scD, slQ_ld arg3 harg3 x0, slQ_ld arg4 harg4 x1, slV_ld arg5 harg5 x2, slM_ld arg7 harg7 xs0, slA_ld arg9 harg9 xs2]
  rfl
/-- What case D stores into the output block. -/
theorem D_L3 : (kernelRun0_D c i arg3 harg3 arg4 harg4 arg5 harg5 arg6 harg6 arg7 harg7 arg8 harg8 arg9 harg9 hc0 hc1 hc2 x0 x1 x2 xs0 xs1 xs2).1 = po (fun h => hO (hAcc (scD i x0 x1 h) (slV x2 h) (slM xs0 h) (slA xs2 h)) (hL (scD i x0 x1 h) (slM xs0 h) (slM xs1 h))) := by
  have e : (kernelRun0_D c i arg3 harg3 arg4 harg4 arg5 harg5 arg6 harg6 arg7 harg7 arg8 harg8 arg9 harg9 hc0 hc1 hc2 x0 x1 x2 xs0 xs1 xs2).1 = po (fun h => hO
      (arg9.view.readCov (kernelRun0_D c i arg3 harg3 arg4 harg4 arg5 harg5 arg6 harg6 arg7 harg7 arg8 harg8 arg9 harg9 hc0 hc1 hc2 x0 x1 x2 xs0 xs1 xs2).2.2.2.1 (Rect.unit ![h.val, 0, 0] ![1, 512, 64] (inbA h)).toLoadRect)
      (arg8.view.readCov (kernelRun0_D c i arg3 harg3 arg4 harg4 arg5 harg5 arg6 harg6 arg7 harg7 arg8 harg8 arg9 harg9 hc0 hc1 hc2 x0 x1 x2 xs0 xs1 xs2).2.2.1 (Rect.unit ![h.val, 0, 0] ![1, 512, 1] (inbM h)).toLoadRect)) := rfl
  refine e.trans (congrArg po (funext fun h => ?_))
  rw [D_LS2, D_LS1, readCov_pa, readCov_pm]
end

end Cert.KernelIdeal.Flash

end
-- ==== Proof.Flash.RunE.lean ====
/- The attention body, case E. -/
module

public import proofs.«01_k».proof.Proof.Flash.RunD

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- The body run in the case of: a later key block before the diagonal. The lists of stored pieces of each buffer (last first) are found by the run. -/
noncomputable def kernelRun0_E (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond0_0 i) (hc1 : cond0_1 i) (hc2 : ¬cond0_2 i)
    (x0 : Vec F S1x512x1024 .bf16) (x1 : Vec F S1x512x1024 .bf16) (x2 : Vec F S1x512x512 .bf16) (xs0 : Vec F S8x512x1 .f32) (xs1 : Vec F S8x512x1 .f32) (xs2 : Vec F S8x512x64 .f32) :
    Σ' (LS0 : List (View.Piece (Elt F) S8x512x1 .f32)), Σ' (LS1 : List (View.Piece (Elt F) S8x512x1 .f32)), { LS2 : List (View.Piece (Elt F) S8x512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_flash_attn i arg3 harg3 arg4 harg4 arg5 harg5 arg6 harg6 arg7 harg7 arg8 harg8 arg9 harg9) K } := by
  refine ⟨?_, ?_, ?_, fun E K => ?run⟩
  case run =>
    simp only [cc0_flash_attn_eq_skeleton]; unfold cc0_flash_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    iexists _; iexact HS2

end Cert.KernelIdeal.Flash

end
-- ==== Proof.Flash.ListE.lean ====
/- The stores of case E of the attention body, head by head. -/
module

public import proofs.«01_k».proof.Proof.Flash.Heads
public import proofs.«01_k».proof.Proof.Flash.RunE

@[expose] public section

set_option maxRecDepth 16384

noncomputable section

namespace Cert.KernelIdeal.Flash

open Idealize.ShloMosaic Idealize.ShloMosaic.TcCoe Idealize.ShloMosaic.Tactic
open Cert.KernelIdeal.Gen

variable {F : FTy → Type} [FloatOps F]

section
variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond0_0 i) (hc1 : cond0_1 i) (hc2 : ¬cond0_2 i) (x0 : Vec F S1x512x1024 .bf16) (x1 : Vec F S1x512x1024 .bf16) (x2 : Vec F S1x512x512 .bf16) (xs0 : Vec F S8x512x1 .f32) (xs1 : Vec F S8x512x1 .f32) (xs2 : Vec F S8x512x64 .f32)
set_option maxHeartbeats 2000000 in
/-- What case E stores into scratch 0. -/
theorem E_LS0 : (kernelRun0_E c i arg3 harg3 arg4 harg4 arg5 harg5 arg6 harg6 arg7 harg7 arg8 harg8 arg9 harg9 hc0 hc1 hc2 x0 x1 x2 xs0 xs1 xs2).1 = pm (fun h => hMs (scU x0 x1 h) (slM xs0 h)) [] := by
  simp only [pm, scU, scD, slQ_ld arg3 harg3 x0, slQ_ld arg4 harg4 x1, slM_ld arg7 harg7 xs0]
  rfl
set_option maxHeartbeats 2000000 in
/-- What case E stores into scratch 1. -/
theorem E_LS1 : (kernelRun0_E c i arg3 harg3 arg4 harg4 arg5 harg5 arg6 harg6 arg7 harg7 arg8 harg8 arg9 harg9 hc0 hc1 hc2 x0 x1 x2 xs0 xs1 xs2).2.1 = pm (fun h => hL (scU x0 x1 h) (slM xs0 h) (slM xs1 h)) [] := by
  simp only [pm, scU, scD, slQ_ld arg3 harg3 x0, slQ_ld arg4 harg4 x1, slM_ld arg7 harg7 xs0, slM_ld arg8 harg8 xs1]
  rfl
set_option maxHeartbeats 2000000 in
/-- What case E stores into scratch 2. -/
theorem E_LS2 : (kernelRun0_E c i arg3 harg3 arg4 harg4 arg5 harg5 arg6 harg6 arg7 harg7 arg8 harg8 arg9 harg9 hc0 hc1 hc2 x0 x1 x2 xs0 xs1 xs2).2.2.1 = pa (fun h => hAcc (scU x0 x1 h) (slV x2 h) (slM xs0 h) (slA xs2 h)) [] := by
  simp only [pa, scU, scD, slQ_ld arg3 harg3 x0, slQ_ld arg4 harg4 x1, slV_ld arg5 harg5 x2, slM_ld arg7 harg7 xs0, slA_ld arg9 harg9 xs2]
  rfl
end

end Cert.KernelIdeal.Flash

end
-- ==== Proof.Flash.Value.lean ====
/- The run of the idealized kernel with its values: what the scratch buffers hold after every grid point, what the body
   leaves in the result's block, and the whole result at the end. -/
module

public import proofs.«01_k».proof.Proof.Flash.Blocks
public import proofs.«01_k».proof.Proof.Flash.Cover
public import proofs.«01_k».proof.Proof.Flash.ListA
public import proofs.«01_k».proof.Proof.Flash.ListC
public import proofs.«01_k».proof.Proof.Flash.ListD
public import proofs.«01_k».proof.Proof.Flash.ListE
public import proofs.«01_k».proof.Proof.Flash.RunB
public import Idealize.ShloMosaic.Lib.Claim

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Soft

local notation "𝕄" => MT nD τ sig Unit (Elt Ideal) ℕ (UR sig nD τ) ℕ

variable (m : (ℓ : Loc nD τ sig) → Buf (Elt Ideal) ℓ) (ρ : Dev nD → PrngReg)

/-! ## What is held between the grid points -/

/-- How many keys point `n` and those before it have been through. -/
abbrev keys (n : ℕ) : ℕ := 512 * min (n % 16) (n / 16 % 16) + 512
/-- The running maxima, sums and weighted sums after point `n`. -/
def sM (c : Dev nD) (n : ℕ) : Vec Ideal S8x512x1 .f32 := cM (aq m c) (ak m c) (n / 256) (n / 16 % 16) (keys n)
def sL (c : Dev nD) (n : ℕ) : Vec Ideal S8x512x1 .f32 := cL (aq m c) (ak m c) (n / 256) (n / 16 % 16) (keys n)
def sA (c : Dev nD) (n : ℕ) : Vec Ideal S8x512x64 .f32 := cA (aq m c) (ak m c) (av m c) (n / 256) (n / 16 % 16) (keys n)

theorem sM_at (c : Dev nD) (t : Fin cfg0.N) {n : ℕ} (e : keys t.val = n) : sM m c t.val = cM (aq m c) (ak m c) (tb t) (tq t) n := by
  unfold sM; rw [e]
theorem sL_at (c : Dev nD) (t : Fin cfg0.N) {n : ℕ} (e : keys t.val = n) : sL m c t.val = cL (aq m c) (ak m c) (tb t) (tq t) n := by
  unfold sL; rw [e]
theorem sA_at (c : Dev nD) (t : Fin cfg0.N) {n : ℕ} (e : keys t.val = n) : sA m c t.val = cA (aq m c) (ak m c) (av m c) (tb t) (tq t) n := by
  unfold sA; rw [e]

theorem prev_q {t : ℕ} (h : ¬t % 16 = 0) : (t - 1) / 16 % 16 = t / 16 % 16 := by
  rw [show (t - 1) / 16 = t / 16 by omega]
theorem prev_b {t : ℕ} (h : ¬t % 16 = 0) : (t - 1) / 256 = t / 256 := by
  rw [show (256 : ℕ) = 16 * 16 from rfl, ← Nat.div_div_eq_div_mul, ← Nat.div_div_eq_div_mul, show (t - 1) / 16 = t / 16 by omega]
/-- The point before one that is not past the diagonal has been through the keys before this one's. -/
theorem prev_keys {t : ℕ} (h : ¬t % 16 = 0) (h' : t % 16 ≤ t / 16 % 16) : keys (t - 1) = 512 * (t % 16) := by
  show 512 * min ((t - 1) % 16) ((t - 1) / 16 % 16) + 512 = _
  rw [prev_q h]; omega
/-- Past the diagonal no keys are added. -/
theorem prev_keys_past {t : ℕ} (h : ¬t % 16 = 0) (h' : t / 16 % 16 < t % 16) : keys t = keys (t - 1) := by
  show 512 * min (t % 16) (t / 16 % 16) + 512 = 512 * min ((t - 1) % 16) ((t - 1) / 16 % 16) + 512
  rw [prev_q h]; omega

/-- What is held of the scratch buffers after point `n`. -/
def held (c : Dev nD) (n : ℕ) : sProp 𝕄 :=
  iprop(iprop(owns (c : Thread nD τ) scM0_0 fullShare (sM m c n) ∗ owns (c : Thread nD τ) scM0_1 fullShare (sL m c n) ∗ owns (c : Thread nD τ) scM0_2 fullShare (sA m c n)) ∗ (∃ r, prngReg c r))

/-- What is held before point `n`: at the first, the buffers at anything. -/
def inv (c : Dev nD) : ℕ → sProp 𝕄
  | 0 => Pipeline.ΦA spec0 c
  | n + 1 => held m c n

theorem inv_pos (c : Dev nD) (n : ℕ) (h : n ≠ 0) : inv m c n = held m c (n - 1) := by
  cases n with
  | zero => exact absurd rfl h
  | succ n => rfl

/-- Whatever is held before a point, the buffers are held at something. -/
theorem inv_any (c : Dev nD) (n : ℕ) : inv m c n ⊢ (Pipeline.ΦA spec0 c : sProp 𝕄) := by
  cases n with
  | zero => exact .rfl
  | succ n =>
    rw [PhiA0_eq]
    show held m c n ⊢ _
    unfold held
    iintro ⟨⟨HS0, HS1, HS2⟩, Hg⟩
    isplitl [HS0 HS1 HS2]
    · isplitl [HS0]
      · iexists _; iexact HS0
      isplitl [HS1]
      · iexists _; iexact HS1
      iexists _; iexact HS2
    iexact Hg

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => cO (aq m c) (ak m c) (av m c) (tb t) (tq t)
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = cO (aq m c) (ak m c) (av m c) (tb t) (tq t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The result's block is stored at the diagonal points only. -/
theorem idle_3 (t : Fin cfg0.N) (h : tq t ≠ tk t) : cfg0.idle 3 (cfg0.grid.coords t) = true := by
  show (!(k0_cond3 (grid0.coords t) == 1#1)) = true
  have : ¬ k0_cond3 (grid0.coords t) = 1#1 := fun e => h ((hcond0_2 t).mp e)
  simp [this]
theorem live_3 (t : Fin cfg0.N) (h : tq t = tk t) : cfg0.idle 3 (cfg0.grid.coords t) = false := by
  show (!(k0_cond3 (grid0.coords t) == 1#1)) = false
  have : k0_cond3 (grid0.coords t) = 1#1 := (hcond0_2 t).mpr h
  simp [this]
theorem flush_3 (t : Fin cfg0.N) (h : t.val % 16 ≠ 15) : (cfg0.win 3).flush t = false :=
  Bool.eq_false_iff.mpr fun e => h ((flush0_3 t).mp e)

/-- After the diagonal the block holds the result until it is written back. -/
theorem before_3 (c : Dev nD) (n : ℕ) : ∀ t : Fin cfg0.N, t.val = n → tq t < tk t → ∀ d,
    (dats m 0 c).before 3 t d = cO (aq m c) (ak m c) (av m c) (tb t) (tq t) := by
  induction n with
  | zero => intro t ht h d; exfalso; simp only [tq, tk] at h; omega
  | succ n ih =>
    intro t ht h d
    have hn := point_lt t
    have h' : t.val / 16 % 16 < t.val % 16 := h
    obtain ⟨u, hu⟩ : ∃ u : Fin cfg0.N, u = ⟨t.val - 1, Nat.lt_of_le_of_lt (Nat.sub_le _ _) t.isLt⟩ := ⟨_, rfl⟩
    have hv : u.val = n := by rw [hu]; show t.val - 1 = n; omega
    have eb : tb u = tb t := by simp only [tb]; omega
    have eq : tq u = tq t := by simp only [tq]; omega
    rw [Dat.before_of_pos _ _ _ (by omega) rfl, ← hu, flush_3 u (by omega), if_neg Bool.false_ne_true]
    unfold Dat.left
    by_cases hk : tq u = tk u
    · rw [live_3 u hk]
      show (dats m 0 c).after 3 u = _
      rw [after_3, eb, eq]
    · rw [idle_3 u hk]
      refine (ih u hv ?_ d).trans ?_
      · simp only [tq, tk] at hk ⊢; omega
      · rw [eb, eq]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) : (dats m 0 c).leavesExact 0 t = owns (c : Thread nD τ) (ms0_0 t) fullShare (iblk m c 0 t) := by
  unfold Dat.leavesExact; rw [liveAt0_0 t, ← after_0]
theorem leaves_1 (c : Dev nD) (t : Fin cfg0.N) : (dats m 0 c).leavesExact 1 t = owns (c : Thread nD τ) (ms0_1 t) fullShare (iblk m c 1 t) := by
  unfold Dat.leavesExact; rw [liveAt0_1 t, ← after_1]
theorem leaves_2 (c : Dev nD) (t : Fin cfg0.N) : (dats m 0 c).leavesExact 2 t = owns (c : Thread nD τ) (ms0_2 t) fullShare (iblk m c 2 t) := by
  unfold Dat.leavesExact; rw [liveAt0_2 t, ← after_2]
theorem leaves_3_live (c : Dev nD) (t : Fin cfg0.N) (h : tq t = tk t) :
    (dats m 0 c).leavesExact 3 t = owns (c : Thread nD τ) (ms0_3 t) fullShare (cO (aq m c) (ak m c) (av m c) (tb t) (tq t)) := by
  unfold Dat.leavesExact; rw [live_3 t h, ← after_3]
theorem leaves_3_flush (c : Dev nD) (t : Fin cfg0.N) (h : tq t ≠ tk t) (hf : t.val % 16 = 15) :
    (dats m 0 c).leavesExact 3 t = owns (c : Thread nD τ) (ms0_3 t) fullShare (cO (aq m c) (ak m c) (av m c) (tb t) (tq t)) := by
  unfold Dat.leavesExact; rw [idle_3 t h, (flush0_3 t).mpr hf, ← after_3]
theorem leaves_3_idle (c : Dev nD) (t : Fin cfg0.N) (h : tq t ≠ tk t) (hf : t.val % 16 ≠ 15) :
    (dats m 0 c).leavesExact 3 t = iprop(∃ d, owns (c : Thread nD τ) (ms0_3 t) fullShare ((dats m 0 c).before 3 t d)) :=
  Dat.leavesExact_idle _ _ _ (idle_3 t h) (flush_3 t hf)

theorem phi_at (c : Dev nD) (t : Fin cfg0.N) : (dats m 0 c).Φ t.castSucc = inv m c t.val := by dsimp only [dats]; rfl
theorem phi_next (c : Dev nD) (t : Fin cfg0.N) : (dats m 0 c).Φ t.succ = held m c t.val := by dsimp only [dats]; rfl

section
variable (c : Dev nD) (t : Fin cfg0.N) (h0 : t.val % 16 = 0) (h1 : ¬t.val % 16 + 1 ≤ t.val / 16 % 16) (h2 : t.val / 16 % 16 = t.val % 16)
theorem A_M (f) : VS0_0.read (Elt Ideal) (VS0_0.writes (Elt Ideal) f (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) ((hcond0_2 t).mpr h2) (iblk m c 0 t) (iblk m c 1 t) (iblk m c 2 t)).2.1) = sM m c t.val := by
  have hn := point_lt t
  have hsc : IsSc (aq m c) (ak m c) (tb t) (tq t) (512 * tk t) (scD (grid0.coords t) (iblk m c 0 t) (iblk m c 1 t)) := scD_isSc (coord_q t) ((coord_k t).trans h2.symm |>.trans h2) (row_0 m c t) (row_1 m c t (le_of_eq h2.symm))
  have e0 : 512 * tk t = 0 := by simp only [tk]; omega
  have ek : keys t.val = 512 * tk t + 512 := by simp only [keys, tk]; omega
  rw [A_LS0]
  refine (View.read_writes_eq_canon VS0_0 f _ (pm_cover _ _)).trans ?_
  rw [sM_at m c t ek]
  rw [e0] at hsc ⊢
  have hcan := fun tl => canon_M hsc tl
  simp only [← ini_M (aq m c) (ak m c) (tb t) (tq t)] at hcan
  exact hcan _
theorem A_L (f) : VS0_1.read (Elt Ideal) (VS0_1.writes (Elt Ideal) f (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) ((hcond0_2 t).mpr h2) (iblk m c 0 t) (iblk m c 1 t) (iblk m c 2 t)).2.2.1) = sL m c t.val := by
  have hn := point_lt t
  have hsc : IsSc (aq m c) (ak m c) (tb t) (tq t) (512 * tk t) (scD (grid0.coords t) (iblk m c 0 t) (iblk m c 1 t)) := scD_isSc (coord_q t) ((coord_k t).trans h2.symm |>.trans h2) (row_0 m c t) (row_1 m c t (le_of_eq h2.symm))
  have e0 : 512 * tk t = 0 := by simp only [tk]; omega
  have ek : keys t.val = 512 * tk t + 512 := by simp only [keys, tk]; omega
  rw [A_LS1]
  refine (View.read_writes_eq_canon VS0_1 f _ (pm_cover _ _)).trans ?_
  rw [sL_at m c t ek]
  rw [e0] at hsc ⊢
  have hcan := fun tl => canon_L hsc tl
  simp only [← ini_M (aq m c) (ak m c) (tb t) (tq t), ← ini_L (aq m c) (ak m c) (tb t) (tq t)] at hcan
  exact hcan _
theorem A_A (f) : VS0_2.read (Elt Ideal) (VS0_2.writes (Elt Ideal) f (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) ((hcond0_2 t).mpr h2) (iblk m c 0 t) (iblk m c 1 t) (iblk m c 2 t)).2.2.2.1) = sA m c t.val := by
  have hn := point_lt t
  have hsc : IsSc (aq m c) (ak m c) (tb t) (tq t) (512 * tk t) (scD (grid0.coords t) (iblk m c 0 t) (iblk m c 1 t)) := scD_isSc (coord_q t) ((coord_k t).trans h2.symm |>.trans h2) (row_0 m c t) (row_1 m c t (le_of_eq h2.symm))
  have e0 : 512 * tk t = 0 := by simp only [tk]; omega
  have ek : keys t.val = 512 * tk t + 512 := by simp only [keys, tk]; omega
  rw [A_LS2]
  refine (View.read_writes_eq_canon VS0_2 f _ (pa_cover _ _)).trans ?_
  rw [sA_at m c t ek]
  rw [e0] at hsc ⊢
  have hcan := fun tl => canon_A hsc (e0 ▸ val_2 m c t (by simp only [tq, tk]; omega)) tl
  simp only [← ini_M (aq m c) (ak m c) (tb t) (tq t), ← ini_A (aq m c) (ak m c) (av m c) (tb t) (tq t)] at hcan
  exact hcan _
theorem A_O (f) : (ms0_3 t).view.read (Elt Ideal) ((ms0_3 t).view.writes (Elt Ideal) f (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) ((hcond0_2 t).mpr h2) (iblk m c 0 t) (iblk m c 1 t) (iblk m c 2 t)).1) = cO (aq m c) (ak m c) (av m c) (tb t) (tq t) := by
  have hn := point_lt t
  have hsc : IsSc (aq m c) (ak m c) (tb t) (tq t) (512 * tk t) (scD (grid0.coords t) (iblk m c 0 t) (iblk m c 1 t)) := scD_isSc (coord_q t) ((coord_k t).trans h2.symm |>.trans h2) (row_0 m c t) (row_1 m c t (le_of_eq h2.symm))
  have e0 : 512 * tk t = 0 := by simp only [tk]; omega
  have hn' : 512 * tk t + 512 = 512 * (tq t + 1) := by simp only [tq, tk]; omega
  rw [A_L3]
  refine (View.read_writes_eq_canon (ms0_3 t).view f _ (po_cover _)).trans ?_
  rw [e0] at hsc hn'
  refine Eq.trans ?_ (canon_O hsc (e0 ▸ val_2 m c t (by simp only [tq, tk]; omega)) hn')
  refine congrArg (fun P => View.canon (po P)) (funext fun h => ?_)
  rw [← ini_M (aq m c) (ak m c) (tb t) (tq t) h, ← ini_L (aq m c) (ak m c) (tb t) (tq t) h, ← ini_A (aq m c) (ak m c) (av m c) (tb t) (tq t) h]
end

set_option maxHeartbeats 4000000 in
theorem body_A (c : Dev nD) (t : Fin cfg0.N) (h0 : t.val % 16 = 0) (h1 : ¬t.val % 16 + 1 ≤ t.val / 16 % 16) (h2 : t.val / 16 % 16 = t.val % 16) :
    bodyPre m c t ⊢ wp frame (wpE (defs₀ (F := Ideal)) Variants.none c none) Set.univ (bodyAt0 t) (fun _ => bodyPost m c t) := by
  have hn := point_lt t
  unfold bodyPre bodyPost bodyAt0
  simp only [before_0, before_1, before_2]
  rw [show (dats m 0 c).owesAt () t.succ = (dats m 0 c).owesAt () t.castSucc from rfl, phi_at, phi_next, leaves_0, leaves_1, leaves_2]
  refine (sep_mono (inv_any m c _) .rfl).trans ?_
  rw [PhiA0_eq]
  rw [leaves_3_live m c t h2]
  unfold held
  iintro ⟨⟨⟨⟨%b0, HS0⟩, ⟨%b1, HS1⟩, ⟨%b2, HS2⟩⟩, Hg⟩, Ho, ⟨%d0, H0⟩, ⟨%d1, H1⟩, ⟨%d2, H2⟩, ⟨%d3, H3⟩⟩
  iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) ((hcond0_2 t).mpr h2) (iblk m c 0 t) (iblk m c 1 t) (iblk m c 2 t)).2.2.2.2 Set.univ _)
  isplitl [H0]; · iexact H0
  isplitl [H1]; · iexact H1
  isplitl [H2]; · iexact H2
  isplitl [H3]; · iexists _; iexact H3
  isplitl [HS0]; · iexists _; iexact HS0
  isplitl [HS1]; · iexists _; iexact HS1
  isplitl [HS2]; · iexists _; iexact HS2
  iintro ⟨H0, H1, H2, ⟨%e3, H3⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact A_M m c t h0 h1 h2 _
      isplitl [HS1]
      · unfold owns; iexists _; isplitr
        swap; · iexact HS1
        ipureintro; exact A_L m c t h0 h1 h2 _
      unfold owns; iexists _; isplitr
      swap; · iexact HS2
      ipureintro; exact A_A m c t h0 h1 h2 _
    iexact Hg
  isplitl [Ho]; · iexact Ho
  isplitl [H0]; · iexact H0
  isplitl [H1]; · iexact H1
  isplitl [H2]; · iexact H2
  unfold owns; iexists _; isplitr
  swap; · iexact H3
  ipureintro; exact A_O m c t h0 h1 h2 _

set_option maxHeartbeats 4000000 in
theorem body_B (c : Dev nD) (t : Fin cfg0.N) (h0 : ¬t.val % 16 = 0) (h1 : ¬t.val % 16 + 1 ≤ t.val / 16 % 16) (h2 : ¬t.val / 16 % 16 = t.val % 16) :
    bodyPre m c t ⊢ wp frame (wpE (defs₀ (F := Ideal)) Variants.none c none) Set.univ (bodyAt0 t) (fun _ => bodyPost m c t) := by
  have hn := point_lt t
  unfold bodyPre bodyPost bodyAt0
  simp only [before_0, before_1, before_2]
  rw [show (dats m 0 c).owesAt () t.succ = (dats m 0 c).owesAt () t.castSucc from rfl, phi_at, phi_next, leaves_0, leaves_1, leaves_2]
  rw [inv_pos m c t.val (by omega)]
  unfold held
  rw [show sM m c t.val = sM m c (t.val - 1) from by unfold sM; rw [prev_b h0, prev_q h0, prev_keys_past h0 (by omega)],
    show sL m c t.val = sL m c (t.val - 1) from by unfold sL; rw [prev_b h0, prev_q h0, prev_keys_past h0 (by omega)],
    show sA m c t.val = sA m c (t.val - 1) from by unfold sA; rw [prev_b h0, prev_q h0, prev_keys_past h0 (by omega)]]
  iintro ⟨⟨⟨HS0, HS1, HS2⟩, Hg⟩, Ho, ⟨%d0, H0⟩, ⟨%d1, H1⟩, ⟨%d2, H2⟩, ⟨%d3, H3⟩⟩
  iapply (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) _ _ _ Set.univ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  by_cases hf : t.val % 16 = 15
  · rw [leaves_3_flush m c t h2 hf, before_3 m c t.val t rfl (by simp only [tq, tk]; omega) d3]
    iexact H3
  · rw [leaves_3_idle m c t h2 hf]
    iexists _; iexact H3

section
variable (c : Dev nD) (t : Fin cfg0.N) (h0 : t.val % 16 = 0) (h1 : t.val % 16 + 1 ≤ t.val / 16 % 16) (h2 : ¬t.val / 16 % 16 = t.val % 16)
theorem C_M (f) : VS0_0.read (Elt Ideal) (VS0_0.writes (Elt Ideal) f (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t)).1) = sM m c t.val := by
  have hn := point_lt t
  have hsc : IsSc (aq m c) (ak m c) (tb t) (tq t) (512 * tk t) (scU (iblk m c 0 t) (iblk m c 1 t)) := scU_isSc (by simp only [tq, tk]; omega) (row_0 m c t) (row_1 m c t (by simp only [tq, tk]; omega))
  have e0 : 512 * tk t = 0 := by simp only [tk]; omega
  have ek : keys t.val = 512 * tk t + 512 := by simp only [keys, tk]; omega
  rw [C_LS0]
  refine (View.read_writes_eq_canon VS0_0 f _ (pm_cover _ _)).trans ?_
  rw [sM_at m c t ek]
  rw [e0] at hsc ⊢
  have hcan := fun tl => canon_M hsc tl
  simp only [← ini_M (aq m c) (ak m c) (tb t) (tq t)] at hcan
  exact hcan _
theorem C_L (f) : VS0_1.read (Elt Ideal) (VS0_1.writes (Elt Ideal) f (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t)).2.1) = sL m c t.val := by
  have hn := point_lt t
  have hsc : IsSc (aq m c) (ak m c) (tb t) (tq t) (512 * tk t) (scU (iblk m c 0 t) (iblk m c 1 t)) := scU_isSc (by simp only [tq, tk]; omega) (row_0 m c t) (row_1 m c t (by simp only [tq, tk]; omega))
  have e0 : 512 * tk t = 0 := by simp only [tk]; omega
  have ek : keys t.val = 512 * tk t + 512 := by simp only [keys, tk]; omega
  rw [C_LS1]
  refine (View.read_writes_eq_canon VS0_1 f _ (pm_cover _ _)).trans ?_
  rw [sL_at m c t ek]
  rw [e0] at hsc ⊢
  have hcan := fun tl => canon_L hsc tl
  simp only [← ini_M (aq m c) (ak m c) (tb t) (tq t), ← ini_L (aq m c) (ak m c) (tb t) (tq t)] at hcan
  exact hcan _
theorem C_A (f) : VS0_2.read (Elt Ideal) (VS0_2.writes (Elt Ideal) f (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t)).2.2.1) = sA m c t.val := by
  have hn := point_lt t
  have hsc : IsSc (aq m c) (ak m c) (tb t) (tq t) (512 * tk t) (scU (iblk m c 0 t) (iblk m c 1 t)) := scU_isSc (by simp only [tq, tk]; omega) (row_0 m c t) (row_1 m c t (by simp only [tq, tk]; omega))
  have e0 : 512 * tk t = 0 := by simp only [tk]; omega
  have ek : keys t.val = 512 * tk t + 512 := by simp only [keys, tk]; omega
  rw [C_LS2]
  refine (View.read_writes_eq_canon VS0_2 f _ (pa_cover _ _)).trans ?_
  rw [sA_at m c t ek]
  rw [e0] at hsc ⊢
  have hcan := fun tl => canon_A hsc (e0 ▸ val_2 m c t (by simp only [tq, tk]; omega)) tl
  simp only [← ini_M (aq m c) (ak m c) (tb t) (tq t), ← ini_A (aq m c) (ak m c) (av m c) (tb t) (tq t)] at hcan
  exact hcan _
end

set_option maxHeartbeats 4000000 in
theorem body_C (c : Dev nD) (t : Fin cfg0.N) (h0 : t.val % 16 = 0) (h1 : t.val % 16 + 1 ≤ t.val / 16 % 16) (h2 : ¬t.val / 16 % 16 = t.val % 16) :
    bodyPre m c t ⊢ wp frame (wpE (defs₀ (F := Ideal)) Variants.none c none) Set.univ (bodyAt0 t) (fun _ => bodyPost m c t) := by
  have hn := point_lt t
  unfold bodyPre bodyPost bodyAt0
  simp only [before_0, before_1, before_2]
  rw [show (dats m 0 c).owesAt () t.succ = (dats m 0 c).owesAt () t.castSucc from rfl, phi_at, phi_next, leaves_0, leaves_1, leaves_2]
  refine (sep_mono (inv_any m c _) .rfl).trans ?_
  rw [PhiA0_eq]
  rw [leaves_3_idle m c t h2 (by omega)]
  unfold held
  iintro ⟨⟨⟨⟨%b0, HS0⟩, ⟨%b1, HS1⟩, ⟨%b2, HS2⟩⟩, Hg⟩, Ho, ⟨%d0, H0⟩, ⟨%d1, H1⟩, ⟨%d2, H2⟩, ⟨%d3, H3⟩⟩
  iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t)).2.2.2 Set.univ _)
  isplitl [H0]; · iexact H0
  isplitl [H1]; · iexact H1
  isplitl [H2]; · iexact H2
  isplitl [HS0]; · iexists _; iexact HS0
  isplitl [HS1]; · iexists _; iexact HS1
  isplitl [HS2]; · iexists _; iexact HS2
  iintro ⟨H0, H1, H2, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact C_M m c t h0 h1 h2 _
      isplitl [HS1]
      · unfold owns; iexists _; isplitr
        swap; · iexact HS1
        ipureintro; exact C_L m c t h0 h1 h2 _
      unfold owns; iexists _; isplitr
      swap; · iexact HS2
      ipureintro; exact C_A m c t h0 h1 h2 _
    iexact Hg
  isplitl [Ho]; · iexact Ho
  isplitl [H0]; · iexact H0
  isplitl [H1]; · iexact H1
  isplitl [H2]; · iexact H2
  iexists _; iexact H3

section
variable (c : Dev nD) (t : Fin cfg0.N) (h0 : ¬t.val % 16 = 0) (h1 : ¬t.val % 16 + 1 ≤ t.val / 16 % 16) (h2 : t.val / 16 % 16 = t.val % 16)
theorem D_M (f) : VS0_0.read (Elt Ideal) (VS0_0.writes (Elt Ideal) f (kernelRun0_D c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (sM m c (t.val - 1)) (sL m c (t.val - 1)) (sA m c (t.val - 1))).2.1) = sM m c t.val := by
  have hn := point_lt t
  have hsc : IsSc (aq m c) (ak m c) (tb t) (tq t) (512 * tk t) (scD (grid0.coords t) (iblk m c 0 t) (iblk m c 1 t)) := scD_isSc (coord_q t) ((coord_k t).trans h2.symm |>.trans h2) (row_0 m c t) (row_1 m c t (le_of_eq h2.symm))
  have eM : sM m c (t.val - 1) = cM (aq m c) (ak m c) (tb t) (tq t) (512 * tk t) := by
    unfold sM; rw [prev_b h0, prev_q h0, prev_keys h0 (by omega)]
  have ek : keys t.val = 512 * tk t + 512 := by simp only [keys, tk]; omega
  rw [D_LS0]
  refine (View.read_writes_eq_canon VS0_0 f _ (pm_cover _ _)).trans ?_
  rw [sM_at m c t ek]
  rw [eM]
  exact canon_M hsc _
theorem D_L (f) : VS0_1.read (Elt Ideal) (VS0_1.writes (Elt Ideal) f (kernelRun0_D c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (sM m c (t.val - 1)) (sL m c (t.val - 1)) (sA m c (t.val - 1))).2.2.1) = sL m c t.val := by
  have hn := point_lt t
  have hsc : IsSc (aq m c) (ak m c) (tb t) (tq t) (512 * tk t) (scD (grid0.coords t) (iblk m c 0 t) (iblk m c 1 t)) := scD_isSc (coord_q t) ((coord_k t).trans h2.symm |>.trans h2) (row_0 m c t) (row_1 m c t (le_of_eq h2.symm))
  have eM : sM m c (t.val - 1) = cM (aq m c) (ak m c) (tb t) (tq t) (512 * tk t) := by
    unfold sM; rw [prev_b h0, prev_q h0, prev_keys h0 (by omega)]
  have eL : sL m c (t.val - 1) = cL (aq m c) (ak m c) (tb t) (tq t) (512 * tk t) := by
    unfold sL; rw [prev_b h0, prev_q h0, prev_keys h0 (by omega)]
  have ek : keys t.val = 512 * tk t + 512 := by simp only [keys, tk]; omega
  rw [D_LS1]
  refine (View.read_writes_eq_canon VS0_1 f _ (pm_cover _ _)).trans ?_
  rw [sL_at m c t ek]
  rw [eM, eL]
  exact canon_L hsc _
theorem D_A (f) : VS0_2.read (Elt Ideal) (VS0_2.writes (Elt Ideal) f (kernelRun0_D c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (sM m c (t.val - 1)) (sL m c (t.val - 1)) (sA m c (t.val - 1))).2.2.2.1) = sA m c t.val := by
  have hn := point_lt t
  have hsc : IsSc (aq m c) (ak m c) (tb t) (tq t) (512 * tk t) (scD (grid0.coords t) (iblk m c 0 t) (iblk m c 1 t)) := scD_isSc (coord_q t) ((coord_k t).trans h2.symm |>.trans h2) (row_0 m c t) (row_1 m c t (le_of_eq h2.symm))
  have eM : sM m c (t.val - 1) = cM (aq m c) (ak m c) (tb t) (tq t) (512 * tk t) := by
    unfold sM; rw [prev_b h0, prev_q h0, prev_keys h0 (by omega)]
  have eA : sA m c (t.val - 1) = cA (aq m c) (ak m c) (av m c) (tb t) (tq t) (512 * tk t) := by
    unfold sA; rw [prev_b h0, prev_q h0, prev_keys h0 (by omega)]
  have ek : keys t.val = 512 * tk t + 512 := by simp only [keys, tk]; omega
  rw [D_LS2]
  refine (View.read_writes_eq_canon VS0_2 f _ (pa_cover _ _)).trans ?_
  rw [sA_at m c t ek]
  rw [eM, eA]
  exact canon_A hsc (val_2 m c t (by simp only [tq, tk]; omega)) _
theorem D_O (f) : (ms0_3 t).view.read (Elt Ideal) ((ms0_3 t).view.writes (Elt Ideal) f (kernelRun0_D c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (sM m c (t.val - 1)) (sL m c (t.val - 1)) (sA m c (t.val - 1))).1) = cO (aq m c) (ak m c) (av m c) (tb t) (tq t) := by
  have hn := point_lt t
  have hsc : IsSc (aq m c) (ak m c) (tb t) (tq t) (512 * tk t) (scD (grid0.coords t) (iblk m c 0 t) (iblk m c 1 t)) := scD_isSc (coord_q t) ((coord_k t).trans h2.symm |>.trans h2) (row_0 m c t) (row_1 m c t (le_of_eq h2.symm))
  have eM : sM m c (t.val - 1) = cM (aq m c) (ak m c) (tb t) (tq t) (512 * tk t) := by
    unfold sM; rw [prev_b h0, prev_q h0, prev_keys h0 (by omega)]
  have eL : sL m c (t.val - 1) = cL (aq m c) (ak m c) (tb t) (tq t) (512 * tk t) := by
    unfold sL; rw [prev_b h0, prev_q h0, prev_keys h0 (by omega)]
  have eA : sA m c (t.val - 1) = cA (aq m c) (ak m c) (av m c) (tb t) (tq t) (512 * tk t) := by
    unfold sA; rw [prev_b h0, prev_q h0, prev_keys h0 (by omega)]
  have hn' : 512 * tk t + 512 = 512 * (tq t + 1) := by simp only [tq, tk]; omega
  rw [D_L3]
  refine (View.read_writes_eq_canon (ms0_3 t).view f _ (po_cover _)).trans ?_
  rw [eM, eL, eA]
  exact canon_O hsc (val_2 m c t (by simp only [tq, tk]; omega)) hn'
end

set_option maxHeartbeats 4000000 in
theorem body_D (c : Dev nD) (t : Fin cfg0.N) (h0 : ¬t.val % 16 = 0) (h1 : ¬t.val % 16 + 1 ≤ t.val / 16 % 16) (h2 : t.val / 16 % 16 = t.val % 16) :
    bodyPre m c t ⊢ wp frame (wpE (defs₀ (F := Ideal)) Variants.none c none) Set.univ (bodyAt0 t) (fun _ => bodyPost m c t) := by
  have hn := point_lt t
  unfold bodyPre bodyPost bodyAt0
  simp only [before_0, before_1, before_2]
  rw [show (dats m 0 c).owesAt () t.succ = (dats m 0 c).owesAt () t.castSucc from rfl, phi_at, phi_next, leaves_0, leaves_1, leaves_2]
  rw [inv_pos m c t.val (by omega)]
  unfold held
  rw [leaves_3_live m c t h2]
  iintro ⟨⟨⟨HS0, HS1, HS2⟩, Hg⟩, Ho, ⟨%d0, H0⟩, ⟨%d1, H1⟩, ⟨%d2, H2⟩, ⟨%d3, H3⟩⟩
  iapply ((kernelRun0_D c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (sM m c (t.val - 1)) (sL m c (t.val - 1)) (sA m c (t.val - 1))).2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact D_M m c t h0 h1 h2 _
      isplitl [HS1]
      · unfold owns; iexists _; isplitr
        swap; · iexact HS1
        ipureintro; exact D_L m c t h0 h1 h2 _
      unfold owns; iexists _; isplitr
      swap; · iexact HS2
      ipureintro; exact D_A m c t h0 h1 h2 _
    iexact Hg
  isplitl [Ho]; · iexact Ho
  isplitl [H0]; · iexact H0
  isplitl [H1]; · iexact H1
  isplitl [H2]; · iexact H2
  unfold owns; iexists _; isplitr
  swap; · iexact H3
  ipureintro; exact D_O m c t h0 h1 h2 _

section
variable (c : Dev nD) (t : Fin cfg0.N) (h0 : ¬t.val % 16 = 0) (h1 : t.val % 16 + 1 ≤ t.val / 16 % 16) (h2 : ¬t.val / 16 % 16 = t.val % 16)
theorem E_M (f) : VS0_0.read (Elt Ideal) (VS0_0.writes (Elt Ideal) f (kernelRun0_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (sM m c (t.val - 1)) (sL m c (t.val - 1)) (sA m c (t.val - 1))).1) = sM m c t.val := by
  have hn := point_lt t
  have hsc : IsSc (aq m c) (ak m c) (tb t) (tq t) (512 * tk t) (scU (iblk m c 0 t) (iblk m c 1 t)) := scU_isSc (by simp only [tq, tk]; omega) (row_0 m c t) (row_1 m c t (by simp only [tq, tk]; omega))
  have eM : sM m c (t.val - 1) = cM (aq m c) (ak m c) (tb t) (tq t) (512 * tk t) := by
    unfold sM; rw [prev_b h0, prev_q h0, prev_keys h0 (by omega)]
  have ek : keys t.val = 512 * tk t + 512 := by simp only [keys, tk]; omega
  rw [E_LS0]
  refine (View.read_writes_eq_canon VS0_0 f _ (pm_cover _ _)).trans ?_
  rw [sM_at m c t ek]
  rw [eM]
  exact canon_M hsc _
theorem E_L (f) : VS0_1.read (Elt Ideal) (VS0_1.writes (Elt Ideal) f (kernelRun0_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (sM m c (t.val - 1)) (sL m c (t.val - 1)) (sA m c (t.val - 1))).2.1) = sL m c t.val := by
  have hn := point_lt t
  have hsc : IsSc (aq m c) (ak m c) (tb t) (tq t) (512 * tk t) (scU (iblk m c 0 t) (iblk m c 1 t)) := scU_isSc (by simp only [tq, tk]; omega) (row_0 m c t) (row_1 m c t (by simp only [tq, tk]; omega))
  have eM : sM m c (t.val - 1) = cM (aq m c) (ak m c) (tb t) (tq t) (512 * tk t) := by
    unfold sM; rw [prev_b h0, prev_q h0, prev_keys h0 (by omega)]
  have eL : sL m c (t.val - 1) = cL (aq m c) (ak m c) (tb t) (tq t) (512 * tk t) := by
    unfold sL; rw [prev_b h0, prev_q h0, prev_keys h0 (by omega)]
  have ek : keys t.val = 512 * tk t + 512 := by simp only [keys, tk]; omega
  rw [E_LS1]
  refine (View.read_writes_eq_canon VS0_1 f _ (pm_cover _ _)).trans ?_
  rw [sL_at m c t ek]
  rw [eM, eL]
  exact canon_L hsc _
theorem E_A (f) : VS0_2.read (Elt Ideal) (VS0_2.writes (Elt Ideal) f (kernelRun0_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (sM m c (t.val - 1)) (sL m c (t.val - 1)) (sA m c (t.val - 1))).2.2.1) = sA m c t.val := by
  have hn := point_lt t
  have hsc : IsSc (aq m c) (ak m c) (tb t) (tq t) (512 * tk t) (scU (iblk m c 0 t) (iblk m c 1 t)) := scU_isSc (by simp only [tq, tk]; omega) (row_0 m c t) (row_1 m c t (by simp only [tq, tk]; omega))
  have eM : sM m c (t.val - 1) = cM (aq m c) (ak m c) (tb t) (tq t) (512 * tk t) := by
    unfold sM; rw [prev_b h0, prev_q h0, prev_keys h0 (by omega)]
  have eA : sA m c (t.val - 1) = cA (aq m c) (ak m c) (av m c) (tb t) (tq t) (512 * tk t) := by
    unfold sA; rw [prev_b h0, prev_q h0, prev_keys h0 (by omega)]
  have ek : keys t.val = 512 * tk t + 512 := by simp only [keys, tk]; omega
  rw [E_LS2]
  refine (View.read_writes_eq_canon VS0_2 f _ (pa_cover _ _)).trans ?_
  rw [sA_at m c t ek]
  rw [eM, eA]
  exact canon_A hsc (val_2 m c t (by simp only [tq, tk]; omega)) _
end

set_option maxHeartbeats 4000000 in
theorem body_E (c : Dev nD) (t : Fin cfg0.N) (h0 : ¬t.val % 16 = 0) (h1 : t.val % 16 + 1 ≤ t.val / 16 % 16) (h2 : ¬t.val / 16 % 16 = t.val % 16) :
    bodyPre m c t ⊢ wp frame (wpE (defs₀ (F := Ideal)) Variants.none c none) Set.univ (bodyAt0 t) (fun _ => bodyPost m c t) := by
  have hn := point_lt t
  unfold bodyPre bodyPost bodyAt0
  simp only [before_0, before_1, before_2]
  rw [show (dats m 0 c).owesAt () t.succ = (dats m 0 c).owesAt () t.castSucc from rfl, phi_at, phi_next, leaves_0, leaves_1, leaves_2]
  rw [inv_pos m c t.val (by omega)]
  unfold held
  rw [leaves_3_idle m c t h2 (by omega)]
  iintro ⟨⟨⟨HS0, HS1, HS2⟩, Hg⟩, Ho, ⟨%d0, H0⟩, ⟨%d1, H1⟩, ⟨%d2, H2⟩, ⟨%d3, H3⟩⟩
  iapply ((kernelRun0_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (sM m c (t.val - 1)) (sL m c (t.val - 1)) (sA m c (t.val - 1))).2.2.2 Set.univ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact E_M m c t h0 h1 h2 _
      isplitl [HS1]
      · unfold owns; iexists _; isplitr
        swap; · iexact HS1
        ipureintro; exact E_L m c t h0 h1 h2 _
      unfold owns; iexists _; isplitr
      swap; · iexact HS2
      ipureintro; exact E_A m c t h0 h1 h2 _
    iexact Hg
  isplitl [Ho]; · iexact Ho
  isplitl [H0]; · iexact H0
  isplitl [H1]; · iexact H1
  isplitl [H2]; · iexact H2
  iexists _; iexact H3

/-- The body at any point. -/
theorem body_any (c : Dev nD) (t : Fin cfg0.N) :
    bodyPre m c t ⊢ wp frame (wpE (defs₀ (F := Ideal)) Variants.none c none) Set.univ (bodyAt0 t) (fun _ => bodyPost m c t) := by
  have hn := point_lt t
  by_cases h0 : t.val % 16 = 0
  · by_cases h1 : t.val % 16 + 1 ≤ t.val / 16 % 16
    · exact body_C m c t h0 h1 (by omega)
    · exact body_A m c t h0 h1 (by omega)
  · by_cases h1 : t.val % 16 + 1 ≤ t.val / 16 % 16
    · exact body_E m c t h0 h1 (by omega)
    · by_cases h2 : t.val / 16 % 16 = t.val % 16
      · exact body_D m c t h0 h1 h2
      · exact body_B m c t h0 h1 h2

theorem body_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, body_row]
  exact triple_restated (body_any m c t) rfl .rfl fun _ => .rfl

theorem hin (c : Dev nD) : Pipeline.ΦA spec0 c ⊢ (dats m 0 c).Φ 0 := by
  rw [show (dats m 0 c).Φ 0 = inv m c 0 from rfl]
  exact .rfl

theorem hout (c : Dev nD) : (dats m 0 c).Φ (Fin.last cfg0.N) ⊢ Pipeline.ΦA spec0 c := by
  rw [show (dats m 0 c).Φ (Fin.last cfg0.N) = inv m c (Fin.last cfg0.N).val from rfl]
  exact inv_any m c _

/-! ## The run -/

/-- The result is written block by block to the attention of the launched arrays. -/
theorem arr_3 (c : Dev nD) : (dats m 0 c).arrAt 3 cfg0.N = attn (aq m c) (ak m c) (av m c) :=
  Pipeline.Dat.arrAt_eq_of_cover (dats m 0 c) 3 (attn (aq m c) (ak m c) (av m c))
    (fun t _ => ((show (dats m 0 c).flushed 3 t = (dats m 0 c).after 3 t from rfl).trans (after_3 m c t)).trans (funext fun i => (out_3 m c t i).symm))
    (fun i => covers_3 i)

set_option backward.isDefEq.respectTransparency.types false in
theorem run_frame : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_frame m ρ)))
    ((θ_run defs _ _).mono (fun _ h => h.2) (run_frame m ρ))

/-- The result ends at the attention of the arguments, and these unchanged. -/
theorem run : θ_run defs (onTc (τ := τ) (main (F := Ideal))) ⟨m, fun _ => 0, ρ⟩ (fun r => ∀ c : Dev nD,
      r.2.mem ((c.tc : Thread nD τ).loc main_v0) = attn (aq m c) (ak m c) (av m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (arr_3 m c), h.2.1 c⟩)
    (θ_run_and ((θ_run defs _ _).mono (fun _ h => h.1) (run_frame m ρ)) (frame m ρ))

end Cert.KernelIdeal.Flash

end
-- ==== Proof.Flash.Reference.lean ====
/- The reference's result is the attention of Spec, where no query and no key is infinite: its operations are read one
   by one, the whole softmax of a row over all 8192 keys, and the quotient of Soft joins the two. -/
module

public import proofs.«01_k».proof.Proof.Flash.Spec
public import proofs.«01_k».proof.Proof.Flash.Words
public import proofs.«01_k».proof.Proof.Gen.ReferenceIdeal.Read

@[expose] public section

set_option maxRecDepth 16384

noncomputable section

namespace Cert.ReferenceIdeal.Attn

open Idealize.ShloMosaic Idealize.ShloMosaic.TcCoe
open Cert.ReferenceIdeal Cert.ReferenceIdeal.Gen Cert.ReferenceIdeal.Read Cert.Soft
open scoped BigOperators

theorem ninf : Ideal.ofBits .f32 0xFF800000#32 = ⊥ := by simp [Ideal.ofBits, Ideal.ieee]

/-- The sign of a position is one, the position zero aside. -/
theorem sign_pos (n : ℕ) (hn : n < 2 ^ 31) (h : n ≠ 0) :
    (if BitVec.ofNat 32 n = 0 then (0 : BitVec 32) else if (BitVec.ofNat 32 n).msb then -1 else 1) = 1#32 := by
  have h1 : ¬BitVec.ofNat 32 n = 0 := fun e => h (by
    have := congrArg BitVec.toNat e
    rw [BitVec.toNat_ofNat, Nat.mod_eq_of_lt (by omega)] at this
    exact this)
  have h2 : (BitVec.ofNat 32 n).msb = false := by
    rw [BitVec.msb_eq_false_iff_two_mul_lt, BitVec.toNat_ofNat]; omega
  rw [if_neg h1, h2]; rfl

theorem sign_64 : (if (64#32 : BitVec 32) = 0 then (0 : BitVec 32) else if (64#32 : BitVec 32).msb then -1 else 1) = 1#32 := by decide

/-- A key's chunk. -/
theorem key_chunk (i : S8192.Idx) : val_main_v8 (F := Ideal) i = BitVec.ofNat 32 ((i 0).val / 64) := by
  have h0 : (i 0).val < 8192 := (i 0).isLt
  rw [val_main_v8_apply, val_main_call0_v13_apply, val_main_call0_v11_apply, val_main_call0_v10_apply, val_main_call0_v6_apply,
    val_main_call0_v8_apply, val_main_call0_v2_apply, val_main_call0_v5_apply, val_main_call0_v7_apply, val_main_call0_v9_apply,
    val_main_call0_v12_apply, val_main_call0_v1_apply]
  have h4 : ∀ j, val_main_call0_v4 (F := Ideal) j = 1#32 := fun j => sign_64
  rw [h4]
  exact sel_floor .host _ (by omega) _ (sign_pos _ (by omega))

/-- A query's chunk. -/
theorem query_chunk (i : S8192.Idx) : val_main_v10 (F := Ideal) i = BitVec.ofNat 32 ((i 0).val / 64) := by
  have h0 : (i 0).val < 8192 := (i 0).isLt
  rw [val_main_v10_apply, val_main_call1_v13_apply, val_main_call1_v11_apply, val_main_call1_v10_apply, val_main_call1_v6_apply,
    val_main_call1_v8_apply, val_main_call1_v2_apply, val_main_call1_v5_apply, val_main_call1_v7_apply, val_main_call1_v9_apply,
    val_main_call1_v12_apply, val_main_call1_v1_apply]
  have h4 : ∀ j, val_main_call1_v4 (F := Ideal) j = 1#32 := fun j => sign_64
  rw [h4]
  exact sel_floor .host _ (by omega) _ (sign_pos _ (by omega))

theorem mask_one (i : S4x8x8192x8192.Idx) : val_main_call2_v1 (F := Ideal) i = 1#1 ↔ (i 3).val / 64 ≤ (i 2).val / 64 := by
  have h2 : (i 2).val < 8192 := (i 2).isLt
  have h3 : (i 3).val < 8192 := (i 3).isLt
  rw [val_main_call2_v1_apply, val_main_v14_apply, val_main_v12_apply, val_main_v13_apply, val_main_v9_apply, val_main_v11_apply,
    key_chunk, query_chunk]
  exact chunk_le (i 3).val (i 2).val (by omega) (by omega)

variable (q k : QArr) (v : VArr)

theorem q_at (i : S4x8192x8x128.Idx) : val_main_v1 (F := Ideal) q i = qf q (i 0).val (i 1).val (128 * (i 2).val + (i 3).val) := by
  have h0 : (i 0).val < 4 := (i 0).isLt
  have h1 : (i 1).val < 8192 := (i 1).isLt
  have h2 : (i 2).val < 8 := (i 2).isLt
  have h3 : (i 3).val < 128 := (i 3).isLt
  rw [val_main_v1_apply, val_main_v0_apply]
  refine congrArg q (funext fun a => Fin.ext ?_)
  match a with
  | ⟨0, _⟩ => show ((((i 0).val * 8192 + (i 1).val) * 8 + (i 2).val) * 128 + (i 3).val) / 8388608 = (i 0).val % 4; omega
  | ⟨1, _⟩ => show ((((i 0).val * 8192 + (i 1).val) * 8 + (i 2).val) * 128 + (i 3).val) / 1024 % 8192 = (i 1).val % 8192; omega
  | ⟨2, _⟩ => show ((((i 0).val * 8192 + (i 1).val) * 8 + (i 2).val) * 128 + (i 3).val) % 1024 = (128 * (i 2).val + (i 3).val) % 1024; omega

theorem k_at (i : S4x8192x8x128.Idx) : val_main_v3 (F := Ideal) k i = qf k (i 0).val (i 1).val (128 * (i 2).val + (i 3).val) :=
  q_at k i

theorem v_at (i : S4x8192x8x64.Idx) : val_main_v5 (F := Ideal) v i = vf v (i 0).val (i 1).val (64 * (i 2).val + (i 3).val) := by
  have h0 : (i 0).val < 4 := (i 0).isLt
  have h1 : (i 1).val < 8192 := (i 1).isLt
  have h2 : (i 2).val < 8 := (i 2).isLt
  have h3 : (i 3).val < 64 := (i 3).isLt
  rw [val_main_v5_apply, val_main_v4_apply]
  refine congrArg v (funext fun a => Fin.ext ?_)
  match a with
  | ⟨0, _⟩ => show ((((i 0).val * 8192 + (i 1).val) * 8 + (i 2).val) * 64 + (i 3).val) / 4194304 = (i 0).val % 4; omega
  | ⟨1, _⟩ => show ((((i 0).val * 8192 + (i 1).val) * 8 + (i 2).val) * 64 + (i 3).val) / 512 % 8192 = (i 1).val % 8192; omega
  | ⟨2, _⟩ => show ((((i 0).val * 8192 + (i 1).val) * 8 + (i 2).val) * 64 + (i 3).val) % 512 = (64 * (i 2).val + (i 3).val) % 512; omega

theorem raw_at (i : S4x8x8192x8192.Idx) : val_main_v7 (F := Ideal) q k i = raw q k (i 0).val (i 1).val (i 2).val (i 3).val := by
  rw [val_main_v7_apply]
  exact Finset.sum_congr rfl fun d _ => congrArg₂ (· * ·) (q_at q _) (k_at k _)

theorem scr_at (i : S4x8x8192x8192.Idx) : val_main_v15 (F := Ideal) q k i = scr q k (i 0).val (i 1).val (i 2).val (i 3).val := by
  rw [val_main_v15_apply, val_main_call2_v2_apply, val_main_call2_v0_apply, val_main_cst_apply, raw_at]
  unfold scr
  by_cases h : (i 3).val / 64 ≤ (i 2).val / 64
  · rw [if_pos h, (mask_one i).mpr h]; rfl
  · rw [if_neg h]
    exact (if_neg (fun e => h ((mask_one i).mp e))).trans ninf

/-- The largest score of a row. -/
abbrev top (b h row : ℕ) : EReal := Finset.univ.sup fun j : Fin 8192 => scr q k b h row j.val
/-- The sum of a row's exponentials. -/
abbrev tot (b h row : ℕ) : EReal := ∑ j : Fin 8192, Ideal.exp (scr q k b h row j.val - top q k b h row)

theorem max_at (i : S4x8x8192.Idx) : val_main_v18 (F := Ideal) q k i = top q k (i 0).val (i 1).val (i 2).val := by
  rw [val_main_v18_apply, val_main_v17_apply, val_main_cst_2_apply]
  show max (Ideal.ofBits .f32 0xFF800000#32) (val_main_v16 (F := Ideal) q k i) = _
  rw [ninf, max_eq_right bot_le]
  unfold val_main_v16
  have hx := fun j => scr_at q k j
  generalize val_main_v15 (F := Ideal) q k = y at hx ⊢
  rw [Host.reduce_eq_fold_single (FloatOps.maximumf (F := Ideal) (φ := .f32)) y _ reducesTo_S4x8x8192x8192_S4x8x8192_d3 (by decide)]
  rw [val_main_cst_1_apply]
  show Finset.fold max (Ideal.ofBits .f32 0xFF800000#32) _ _ = _
  rw [ninf]
  refine congrArg (Finset.fold max ⊥ · Finset.univ) (funext fun j => ?_)
  exact (hx _).trans rfl

theorem exp_at (i : S4x8x8192x8192.Idx) : val_main_v22 (F := Ideal) q k i
    = Ideal.exp (scr q k (i 0).val (i 1).val (i 2).val (i 3).val - top q k (i 0).val (i 1).val (i 2).val) := by
  rw [val_main_v22_apply, val_main_v21_apply, val_main_v20_apply, val_main_v19_apply, scr_at, max_at]
  rfl

theorem sum_at (i : S4x8x8192.Idx) : val_main_v23 (F := Ideal) q k i = tot q k (i 0).val (i 1).val (i 2).val := by
  rw [val_main_v23_apply, val_main_cst_3_apply]
  show Ideal.ofBits .f32 0x00000000#32 + _ = _
  rw [Ideal.ofBits_zero_f32, zero_add]
  exact Finset.sum_congr rfl fun j _ => exp_at q k _

theorem prob_at (i : S4x8x8192x8192.Idx) : val_main_v26 (F := Ideal) q k i
    = Ideal.div (Ideal.exp (scr q k (i 0).val (i 1).val (i 2).val (i 3).val - top q k (i 0).val (i 1).val (i 2).val))
        (tot q k (i 0).val (i 1).val (i 2).val) := by
  rw [val_main_v26_apply, val_main_v25_apply, val_main_v24_apply, sum_at, exp_at]
  rfl

theorem mix_at (i : S4x8x64x8192.Idx) : val_main_v27 (F := Ideal) q k v i
    = ∑ j : Fin 8192, Ideal.div (Ideal.exp (scr q k (i 0).val (i 1).val (i 3).val j.val - top q k (i 0).val (i 1).val (i 3).val))
        (tot q k (i 0).val (i 1).val (i 3).val) * vl v (i 0).val (i 1).val (i 2).val j.val := by
  rw [val_main_v27_apply]
  refine Finset.sum_congr rfl fun j _ => ?_
  rw [mul_comm, v_at, prob_at]
  rfl

theorem finite_sum {ι : Type*} (s : Finset ι) (f : ι → EReal) (h : ∀ i, f i ≠ ⊤ ∧ f i ≠ ⊥) : ∑ i ∈ s, f i ≠ ⊤ ∧ ∑ i ∈ s, f i ≠ ⊥ := by
  classical
  induction s using Finset.induction_on with
  | empty => simp
  | insert a s ha ih =>
    rw [Finset.sum_insert ha]
    exact ⟨EReal.add_ne_top (h a).1 ih.1, by
      rw [ne_eq, EReal.add_eq_bot_iff]; exact fun e => e.elim (h a).2 ih.2⟩

theorem finite_mul {a b : EReal} (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

theorem raw_finite (hq : ∀ i, q i ≠ ⊤ ∧ q i ≠ ⊥) (hk : ∀ i, k i ≠ ⊤ ∧ k i ≠ ⊥) (b h row key : ℕ) :
    raw q k b h row key ≠ ⊤ ∧ raw q k b h row key ≠ ⊥ :=
  finite_sum _ _ fun _ => finite_mul (hq _) (hk _)

/-- The softmax over all the keys is the quotient over those up to the end of the query's block. -/
theorem attention (hq : ∀ i, q i ≠ ⊤ ∧ q i ≠ ⊥) (hk : ∀ i, k i ≠ ⊤ ∧ k i ≠ ⊥) (b h row d : ℕ) (hr : row < 8192) :
    ∑ j : Fin 8192, Ideal.div (Ideal.exp (scr q k b h row j.val - top q k b h row)) (tot q k b h row) * vl v b h d j.val
      = att q k v b row h d := by
  refine (quotient (scr q k b h row) (vl v b h d) (512 * (row / 512 + 1)) 8192 (by omega) (by omega) ?_ ?_ ?_).symm
  · intro j _
    unfold scr
    split
    · exact (raw_finite q k hq hk b h row j).1
    · exact bot_ne_top
  · unfold scr
    rw [if_pos (by omega)]
    exact (raw_finite q k hq hk b h row 0).2
  · intro j hj
    unfold scr
    rw [if_neg (by omega)]

theorem result_at (hq : ∀ i, q i ≠ ⊤ ∧ q i ≠ ⊥) (hk : ∀ i, k i ≠ ⊤ ∧ k i ≠ ⊥) : val_main_v29 (F := Ideal) q k v = attn q k v := by
  funext i
  have h0 : (i 0).val < 4 := (i 0).isLt
  have h1 : (i 1).val < 8192 := (i 1).isLt
  have h2 : (i 2).val < 512 := (i 2).isLt
  rw [val_main_v29_apply, val_main_v28_apply, mix_at]
  refine (attention q k v hq hk _ _ _ _ (Fin.isLt _)).trans ?_
  unfold attn
  have e0 : (((i 0).val * 8192 + (i 1).val) * 512 + (i 2).val) / 4194304 = (i 0).val := by omega
  have e1 : (((i 0).val * 8192 + (i 1).val) * 512 + (i 2).val) / 512 % 8192 = (i 1).val := by omega
  have e2 : (((i 0).val * 8192 + (i 1).val) * 512 + (i 2).val) / 64 % 8 = (i 2).val / 64 := by omega
  have e3 : (((i 0).val * 8192 + (i 1).val) * 512 + (i 2).val) % 64 = (i 2).val % 64 := by omega
  show att q k v ((((i 0).val * 8192 + (i 1).val) * 512 + (i 2).val) / 4194304) ((((i 0).val * 8192 + (i 1).val) * 512 + (i 2).val) / 512 % 8192)
    ((((i 0).val * 8192 + (i 1).val) * 512 + (i 2).val) / 64 % 8) ((((i 0).val * 8192 + (i 1).val) * 512 + (i 2).val) % 64) = _
  rw [e0, e1, e2, e3]

end Cert.ReferenceIdeal.Attn

end
-- ==== Proof.Rows.Spec.lean ====
/- What the calls that close a sublayer do to one row: the gated mix added to the row, and the norm of the sum. -/
module

public import Idealize.ShloMosaic.Lib.Pointwise

@[expose] public section

noncomputable section

namespace Cert.Rows

open Idealize.ShloMosaic
open scoped BigOperators

/-- `z` times its sigmoid. -/
def silu (z : EReal) : EReal := z * Ideal.div 1 (1 + Ideal.exp (-z))

/-- The row with the gated mix through the weights added. -/
def mixed (o z x gate : Fin 1024 → EReal) (w : Fin 1024 → Fin 1024 → EReal) (c : Fin 1024) : EReal :=
  x c + gate c * ∑ k, o k * silu (z k) * w k c

/-- A row scaled to a mean square of one, times the norm's weight. -/
def normed (x g : Fin 1024 → EReal) (c : Fin 1024) : EReal :=
  x c * Ideal.rsqrt (Ideal.div (∑ k, x k * x k) (Ideal.ofBits .f32 0x44800000#32) + Ideal.ofBits .f32 0x358637BD#32) * g c

/-- A normed row scaled and shifted. -/
def modulated (x g scale shift : Fin 1024 → EReal) (c : Fin 1024) : EReal := normed x g c * (1 + scale c) + shift c

/-! ## On whole arrays: a row for every batch and position -/

/-- Rows of 1024 for four batches of 8192 positions. -/
abbrev Rows := (⟨3, ![4, 8192, 1024]⟩ : Shape).Idx → EReal
/-- One row for each of four batches. -/
abbrev Mods := (⟨3, ![4, 1, 1024]⟩ : Shape).Idx → EReal
abbrev Weights := (⟨2, ![1024, 1024]⟩ : Shape).Idx → EReal
abbrev Norm := (⟨1, ![1024]⟩ : Shape).Idx → EReal

/-- The rows with the gated mix added. -/
def sum (o z x : Rows) (gate : Mods) (w : Weights) (b : Fin 4) (r : Fin 8192) : Fin 1024 → EReal :=
  mixed (fun k => o (ix3 b r k)) (fun k => z (ix3 b r k)) (fun k => x (ix3 b r k)) (fun k => gate (ix3 b 0 k)) (fun k c => w (ix2 k c))

/-- The norm of the rows with the gated mix added. -/
def final (o z x : Rows) (gate : Mods) (w : Weights) (g : Norm) : Rows := fun i =>
  normed (sum o z x gate w (i 0) (i 1)) (fun k => g (ix1 k)) (i 2)

/-! ## The call between the two halves of the layer -/

abbrev Halves := (⟨3, ![4, 8192, 512]⟩ : Shape).Idx → EReal
abbrev Packed := (⟨2, ![1024, 4112]⟩ : Shape).Idx → EReal

/-- Two half rows side by side. -/
def joined (oa ob : Halves) : Rows := fun i =>
  if h : (i 2).val < 512 then oa (ix3 (i 0) (i 1) ⟨(i 2).val, h⟩)
  else ob (ix3 (i 0) (i 1) ⟨(i 2).val - 512, by have : (i 2).val < 1024 := (i 2).isLt; omega⟩)

/-- The rows handed on, normed and modulated. -/
def handed (oa ob : Halves) (z x : Rows) (gate : Mods) (w : Weights) (shift scale : Mods) (g : Norm) (b : Fin 4) (r : Fin 8192) : Fin 1024 → EReal :=
  modulated (sum (joined oa ob) z x gate w b r) (fun k => g (ix1 k)) (fun k => scale (ix3 b 0 k)) (fun k => shift (ix3 b 0 k))

/-- One column of the rows' product with the packed weights. -/
def column (h : Fin 1024 → EReal) (w : Packed) (j : Fin 4112) : EReal := ∑ k, h k * w (ix2 k j)

variable (oa ob : Halves) (z x : Rows) (gate : Mods) (w : Weights) (shift scale : Mods) (g : Norm) (wi : Packed)

/-- The rows with the gated mix added. -/
def midX : Rows := fun i => sum (joined oa ob) z x gate w (i 0) (i 1) (i 2)
/-- The first 3072 columns of the product. -/
def midQkv : (⟨3, ![4, 8192, 3072]⟩ : Shape).Idx → EReal := fun i =>
  column (handed oa ob z x gate w shift scale g (i 0) (i 1)) wi ⟨(i 2).val, by have : (i 2).val < 3072 := (i 2).isLt; omega⟩
/-- The last 1024. -/
def midZ : Rows := fun i =>
  column (handed oa ob z x gate w shift scale g (i 0) (i 1)) wi ⟨3088 + (i 2).val, by have : (i 2).val < 1024 := (i 2).isLt; omega⟩
/-- The sixteen between, in the first lanes, and zeros. -/
def midAb : (⟨3, ![4, 8192, 128]⟩ : Shape).Idx → EReal := fun i =>
  if h : (i 2).val < 16 then column (handed oa ob z x gate w shift scale g (i 0) (i 1)) wi ⟨3072 + (i 2).val, by omega⟩ else 0

end Cert.Rows

end
-- ==== Proof.Rows.Pad.lean ====
/- A block of columns put at the front of a wider array of zeros, and sums over rows in two halves. -/
module

public import Idealize.ShloMosaic.Lib.Routing.OpsOne
public import Idealize.ShloMosaic.Lib.Pointwise

@[expose] public section

set_option maxRecDepth 16384

noncomputable section

namespace Cert.Rows

open Idealize.ShloMosaic Idealize.ShloMosaic.Routing
open scoped BigOperators

theorem lands_front {R C C' : Nat} (d : ScatterDims (shape2 R C) (shape1 1) (shape2 R C')) (hu : d.updateWindowDims = [0, 1]) (hi : d.insertedWindowDims = [])
    (hs : d.scatterDimsToOperandDims = [1]) (idx : IVec (shape1 1) 32) (h0 : ∀ j, (idx j).toInt = 0) (hC : C' ≤ C) (k : (shape2 R C').Idx) :
    d.resultIdx? k idx = some (ix2 (k 0) ⟨(k 1).val, lt_of_lt_of_le (k 1).isLt hC⟩) := by
  have hkept : d.sKept = [0, 1] := by
    show (shape2 R C).kept d.insertedWindowDims = _
    rw [hi]
    rfl
  have hst : ∀ a, d.start k idx a = 0 := by
    intro a
    unfold ScatterDims.start
    split
    · exact h0 _
    · rfl
  have hw0 : d.window k 0 = (k 0).val := by
    unfold ScatterDims.window
    rw [dif_pos (by rw [hkept]; simp)]
    have : d.updateWindowDims[d.sKept.idxOf 0]'(by rw [d.window_length]; exact List.idxOf_lt_length_iff.2 (by rw [hkept]; simp)) = 0 := by
      simp [hkept, hu]
    rw [this]
  have hw1 : d.window k 1 = (k 1).val := by
    unfold ScatterDims.window
    rw [dif_pos (by rw [hkept]; simp)]
    have : d.updateWindowDims[d.sKept.idxOf 1]'(by rw [d.window_length]; exact List.idxOf_lt_length_iff.2 (by rw [hkept]; simp)) = 1 := by
      simp [hkept, hu]
    rw [this]
  have k0 : (k 0).val < R := (k 0).isLt
  have k1 : (k 1).val < C' := (k 1).isLt
  unfold ScatterDims.resultIdx?
  rw [dif_pos]
  · refine congrArg some (funext fun a => Fin.ext ?_)
    match a with
    | ⟨0, _⟩ => show (d.start k idx 0 + d.window k 0).toNat = (k 0).val; rw [hst, hw0]; omega
    | ⟨1, _⟩ => show (d.start k idx 1 + d.window k 1).toNat = (k 1).val; rw [hst, hw1]; omega
  · intro a
    rw [hst]
    match a with
    | ⟨0, _⟩ => show (0 : Int) ≤ 0 + (d.window k 0 : Int) ∧ 0 + (d.window k 0 : Int) < (R : Int); rw [hw0]; omega
    | ⟨1, _⟩ => show (0 : Int) ≤ 0 + (d.window k 1 : Int) ∧ 0 + (d.window k 1 : Int) < (C : Int); rw [hw1]; omega

/-- Columns set at the front of a wider array: they, then the array. -/
theorem front_apply {α : Type} {R C C' : Nat} (d : ScatterDims (shape2 R C) (shape1 1) (shape2 R C')) (hu : d.updateWindowDims = [0, 1]) (hi : d.insertedWindowDims = [])
    (hs : d.scatterDimsToOperandDims = [1]) (idx : IVec (shape1 1) 32) (h0 : ∀ j, (idx j).toInt = 0) (hC : C' ≤ C) (x : (shape2 R C).Idx → α)
    (u : (shape2 R C').Idx → α) (r : Fin R) (c : Fin C) :
    Host.scatter d (fun _ b => b) x idx u (ix2 r c) = if h : c.val < C' then u (ix2 r ⟨c.val, h⟩) else x (ix2 r c) := by
  split
  next h =>
    refine scatter_set_hit d x idx u _ _ (fun k hk => ?_) (ix2 r ⟨c.val, h⟩) (lands_front d hu hi hs idx h0 hC _)
    rw [lands_front d hu hi hs idx h0 hC] at hk
    have e := Option.some.inj hk
    have e0 : k 0 = r := congrFun e 0
    have e1 : (k 1).val = c.val := congrArg Fin.val (congrFun e 1)
    refine congrArg u (funext fun a => Fin.ext ?_)
    match a with
    | ⟨0, _⟩ => exact congrArg Fin.val e0
    | ⟨1, _⟩ => exact e1
  next h =>
    refine scatter_set_miss d x idx u _ fun k hk => ?_
    rw [lands_front d hu hi hs idx h0 hC] at hk
    have e1 : (k 1).val = c.val := congrArg Fin.val (congrFun (Option.some.inj hk) 1)
    have : (k 1).val < C' := (k 1).isLt
    exact h (by omega)

/-- A sum over 1024 in its two halves. -/
theorem sum_halves (f : Fin 1024 → EReal) :
    ∑ k, f k = ∑ k : Fin 512, f ⟨k.val, by omega⟩ + ∑ k : Fin 512, f ⟨512 + k.val, by omega⟩ := Fin.sum_univ_add (a := 512) (b := 512) f

end Cert.Rows

end
-- ==== Proof.Mid.Value.lean ====
/- The values of the idealized call between the two halves of the layer: every block of its four results is that part of
   the whole, and so are the results. -/
module

public import proofs.«01_k».proof.Proof.Gen.Kernel2Ideal.Value
public import proofs.«01_k».proof.Proof.Rows.Spec
public import proofs.«01_k».proof.Proof.Rows.Pad
public import Idealize.ShloMosaic.Lib.Pipeline.ValueKit

@[expose] public section

set_option maxRecDepth 16384

noncomputable section

namespace Cert.Kernel2Ideal.Mid

open Idealize.ShloMosaic Idealize.ShloMosaic.TcCoe Idealize.ShloMosaic.Tactic
open Cert.Kernel2Ideal.Gen Cert.Rows
open scoped BigOperators

/-! ## One block -/

variable (oa ob : Vec Ideal S1x256x512 .f32) (z x : Vec Ideal S1x256x1024 .f32) (gate : Vec Ideal S1x1x1024 .f32) (w : Vec Ideal S1024x1024 .bf16)
  (shift scale : Vec Ideal S1x1x1024 .f32) (g : Vec Ideal S1x1024 .f32) (wi : Vec Ideal S1024x4224 .bf16)

/-- A row of the two halves side by side. -/
def two (r : Fin 256) (k : Fin 1024) : EReal :=
  if h : k.val < 512 then oa (ix3 0 r ⟨k.val, h⟩) else ob (ix3 0 r ⟨k.val - 512, by omega⟩)

theorem two_left (r : Fin 256) (k : Fin 512) : two oa ob r ⟨k.val, by omega⟩ = oa (ix3 0 r k) := dif_pos k.isLt
theorem two_right (r : Fin 256) (k : Fin 512) : two oa ob r ⟨512 + k.val, by omega⟩ = ob (ix3 0 r k) := by
  unfold two
  rw [dif_neg (by simp)]
  refine congrArg (fun e => ob (ix3 0 r e)) (Fin.ext ?_)
  show 512 + k.val - 512 = k.val
  omega

theorem zero2 : (![0, 0] : Fin 2 → ℕ) = fun _ => 0 := by funext a; fin_cases a <;> rfl
theorem zero3 : (![0, 0, 0] : Fin 3 → ℕ) = fun _ => 0 := by funext a; fin_cases a <;> rfl

theorem upper_at (k : Fin 512) (c : Fin 1024) : View.ld w r0_2 (ix2 k c) = w (ix2 ⟨k.val, by omega⟩ c) := by
  refine congrArg w (funext fun a => Fin.ext ?_)
  match a with
  | ⟨0, _⟩ => show 0 + 1 * k.val = k.val; omega
  | ⟨1, _⟩ => show 0 + 1 * c.val = c.val; omega
theorem lower_at (k : Fin 512) (c : Fin 1024) : View.ld w r0_3 (ix2 k c) = w (ix2 ⟨512 + k.val, by omega⟩ c) := by
  refine congrArg w (funext fun a => Fin.ext ?_)
  match a with
  | ⟨0, _⟩ => show 512 + 1 * k.val = 512 + k.val; omega
  | ⟨1, _⟩ => show 0 + 1 * c.val = c.val; omega

theorem mix_apply (u v : Vec Ideal S512x1024 .bf16) (r : Fin 256) (c : Fin 1024) :
    k0_pay5 z oa ob u v (ix2 r c)
      = ∑ k : Fin 512, oa (ix3 0 r k) * silu (z (ix3 0 r ⟨k.val, by omega⟩)) * u (ix2 k c)
        + ∑ k : Fin 512, ob (ix3 0 r k) * silu (z (ix3 0 r ⟨512 + k.val, by omega⟩)) * v (ix2 k c) := by
  pointwise [k0_pay5]
  simp only [zero_sub]
  rfl

/-- The mix, its two halves taken together. -/
theorem mix_at (r : Fin 256) (c : Fin 1024) :
    k0_pay10 oa ob z x gate w shift scale g wi (ix2 r c) = ∑ k : Fin 1024, two oa ob r k * silu (z (ix3 0 r k)) * w (ix2 k c) := by
  unfold k0_pay10
  rw [View.ld_unit_zero zero3 _ z, View.ld_unit_zero zero3 _ oa, View.ld_unit_zero zero3 _ ob, mix_apply, sum_halves]
  simp only [two_left, two_right]
  exact congrArg₂ (· + ·) (Finset.sum_congr rfl fun k _ => congrArg (oa (ix3 0 r k) * silu (z (ix3 0 r ⟨k.val, by omega⟩)) * ·) (upper_at w k c))
    (Finset.sum_congr rfl fun k _ => congrArg (ob (ix3 0 r k) * silu (z (ix3 0 r ⟨512 + k.val, by omega⟩)) * ·) (lower_at w k c))

theorem add_apply (p : FVec Ideal S256x1024 .f32) (r : Fin 256) (c : Fin 1024) :
    k0_pay6 p x gate (ix2 r c) = x (ix3 0 r c) + gate (ix3 0 0 c) * p (ix2 r c) := by
  pointwise [k0_pay6]

/-- A row of the block with the gated mix added. -/
abbrev rowX (r : Fin 256) : Fin 1024 → EReal :=
  mixed (two oa ob r) (fun k => z (ix3 0 r k)) (fun k => x (ix3 0 r k)) (fun k => gate (ix3 0 0 k)) (fun k c => w (ix2 k c))
/-- The same normed and modulated. -/
abbrev rowH (r : Fin 256) : Fin 1024 → EReal :=
  modulated (rowX oa ob z x gate w r) (fun k => g (ix2 0 k)) (fun k => scale (ix3 0 0 k)) (fun k => shift (ix3 0 0 k))

theorem sum_at (r : Fin 256) (c : Fin 1024) :
    k0_pay6 (k0_pay10 oa ob z x gate w shift scale g wi) x gate (ix2 r c) = rowX oa ob z x gate w r c := by
  rw [add_apply, mix_at]
  rfl

theorem norm_apply (p : FVec Ideal S256x1024 .f32) (r : Fin 256) (c : Fin 1024) :
    k0_pay8 p x gate g scale shift (ix2 r c)
      = modulated (fun k => k0_pay6 p x gate (ix2 r k)) (fun k => g (ix2 0 k)) (fun k => scale (ix3 0 0 k)) (fun k => shift (ix3 0 0 k)) c := by
  pointwise [k0_pay8]
  rfl

theorem handed_at (r : Fin 256) (c : Fin 1024) :
    k0_pay12 oa ob z x gate w shift scale g wi (ix2 r c) = rowH oa ob z x gate w shift scale g r c := by
  unfold k0_pay12
  rw [View.ld_unit_zero zero3 _ x, View.ld_unit_zero zero3 _ gate, View.ld_unit_zero zero2 _ g, View.ld_unit_zero zero3 _ scale, View.ld_unit_zero zero3 _ shift,
    norm_apply]
  simp only [sum_at]

theorem product_at (r : Fin 256) (j : Fin 4224) :
    k0_pay1 (k0_pay12 oa ob z x gate w shift scale g wi) (k0_pay13 oa ob z x gate w shift scale g wi) (k0_pay11 oa ob z x gate w shift scale g wi) (ix2 r j)
      = ∑ k, rowH oa ob z x gate w shift scale g r k * wi (ix2 k j) := by
  unfold k0_pay13 k0_pay11
  rw [View.ld_unit_zero zero2 _ wi]
  pointwise [k0_pay1, k0_pay9]
  simp only [handed_at]

/-! What the body leaves in the blocks of the four results. -/

theorem out10_apply (r : Fin 256) (c : Fin 1024) : out0_10 oa ob z x gate w shift scale g wi (ix3 0 r c) = rowX oa ob z x gate w r c := by
  unfold out0_10
  rw [View.canon_unit_zero zero3, View.ld_unit_zero zero3 _ x, View.ld_unit_zero zero3 _ gate, ← sum_at oa ob z x gate w shift scale g wi]
  pointwise [k0_pay7]
theorem out11_apply (r : Fin 256) (c : Fin 3072) :
    out0_11 oa ob z x gate w shift scale g wi (ix3 0 r c) = ∑ k, rowH oa ob z x gate w shift scale g r k * wi (ix2 k ⟨c.val, by omega⟩) := by
  unfold out0_11
  rw [View.canon_unit_zero zero3, ← product_at]
  pointwise [k0_pay2]
theorem out12_apply (r : Fin 256) (c : Fin 1024) :
    out0_12 oa ob z x gate w shift scale g wi (ix3 0 r c) = ∑ k, rowH oa ob z x gate w shift scale g r k * wi (ix2 k ⟨3072 + c.val, by omega⟩) := by
  unfold out0_12
  rw [View.canon_unit_zero zero3, ← product_at]
  pointwise [k0_pay3]
theorem out13_apply (r : Fin 256) (c : Fin 128) :
    out0_13 oa ob z x gate w shift scale g wi (ix3 0 r c) = ∑ k, rowH oa ob z x gate w shift scale g r k * wi (ix2 k ⟨4096 + c.val, by omega⟩) := by
  unfold out0_13
  rw [View.canon_unit_zero zero3, ← product_at]
  pointwise [k0_pay4]

/-! ## The blocks in the arrays -/

variable (m : (ℓ : Loc nD τ sig) → Buf (Elt Ideal) ℓ) (c : Dev nD)

/-- The batch and the block of rows of a grid point. -/
abbrev tb (t : Fin cfg0.N) : ℕ := t.val / 32
abbrev tr (t : Fin cfg0.N) : ℕ := t.val % 32

theorem point_lt (t : Fin cfg0.N) : t.val < 128 := lt_of_lt_of_eq t.isLt (show cfg0.N = 128 from N_0)

theorem index_0 : ∀ t : Fin cfg0.N, win0_0.index t = ![tb t, tr t, 0] :=
  (by decide +kernel : ∀ t : Fin grid0.N, cc0_transform_0 (grid0.coords t) = ![t.val / 32, t.val % 32, 0])
theorem index_1 : ∀ t : Fin cfg0.N, win0_1.index t = ![tb t, tr t, 0] :=
  (by decide +kernel : ∀ t : Fin grid0.N, cc0_transform_1 (grid0.coords t) = ![t.val / 32, t.val % 32, 0])
theorem index_2 : ∀ t : Fin cfg0.N, win0_2.index t = ![tb t, tr t, 0] :=
  (by decide +kernel : ∀ t : Fin grid0.N, cc0_transform_2 (grid0.coords t) = ![t.val / 32, t.val % 32, 0])
theorem index_3 : ∀ t : Fin cfg0.N, win0_3.index t = ![tb t, tr t, 0] :=
  (by decide +kernel : ∀ t : Fin grid0.N, cc0_transform_3 (grid0.coords t) = ![t.val / 32, t.val % 32, 0])
theorem index_4 : ∀ t : Fin cfg0.N, win0_4.index t = ![tb t, 0, 0] :=
  (by decide +kernel : ∀ t : Fin grid0.N, cc0_transform_4 (grid0.coords t) = ![t.val / 32, 0, 0])
theorem index_5 : ∀ t : Fin cfg0.N, win0_5.index t = ![0, 0] :=
  (by decide +kernel : ∀ t : Fin grid0.N, cc0_transform_5 (grid0.coords t) = ![0, 0])
theorem index_6 : ∀ t : Fin cfg0.N, win0_6.index t = ![tb t, 0, 0] :=
  (by decide +kernel : ∀ t : Fin grid0.N, cc0_transform_6 (grid0.coords t) = ![t.val / 32, 0, 0])
theorem index_7 : ∀ t : Fin cfg0.N, win0_7.index t = ![tb t, 0, 0] :=
  (by decide +kernel : ∀ t : Fin grid0.N, cc0_transform_7 (grid0.coords t) = ![t.val / 32, 0, 0])
theorem index_8 : ∀ t : Fin cfg0.N, win0_8.index t = ![0, 0] :=
  (by decide +kernel : ∀ t : Fin grid0.N, cc0_transform_8 (grid0.coords t) = ![0, 0])
theorem index_9 : ∀ t : Fin cfg0.N, win0_9.index t = ![0, 0] :=
  (by decide +kernel : ∀ t : Fin grid0.N, cc0_transform_9 (grid0.coords t) = ![0, 0])
theorem index_10 : ∀ t : Fin cfg0.N, win0_10.index t = ![tb t, tr t, 0] :=
  (by decide +kernel : ∀ t : Fin grid0.N, cc0_transform_10 (grid0.coords t) = ![t.val / 32, t.val % 32, 0])
theorem index_11 : ∀ t : Fin cfg0.N, win0_11.index t = ![tb t, tr t, 0] :=
  (by decide +kernel : ∀ t : Fin grid0.N, cc0_transform_11 (grid0.coords t) = ![t.val / 32, t.val % 32, 0])
theorem index_12 : ∀ t : Fin cfg0.N, win0_12.index t = ![tb t, tr t, 0] :=
  (by decide +kernel : ∀ t : Fin grid0.N, cc0_transform_12 (grid0.coords t) = ![t.val / 32, t.val % 32, 0])
theorem index_13 : ∀ t : Fin cfg0.N, win0_13.index t = ![tb t, tr t, 0] :=
  (by decide +kernel : ∀ t : Fin grid0.N, cc0_transform_13 (grid0.coords t) = ![t.val / 32, t.val % 32, 0])

theorem tb_lt (t : Fin cfg0.N) : tb t < 4 := by have := point_lt t; show t.val / 32 < 4; omega
theorem tr_lt (t : Fin cfg0.N) : tr t < 32 := by show t.val % 32 < 32; omega

/-- The batch of a point, and the row of the arrays that is row `r` of its block. -/
def pb (t : Fin cfg0.N) : Fin 4 := ⟨tb t, tb_lt t⟩
def pr (t : Fin cfg0.N) (r : Fin 256) : Fin 8192 := ⟨256 * tr t + r.val, by have := tr_lt t; have := r.isLt; omega⟩

/-- The launched arrays. -/
abbrev a0 : Halves := m ((c : Thread nD τ).loc main_arg0)
abbrev a1 : Halves := m ((c : Thread nD τ).loc main_arg1)
abbrev a2 : Rows := m ((c : Thread nD τ).loc main_arg2)
abbrev a3 : Rows := m ((c : Thread nD τ).loc main_arg3)
abbrev a4 : Mods := m ((c : Thread nD τ).loc main_arg4)
abbrev a5 : Weights := m ((c : Thread nD τ).loc main_arg5)
abbrev a6 : Mods := m ((c : Thread nD τ).loc main_arg6)
abbrev a7 : Mods := m ((c : Thread nD τ).loc main_arg7)
abbrev a8 : Norm := m ((c : Thread nD τ).loc main_arg8)
abbrev a9 : Packed := m ((c : Thread nD τ).loc main_arg9)

theorem blk_0 (t : Fin cfg0.N) (r : Fin 256) (k : Fin 512) : iblk m c 0 t (ix3 0 r k) = a0 m c (ix3 (pb t) (pr t r) k) := by
  blk_ext [iblk, V, index_0] <;> simp only [pb, pr] <;> omega
theorem blk_1 (t : Fin cfg0.N) (r : Fin 256) (k : Fin 512) : iblk m c 1 t (ix3 0 r k) = a1 m c (ix3 (pb t) (pr t r) k) := by
  blk_ext [iblk, V, index_1] <;> simp only [pb, pr] <;> omega
theorem blk_2 (t : Fin cfg0.N) (r : Fin 256) (k : Fin 1024) : iblk m c 2 t (ix3 0 r k) = a2 m c (ix3 (pb t) (pr t r) k) := by
  blk_ext [iblk, V, index_2] <;> simp only [pb, pr] <;> omega
theorem blk_3 (t : Fin cfg0.N) (r : Fin 256) (k : Fin 1024) : iblk m c 3 t (ix3 0 r k) = a3 m c (ix3 (pb t) (pr t r) k) := by
  blk_ext [iblk, V, index_3] <;> simp only [pb, pr] <;> omega
theorem blk_4 (t : Fin cfg0.N) (k : Fin 1024) : iblk m c 4 t (ix3 0 0 k) = a4 m c (ix3 (pb t) 0 k) := by
  blk_ext [iblk, V, index_4] <;> simp only [pb] <;> omega
theorem blk_6 (t : Fin cfg0.N) (k : Fin 1024) : iblk m c 6 t (ix3 0 0 k) = a6 m c (ix3 (pb t) 0 k) := by
  blk_ext [iblk, V, index_6] <;> simp only [pb] <;> omega
theorem blk_7 (t : Fin cfg0.N) (k : Fin 1024) : iblk m c 7 t (ix3 0 0 k) = a7 m c (ix3 (pb t) 0 k) := by
  blk_ext [iblk, V, index_7] <;> simp only [pb] <;> omega
/-- The first weights as the kernel is given them: as they were launched. -/
theorem weights_row : V m c main_v0 = a5 m c := by
  unfold V
  after_results
  rfl
theorem blk_5 (t : Fin cfg0.N) (k l : Fin 1024) : iblk m c 5 t (ix2 k l) = a5 m c (ix2 k l) := by
  rw [← weights_row]
  blk_ext [iblk, index_5]
/-- The norm's weights as the kernel is given them: one row. -/
theorem norm_row : V m c main_v11 = shapeCast S1x1024 (a8 m c) shapeCasts_S1024_S1x1024 := by
  unfold V
  after_results
  rfl
theorem norm_at (k : Fin 1024) : V m c main_v11 (ix2 0 k) = a8 m c (ix1 k) := by
  rw [norm_row]
  pointwise []
theorem blk_8 (t : Fin cfg0.N) (k : Fin 1024) : iblk m c 8 t (ix2 0 k) = a8 m c (ix1 k) := by
  rw [← norm_at]
  blk_ext [iblk, index_8]

/-! The second weights: the columns of the packed ones put in another order. -/

/-- The sixteen columns in the middle, then zeros. -/
def middle (w : Packed) : Vec Ideal S1024x128 .f32 :=
  Host.scatter scatter_S1024x128_S1_S1024x16_01_n_1_0 (fun _ b => b) (broadcastInDim S1024x128 ![] bcast_S_S1024x128 (constant (F := Ideal) S_ .f32 0x00000000#32))
    (broadcastInDim S1 ![] bcast_S_S1 (constantI S_ 32 0#32))
    (concatenate S1024x16 1 [⟨S1024x8, extractStridedSlice S1024x8 ![0, 3072] w slices_S1024x4112_S1024x8_0_3072⟩,
      ⟨S1024x8, extractStridedSlice S1024x8 ![0, 3080] w slices_S1024x4112_S1024x8_0_3080⟩] concatenates_S1024x8_S1024x8_S1024x16_d1)
def packed (w : Packed) : Vec Ideal S1024x4224 .f32 :=
  concatenate S1024x4224 1 [⟨S1024x3072, extractStridedSlice S1024x3072 ![0, 0] w slices_S1024x4112_S1024x3072_0_0⟩,
    ⟨S1024x1024, extractStridedSlice S1024x1024 ![0, 3088] w slices_S1024x4112_S1024x1024_0_3088⟩, ⟨S1024x128, middle w⟩] concatenates_S1024x3072_S1024x1024_S1024x128_S1024x4224_d1

/-! The stages it is made by. -/

theorem row_1 : V m c main_v1 = extractStridedSlice S1024x3072 ![0, 0] (a9 m c) slices_S1024x4112_S1024x3072_0_0 := by
  unfold V
  after_results
theorem row_4 : V m c main_v4 = extractStridedSlice S1024x1024 ![0, 3088] (a9 m c) slices_S1024x4112_S1024x1024_0_3088 := by
  unfold V
  after_results
theorem row_5 : V m c main_v5 = concatenate S1024x16 1 [⟨S1024x8, extractStridedSlice S1024x8 ![0, 3072] (a9 m c) slices_S1024x4112_S1024x8_0_3072⟩,
      ⟨S1024x8, extractStridedSlice S1024x8 ![0, 3080] (a9 m c) slices_S1024x4112_S1024x8_0_3080⟩] concatenates_S1024x8_S1024x8_S1024x16_d1 := by
  unfold V
  after_results
theorem row_6 : V m c main_v6 = broadcastInDim S1024x128 ![] bcast_S_S1024x128 (constant (F := Ideal) S_ .f32 0x00000000#32) := by
  unfold V
  after_results
theorem row_7 : V m c main_v7 = broadcastInDim S1 ![] bcast_S_S1 (constantI S_ 32 0#32) := by
  unfold V
  after_results

/-- A scatter is its three arguments'. -/
theorem put (A A' : Vec Ideal S1024x128 .f32) (B B' : S1.Idx → BitVec 32) (C C' : Vec Ideal S1024x16 .f32) (ha : A = A') (hb : B = B') (hc : C = C') :
    Host.scatter scatter_S1024x128_S1_S1024x16_01_n_1_0 (fun _ b => b) A B C = Host.scatter scatter_S1024x128_S1_S1024x16_01_n_1_0 (fun _ b => b) A' B' C' := by
  subst ha hb hc
  rfl

/-- And a concatenation its parts'. -/
theorem three (A A' : Vec Ideal S1024x3072 .f32) (B B' : Vec Ideal S1024x1024 .f32) (C C' : Vec Ideal S1024x128 .f32) (ha : A = A') (hb : B = B') (hc : C = C') :
    (truncf .bf16 (concatenate S1024x4224 1 [⟨S1024x3072, A⟩, ⟨S1024x1024, B⟩, ⟨S1024x128, C⟩] concatenates_S1024x3072_S1024x1024_S1024x128_S1024x4224_d1) bitsLt_bf16_f32 : FVec Ideal _ _) =
    truncf .bf16 (concatenate S1024x4224 1 [⟨S1024x3072, A'⟩, ⟨S1024x1024, B'⟩, ⟨S1024x128, C'⟩] concatenates_S1024x3072_S1024x1024_S1024x128_S1024x4224_d1) bitsLt_bf16_f32 := by
  subst ha hb hc
  rfl

/-- The second weights as the kernel is given them. -/
theorem packed_row : V m c main_v10 = packed (a9 m c) := by
  unfold V
  after_results
  refine three _ _ _ _ _ _ ?_ ?_ ?_
  · refine Eq.trans ?_ (row_1 m c)
    unfold V
    after_results
    rfl
  · refine Eq.trans ?_ (row_4 m c)
    unfold V
    after_results
    rfl
  · refine (StableHlo.ternary_result main_v6 main_v7 main_v5 main_v8 _ _ _ _ _ _).trans ?_
    refine put _ _ _ _ _ _ ?_ ?_ ?_
    · refine Eq.trans ?_ (row_6 m c)
      unfold V
      after_results
    · refine Eq.trans ?_ (row_7 m c)
      unfold V
      after_results
    · refine Eq.trans ?_ (row_5 m c)
      unfold V
      after_results

theorem middle_at (w : Packed) (k : Fin 1024) (j : Fin 128) :
    middle w (ix2 k j) = if h : j.val < 16 then w (ix2 k ⟨3072 + j.val, by omega⟩) else 0 := by
  refine (front_apply scatter_S1024x128_S1_S1024x16_01_n_1_0 rfl rfl rfl _ (fun _ => rfl) (by decide) _ _ k j).trans ?_
  split
  next h =>
    pointwise []
    by_cases h' : j.val < 8
    · rw [dif_pos h']
    · rw [dif_neg h']
      refine congrArg (fun e => w (ix2 k e)) (Fin.ext ?_)
      show 3080 + (j.val - 8) = 3072 + j.val
      omega
  next h =>
    pointwise []

theorem packed_at (w : Packed) (k : Fin 1024) (j : Fin 4224) :
    packed w (ix2 k j) = if h : j.val < 3072 then w (ix2 k ⟨j.val, by omega⟩)
      else if h' : j.val - 3072 < 1024 then w (ix2 k ⟨3088 + (j.val - 3072), by omega⟩) else middle w (ix2 k ⟨j.val - 3072 - 1024, by omega⟩) := by
  unfold packed
  generalize middle w = y
  pointwise []
theorem packed_qkv (w : Packed) (k : Fin 1024) (j : Fin 3072) : packed w (ix2 k ⟨j.val, by omega⟩) = w (ix2 k ⟨j.val, by omega⟩) := by
  rw [packed_at, dif_pos j.isLt]
theorem packed_z (w : Packed) (k : Fin 1024) (j : Fin 1024) : packed w (ix2 k ⟨3072 + j.val, by omega⟩) = w (ix2 k ⟨3088 + j.val, by omega⟩) := by
  rw [packed_at, dif_neg (by simp), dif_pos (by simp)]
  refine congrArg (fun e => w (ix2 k e)) (Fin.ext ?_)
  show 3088 + (3072 + j.val - 3072) = 3088 + j.val
  omega
theorem packed_ab (w : Packed) (k : Fin 1024) (j : Fin 128) : packed w (ix2 k ⟨4096 + j.val, by omega⟩) = middle w (ix2 k j) := by
  rw [packed_at, dif_neg (by simp; omega), dif_neg (by simp; omega)]
  refine congrArg (fun e => middle w (ix2 k e)) (Fin.ext ?_)
  show 4096 + j.val - 3072 - 1024 = j.val
  omega

theorem blk_9 (t : Fin cfg0.N) (k : Fin 1024) (j : Fin 4224) : iblk m c 9 t (ix2 k j) = packed (a9 m c) (ix2 k j) := by
  rw [← packed_row]
  blk_ext [iblk, index_9]

/-! The rows of a block are those of the arrays. -/

theorem rowX_eq (t : Fin cfg0.N) (r : Fin 256) :
    rowX (iblk m c 0 t) (iblk m c 1 t) (iblk m c 2 t) (iblk m c 3 t) (iblk m c 4 t) (iblk m c 5 t) r
      = sum (joined (a0 m c) (a1 m c)) (a2 m c) (a3 m c) (a4 m c) (a5 m c) (pb t) (pr t r) := by
  have e : two (iblk m c 0 t) (iblk m c 1 t) r = fun k => joined (a0 m c) (a1 m c) (ix3 (pb t) (pr t r) k) := by
    funext k
    unfold two joined
    by_cases h : k.val < 512
    · rw [dif_pos h, dif_pos (show ((ix3 (pb t) (pr t r) k) 2).val < 512 from h), blk_0]
      rfl
    · rw [dif_neg h, dif_neg (show ¬ ((ix3 (pb t) (pr t r) k) 2).val < 512 from h), blk_1]
      rfl
  unfold rowX Cert.Rows.sum
  rw [e]
  simp only [blk_2, blk_3, blk_4, blk_5]

theorem rowH_eq (t : Fin cfg0.N) (r : Fin 256) :
    rowH (iblk m c 0 t) (iblk m c 1 t) (iblk m c 2 t) (iblk m c 3 t) (iblk m c 4 t) (iblk m c 5 t) (iblk m c 6 t) (iblk m c 7 t) (iblk m c 8 t) r
      = handed (a0 m c) (a1 m c) (a2 m c) (a3 m c) (a4 m c) (a5 m c) (a6 m c) (a7 m c) (a8 m c) (pb t) (pr t r) := by
  unfold rowH handed
  rw [rowX_eq]
  simp only [blk_6, blk_7, blk_8]

theorem out_10 (t : Fin cfg0.N) (i : S1x256x1024.Idx) :
    ((cfg0.win 10).blk t).view.read (Elt Ideal) (midX (a0 m c) (a1 m c) (a2 m c) (a3 m c) (a4 m c) (a5 m c)) i
      = out0_10 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  rw [out10_apply, rowX_eq]
  refine Eq.trans (b := midX (a0 m c) (a1 m c) (a2 m c) (a3 m c) (a4 m c) (a5 m c) (ix3 (pb t) (pr t r) k)) ?_ ?_
  · blk_ext [index_10] <;> simp only [pb, pr] <;> omega
  · rfl

theorem covers_10 (i : S4x8192x1024.Idx) : ∃ t : Fin cfg0.N, (cfg0.win 10).flush t = true ∧ i ∈ ((cfg0.win 10).blk t).view.set := by
  have h0 : (i 0).val < 4 := (i 0).isLt
  have h1 : (i 1).val < 8192 := (i 1).isLt
  have h2 : (i 2).val < 1024 := (i 2).isLt
  obtain ⟨t, ht⟩ : ∃ t : Fin cfg0.N, t.val = 32 * (i 0).val + (i 1).val / 256 :=
    ⟨⟨32 * (i 0).val + (i 1).val / 256, lt_of_lt_of_eq (by omega) N_0.symm⟩, rfl⟩
  refine ⟨t, flush0_10 t, ?_⟩
  mem_blk [index_10]
  simp only [tb, tr]
  omega

theorem arr_10 : (dats m 0 c).arrAt 10 cfg0.N = midX (a0 m c) (a1 m c) (a2 m c) (a3 m c) (a4 m c) (a5 m c) :=
  Pipeline.Dat.arrAt_eq_of_cover (dats m 0 c) 10 (midX (a0 m c) (a1 m c) (a2 m c) (a3 m c) (a4 m c) (a5 m c))
    (fun t _ => (Cert.Kernel2Ideal.Value.flushed10 m c t).trans (funext fun i => (out_10 m c t i).symm))
    (fun i => covers_10 i)

theorem out_11 (t : Fin cfg0.N) (i : S1x256x3072.Idx) :
    ((cfg0.win 11).blk t).view.read (Elt Ideal) (midQkv (a0 m c) (a1 m c) (a2 m c) (a3 m c) (a4 m c) (a5 m c) (a6 m c) (a7 m c) (a8 m c) (a9 m c)) i
      = out0_11 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  rw [out11_apply, rowH_eq]
  simp only [blk_9, packed_qkv]
  refine Eq.trans (b := midQkv (a0 m c) (a1 m c) (a2 m c) (a3 m c) (a4 m c) (a5 m c) (a6 m c) (a7 m c) (a8 m c) (a9 m c) (ix3 (pb t) (pr t r) k)) ?_ ?_
  · blk_ext [index_11] <;> simp only [pb, pr] <;> omega
  · rfl

theorem covers_11 (i : S4x8192x3072.Idx) : ∃ t : Fin cfg0.N, (cfg0.win 11).flush t = true ∧ i ∈ ((cfg0.win 11).blk t).view.set := by
  have h0 : (i 0).val < 4 := (i 0).isLt
  have h1 : (i 1).val < 8192 := (i 1).isLt
  have h2 : (i 2).val < 3072 := (i 2).isLt
  obtain ⟨t, ht⟩ : ∃ t : Fin cfg0.N, t.val = 32 * (i 0).val + (i 1).val / 256 :=
    ⟨⟨32 * (i 0).val + (i 1).val / 256, lt_of_lt_of_eq (by omega) N_0.symm⟩, rfl⟩
  refine ⟨t, flush0_11 t, ?_⟩
  mem_blk [index_11]
  simp only [tb, tr]
  omega

theorem arr_11 : (dats m 0 c).arrAt 11 cfg0.N = midQkv (a0 m c) (a1 m c) (a2 m c) (a3 m c) (a4 m c) (a5 m c) (a6 m c) (a7 m c) (a8 m c) (a9 m c) :=
  Pipeline.Dat.arrAt_eq_of_cover (dats m 0 c) 11 (midQkv (a0 m c) (a1 m c) (a2 m c) (a3 m c) (a4 m c) (a5 m c) (a6 m c) (a7 m c) (a8 m c) (a9 m c))
    (fun t _ => (Cert.Kernel2Ideal.Value.flushed11 m c t).trans (funext fun i => (out_11 m c t i).symm))
    (fun i => covers_11 i)

theorem out_12 (t : Fin cfg0.N) (i : S1x256x1024.Idx) :
    ((cfg0.win 12).blk t).view.read (Elt Ideal) (midZ (a0 m c) (a1 m c) (a2 m c) (a3 m c) (a4 m c) (a5 m c) (a6 m c) (a7 m c) (a8 m c) (a9 m c)) i
      = out0_12 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  rw [out12_apply, rowH_eq]
  simp only [blk_9, packed_z]
  refine Eq.trans (b := midZ (a0 m c) (a1 m c) (a2 m c) (a3 m c) (a4 m c) (a5 m c) (a6 m c) (a7 m c) (a8 m c) (a9 m c) (ix3 (pb t) (pr t r) k)) ?_ ?_
  · blk_ext [index_12] <;> simp only [pb, pr] <;> omega
  · rfl

theorem covers_12 (i : S4x8192x1024.Idx) : ∃ t : Fin cfg0.N, (cfg0.win 12).flush t = true ∧ i ∈ ((cfg0.win 12).blk t).view.set := by
  have h0 : (i 0).val < 4 := (i 0).isLt
  have h1 : (i 1).val < 8192 := (i 1).isLt
  have h2 : (i 2).val < 1024 := (i 2).isLt
  obtain ⟨t, ht⟩ : ∃ t : Fin cfg0.N, t.val = 32 * (i 0).val + (i 1).val / 256 :=
    ⟨⟨32 * (i 0).val + (i 1).val / 256, lt_of_lt_of_eq (by omega) N_0.symm⟩, rfl⟩
  refine ⟨t, flush0_12 t, ?_⟩
  mem_blk [index_12]
  simp only [tb, tr]
  omega

theorem arr_12 : (dats m 0 c).arrAt 12 cfg0.N = midZ (a0 m c) (a1 m c) (a2 m c) (a3 m c) (a4 m c) (a5 m c) (a6 m c) (a7 m c) (a8 m c) (a9 m c) :=
  Pipeline.Dat.arrAt_eq_of_cover (dats m 0 c) 12 (midZ (a0 m c) (a1 m c) (a2 m c) (a3 m c) (a4 m c) (a5 m c) (a6 m c) (a7 m c) (a8 m c) (a9 m c))
    (fun t _ => (Cert.Kernel2Ideal.Value.flushed12 m c t).trans (funext fun i => (out_12 m c t i).symm))
    (fun i => covers_12 i)

theorem out_13 (t : Fin cfg0.N) (i : S1x256x128.Idx) :
    ((cfg0.win 13).blk t).view.read (Elt Ideal) (midAb (a0 m c) (a1 m c) (a2 m c) (a3 m c) (a4 m c) (a5 m c) (a6 m c) (a7 m c) (a8 m c) (a9 m c)) i
      = out0_13 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  rw [out13_apply, rowH_eq]
  simp only [blk_9, packed_ab, middle_at]
  refine Eq.trans (b := midAb (a0 m c) (a1 m c) (a2 m c) (a3 m c) (a4 m c) (a5 m c) (a6 m c) (a7 m c) (a8 m c) (a9 m c) (ix3 (pb t) (pr t r) k)) ?_ ?_
  · blk_ext [index_13] <;> simp only [pb, pr] <;> omega
  · unfold midAb
    by_cases h : k.val < 16
    · rw [dif_pos (show ((ix3 (pb t) (pr t r) k) 2).val < 16 from h)]
      simp only [dif_pos h]
      rfl
    · rw [dif_neg (show ¬ ((ix3 (pb t) (pr t r) k) 2).val < 16 from h)]
      simp only [dif_neg h, mul_zero, Finset.sum_const_zero]

theorem covers_13 (i : S4x8192x128.Idx) : ∃ t : Fin cfg0.N, (cfg0.win 13).flush t = true ∧ i ∈ ((cfg0.win 13).blk t).view.set := by
  have h0 : (i 0).val < 4 := (i 0).isLt
  have h1 : (i 1).val < 8192 := (i 1).isLt
  have h2 : (i 2).val < 128 := (i 2).isLt
  obtain ⟨t, ht⟩ : ∃ t : Fin cfg0.N, t.val = 32 * (i 0).val + (i 1).val / 256 :=
    ⟨⟨32 * (i 0).val + (i 1).val / 256, lt_of_lt_of_eq (by omega) N_0.symm⟩, rfl⟩
  refine ⟨t, flush0_13 t, ?_⟩
  mem_blk [index_13]
  simp only [tb, tr]
  omega

theorem arr_13 : (dats m 0 c).arrAt 13 cfg0.N = midAb (a0 m c) (a1 m c) (a2 m c) (a3 m c) (a4 m c) (a5 m c) (a6 m c) (a7 m c) (a8 m c) (a9 m c) :=
  Pipeline.Dat.arrAt_eq_of_cover (dats m 0 c) 13 (midAb (a0 m c) (a1 m c) (a2 m c) (a3 m c) (a4 m c) (a5 m c) (a6 m c) (a7 m c) (a8 m c) (a9 m c))
    (fun t _ => (Cert.Kernel2Ideal.Value.flushed13 m c t).trans (funext fun i => (out_13 m c t i).symm))
    (fun i => covers_13 i)

end Cert.Kernel2Ideal.Mid

end
-- ==== Proof.Mid.Reference.lean ====
/- The values of the reference of the call between the two halves of the layer. -/
module

public import proofs.«01_k».proof.Proof.Gen.Reference2Ideal.Read
public import proofs.«01_k».proof.Proof.Rows.Spec

@[expose] public section

set_option maxRecDepth 16384

noncomputable section

namespace Cert.Reference2Ideal.Mid

open Idealize.ShloMosaic Idealize.ShloMosaic.TcCoe Idealize.ShloMosaic.Tactic
open Cert.Reference2Ideal.Read Cert.Rows
open scoped BigOperators

variable (oa ob : Halves) (z x : Rows) (gate : Mods) (w : Weights) (shift scale : Mods) (g : Norm) (wi : Packed)

theorem joined_at (b : Fin 4) (r : Fin 8192) (c : Fin 1024) : val_main_v0 (F := Ideal) oa ob (ix3 b r c) = joined oa ob (ix3 b r c) := by
  pointwise [val_main_v0]
  rfl

theorem sum_at (b : Fin 4) (r : Fin 8192) (c : Fin 1024) :
    val_main_v6 (F := Ideal) oa ob z x gate w (ix3 b r c) = sum (joined oa ob) z x gate w b r c := by
  pointwise [val_main_v6, val_main_v5, val_main_v4, val_main_v3, val_main_v2, val_main_v1, val_main_call0_v5, val_main_call0_v4, val_main_call0_v3, val_main_call0_v2,
    val_main_call0_v1, val_main_call0_v0, val_main_call0_cst, val_main_call0_cst_0]
  simp only [joined_at]
  rfl

theorem x_at : val_main_v6 (F := Ideal) oa ob z x gate w = midX oa ob z x gate w := by
  funext i
  obtain ⟨b, r, c, rfl⟩ : ∃ b r c, i = ix3 b r c := ⟨i 0, i 1, i 2, by idx_vars i⟩
  exact sum_at oa ob z x gate w b r c

theorem handed_at (b : Fin 4) (r : Fin 8192) (c : Fin 1024) :
    val_main_v25 (F := Ideal) oa ob z x gate w shift scale g (ix3 b r c) = handed oa ob z x gate w shift scale g b r c := by
  pointwise [val_main_v25, val_main_v24, val_main_v23, val_main_v22, val_main_v21, val_main_v20, val_main_cst_2, val_main_v19, val_main_v18, val_main_v17, val_main_v16, val_main_v15,
    val_main_v14, val_main_v13, val_main_v12, val_main_cst_1, val_main_v11, val_main_v10, val_main_cst_0, val_main_v9, val_main_v8, val_main_cst, val_main_v7]
  simp only [sum_at]
  rfl

theorem column_at (b : Fin 4) (r : Fin 8192) (j : Fin 4112) :
    val_main_v26 (F := Ideal) oa ob z x gate w shift scale g wi (ix3 b r j) = column (handed oa ob z x gate w shift scale g b r) wi j := by
  pointwise [val_main_v26]
  simp only [handed_at]
  rfl

theorem qkv_at : val_main_v27 (F := Ideal) oa ob z x gate w shift scale g wi = midQkv oa ob z x gate w shift scale g wi := by
  funext i
  obtain ⟨b, r, c, rfl⟩ : ∃ b r c, i = ix3 b r c := ⟨i 0, i 1, i 2, by idx_vars i⟩
  pointwise [val_main_v27]
  rw [column_at]
  rfl

theorem z_at : val_main_v30 (F := Ideal) oa ob z x gate w shift scale g wi = midZ oa ob z x gate w shift scale g wi := by
  funext i
  obtain ⟨b, r, c, rfl⟩ : ∃ b r c, i = ix3 b r c := ⟨i 0, i 1, i 2, by idx_vars i⟩
  pointwise [val_main_v30]
  rw [column_at]
  rfl

theorem ab_at : val_main_v32 (F := Ideal) oa ob z x gate w shift scale g wi = midAb oa ob z x gate w shift scale g wi := by
  funext i
  obtain ⟨b, r, c, rfl⟩ : ∃ b r c, i = ix3 b r c := ⟨i 0, i 1, i 2, by idx_vars i⟩
  pointwise [val_main_v32, val_main_v31, val_main_v29, val_main_v28, val_main_call1_v0, val_main_c]
  unfold midAb
  by_cases h : c.val < 16
  · rw [dif_pos h, dif_pos (show ((ix3 b r c) 2).val < 16 from h)]
    by_cases h' : c.val < 8
    · rw [dif_pos h', column_at]; rfl
    · rw [dif_neg h', column_at]
      refine congrArg (column _ wi) (Fin.ext ?_)
      show 3080 + (c.val - 8) = 3072 + c.val
      omega
  · rw [dif_neg h, dif_neg (show ¬ ((ix3 b r c) 2).val < 16 from h)]
    show (((0#32 : BitVec 32).toInt : ℝ) : EReal) = 0
    simp

end Cert.Reference2Ideal.Mid

end
-- ==== Proof.Final.Value.lean ====
/- The values of the idealized final call: every block of the result is that part of the normed rows, and so is the
   whole result. -/
module

public import proofs.«01_k».proof.Proof.Gen.Kernel3Ideal.Value
public import proofs.«01_k».proof.Proof.Rows.Spec
public import Idealize.ShloMosaic.Lib.Pipeline.ValueKit

@[expose] public section

set_option maxRecDepth 16384

noncomputable section

namespace Cert.Kernel3Ideal.Final

open Idealize.ShloMosaic Idealize.ShloMosaic.TcCoe Idealize.ShloMosaic.Tactic
open Cert.Kernel3Ideal.Gen Cert.Rows
open scoped BigOperators

/-! ## One block -/

variable (o z x : Vec Ideal S1x256x1024 .f32) (gate : Vec Ideal S1x1x1024 .f32) (w : Vec Ideal S1024x1024 .bf16) (g : Vec Ideal S1x1024 .f32)

theorem sum_apply (r : Fin 256) (c : Fin 1024) :
    k0_pay2 o z x gate w (ix2 r c) = mixed (fun k => o (ix3 0 r k)) (fun k => z (ix3 0 r k)) (fun k => x (ix3 0 r k)) (fun k => gate (ix3 0 0 k)) (fun k c => w (ix2 k c)) c := by
  pointwise [k0_pay2]
  simp only [zero_sub]
  rfl

theorem scale_apply (r : Fin 256) (c : Fin 1024) :
    k0_pay4 o z x gate w (ix2 r c) = Ideal.rsqrt (Ideal.div (∑ k, k0_pay2 o z x gate w (ix2 r k) * k0_pay2 o z x gate w (ix2 r k))
      (Ideal.ofBits .f32 0x44800000#32) + Ideal.ofBits .f32 0x358637BD#32) := by
  pointwise [k0_pay4]

theorem block_apply (r : Fin 256) (c : Fin 1024) :
    k0_pay1 (k0_pay2 o z x gate w) (k0_pay3 g) (k0_pay4 o z x gate w) (ix3 0 r c)
      = normed (mixed (fun k => o (ix3 0 r k)) (fun k => z (ix3 0 r k)) (fun k => x (ix3 0 r k)) (fun k => gate (ix3 0 0 k)) (fun k c => w (ix2 k c)))
          (fun k => g (ix2 0 k)) c := by
  pointwise [k0_pay1, k0_pay3]
  simp only [scale_apply, sum_apply]
  rfl

theorem zero2 : (![0, 0] : Fin 2 → ℕ) = fun _ => 0 := by funext a; fin_cases a <;> rfl
theorem zero3 : (![0, 0, 0] : Fin 3 → ℕ) = fun _ => 0 := by funext a; fin_cases a <;> rfl

/-- What the body leaves in the result's block. -/
theorem out_apply (r : Fin 256) (c : Fin 1024) :
    out0_6 o z x gate w g (ix3 0 r c)
      = normed (mixed (fun k => o (ix3 0 r k)) (fun k => z (ix3 0 r k)) (fun k => x (ix3 0 r k)) (fun k => gate (ix3 0 0 k)) (fun k c => w (ix2 k c)))
          (fun k => g (ix2 0 k)) c := by
  unfold out0_6
  rw [View.canon_unit_zero zero3]
  rw [View.ld_unit_zero zero3 _ o, View.ld_unit_zero zero3 _ z, View.ld_unit_zero zero3 _ x, View.ld_unit_zero zero3 _ gate, View.ld_unit_zero zero2 _ w,
    View.ld_unit_zero zero2 _ g]
  exact block_apply o z x gate w g r c

/-! ## The blocks in the arrays -/

variable (m : (ℓ : Loc nD τ sig) → Buf (Elt Ideal) ℓ) (c : Dev nD)

/-- The batch and the block of rows of a grid point. -/
abbrev tb (t : Fin cfg0.N) : ℕ := t.val / 32
abbrev tr (t : Fin cfg0.N) : ℕ := t.val % 32

theorem point_lt (t : Fin cfg0.N) : t.val < 128 := lt_of_lt_of_eq t.isLt (show cfg0.N = 128 from N_0)

theorem index_0 : ∀ t : Fin cfg0.N, win0_0.index t = ![tb t, tr t, 0] :=
  (by decide +kernel : ∀ t : Fin grid0.N, cc0_transform_0 (grid0.coords t) = ![t.val / 32, t.val % 32, 0])
theorem index_1 : ∀ t : Fin cfg0.N, win0_1.index t = ![tb t, tr t, 0] :=
  (by decide +kernel : ∀ t : Fin grid0.N, cc0_transform_1 (grid0.coords t) = ![t.val / 32, t.val % 32, 0])
theorem index_2 : ∀ t : Fin cfg0.N, win0_2.index t = ![tb t, tr t, 0] :=
  (by decide +kernel : ∀ t : Fin grid0.N, cc0_transform_2 (grid0.coords t) = ![t.val / 32, t.val % 32, 0])
theorem index_3 : ∀ t : Fin cfg0.N, win0_3.index t = ![tb t, 0, 0] :=
  (by decide +kernel : ∀ t : Fin grid0.N, cc0_transform_3 (grid0.coords t) = ![t.val / 32, 0, 0])
theorem index_4 : ∀ t : Fin cfg0.N, win0_4.index t = ![0, 0] :=
  (by decide +kernel : ∀ t : Fin grid0.N, cc0_transform_4 (grid0.coords t) = ![0, 0])
theorem index_5 : ∀ t : Fin cfg0.N, win0_5.index t = ![0, 0] :=
  (by decide +kernel : ∀ t : Fin grid0.N, cc0_transform_5 (grid0.coords t) = ![0, 0])
theorem index_6 : ∀ t : Fin cfg0.N, win0_6.index t = ![tb t, tr t, 0] :=
  (by decide +kernel : ∀ t : Fin grid0.N, cc0_transform_6 (grid0.coords t) = ![t.val / 32, t.val % 32, 0])

theorem tb_lt (t : Fin cfg0.N) : tb t < 4 := by have := point_lt t; show t.val / 32 < 4; omega
theorem tr_lt (t : Fin cfg0.N) : tr t < 32 := by show t.val % 32 < 32; omega

/-- The batch of a point, and the row of the arrays that is row `r` of its block. -/
def pb (t : Fin cfg0.N) : Fin 4 := ⟨tb t, tb_lt t⟩
def pr (t : Fin cfg0.N) (r : Fin 256) : Fin 8192 := ⟨256 * tr t + r.val, by have := tr_lt t; have := r.isLt; omega⟩

/-- The launched arrays. -/
abbrev a0 : Rows := m ((c : Thread nD τ).loc main_arg0)
abbrev a1 : Rows := m ((c : Thread nD τ).loc main_arg1)
abbrev a2 : Rows := m ((c : Thread nD τ).loc main_arg2)
abbrev a3 : Mods := m ((c : Thread nD τ).loc main_arg3)
abbrev a4 : Weights := m ((c : Thread nD τ).loc main_arg4)
abbrev a5 : Norm := m ((c : Thread nD τ).loc main_arg5)

theorem blk_0 (t : Fin cfg0.N) (r : Fin 256) (k : Fin 1024) : iblk m c 0 t (ix3 0 r k) = a0 m c (ix3 (pb t) (pr t r) k) := by
  blk_ext [iblk, V, index_0] <;> simp only [pb, pr] <;> omega
theorem blk_1 (t : Fin cfg0.N) (r : Fin 256) (k : Fin 1024) : iblk m c 1 t (ix3 0 r k) = a1 m c (ix3 (pb t) (pr t r) k) := by
  blk_ext [iblk, V, index_1] <;> simp only [pb, pr] <;> omega
theorem blk_2 (t : Fin cfg0.N) (r : Fin 256) (k : Fin 1024) : iblk m c 2 t (ix3 0 r k) = a2 m c (ix3 (pb t) (pr t r) k) := by
  blk_ext [iblk, V, index_2] <;> simp only [pb, pr] <;> omega
theorem blk_3 (t : Fin cfg0.N) (k : Fin 1024) : iblk m c 3 t (ix3 0 0 k) = a3 m c (ix3 (pb t) 0 k) := by
  blk_ext [iblk, V, index_3] <;> simp only [pb, pr] <;> omega
theorem blk_4 (t : Fin cfg0.N) (k l : Fin 1024) : iblk m c 4 t (ix2 k l) = a4 m c (ix2 k l) := by
  blk_ext [iblk, V, index_4]
/-- The norm's weights as the kernel is given them: one row. -/
theorem norm_row : V m c main_v1 = shapeCast S1x1024 (a5 m c) shapeCasts_S1024_S1x1024 := by
  unfold V
  after_results
  rfl
theorem norm_at (k : Fin 1024) : V m c main_v1 (ix2 0 k) = a5 m c (ix1 k) := by
  rw [norm_row]
  pointwise []
theorem blk_5 (t : Fin cfg0.N) (k : Fin 1024) : iblk m c 5 t (ix2 0 k) = a5 m c (ix1 k) := by
  rw [← norm_at]
  blk_ext [iblk, index_5]

/-- The result's block at a point is that part of the whole result. -/
theorem out_6 (t : Fin cfg0.N) (i : S1x256x1024.Idx) :
    ((cfg0.win 6).blk t).view.read (Elt Ideal) (final (a0 m c) (a1 m c) (a2 m c) (a3 m c) (a4 m c) (a5 m c)) i
      = out0_6 (iblk m c 0 t) (iblk m c 1 t) (iblk m c 2 t) (iblk m c 3 t) (iblk m c 4 t) (iblk m c 5 t) i := by
  obtain ⟨s, r, k, rfl⟩ : ∃ s r k, i = ix3 s r k := ⟨i 0, i 1, i 2, by idx_vars i⟩
  obtain rfl : s = 0 := Subsingleton.elim _ _
  rw [out_apply]
  simp only [blk_0, blk_1, blk_2, blk_3, blk_4, blk_5]
  show _ = final (a0 m c) (a1 m c) (a2 m c) (a3 m c) (a4 m c) (a5 m c) (ix3 (pb t) (pr t r) k)
  blk_ext [index_6] <;> simp only [pb, pr] <;> omega

theorem covers_6 (i : S4x8192x1024.Idx) : ∃ t : Fin cfg0.N, (cfg0.win 6).flush t = true ∧ i ∈ ((cfg0.win 6).blk t).view.set := by
  have h0 : (i 0).val < 4 := (i 0).isLt
  have h1 : (i 1).val < 8192 := (i 1).isLt
  have h2 : (i 2).val < 1024 := (i 2).isLt
  obtain ⟨t, ht⟩ : ∃ t : Fin cfg0.N, t.val = 32 * (i 0).val + (i 1).val / 256 :=
    ⟨⟨32 * (i 0).val + (i 1).val / 256, lt_of_lt_of_eq (by omega) N_0.symm⟩, rfl⟩
  refine ⟨t, flush0_6 t, ?_⟩
  mem_blk [index_6]
  simp only [tb, tr]
  omega

/-- The result is written block by block to the normed rows of the launched arrays. -/
theorem arr_6 : (dats m 0 c).arrAt 6 cfg0.N = final (a0 m c) (a1 m c) (a2 m c) (a3 m c) (a4 m c) (a5 m c) :=
  Pipeline.Dat.arrAt_eq_of_cover (dats m 0 c) 6 (final (a0 m c) (a1 m c) (a2 m c) (a3 m c) (a4 m c) (a5 m c))
    (fun t _ => (Cert.Kernel3Ideal.Value.flushed6 m c t).trans (funext fun i => (out_6 m c t i).symm))
    (fun i => covers_6 i)

end Cert.Kernel3Ideal.Final

end
-- ==== Proof.Final.Reference.lean ====
/- The values of the reference of the final call: the normed rows. -/
module

public import proofs.«01_k».proof.Proof.Gen.Reference3Ideal.Read
public import proofs.«01_k».proof.Proof.Rows.Spec

@[expose] public section

set_option maxRecDepth 16384

noncomputable section

namespace Cert.Reference3Ideal.Final

open Idealize.ShloMosaic Idealize.ShloMosaic.TcCoe Idealize.ShloMosaic.Tactic
open Cert.Reference3Ideal.Read Cert.Rows
open scoped BigOperators

variable (o z x : Rows) (gate : Mods) (w : Weights) (g : Norm)

theorem sum_apply (b : Fin 4) (r : Fin 8192) (c : Fin 1024) :
    val_main_v5 (F := Ideal) o z x gate w (ix3 b r c) = sum o z x gate w b r c := by
  pointwise [val_main_v5, val_main_v4, val_main_v3, val_main_v2, val_main_v1, val_main_v0, val_main_call0_v5, val_main_call0_v4, val_main_call0_v3, val_main_call0_v2,
    val_main_call0_v1, val_main_call0_v0, val_main_call0_cst, val_main_call0_cst_0]
  rfl

theorem result_at : val_main_v18 (F := Ideal) o z x gate w g = final o z x gate w g := by
  funext i
  obtain ⟨b, r, c, rfl⟩ : ∃ b r c, i = ix3 b r c := ⟨i 0, i 1, i 2, by idx_vars i⟩
  pointwise [val_main_v18, val_main_v17, val_main_v16, val_main_v15, val_main_v14, val_main_v13, val_main_v12, val_main_v11, val_main_cst_1, val_main_v10,
    val_main_v9, val_main_cst_0, val_main_v8, val_main_v7, val_main_cst, val_main_v6]
  simp only [sum_apply]
  rfl

end Cert.Reference3Ideal.Final

end
-- ==== Proof.InA.Run.lean ====
/- The run of the idealized call that opens the attention sublayer: what it leaves in each of its eight results, block by
   block. -/
module

public import proofs.«01_k».proof.Proof.Gen.Kernel4Ideal.Frame
public import Idealize.ShloMosaic.Lib.Pipeline.Value

@[expose] public section

noncomputable section

namespace Cert.Kernel4Ideal.InA

open Cert.Kernel4Ideal Cert.Kernel4Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What a grid point writes back to result 0: what the body leaves there of the blocks it reads. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 10).cut (grid0.coords t) ((dats m 0 c).after 10 t) = _
  rw [after0_10]

/-- What a grid point writes back to result 1: what the body leaves there of the blocks it reads. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 11).cut (grid0.coords t) ((dats m 0 c).after 11 t) = _
  rw [after0_11]

/-- What a grid point writes back to result 2: what the body leaves there of the blocks it reads. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 12).cut (grid0.coords t) ((dats m 0 c).after 12 t) = _
  rw [after0_12]

/-- What a grid point writes back to result 3: what the body leaves there of the blocks it reads. -/
theorem flushed13 (c : Dev nD) (t : Fin cfg0.N) :
    (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 13).cut (grid0.coords t) ((dats m 0 c).after 13 t) = _
  rw [after0_13]

/-- What a grid point writes back to result 4: what the body leaves there of the blocks it reads. -/
theorem flushed14 (c : Dev nD) (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 14).cut (grid0.coords t) ((dats m 0 c).after 14 t) = _
  rw [after0_14]

/-- What a grid point writes back to result 5: what the body leaves there of the blocks it reads. -/
theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 15).cut (grid0.coords t) ((dats m 0 c).after 15 t) = _
  rw [after0_15]

/-- What a grid point writes back to result 6: what the body leaves there of the blocks it reads. -/
theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 16).cut (grid0.coords t) ((dats m 0 c).after 16 t) = _
  rw [after0_16]

/-- What a grid point writes back to result 7: what the body leaves there of the blocks it reads. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 17).cut (grid0.coords t) ((dats m 0 c).after 17 t) = _
  rw [after0_17]

theorem post10 (r : PUnit × MemSt nD τ sig (Elt F)) (h : Pipeline.FramePost cfgs (dats m) 0 (V m) r) (c : Dev nD) :
    r.2.mem ((c : Thread nD τ).loc main_v90_0) = (dats m 0 c).arrAt 10 cfg0.N :=
  (h c).1 10

theorem post11 (r : PUnit × MemSt nD τ sig (Elt F)) (h : Pipeline.FramePost cfgs (dats m) 0 (V m) r) (c : Dev nD) :
    r.2.mem ((c : Thread nD τ).loc main_v90_1) = (dats m 0 c).arrAt 11 cfg0.N :=
  (h c).1 11

theorem post12 (r : PUnit × MemSt nD τ sig (Elt F)) (h : Pipeline.FramePost cfgs (dats m) 0 (V m) r) (c : Dev nD) :
    r.2.mem ((c : Thread nD τ).loc main_v90_2) = (dats m 0 c).arrAt 12 cfg0.N :=
  (h c).1 12

theorem post13 (r : PUnit × MemSt nD τ sig (Elt F)) (h : Pipeline.FramePost cfgs (dats m) 0 (V m) r) (c : Dev nD) :
    r.2.mem ((c : Thread nD τ).loc main_v90_3) = (dats m 0 c).arrAt 13 cfg0.N :=
  (h c).1 13

theorem post14 (r : PUnit × MemSt nD τ sig (Elt F)) (h : Pipeline.FramePost cfgs (dats m) 0 (V m) r) (c : Dev nD) :
    r.2.mem ((c : Thread nD τ).loc main_v90_4) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v90_5) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v90_6) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v90_7) = (dats m 0 c).arrAt 17 cfg0.N :=
  (h c).1 17

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

set_option maxHeartbeats 300820 in
/-- The run leaves in every result the array its blocks make up, and the arguments unchanged. -/
theorem run_blocks : θ_run defs (onTc (τ := τ) (main (F := F))) ⟨m, fun _ => 0, ρ⟩ fun r => ∀ c : Dev nD,
      r.2.mem ((c : Thread nD τ).loc main_v90_0) = (dats m 0 c).arrAt 10 cfg0.N
      ∧ r.2.mem ((c : Thread nD τ).loc main_v90_1) = (dats m 0 c).arrAt 11 cfg0.N
      ∧ r.2.mem ((c : Thread nD τ).loc main_v90_2) = (dats m 0 c).arrAt 12 cfg0.N
      ∧ r.2.mem ((c : Thread nD τ).loc main_v90_3) = (dats m 0 c).arrAt 13 cfg0.N
      ∧ r.2.mem ((c : Thread nD τ).loc main_v90_4) = (dats m 0 c).arrAt 14 cfg0.N
      ∧ r.2.mem ((c : Thread nD τ).loc main_v90_5) = (dats m 0 c).arrAt 15 cfg0.N
      ∧ r.2.mem ((c : Thread nD τ).loc main_v90_6) = (dats m 0 c).arrAt 16 cfg0.N
      ∧ r.2.mem ((c : Thread nD τ).loc main_v90_7) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post10 m r h c,
      post11 m r h c,
      post12 m r h c,
      post13 m r h c,
      post14 m r h c,
      post15 m r h c,
      post16 m r h c,
      post17 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.Kernel4Ideal.InA

end
-- ==== Proof.InA.Spec.lean ====
/- What the call that opens the attention sublayer computes: every row normed and modulated, its product with the columns of
   the packed weights, the two latent rows normed and taken through their own weights, and the rotation of the lanes that
   carry positions. -/
module

public import proofs.«01_k».proof.Proof.Rows.Spec

@[expose] public section

noncomputable section

namespace Cert.Rows

open Idealize.ShloMosaic
open scoped BigOperators

/-- The widths of the two latent rows, as numbers. -/
def n384 : EReal := Ideal.ofBits .f32 0x43C00000#32
def n256 : EReal := Ideal.ofBits .f32 0x43800000#32

/-- A row of any width scaled to a mean square of one, times the norm's weight. -/
def normedBy {n : ℕ} (l : EReal) (x g : Fin n → EReal) (c : Fin n) : EReal :=
  x c * Ideal.rsqrt (Ideal.div (∑ k, x k * x k) l + Ideal.ofBits .f32 0x358637BD#32) * g c

/-! ## The rotation -/

/-- The angle a position is turned by in each of sixteen planes. -/
def angle (p : ℕ) (i : Fin 16) : EReal :=
  FloatOps.sitofp (F := Ideal) .f32 (BitVec.ofNat 32 p)
    * Ideal.exp (Ideal.ofBits .f32 0x40000000#32 * FloatOps.sitofp (F := Ideal) .f32 (BitVec.ofNat 32 i.val) * Ideal.ofBits .f32 0xBE935D8E#32)

/-- Thirty-two lanes turned, the planes made of a lane of the first half and one of the second. -/
def turned (f : Fin 32 → EReal) (p : ℕ) (c : Fin 32) : EReal :=
  if h : c.val < 16 then f c * Ideal.cos (angle p ⟨c.val, h⟩) - f ⟨c.val + 16, by omega⟩ * Ideal.sin (angle p ⟨c.val, h⟩)
  else f ⟨c.val - 16, by omega⟩ * Ideal.sin (angle p ⟨c.val - 16, by omega⟩) + f c * Ideal.cos (angle p ⟨c.val - 16, by omega⟩)

/-! ## On whole arrays -/

abbrev WIn := (⟨2, ![1024, 3240]⟩ : Shape).Idx → EReal
abbrev NormQ := (⟨1, ![384]⟩ : Shape).Idx → EReal
abbrev WQ := (⟨3, ![384, 8, 96]⟩ : Shape).Idx → EReal
abbrev NormKv := (⟨1, ![256]⟩ : Shape).Idx → EReal
abbrev WKv := (⟨3, ![256, 8, 128]⟩ : Shape).Idx → EReal

/-- What the queries are scaled by. -/
def lift : EReal := Ideal.ofBits .f32 0x3DD105EC#32

section
variable {B R : ℕ} (x : (⟨3, ![B, R, 1024]⟩ : Shape).Idx → EReal) (shift scale : (⟨3, ![B, 1, 1024]⟩ : Shape).Idx → EReal) (g : Norm) (wi : WIn)
  (gq : NormQ) (wq : WQ) (gkv : NormKv) (wkv : WKv)

/-- A row normed and modulated. -/
def opened (b : Fin B) (r : Fin R) : Fin 1024 → EReal :=
  modulated (fun k => x (ix3 b r k)) (fun k => g (ix1 k)) (fun k => scale (ix3 b 0 k)) (fun k => shift (ix3 b 0 k))
/-- Its product with a column of the packed weights. -/
def col (b : Fin B) (r : Fin R) (j : Fin 3240) : EReal := ∑ k, opened x shift scale g b r k * wi (ix2 k j)
/-- The latent row of the queries, normed. -/
def latentQ (b : Fin B) (r : Fin R) : Fin 384 → EReal :=
  normedBy n384 (fun k => col x shift scale g wi b r ⟨k.val, by omega⟩) (fun k => gq (ix1 k))
/-- One lane of a head's queries before they are turned. -/
def query (b : Fin B) (r : Fin R) (h : Fin 8) (d : Fin 96) : EReal := ∑ k, latentQ x shift scale g wi gq b r k * wq (ix3 k h d)
/-- The latent row of the keys and values, normed. -/
def latentKv (b : Fin B) (r : Fin R) : Fin 256 → EReal :=
  normedBy n256 (fun k => col x shift scale g wi b r ⟨384 + k.val, by omega⟩) (fun k => gkv (ix1 k))
/-- One lane of a head's keys or values. -/
def keyValue (b : Fin B) (r : Fin R) (h : Fin 8) (d : Fin 128) : EReal := ∑ k, latentKv x shift scale g wi gkv b r k * wkv (ix3 k h d)

/-! The results that do not depend on positions. -/

def inC : (⟨3, ![B, R, 256]⟩ : Shape).Idx → EReal := fun i => latentKv x shift scale g wi gkv (i 0) (i 1) (i 2)
def inM : (⟨3, ![B, R, 1536]⟩ : Shape).Idx → EReal := fun i =>
  if h : (i 2).val < 1024 then col x shift scale g wi (i 0) (i 1) ⟨672 + (i 2).val, by omega⟩
  else col x shift scale g wi (i 0) (i 1) ⟨680 + (i 2).val, by have : (i 2).val < 1536 := (i 2).isLt; omega⟩
def inZ : (⟨3, ![B, R, 1024]⟩ : Shape).Idx → EReal := fun i => col x shift scale g wi (i 0) (i 1) ⟨2216 + (i 2).val, by have : (i 2).val < 1024 := (i 2).isLt; omega⟩
def inG : (⟨3, ![B, R, 128]⟩ : Shape).Idx → EReal := fun i =>
  if h : (i 2).val < 8 then col x shift scale g wi (i 0) (i 1) ⟨1696 + (i 2).val, by omega⟩ else 0
end

section
variable (x : Rows) (shift scale : Mods) (g : Norm) (wi : WIn) (gq : NormQ) (wq : WQ) (gkv : NormKv) (wkv : WKv)

/-- The lanes of the keys that carry the position. -/
def keyRot (b : Fin 4) (r : Fin 8192) : Fin 32 → EReal := turned (fun i => col x shift scale g wi b r ⟨640 + i.val, by omega⟩) r.val

/-- A lane of a head's queries: 64 as they are, 32 turned, zeros. -/
def queryLane (b : Fin 4) (r : Fin 8192) (h : Fin 8) (l : Fin 128) : EReal :=
  if h1 : l.val < 64 then query x shift scale g wi gq wq b r h ⟨l.val, by omega⟩ * lift
  else if h2 : l.val < 96 then turned (fun i => query x shift scale g wi gq wq b r h ⟨64 + i.val, by omega⟩) r.val ⟨l.val - 64, by omega⟩ * lift
  else 0
/-- A lane of a head's keys: 64 of its own, the 32 that carry the position, zeros. -/
def keyLane (b : Fin 4) (r : Fin 8192) (h : Fin 8) (l : Fin 128) : EReal :=
  if h1 : l.val < 64 then keyValue x shift scale g wi gkv wkv b r h ⟨l.val, by omega⟩
  else if h2 : l.val < 96 then keyRot x shift scale g wi b r ⟨l.val - 64, by omega⟩
  else 0

/-! The other results. -/

def inQ : Rows := fun i =>
  queryLane x shift scale g wi gq wq (i 0) (i 1) ⟨(i 2).val / 128, by have : (i 2).val < 1024 := (i 2).isLt; omega⟩ ⟨(i 2).val % 128, Nat.mod_lt _ (by decide)⟩
def inR : (⟨3, ![4, 8192, 32]⟩ : Shape).Idx → EReal := fun i => keyRot x shift scale g wi (i 0) (i 1) (i 2)
def inK : Rows := fun i =>
  keyLane x shift scale g wi gkv wkv (i 0) (i 1) ⟨(i 2).val / 128, by have : (i 2).val < 1024 := (i 2).isLt; omega⟩ ⟨(i 2).val % 128, Nat.mod_lt _ (by decide)⟩
def inV : (⟨3, ![4, 8192, 512]⟩ : Shape).Idx → EReal := fun i =>
  keyValue x shift scale g wi gkv wkv (i 0) (i 1) ⟨(i 2).val / 64, by have : (i 2).val < 512 := (i 2).isLt; omega⟩ ⟨64 + (i 2).val % 64, by omega⟩
end

end Cert.Rows

end
-- ==== Proof.InA.Heads.lean ====
/- Eight heads of 128 lanes side by side, stored one after another. -/
module

public import proofs.«01_k».proof.Proof.InA.Spec
public import Idealize.ShloMosaic.Lib.Pipeline.ValueKit

@[expose] public section

noncomputable section

namespace Cert.Rows

open Idealize.ShloMosaic Idealize.ShloMosaic.TcCoe Idealize.ShloMosaic.Tactic

variable {F : FTy → Type} [FloatOps F] {R : ℕ}

/-- A block's rows of all heads, and of one. -/
abbrev Wide (R : ℕ) : Shape := ⟨3, ![1, R, 1024]⟩
abbrev Narrow (R : ℕ) : Shape := ⟨3, ![1, R, 128]⟩

theorem inb_head (n : ℕ) (hn : n + 128 ≤ 1024) : ∀ a, (![0, 0, n] : Fin 3 → ℕ) a + ![1, R, 128] a ≤ (Wide R).size a := by
  intro a
  fin_cases a <;> simp [Wide] <;> omega

/-- The stores of eight heads, the last first. -/
def heads (P : Fin 8 → Vec F (Narrow R) .bf16) : List (View.Piece (Elt F) (Wide R) .bf16) :=
  [⟨Rect.unit ![0, 0, 896] ![1, R, 128] (inb_head 896 (by decide)), P 7⟩, ⟨Rect.unit ![0, 0, 768] ![1, R, 128] (inb_head 768 (by decide)), P 6⟩,
    ⟨Rect.unit ![0, 0, 640] ![1, R, 128] (inb_head 640 (by decide)), P 5⟩, ⟨Rect.unit ![0, 0, 512] ![1, R, 128] (inb_head 512 (by decide)), P 4⟩,
    ⟨Rect.unit ![0, 0, 384] ![1, R, 128] (inb_head 384 (by decide)), P 3⟩, ⟨Rect.unit ![0, 0, 256] ![1, R, 128] (inb_head 256 (by decide)), P 2⟩,
    ⟨Rect.unit ![0, 0, 128] ![1, R, 128] (inb_head 128 (by decide)), P 1⟩, ⟨Rect.unit ![0, 0, 0] ![1, R, 128] (inb_head 0 (by decide)), P 0⟩]
theorem heads_hit (h : Fin 8) (n : ℕ) (hn : n = 128 * h.val) (inb) (w : Vec F (Narrow R) .bf16) (L : List (View.Piece (Elt F) (Wide R) .bf16)) (r : Fin R) (c : Fin 128) (hc) :
    View.canon ((⟨Rect.unit ![0, 0, n] ![1, R, 128] inb, w⟩ : View.Piece (Elt F) (Wide R) .bf16) :: L) (ix3 0 r ⟨128 * h.val + c.val, hc⟩) = w (ix3 0 r c) := by
  subst hn
  have e : (ix3 0 r ⟨128 * h.val + c.val, hc⟩ : (Wide R).Idx) = (Rect.unit (s := Wide R) ![0, 0, 128 * h.val] ![1, R, 128] inb).emb (ix3 0 r c) := by
    funext b; apply Fin.ext
    refine Eq.trans ?_ (Rect.idx_unit_val _ _ inb _ b).symm
    fin_cases b <;> simp
  rw [e]; exact View.canon_cons_emb (Rect.unit (s := Wide R) ![0, 0, 128 * h.val] ![1, R, 128] inb) w L _
theorem heads_miss (h : Fin 8) (n : ℕ) (hn : 128 * h.val + 128 ≤ n) (inb) (w : Vec F (Narrow R) .bf16) (L : List (View.Piece (Elt F) (Wide R) .bf16)) (r : Fin R) (c : Fin 128) (hc) :
    View.canon ((⟨Rect.unit ![0, 0, n] ![1, R, 128] inb, w⟩ : View.Piece (Elt F) (Wide R) .bf16) :: L) (ix3 0 r ⟨128 * h.val + c.val, hc⟩) = View.canon L (ix3 0 r ⟨128 * h.val + c.val, hc⟩) := by
  refine View.canon_cons_of_not_mem _ L (fun hm => ?_)
  have h2 := ((Rect.mem_set_unit (inb := inb)).mp hm) (2 : Fin 3)
  simp at h2
  have := c.isLt; omega
theorem canon_heads (P : Fin 8 → Vec F (Narrow R) .bf16) (h : Fin 8) (r : Fin R) (c : Fin 128) (hc) :
    View.canon (heads P) (ix3 0 r ⟨128 * h.val + c.val, hc⟩) = P h (ix3 0 r c) := by
  unfold heads
  obtain ⟨h, hh⟩ := h
  rcases (by omega : h = 0 ∨ h = 1 ∨ h = 2 ∨ h = 3 ∨ h = 4 ∨ h = 5 ∨ h = 6 ∨ h = 7) with rfl | rfl | rfl | rfl | rfl | rfl | rfl | rfl <;>
    repeat (first
      | exact heads_hit _ _ rfl _ _ _ r c hc
      | refine (heads_miss _ _ (Nat.le_of_ble_eq_true rfl) _ _ _ r c hc).trans ?_)

end Cert.Rows

end
-- ==== Proof.InA.Block.lean ====
/- One block of rows of the call that opens the attention sublayer: what its body leaves of every result, as sums over the
   rows, weights and tables it is given. -/
module

public import proofs.«01_k».proof.Proof.InA.Run
public import proofs.«01_k».proof.Proof.InA.Heads
public import Idealize.ShloMosaic.Lib.Pipeline.ValueKit

@[expose] public section

set_option maxRecDepth 16384

noncomputable section

namespace Cert.Kernel4Ideal.InA

open Idealize.ShloMosaic Idealize.ShloMosaic.TcCoe Idealize.ShloMosaic.Tactic
open Cert.Kernel4Ideal.Gen Cert.Rows
open scoped BigOperators

theorem zero2 : (![0, 0] : Fin 2 → ℕ) = fun _ => 0 := by funext a; fin_cases a <;> rfl
theorem zero3 : (![0, 0, 0] : Fin 3 → ℕ) = fun _ => 0 := by funext a; fin_cases a <;> rfl

/-! ## The values of the body -/

variable (x : Vec Ideal S1x256x1024 .f32) (shift scale : Vec Ideal S1x1x1024 .f32) (g : Vec Ideal S1x1024 .f32) (w1 : Vec Ideal S1024x3584 .bf16)
  (gq : Vec Ideal S1x384 .f32) (wq : Vec Ideal S384x2048 .bf16) (gkv : Vec Ideal S1x256 .f32) (wkv : Vec Ideal S256x1536 .bf16) (tab : Vec Ideal S256x512 .f32)

/-- A row of the block, normed and modulated. -/
def rowH (r : Fin 256) : Fin 1024 → EReal :=
  modulated (fun k => x (ix3 0 r k)) (fun k => g (ix2 0 k)) (fun k => scale (ix3 0 0 k)) (fun k => shift (ix3 0 0 k))
/-- Its product with a column of the first weights. -/
def rowY (r : Fin 256) (j : Fin 3584) : EReal := ∑ k, rowH x shift scale g r k * w1 (ix2 k j)
/-- The queries' latent row, normed, times a column of the second weights. -/
def rowQ (r : Fin 256) (j : Fin 2048) : EReal :=
  ∑ k : Fin 384, normedBy n384 (fun k : Fin 384 => rowY x shift scale g w1 r ⟨k.val, by omega⟩) (fun k => gq (ix2 0 k)) k * wq (ix2 k j)
/-- The keys' and values' latent row, normed. -/
def rowC (r : Fin 256) : Fin 256 → EReal :=
  normedBy n256 (fun k : Fin 256 => rowY x shift scale g w1 r ⟨384 + k.val, by omega⟩) (fun k => gkv (ix2 0 k))
/-- The same times a column of the third weights. -/
def rowK (r : Fin 256) (j : Fin 1536) : EReal := ∑ k, rowC x shift scale g w1 gkv r k * wkv (ix2 k j)
/-- The rotated part of the keys. -/
def rowR (r : Fin 256) (l : Fin 128) : EReal :=
  rowY x shift scale g w1 r ⟨640 + l.val, by omega⟩ * tab (ix2 r ⟨256 + l.val, by omega⟩)
    + rowY x shift scale g w1 r ⟨768 + l.val, by omega⟩ * tab (ix2 r ⟨384 + l.val, by omega⟩)

theorem product_at (r : Fin 256) (j : Fin 3584) : k0_pay6 x g scale shift w1 (ix2 r j) = rowY x shift scale g w1 r j := by
  pointwise [k0_pay6]
  rfl
theorem pay41_at (r : Fin 256) (j : Fin 3584) : k0_pay41 x shift scale g w1 gq wq gkv wkv tab (ix2 r j) = rowY x shift scale g w1 r j := by
  unfold k0_pay41
  rw [View.ld_unit_zero zero3 _ x, View.ld_unit_zero zero2 _ g, View.ld_unit_zero zero3 _ scale, View.ld_unit_zero zero3 _ shift, View.ld_unit_zero zero2 _ w1, product_at]
theorem pay42_at (r : Fin 256) (j : Fin 384) : k0_pay42 x shift scale g w1 gq wq gkv wkv tab (ix2 r j) = rowY x shift scale g w1 r ⟨j.val, by omega⟩ := by
  rw [← pay41_at x shift scale g w1 gq wq gkv wkv tab]
  unfold k0_pay42 k0_pay7 k0_pay41
  pointwise []
theorem pay8_at (r : Fin 256) (j : Fin 256) : k0_pay8 x g scale shift w1 (ix2 r j) = rowY x shift scale g w1 r ⟨384 + j.val, by omega⟩ := by
  rw [← product_at]
  unfold k0_pay8
  pointwise []
theorem pay43_at (r : Fin 256) (j : Fin 128) : k0_pay43 x shift scale g w1 gq wq gkv wkv tab (ix2 r j) = rowY x shift scale g w1 r ⟨640 + j.val, by omega⟩ := by
  rw [← pay41_at x shift scale g w1 gq wq gkv wkv tab]
  unfold k0_pay43 k0_pay9 k0_pay41
  pointwise []
theorem pay44_at (r : Fin 256) (j : Fin 128) : k0_pay44 x shift scale g w1 gq wq gkv wkv tab (ix2 r j) = rowY x shift scale g w1 r ⟨768 + j.val, by omega⟩ := by
  rw [← pay41_at x shift scale g w1 gq wq gkv wkv tab]
  unfold k0_pay44 k0_pay10 k0_pay41
  pointwise []
theorem pay45_at (r : Fin 256) (j : Fin 128) : k0_pay45 x shift scale g w1 gq wq gkv wkv tab (ix2 r j) = tab (ix2 r ⟨j.val, by omega⟩) := by
  unfold k0_pay45
  rw [View.ld_unit_zero zero2 _ tab]
  pointwise [k0_pay16, k0_pay15]
theorem pay46_at (r : Fin 256) (j : Fin 128) : k0_pay46 x shift scale g w1 gq wq gkv wkv tab (ix2 r j) = tab (ix2 r ⟨128 + j.val, by omega⟩) := by
  unfold k0_pay46
  rw [View.ld_unit_zero zero2 _ tab]
  pointwise [k0_pay17, k0_pay15]
theorem pay47_at (r : Fin 256) (j : Fin 128) : k0_pay47 x shift scale g w1 gq wq gkv wkv tab (ix2 r j) = tab (ix2 r ⟨256 + j.val, by omega⟩) := by
  unfold k0_pay47
  rw [View.ld_unit_zero zero2 _ tab]
  pointwise [k0_pay18, k0_pay15]
theorem pay48_at (r : Fin 256) (j : Fin 128) : k0_pay48 x shift scale g w1 gq wq gkv wkv tab (ix2 r j) = tab (ix2 r ⟨384 + j.val, by omega⟩) := by
  unfold k0_pay48
  rw [View.ld_unit_zero zero2 _ tab]
  pointwise [k0_pay19, k0_pay15]

theorem pay20_apply (a : FVec Ideal S256x384 .f32) (r : Fin 256) (j : Fin 2048) :
    k0_pay20 a gq wq (ix2 r j) = ∑ k : Fin 384, normedBy n384 (fun k => a (ix2 r k)) (fun k => gq (ix2 0 k)) k * wq (ix2 k j) := by
  pointwise [k0_pay20]
  rfl
theorem pay49_at (r : Fin 256) (j : Fin 2048) : k0_pay49 x shift scale g w1 gq wq gkv wkv tab (ix2 r j) = rowQ x shift scale g w1 gq wq r j := by
  unfold k0_pay49
  rw [View.ld_unit_zero zero2 _ gq, View.ld_unit_zero zero2 _ wq, pay20_apply]
  simp only [pay42_at]
  rfl
theorem pay32_apply (a : FVec Ideal S256x256 .f32) (r : Fin 256) (j : Fin 256) :
    k0_pay32 a gkv (ix2 r j) = normedBy n256 (fun k => a (ix2 r k)) (fun k => gkv (ix2 0 k)) j := by
  pointwise [k0_pay32]
  rfl
theorem pay50_at (r : Fin 256) (j : Fin 256) : k0_pay50 x shift scale g w1 gq wq gkv wkv tab (ix2 r j) = rowC x shift scale g w1 gkv r j := by
  unfold k0_pay50
  rw [View.ld_unit_zero zero3 _ x, View.ld_unit_zero zero2 _ g, View.ld_unit_zero zero3 _ scale, View.ld_unit_zero zero3 _ shift, View.ld_unit_zero zero2 _ w1,
    View.ld_unit_zero zero2 _ gkv, pay32_apply]
  simp only [pay8_at]
  rfl
theorem pay51_at (r : Fin 256) (j : Fin 128) : k0_pay51 x shift scale g w1 gq wq gkv wkv tab (ix2 r j) = rowR x shift scale g w1 tab r j := by
  unfold k0_pay51
  pointwise [k0_pay34]
  rw [pay43_at, pay44_at, pay47_at, pay48_at]
  rfl
theorem pay36_apply (a : FVec Ideal S256x256 .f32) (r : Fin 256) (j : Fin 1536) : k0_pay36 a wkv (ix2 r j) = ∑ k, a (ix2 r k) * wkv (ix2 k j) := by
  pointwise [k0_pay36]
theorem pay52_at (r : Fin 256) (j : Fin 1536) : k0_pay52 x shift scale g w1 gq wq gkv wkv tab (ix2 r j) = rowK x shift scale g w1 gkv wkv r j := by
  unfold k0_pay52
  rw [View.ld_unit_zero zero2 _ wkv, pay36_apply]
  simp only [pay50_at]
  rfl

/-! ## What the body leaves in the blocks of the eight results -/

theorem out11_apply (r : Fin 256) (j : Fin 256) : out0_11 x shift scale g w1 gq wq gkv wkv tab (ix3 0 r j) = rowC x shift scale g w1 gkv r j := by
  unfold out0_11
  rw [View.canon_unit_zero zero3, ← pay50_at x shift scale g w1 gq wq gkv wkv tab]
  pointwise [k0_pay33]
theorem out12_apply (r : Fin 256) (j : Fin 32) : out0_12 x shift scale g w1 gq wq gkv wkv tab (ix3 0 r j) = rowR x shift scale g w1 tab r ⟨64 + j.val, by omega⟩ := by
  unfold out0_12
  rw [View.canon_unit_zero zero3, ← pay51_at x shift scale g w1 gq wq gkv wkv tab]
  unfold k0_pay51
  pointwise [k0_pay35]
theorem out13_apply (r : Fin 256) (j : Fin 1536) : out0_13 x shift scale g w1 gq wq gkv wkv tab (ix3 0 r j) = rowY x shift scale g w1 r ⟨896 + j.val, by omega⟩ := by
  unfold out0_13
  rw [View.canon_unit_zero zero3, ← pay41_at x shift scale g w1 gq wq gkv wkv tab]
  unfold k0_pay11 k0_pay41
  pointwise [k0_pay12]
theorem out14_apply (r : Fin 256) (j : Fin 1024) : out0_14 x shift scale g w1 gq wq gkv wkv tab (ix3 0 r j) = rowY x shift scale g w1 r ⟨2432 + j.val, by omega⟩ := by
  unfold out0_14
  rw [View.canon_unit_zero zero3, ← pay41_at x shift scale g w1 gq wq gkv wkv tab]
  pointwise [k0_pay13]
theorem out15_apply (r : Fin 256) (j : Fin 128) : out0_15 x shift scale g w1 gq wq gkv wkv tab (ix3 0 r j) = rowY x shift scale g w1 r ⟨3456 + j.val, by omega⟩ := by
  unfold out0_15
  rw [View.canon_unit_zero zero3, ← pay41_at x shift scale g w1 gq wq gkv wkv tab]
  pointwise [k0_pay14]
theorem out17_apply (r : Fin 256) (j : Fin 512) : out0_17 x shift scale g w1 gq wq gkv wkv tab (ix3 0 r j) = rowK x shift scale g w1 gkv wkv r ⟨1024 + j.val, by omega⟩ := by
  unfold out0_17
  rw [View.canon_unit_zero zero3, ← pay52_at x shift scale g w1 gq wq gkv wkv tab]
  pointwise [k0_pay5]

/-- The queries of one head in its 128 lanes. -/
def laneQ (r : Fin 256) (h : Fin 8) (l : Fin 128) : EReal :=
  rowQ x shift scale g w1 gq wq r ⟨128 * h.val + l.val, by omega⟩ * tab (ix2 r ⟨l.val, by omega⟩)
    + rowQ x shift scale g w1 gq wq r ⟨1024 + (128 * h.val + l.val), by omega⟩ * tab (ix2 r ⟨128 + l.val, by omega⟩)
/-- The keys. -/
def laneK (r : Fin 256) (h : Fin 8) (l : Fin 128) : EReal :=
  rowK x shift scale g w1 gkv wkv r ⟨128 * h.val + l.val, by omega⟩ + rowR x shift scale g w1 tab r l

theorem both (q : FVec Ideal S256x2048 .f32) (r : Fin 256) (i i' j j' : Fin 2048) (y z : EReal) (hi : i.val = i'.val) (hj : j.val = j'.val) :
    q (ix2 r i) * y + q (ix2 r j) * z = q (ix2 r i') * y + q (ix2 r j') * z := by
  rw [Fin.ext hi, Fin.ext hj]
theorem out10_apply (r : Fin 256) (h : Fin 8) (l : Fin 128) :
    out0_10 x shift scale g w1 gq wq gkv wkv tab (ix3 0 r ⟨128 * h.val + l.val, by omega⟩) = laneQ x shift scale g w1 gq wq tab r h l := by
  refine (canon_heads ![k0_pay22 (k0_pay21 (k0_pay42 x shift scale g w1 gq wq gkv wkv tab) (View.ld tab r0_6) (View.ld gq r0_7) (View.ld wq r0_8)), k0_pay23 (k0_pay45 x shift scale g w1 gq wq gkv wkv tab) (k0_pay46 x shift scale g w1 gq wq gkv wkv tab) (k0_pay49 x shift scale g w1 gq wq gkv wkv tab),
    k0_pay24 (k0_pay45 x shift scale g w1 gq wq gkv wkv tab) (k0_pay46 x shift scale g w1 gq wq gkv wkv tab) (k0_pay49 x shift scale g w1 gq wq gkv wkv tab), k0_pay25 (k0_pay45 x shift scale g w1 gq wq gkv wkv tab) (k0_pay46 x shift scale g w1 gq wq gkv wkv tab) (k0_pay49 x shift scale g w1 gq wq gkv wkv tab),
    k0_pay26 (k0_pay45 x shift scale g w1 gq wq gkv wkv tab) (k0_pay46 x shift scale g w1 gq wq gkv wkv tab) (k0_pay49 x shift scale g w1 gq wq gkv wkv tab), k0_pay29 (k0_pay46 x shift scale g w1 gq wq gkv wkv tab) (k0_pay27 (k0_pay45 x shift scale g w1 gq wq gkv wkv tab) (k0_pay49 x shift scale g w1 gq wq gkv wkv tab)) (k0_pay28 (k0_pay49 x shift scale g w1 gq wq gkv wkv tab)),
    k0_pay30 (k0_pay45 x shift scale g w1 gq wq gkv wkv tab) (k0_pay46 x shift scale g w1 gq wq gkv wkv tab) (k0_pay49 x shift scale g w1 gq wq gkv wkv tab), k0_pay31 (k0_pay45 x shift scale g w1 gq wq gkv wkv tab) (k0_pay46 x shift scale g w1 gq wq gkv wkv tab) (k0_pay49 x shift scale g w1 gq wq gkv wkv tab)] h r l (by omega)).trans ?_
  unfold laneQ
  rw [← pay49_at x shift scale g w1 gq wq gkv wkv tab, ← pay49_at x shift scale g w1 gq wq gkv wkv tab, ← pay45_at x shift scale g w1 gq wq gkv wkv tab, ← pay46_at x shift scale g w1 gq wq gkv wkv tab]
  obtain ⟨h, hh⟩ := h
  rcases (by omega : h = 0 ∨ h = 1 ∨ h = 2 ∨ h = 3 ∨ h = 4 ∨ h = 5 ∨ h = 6 ∨ h = 7) with rfl | rfl | rfl | rfl | rfl | rfl | rfl | rfl
  · show k0_pay22 (k0_pay21 (k0_pay42 x shift scale g w1 gq wq gkv wkv tab) (View.ld tab r0_6) (View.ld gq r0_7) (View.ld wq r0_8)) (ix3 0 r l) = _
    unfold k0_pay22 k0_pay21 k0_pay45 k0_pay46 k0_pay49
    pointwise []
  · show k0_pay23 (k0_pay45 x shift scale g w1 gq wq gkv wkv tab) (k0_pay46 x shift scale g w1 gq wq gkv wkv tab) (k0_pay49 x shift scale g w1 gq wq gkv wkv tab) (ix3 0 r l) = _
    pointwise [k0_pay23]
    exact both _ _ _ _ _ _ _ _ (by simp) (by simp; omega)
  · show k0_pay24 (k0_pay45 x shift scale g w1 gq wq gkv wkv tab) (k0_pay46 x shift scale g w1 gq wq gkv wkv tab) (k0_pay49 x shift scale g w1 gq wq gkv wkv tab) (ix3 0 r l) = _
    pointwise [k0_pay24]
    exact both _ _ _ _ _ _ _ _ (by simp) (by simp; omega)
  · show k0_pay25 (k0_pay45 x shift scale g w1 gq wq gkv wkv tab) (k0_pay46 x shift scale g w1 gq wq gkv wkv tab) (k0_pay49 x shift scale g w1 gq wq gkv wkv tab) (ix3 0 r l) = _
    pointwise [k0_pay25]
    exact both _ _ _ _ _ _ _ _ (by simp) (by simp; omega)
  · show k0_pay26 (k0_pay45 x shift scale g w1 gq wq gkv wkv tab) (k0_pay46 x shift scale g w1 gq wq gkv wkv tab) (k0_pay49 x shift scale g w1 gq wq gkv wkv tab) (ix3 0 r l) = _
    pointwise [k0_pay26]
    exact both _ _ _ _ _ _ _ _ (by simp) (by simp; omega)
  · show k0_pay29 (k0_pay46 x shift scale g w1 gq wq gkv wkv tab) (k0_pay27 (k0_pay45 x shift scale g w1 gq wq gkv wkv tab) (k0_pay49 x shift scale g w1 gq wq gkv wkv tab)) (k0_pay28 (k0_pay49 x shift scale g w1 gq wq gkv wkv tab)) (ix3 0 r l) = _
    pointwise [k0_pay29, k0_pay27, k0_pay28]
    exact both _ _ _ _ _ _ _ _ (by simp) (by simp; omega)
  · show k0_pay30 (k0_pay45 x shift scale g w1 gq wq gkv wkv tab) (k0_pay46 x shift scale g w1 gq wq gkv wkv tab) (k0_pay49 x shift scale g w1 gq wq gkv wkv tab) (ix3 0 r l) = _
    pointwise [k0_pay30]
    exact both _ _ _ _ _ _ _ _ (by simp) (by simp; omega)
  · show k0_pay31 (k0_pay45 x shift scale g w1 gq wq gkv wkv tab) (k0_pay46 x shift scale g w1 gq wq gkv wkv tab) (k0_pay49 x shift scale g w1 gq wq gkv wkv tab) (ix3 0 r l) = _
    pointwise [k0_pay31]
    exact both _ _ _ _ _ _ _ _ (by simp) (by simp; omega)

theorem out16_apply (r : Fin 256) (h : Fin 8) (l : Fin 128) :
    out0_16 x shift scale g w1 gq wq gkv wkv tab (ix3 0 r ⟨128 * h.val + l.val, by omega⟩) = laneK x shift scale g w1 gkv wkv tab r h l := by
  refine (canon_heads ![k0_pay37 (k0_pay43 x shift scale g w1 gq wq gkv wkv tab) (k0_pay44 x shift scale g w1 gq wq gkv wkv tab) (k0_pay47 x shift scale g w1 gq wq gkv wkv tab) (k0_pay48 x shift scale g w1 gq wq gkv wkv tab) (k0_pay50 x shift scale g w1 gq wq gkv wkv tab) (View.ld wkv r0_20),
    k0_pay38 (k0_pay43 x shift scale g w1 gq wq gkv wkv tab) (k0_pay44 x shift scale g w1 gq wq gkv wkv tab) (k0_pay47 x shift scale g w1 gq wq gkv wkv tab) (k0_pay48 x shift scale g w1 gq wq gkv wkv tab) (k0_pay50 x shift scale g w1 gq wq gkv wkv tab) (View.ld wkv r0_20),
    k0_pay39 (k0_pay43 x shift scale g w1 gq wq gkv wkv tab) (k0_pay44 x shift scale g w1 gq wq gkv wkv tab) (k0_pay47 x shift scale g w1 gq wq gkv wkv tab) (k0_pay48 x shift scale g w1 gq wq gkv wkv tab) (k0_pay50 x shift scale g w1 gq wq gkv wkv tab) (View.ld wkv r0_20),
    k0_pay40 (k0_pay43 x shift scale g w1 gq wq gkv wkv tab) (k0_pay44 x shift scale g w1 gq wq gkv wkv tab) (k0_pay47 x shift scale g w1 gq wq gkv wkv tab) (k0_pay48 x shift scale g w1 gq wq gkv wkv tab) (k0_pay50 x shift scale g w1 gq wq gkv wkv tab) (View.ld wkv r0_20),
    k0_pay1 (k0_pay51 x shift scale g w1 gq wq gkv wkv tab) (k0_pay52 x shift scale g w1 gq wq gkv wkv tab),
    k0_pay2 (k0_pay51 x shift scale g w1 gq wq gkv wkv tab) (k0_pay52 x shift scale g w1 gq wq gkv wkv tab),
    k0_pay3 (k0_pay51 x shift scale g w1 gq wq gkv wkv tab) (k0_pay52 x shift scale g w1 gq wq gkv wkv tab),
    k0_pay4 (k0_pay51 x shift scale g w1 gq wq gkv wkv tab) (k0_pay52 x shift scale g w1 gq wq gkv wkv tab)] h r l (by omega)).trans ?_
  unfold laneK
  rw [← pay52_at x shift scale g w1 gq wq gkv wkv tab, ← pay51_at x shift scale g w1 gq wq gkv wkv tab]
  obtain ⟨h, hh⟩ := h
  rcases (by omega : h = 0 ∨ h = 1 ∨ h = 2 ∨ h = 3 ∨ h = 4 ∨ h = 5 ∨ h = 6 ∨ h = 7) with rfl | rfl | rfl | rfl | rfl | rfl | rfl | rfl
  · show k0_pay37 (k0_pay43 x shift scale g w1 gq wq gkv wkv tab) (k0_pay44 x shift scale g w1 gq wq gkv wkv tab) (k0_pay47 x shift scale g w1 gq wq gkv wkv tab) (k0_pay48 x shift scale g w1 gq wq gkv wkv tab) (k0_pay50 x shift scale g w1 gq wq gkv wkv tab) (View.ld wkv r0_20) (ix3 0 r l) = _
    unfold k0_pay37 k0_pay52 k0_pay51
    pointwise []
  · show k0_pay38 (k0_pay43 x shift scale g w1 gq wq gkv wkv tab) (k0_pay44 x shift scale g w1 gq wq gkv wkv tab) (k0_pay47 x shift scale g w1 gq wq gkv wkv tab) (k0_pay48 x shift scale g w1 gq wq gkv wkv tab) (k0_pay50 x shift scale g w1 gq wq gkv wkv tab) (View.ld wkv r0_20) (ix3 0 r l) = _
    unfold k0_pay38 k0_pay52 k0_pay51
    pointwise []
  · show k0_pay39 (k0_pay43 x shift scale g w1 gq wq gkv wkv tab) (k0_pay44 x shift scale g w1 gq wq gkv wkv tab) (k0_pay47 x shift scale g w1 gq wq gkv wkv tab) (k0_pay48 x shift scale g w1 gq wq gkv wkv tab) (k0_pay50 x shift scale g w1 gq wq gkv wkv tab) (View.ld wkv r0_20) (ix3 0 r l) = _
    unfold k0_pay39 k0_pay52 k0_pay51
    pointwise []
  · show k0_pay40 (k0_pay43 x shift scale g w1 gq wq gkv wkv tab) (k0_pay44 x shift scale g w1 gq wq gkv wkv tab) (k0_pay47 x shift scale g w1 gq wq gkv wkv tab) (k0_pay48 x shift scale g w1 gq wq gkv wkv tab) (k0_pay50 x shift scale g w1 gq wq gkv wkv tab) (View.ld wkv r0_20) (ix3 0 r l) = _
    unfold k0_pay40 k0_pay52 k0_pay51
    pointwise []
  · show k0_pay1 (k0_pay51 x shift scale g w1 gq wq gkv wkv tab) (k0_pay52 x shift scale g w1 gq wq gkv wkv tab) (ix3 0 r l) = _
    unfold k0_pay1
    pointwise []
  · show k0_pay2 (k0_pay51 x shift scale g w1 gq wq gkv wkv tab) (k0_pay52 x shift scale g w1 gq wq gkv wkv tab) (ix3 0 r l) = _
    unfold k0_pay2
    pointwise []
  · show k0_pay3 (k0_pay51 x shift scale g w1 gq wq gkv wkv tab) (k0_pay52 x shift scale g w1 gq wq gkv wkv tab) (ix3 0 r l) = _
    unfold k0_pay3
    pointwise []
  · show k0_pay4 (k0_pay51 x shift scale g w1 gq wq gkv wkv tab) (k0_pay52 x shift scale g w1 gq wq gkv wkv tab) (ix3 0 r l) = _
    unfold k0_pay4
    pointwise []

end Cert.Kernel4Ideal.InA

end
-- ==== Proof.InA.Pad.lean ====
/- A block of lanes put at a place in a wider array of zeros. -/
module

public import Idealize.ShloMosaic.Lib.Routing.OpsOne
public import Idealize.ShloMosaic.Lib.Pointwise

@[expose] public section

set_option maxRecDepth 16384

noncomputable section

namespace Cert.Rows

open Idealize.ShloMosaic Idealize.ShloMosaic.Routing
open scoped BigOperators

/-! ## In an array of two axes -/

theorem lands_at {R C C' : Nat} (d : ScatterDims (shape2 R C) (shape1 1) (shape2 R C')) (hu : d.updateWindowDims = [0, 1]) (hi : d.insertedWindowDims = [])
    (hs : d.scatterDimsToOperandDims = [1]) (idx : IVec (shape1 1) 32) (s : ℕ) (h0 : ∀ j, (idx j).toInt = (s : Int)) (hC : s + C' ≤ C) (k : (shape2 R C').Idx) :
    d.resultIdx? k idx = some (ix2 (k 0) ⟨s + (k 1).val, by have : (k 1).val < C' := (k 1).isLt; omega⟩) := by
  have hkept : d.sKept = [0, 1] := by
    show (shape2 R C).kept d.insertedWindowDims = _
    rw [hi]
    rfl
  have hst0 : d.start k idx 0 = 0 := by
    unfold ScatterDims.start
    rw [dif_neg (by rw [hs]; simp)]
  have hst1 : d.start k idx 1 = (s : Int) := by
    unfold ScatterDims.start
    rw [dif_pos (by rw [hs]; simp)]
    exact h0 _
  have hw0 : d.window k 0 = (k 0).val := by
    unfold ScatterDims.window
    rw [dif_pos (by rw [hkept]; simp)]
    have : d.updateWindowDims[d.sKept.idxOf 0]'(by rw [d.window_length]; exact List.idxOf_lt_length_iff.2 (by rw [hkept]; simp)) = 0 := by
      simp [hkept, hu]
    rw [this]
  have hw1 : d.window k 1 = (k 1).val := by
    unfold ScatterDims.window
    rw [dif_pos (by rw [hkept]; simp)]
    have : d.updateWindowDims[d.sKept.idxOf 1]'(by rw [d.window_length]; exact List.idxOf_lt_length_iff.2 (by rw [hkept]; simp)) = 1 := by
      simp [hkept, hu]
    rw [this]
  have k0 : (k 0).val < R := (k 0).isLt
  have k1 : (k 1).val < C' := (k 1).isLt
  unfold ScatterDims.resultIdx?
  rw [dif_pos]
  · refine congrArg some (funext fun a => Fin.ext ?_)
    match a with
    | ⟨0, _⟩ => show (d.start k idx 0 + d.window k 0).toNat = (k 0).val; rw [hst0, hw0]; omega
    | ⟨1, _⟩ => show (d.start k idx 1 + d.window k 1).toNat = s + (k 1).val; rw [hst1, hw1]; omega
  · intro a
    match a with
    | ⟨0, _⟩ => show (0 : Int) ≤ d.start k idx 0 + (d.window k 0 : Int) ∧ d.start k idx 0 + (d.window k 0 : Int) < (R : Int); rw [hst0, hw0]; omega
    | ⟨1, _⟩ => show (0 : Int) ≤ d.start k idx 1 + (d.window k 1 : Int) ∧ d.start k idx 1 + (d.window k 1 : Int) < (C : Int); rw [hst1, hw1]; omega

/-- Lanes set from lane `s` on: they there, the array elsewhere. -/
theorem set_lanes {α : Type} {R C C' : Nat} (d : ScatterDims (shape2 R C) (shape1 1) (shape2 R C')) (hu : d.updateWindowDims = [0, 1]) (hi : d.insertedWindowDims = [])
    (hs : d.scatterDimsToOperandDims = [1]) (idx : IVec (shape1 1) 32) (s : ℕ) (h0 : ∀ j, (idx j).toInt = (s : Int)) (hC : s + C' ≤ C) (x : (shape2 R C).Idx → α)
    (u : (shape2 R C').Idx → α) (r : Fin R) (c : Fin C) :
    Host.scatter d (fun _ b => b) x idx u (ix2 r c) = if h : s ≤ c.val ∧ c.val - s < C' then u (ix2 r ⟨c.val - s, h.2⟩) else x (ix2 r c) := by
  split
  next h =>
    refine scatter_set_hit d x idx u _ _ (fun k hk => ?_) (ix2 r ⟨c.val - s, h.2⟩) ?_
    · rw [lands_at d hu hi hs idx s h0 hC] at hk
      have e := Option.some.inj hk
      have e0 : k 0 = r := congrFun e 0
      have e1 : s + (k 1).val = c.val := congrArg Fin.val (congrFun e 1)
      refine congrArg u (funext fun a => Fin.ext ?_)
      match a with
      | ⟨0, _⟩ => exact congrArg Fin.val e0
      | ⟨1, _⟩ => show (k 1).val = c.val - s; omega
    · rw [lands_at d hu hi hs idx s h0 hC]
      refine congrArg some (funext fun a => Fin.ext ?_)
      match a with
      | ⟨0, _⟩ => rfl
      | ⟨1, _⟩ => show s + (c.val - s) = c.val; omega
  next h =>
    refine scatter_set_miss d x idx u _ fun k hk => ?_
    rw [lands_at d hu hi hs idx s h0 hC] at hk
    have e1 : s + (k 1).val = c.val := congrArg Fin.val (congrFun (Option.some.inj hk) 1)
    have : (k 1).val < C' := (k 1).isLt
    exact h (by omega)

/-! ## In an array of three -/

theorem lands_at3 {R B C C' : Nat} (d : ScatterDims ⟨3, ![R, B, C]⟩ (shape1 1) ⟨3, ![R, B, C']⟩) (hu : d.updateWindowDims = [0, 1, 2]) (hi : d.insertedWindowDims = [])
    (hs : d.scatterDimsToOperandDims = [2]) (idx : IVec (shape1 1) 32) (s : ℕ) (h0 : ∀ j, (idx j).toInt = (s : Int)) (hC : s + C' ≤ C) (k : (⟨3, ![R, B, C']⟩ : Shape).Idx) :
    d.resultIdx? k idx = some (ix3 (k 0) (k 1) ⟨s + (k 2).val, by have : (k 2).val < C' := (k 2).isLt; omega⟩) := by
  have hkept : d.sKept = [0, 1, 2] := by
    show (⟨3, ![R, B, C]⟩ : Shape).kept d.insertedWindowDims = _
    rw [hi]
    rfl
  have hst0 : d.start k idx 0 = 0 := by
    unfold ScatterDims.start
    rw [dif_neg (by rw [hs]; simp)]
  have hst1 : d.start k idx 1 = 0 := by
    unfold ScatterDims.start
    rw [dif_neg (by rw [hs]; simp)]
  have hst2 : d.start k idx 2 = (s : Int) := by
    unfold ScatterDims.start
    rw [dif_pos (by rw [hs]; simp)]
    exact h0 _
  have hw0 : d.window k 0 = (k 0).val := by
    unfold ScatterDims.window
    rw [dif_pos (by rw [hkept]; simp)]
    have : d.updateWindowDims[d.sKept.idxOf 0]'(by rw [d.window_length]; exact List.idxOf_lt_length_iff.2 (by rw [hkept]; simp)) = 0 := by
      simp [hkept, hu]
    rw [this]
  have hw1 : d.window k 1 = (k 1).val := by
    unfold ScatterDims.window
    rw [dif_pos (by rw [hkept]; simp)]
    have : d.updateWindowDims[d.sKept.idxOf 1]'(by rw [d.window_length]; exact List.idxOf_lt_length_iff.2 (by rw [hkept]; simp)) = 1 := by
      simp [hkept, hu]
    rw [this]
  have hw2 : d.window k 2 = (k 2).val := by
    unfold ScatterDims.window
    rw [dif_pos (by rw [hkept]; simp)]
    have : d.updateWindowDims[d.sKept.idxOf 2]'(by rw [d.window_length]; exact List.idxOf_lt_length_iff.2 (by rw [hkept]; simp)) = 2 := by
      simp [hkept, hu]
    rw [this]
  have k0 : (k 0).val < R := (k 0).isLt
  have k1 : (k 1).val < B := (k 1).isLt
  have k2 : (k 2).val < C' := (k 2).isLt
  unfold ScatterDims.resultIdx?
  rw [dif_pos]
  · refine congrArg some (funext fun a => Fin.ext ?_)
    match a with
    | ⟨0, _⟩ => show (d.start k idx 0 + d.window k 0).toNat = (k 0).val; rw [hst0, hw0]; omega
    | ⟨1, _⟩ => show (d.start k idx 1 + d.window k 1).toNat = (k 1).val; rw [hst1, hw1]; omega
    | ⟨2, _⟩ => show (d.start k idx 2 + d.window k 2).toNat = s + (k 2).val; rw [hst2, hw2]; omega
  · intro a
    match a with
    | ⟨0, _⟩ => show (0 : Int) ≤ d.start k idx 0 + (d.window k 0 : Int) ∧ d.start k idx 0 + (d.window k 0 : Int) < (R : Int); rw [hst0, hw0]; omega
    | ⟨1, _⟩ => show (0 : Int) ≤ d.start k idx 1 + (d.window k 1 : Int) ∧ d.start k idx 1 + (d.window k 1 : Int) < (B : Int); rw [hst1, hw1]; omega
    | ⟨2, _⟩ => show (0 : Int) ≤ d.start k idx 2 + (d.window k 2 : Int) ∧ d.start k idx 2 + (d.window k 2 : Int) < (C : Int); rw [hst2, hw2]; omega

/-- Lanes set from lane `s` on: they there, the array elsewhere. -/
theorem set_lanes3 {α : Type} {R B C C' : Nat} (d : ScatterDims ⟨3, ![R, B, C]⟩ (shape1 1) ⟨3, ![R, B, C']⟩) (hu : d.updateWindowDims = [0, 1, 2]) (hi : d.insertedWindowDims = [])
    (hs : d.scatterDimsToOperandDims = [2]) (idx : IVec (shape1 1) 32) (s : ℕ) (h0 : ∀ j, (idx j).toInt = (s : Int)) (hC : s + C' ≤ C) (x : (⟨3, ![R, B, C]⟩ : Shape).Idx → α)
    (u : (⟨3, ![R, B, C']⟩ : Shape).Idx → α) (r : Fin R) (b : Fin B) (c : Fin C) :
    Host.scatter d (fun _ b => b) x idx u (ix3 r b c) = if h : s ≤ c.val ∧ c.val - s < C' then u (ix3 r b ⟨c.val - s, h.2⟩) else x (ix3 r b c) := by
  split
  next h =>
    refine scatter_set_hit d x idx u _ _ (fun k hk => ?_) (ix3 r b ⟨c.val - s, h.2⟩) ?_
    · rw [lands_at3 d hu hi hs idx s h0 hC] at hk
      have e := Option.some.inj hk
      have e0 : k 0 = r := congrFun e 0
      have e1 : k 1 = b := congrFun e 1
      have e2 : s + (k 2).val = c.val := congrArg Fin.val (congrFun e 2)
      refine congrArg u (funext fun a => Fin.ext ?_)
      match a with
      | ⟨0, _⟩ => exact congrArg Fin.val e0
      | ⟨1, _⟩ => exact congrArg Fin.val e1
      | ⟨2, _⟩ => show (k 2).val = c.val - s; omega
    · rw [lands_at3 d hu hi hs idx s h0 hC]
      refine congrArg some (funext fun a => Fin.ext ?_)
      match a with
      | ⟨0, _⟩ => rfl
      | ⟨1, _⟩ => rfl
      | ⟨2, _⟩ => show s + (c.val - s) = c.val; omega
  next h =>
    refine scatter_set_miss d x idx u _ fun k hk => ?_
    rw [lands_at3 d hu hi hs idx s h0 hC] at hk
    have e2 : s + (k 2).val = c.val := congrArg Fin.val (congrFun (Option.some.inj hk) 2)
    have : (k 2).val < C' := (k 2).isLt
    exact h (by omega)

end Cert.Rows

end
-- ==== Proof.InA.Host.lean ====
/- The arrays the host hands the call that opens the attention sublayer: the three weights with their columns put in another
   order among zeros, and the table of cosines and sines. -/
module

public import proofs.«01_k».proof.Proof.InA.Run
public import proofs.«01_k».proof.Proof.InA.Spec
public import proofs.«01_k».proof.Proof.InA.Pad

@[expose] public section

set_option maxRecDepth 16384

noncomputable section

namespace Cert.Kernel4Ideal.InA

open Idealize.ShloMosaic Idealize.ShloMosaic.TcCoe Idealize.ShloMosaic.Tactic
open Cert.Kernel4Ideal.Gen Cert.Rows
open scoped BigOperators

variable (m : (ℓ : Loc nD τ sig) → Buf (Elt Ideal) ℓ) (c : Dev nD)

/-- The launched arrays. -/
abbrev a0 : Rows := m ((c : Thread nD τ).loc main_arg0)
abbrev a1 : Mods := m ((c : Thread nD τ).loc main_arg1)
abbrev a2 : Mods := m ((c : Thread nD τ).loc main_arg2)
abbrev a3 : Norm := m ((c : Thread nD τ).loc main_arg3)
abbrev a4 : WIn := m ((c : Thread nD τ).loc main_arg4)
abbrev a5 : NormQ := m ((c : Thread nD τ).loc main_arg5)
abbrev a6 : WQ := m ((c : Thread nD τ).loc main_arg6)
abbrev a7 : NormKv := m ((c : Thread nD τ).loc main_arg7)
abbrev a8 : WKv := m ((c : Thread nD τ).loc main_arg8)

/-! ## The first weights -/

/-- Where lanes are set: at the front, and from lane 64 on. -/
def front : S1.Idx → BitVec 32 := broadcastInDim S1 ![] bcast_S_S1 (constantI S_ 32 0#32)
def half : S1.Idx → BitVec 32 := broadcastInDim S1 ![] bcast_S_S1 (constantI S_ 32 64#32)
def zeros1 : Vec Ideal S1024x128 .f32 := broadcastInDim S1024x128 ![] bcast_S_S1024x128 (constant (F := Ideal) S_ .f32 0x00000000#32)

/-- The columns of the keys' rotated part. -/
def keyCols (w : WIn) : Vec Ideal S1024x32 .f32 := extractStridedSlice S1024x32 ![0, 640] w slices_S1024x3240_S1024x32_0_640
/-- Their second half with its sign changed, then their first. -/
def swappedCols (w : WIn) : Vec Ideal S1024x32 .f32 :=
  concatenate S1024x32 1 [⟨S1024x16, Host.negf (F := Ideal) (φ := .f32) (extractStridedSlice S1024x16 ![0, 16] (keyCols w) slices_S1024x32_S1024x16_0_16)⟩,
    ⟨S1024x16, extractStridedSlice S1024x16 ![0, 0] (keyCols w) slices_S1024x32_S1024x16_0_0⟩] concatenates_S1024x16_S1024x16_S1024x32_d1
def gateCols (w : WIn) : Vec Ideal S1024x8 .f32 :=
  concatenate S1024x8 1 [⟨S1024x4, extractStridedSlice S1024x4 ![0, 1696] w slices_S1024x3240_S1024x4_0_1696⟩,
    ⟨S1024x4, extractStridedSlice S1024x4 ![0, 1700] w slices_S1024x3240_S1024x4_0_1700⟩] concatenates_S1024x4_S1024x4_S1024x8_d1
def keyPart (w : WIn) : Vec Ideal S1024x128 .f32 := Host.scatter scatter_S1024x128_S1_S1024x32_01_n_1_0 (fun _ b => b) zeros1 half (keyCols w)
def swappedPart (w : WIn) : Vec Ideal S1024x128 .f32 := Host.scatter scatter_S1024x128_S1_S1024x32_01_n_1_0 (fun _ b => b) zeros1 half (swappedCols w)
def gatePart (w : WIn) : Vec Ideal S1024x128 .f32 := Host.scatter scatter_S1024x128_S1_S1024x8_01_n_1_0 (fun _ b => b) zeros1 front (gateCols w)

/-- What is set in an array is determined by the array, the place and the lanes. -/
theorem put {s su si : Shape} (d : ScatterDims s si su) {A A' : s.Idx → EReal} {B B' : si.Idx → BitVec 32} {C C' : su.Idx → EReal} (ha : A = A') (hb : B = B') (hc : C = C') :
    Host.scatter d (fun _ b => b) A B C = Host.scatter d (fun _ b => b) A' B' C' := by
  subst ha hb hc
  rfl

/-- And a concatenation by its parts. -/
theorem ten (A A' : Vec Ideal S1024x384 .f32) (B B' : Vec Ideal S1024x256 .f32) (C C' : Vec Ideal S1024x128 .f32) (D D' : Vec Ideal S1024x128 .f32) (E E' : Vec Ideal S1024x256 .f32) (F F' : Vec Ideal S1024x256 .f32) (G G' : Vec Ideal S1024x512 .f32) (H H' : Vec Ideal S1024x512 .f32) (I I' : Vec Ideal S1024x1024 .f32) (J J' : Vec Ideal S1024x128 .f32) (hA : A = A') (hB : B = B') (hC : C = C') (hD : D = D') (hE : E = E') (hF : F = F') (hG : G = G') (hH : H = H') (hI : I = I') (hJ : J = J') :
    (truncf .bf16 (concatenate S1024x3584 1 [⟨S1024x384, A⟩, ⟨S1024x256, B⟩, ⟨S1024x128, C⟩, ⟨S1024x128, D⟩, ⟨S1024x256, E⟩, ⟨S1024x256, F⟩, ⟨S1024x512, G⟩, ⟨S1024x512, H⟩, ⟨S1024x1024, I⟩, ⟨S1024x128, J⟩] concatenates_S1024x384_S1024x256_S1024x128_S1024x128_S1024x256_S1024x256_S1024x512_S1024x512_S1024x1024_S1024x128_S1024x3584_d1) bitsLt_bf16_f32 : FVec Ideal _ _)
      = truncf .bf16 (concatenate S1024x3584 1 [⟨S1024x384, A'⟩, ⟨S1024x256, B'⟩, ⟨S1024x128, C'⟩, ⟨S1024x128, D'⟩, ⟨S1024x256, E'⟩, ⟨S1024x256, F'⟩, ⟨S1024x512, G'⟩, ⟨S1024x512, H'⟩, ⟨S1024x1024, I'⟩, ⟨S1024x128, J'⟩] concatenates_S1024x384_S1024x256_S1024x128_S1024x128_S1024x256_S1024x256_S1024x512_S1024x512_S1024x1024_S1024x128_S1024x3584_d1) bitsLt_bf16_f32 := by
  subst hA hB hC hD hE hF hG hH hI hJ
  rfl

/-- What the concatenation of the ten parts writes. -/
theorem ten_result (hxs hy) (F : Valuation τ sig (Elt Ideal)) :
    (StableHlo.nary (τ := τ) ![main_v0, main_v1, main_v12, main_v19, main_v3, main_v4, main_v5, main_v8, main_v9, main_v23] main_v24 (fun u => (concatenate S1024x3584 1 [⟨S1024x384, (u 0 : (⟨S1024x384, .f32⟩ : BufTy).Contents (Elt Ideal))⟩, ⟨S1024x256, (u 1 : (⟨S1024x256, .f32⟩ : BufTy).Contents (Elt Ideal))⟩, ⟨S1024x128, (u 2 : (⟨S1024x128, .f32⟩ : BufTy).Contents (Elt Ideal))⟩, ⟨S1024x128, (u 3 : (⟨S1024x128, .f32⟩ : BufTy).Contents (Elt Ideal))⟩, ⟨S1024x256, (u 4 : (⟨S1024x256, .f32⟩ : BufTy).Contents (Elt Ideal))⟩, ⟨S1024x256, (u 5 : (⟨S1024x256, .f32⟩ : BufTy).Contents (Elt Ideal))⟩, ⟨S1024x512, (u 6 : (⟨S1024x512, .f32⟩ : BufTy).Contents (Elt Ideal))⟩, ⟨S1024x512, (u 7 : (⟨S1024x512, .f32⟩ : BufTy).Contents (Elt Ideal))⟩, ⟨S1024x1024, (u 8 : (⟨S1024x1024, .f32⟩ : BufTy).Contents (Elt Ideal))⟩, ⟨S1024x128, (u 9 : (⟨S1024x128, .f32⟩ : BufTy).Contents (Elt Ideal))⟩] concatenates_S1024x384_S1024x256_S1024x128_S1024x128_S1024x256_S1024x256_S1024x512_S1024x512_S1024x1024_S1024x128_S1024x3584_d1 : (⟨S1024x3584, .f32⟩ : BufTy).Contents (Elt Ideal))) hxs hy).result F (Proc.devRef .tc main_v24)
      = (concatenate S1024x3584 1 [⟨S1024x384, (F (Proc.devRef .tc main_v0) : (⟨S1024x384, .f32⟩ : BufTy).Contents (Elt Ideal))⟩, ⟨S1024x256, (F (Proc.devRef .tc main_v1) : (⟨S1024x256, .f32⟩ : BufTy).Contents (Elt Ideal))⟩, ⟨S1024x128, (F (Proc.devRef .tc main_v12) : (⟨S1024x128, .f32⟩ : BufTy).Contents (Elt Ideal))⟩, ⟨S1024x128, (F (Proc.devRef .tc main_v19) : (⟨S1024x128, .f32⟩ : BufTy).Contents (Elt Ideal))⟩, ⟨S1024x256, (F (Proc.devRef .tc main_v3) : (⟨S1024x256, .f32⟩ : BufTy).Contents (Elt Ideal))⟩, ⟨S1024x256, (F (Proc.devRef .tc main_v4) : (⟨S1024x256, .f32⟩ : BufTy).Contents (Elt Ideal))⟩, ⟨S1024x512, (F (Proc.devRef .tc main_v5) : (⟨S1024x512, .f32⟩ : BufTy).Contents (Elt Ideal))⟩, ⟨S1024x512, (F (Proc.devRef .tc main_v8) : (⟨S1024x512, .f32⟩ : BufTy).Contents (Elt Ideal))⟩, ⟨S1024x1024, (F (Proc.devRef .tc main_v9) : (⟨S1024x1024, .f32⟩ : BufTy).Contents (Elt Ideal))⟩, ⟨S1024x128, (F (Proc.devRef .tc main_v23) : (⟨S1024x128, .f32⟩ : BufTy).Contents (Elt Ideal))⟩] concatenates_S1024x384_S1024x256_S1024x128_S1024x128_S1024x256_S1024x256_S1024x512_S1024x512_S1024x1024_S1024x128_S1024x3584_d1 : (⟨S1024x3584, .f32⟩ : BufTy).Contents (Elt Ideal)) := by
  rw [StableHlo.nary_result]
  rfl

/-- The ten parts side by side. -/
def packed1 (w : WIn) : Vec Ideal S1024x3584 .f32 :=
  concatenate S1024x3584 1 [⟨S1024x384, extractStridedSlice S1024x384 ![0, 0] w slices_S1024x3240_S1024x384_0_0⟩, ⟨S1024x256, extractStridedSlice S1024x256 ![0, 384] w slices_S1024x3240_S1024x256_0_384⟩, ⟨S1024x128, keyPart w⟩, ⟨S1024x128, swappedPart w⟩, ⟨S1024x256, extractStridedSlice S1024x256 ![0, 672] w slices_S1024x3240_S1024x256_0_672⟩, ⟨S1024x256, extractStridedSlice S1024x256 ![0, 928] w slices_S1024x3240_S1024x256_0_928⟩, ⟨S1024x512, extractStridedSlice S1024x512 ![0, 1184] w slices_S1024x3240_S1024x512_0_1184⟩, ⟨S1024x512, extractStridedSlice S1024x512 ![0, 1704] w slices_S1024x3240_S1024x512_0_1704⟩, ⟨S1024x1024, extractStridedSlice S1024x1024 ![0, 2216] w slices_S1024x3240_S1024x1024_0_2216⟩, ⟨S1024x128, gatePart w⟩]
    concatenates_S1024x384_S1024x256_S1024x128_S1024x128_S1024x256_S1024x256_S1024x512_S1024x512_S1024x1024_S1024x128_S1024x3584_d1
/-- The first weights as the kernel is given them. -/
theorem packed1_row : V m c main_v25 = packed1 (a4 m c) := by
  unfold V
  simp only [StableHlo.after_cons, StableHlo.after_nil]
  repeat (first
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide)
    | (rw [StableHlo.nary_result_ne]; rotate_left; decide)
    | rw [StableHlo.unary_result])
  refine Eq.trans (congrArg (fun a : Vec Ideal S1024x3584 .f32 => (truncf .bf16 a bitsLt_bf16_f32 : FVec Ideal _ _)) (ten_result _ _ _)) ?_
  after_results
  exact ten _ _ _ _ _ _ _ _ _ _ _ _ _ _ _ _ _ _ _ _ rfl rfl (put _ rfl rfl rfl) (put _ rfl rfl rfl) rfl rfl rfl rfl rfl (put _ rfl rfl rfl)

/-! ## The second and third weights -/

def zeros2 : Vec Ideal S384x8x128 .f32 := broadcastInDim S384x8x128 ![] bcast_S_S384x8x128 (constant (F := Ideal) S_ .f32 0x00000000#32)
def zeros3 : Vec Ideal S256x8x128 .f32 := broadcastInDim S256x8x128 ![] bcast_S_S256x8x128 (constant (F := Ideal) S_ .f32 0x00000000#32)

/-- The queries' rotated columns, their second half with its sign changed first. -/
def swappedHeads (w : WQ) : Vec Ideal S384x8x32 .f32 :=
  concatenate S384x8x32 2 [⟨S384x8x16, Host.negf (F := Ideal) (φ := .f32) (extractStridedSlice S384x8x16 ![0, 0, 16]
      (extractStridedSlice S384x8x32 ![0, 0, 64] w slices_S384x8x96_S384x8x32_0_0_64) slices_S384x8x32_S384x8x16_0_0_16)⟩,
    ⟨S384x8x16, extractStridedSlice S384x8x16 ![0, 0, 0] (extractStridedSlice S384x8x32 ![0, 0, 64] w slices_S384x8x96_S384x8x32_0_0_64) slices_S384x8x32_S384x8x16_0_0_0⟩]
    concatenates_S384x8x16_S384x8x16_S384x8x32_d2
def queryHeads (w : WQ) : Vec Ideal S384x8x128 .f32 := Host.scatter scatter_S384x8x128_S1_S384x8x96_012_n_2_0 (fun _ b => b) zeros2 front w
def turnedHeads (w : WQ) : Vec Ideal S384x8x128 .f32 := Host.scatter scatter_S384x8x128_S1_S384x8x32_012_n_2_0 (fun _ b => b) zeros2 half (swappedHeads w)
def keyHeads (w : WKv) : Vec Ideal S256x8x128 .f32 :=
  Host.scatter scatter_S256x8x128_S1_S256x8x64_012_n_2_0 (fun _ b => b) zeros3 front (extractStridedSlice S256x8x64 ![0, 0, 0] w slices_S256x8x128_S256x8x64_0_0_0)
def packed2 (w : WQ) : Vec Ideal S384x2048 .f32 :=
  concatenate S384x2048 1 [⟨S384x1024, shapeCast S384x1024 (queryHeads w) shapeCasts_S384x8x128_S384x1024⟩,
    ⟨S384x1024, shapeCast S384x1024 (turnedHeads w) shapeCasts_S384x8x128_S384x1024⟩] concatenates_S384x1024_S384x1024_S384x2048_d1
def packed3 (w : WKv) : Vec Ideal S256x1536 .f32 :=
  concatenate S256x1536 1 [⟨S256x1024, shapeCast S256x1024 (keyHeads w) shapeCasts_S256x8x128_S256x1024⟩,
    ⟨S256x512, shapeCast S256x512 (extractStridedSlice S256x8x64 ![0, 0, 64] w slices_S256x8x128_S256x8x64_0_0_64) shapeCasts_S256x8x64_S256x512⟩]
    concatenates_S256x1024_S256x512_S256x1536_d1

theorem row_29 : V m c main_v29 = queryHeads (a6 m c) := by
  unfold V
  after_results
  exact put _ rfl rfl rfl
theorem row_37 : V m c main_v37 = turnedHeads (a6 m c) := by
  unfold V
  after_results
  exact put _ rfl rfl rfl
theorem row_44 : V m c main_v44 = keyHeads (a8 m c) := by
  unfold V
  after_results
  exact put _ rfl rfl rfl

theorem two2 (A A' B B' : Vec Ideal S384x8x128 .f32) (hA : A = A') (hB : B = B') :
    (truncf .bf16 (concatenate S384x2048 1 [⟨S384x1024, shapeCast S384x1024 A shapeCasts_S384x8x128_S384x1024⟩,
      ⟨S384x1024, shapeCast S384x1024 B shapeCasts_S384x8x128_S384x1024⟩] concatenates_S384x1024_S384x1024_S384x2048_d1) bitsLt_bf16_f32 : FVec Ideal _ _)
      = truncf .bf16 (concatenate S384x2048 1 [⟨S384x1024, shapeCast S384x1024 A' shapeCasts_S384x8x128_S384x1024⟩,
        ⟨S384x1024, shapeCast S384x1024 B' shapeCasts_S384x8x128_S384x1024⟩] concatenates_S384x1024_S384x1024_S384x2048_d1) bitsLt_bf16_f32 := by
  subst hA hB
  rfl
theorem two3 (A A' : Vec Ideal S256x8x128 .f32) (B B' : Vec Ideal S256x8x64 .f32) (hA : A = A') (hB : B = B') :
    (truncf .bf16 (concatenate S256x1536 1 [⟨S256x1024, shapeCast S256x1024 A shapeCasts_S256x8x128_S256x1024⟩,
      ⟨S256x512, shapeCast S256x512 B shapeCasts_S256x8x64_S256x512⟩] concatenates_S256x1024_S256x512_S256x1536_d1) bitsLt_bf16_f32 : FVec Ideal _ _)
      = truncf .bf16 (concatenate S256x1536 1 [⟨S256x1024, shapeCast S256x1024 A' shapeCasts_S256x8x128_S256x1024⟩,
        ⟨S256x512, shapeCast S256x512 B' shapeCasts_S256x8x64_S256x512⟩] concatenates_S256x1024_S256x512_S256x1536_d1) bitsLt_bf16_f32 := by
  subst hA hB
  rfl

/-- The second and third weights as the kernel is given them. -/
theorem packed2_row : V m c main_v40 = packed2 (a6 m c) := by
  unfold V
  after_results
  exact two2 _ _ _ _ (put _ rfl rfl rfl) (put _ rfl rfl rfl)
theorem packed3_row : V m c main_v49 = packed3 (a8 m c) := by
  unfold V
  after_results
  exact two3 _ _ _ _ (put _ rfl rfl rfl) rfl

/-! ## The table -/

def zerosT : Vec Ideal S8192x128 .f32 := broadcastInDim S8192x128 ![] bcast_S_S8192x128 (constant (F := Ideal) S_ .f32 0x00000000#32)
def onesT : Vec Ideal S8192x64 .f32 := broadcastInDim S8192x64 ![] bcast_S_S8192x64 (constant (F := Ideal) S_ .f32 0x3F800000#32)
def lifts : Vec Ideal S8192x128 .f32 := broadcastInDim S8192x128 ![] bcast_S_S8192x128 (constant (F := Ideal) S_ .f32 0x3DD105EC#32)

/-- The frequencies, and the angles of every position. -/
def rates : Vec Ideal S16 .f32 :=
  Host.exp (F := Ideal) (φ := .f32) (mulf (addf (broadcastInDim S16 ![] bcast_S_S16 (constant (F := Ideal) S_ .f32 0x00000000#32))
    (mulf (broadcastInDim S16 ![] bcast_S_S16 (constant (F := Ideal) S_ .f32 0x40000000#32)) (sitofp .f32 (iotaInDim S16 32 0))))
    (broadcastInDim S16 ![] bcast_S_S16 (constant (F := Ideal) S_ .f32 0xBE935D8E#32)))
def angles : Vec Ideal S8192x16 .f32 :=
  mulf (broadcastInDim S8192x16 ![0, 1] bcast_S8192x1_S8192x16_0_1 (broadcastInDim S8192x1 ![0] bcast_S8192_S8192x1_0 (sitofp (F := Ideal) .f32 (iotaInDim S8192 32 0))))
    (broadcastInDim S8192x16 ![0, 1] bcast_S1x16_S8192x16_0_1 (broadcastInDim S1x16 ![1] bcast_S16_S1x16_1 rates))
def cosines : Vec Ideal S8192x32 .f32 :=
  concatenate S8192x32 1 [⟨S8192x16, Host.cos (F := Ideal) (φ := .f32) angles⟩, ⟨S8192x16, Host.cos (F := Ideal) (φ := .f32) angles⟩] concatenates_S8192x16_S8192x16_S8192x32_d1
def sines : Vec Ideal S8192x32 .f32 :=
  concatenate S8192x32 1 [⟨S8192x16, Host.sin (F := Ideal) (φ := .f32) angles⟩, ⟨S8192x16, Host.sin (F := Ideal) (φ := .f32) angles⟩] concatenates_S8192x16_S8192x16_S8192x32_d1
def cosPart : Vec Ideal S8192x128 .f32 := Host.scatter scatter_S8192x128_S1_S8192x32_01_n_1_0 (fun _ b => b) zerosT half cosines
def sinPart : Vec Ideal S8192x128 .f32 := Host.scatter scatter_S8192x128_S1_S8192x32_01_n_1_0 (fun _ b => b) zerosT half sines
def onePart : Vec Ideal S8192x128 .f32 := Host.scatter scatter_S8192x128_S1_S8192x64_01_n_1_0 (fun _ b => b) zerosT front onesT
def table : Vec Ideal S8192x512 .f32 :=
  concatenate S8192x512 1 [⟨S8192x128, (mulf (addf cosPart onePart) lifts : FVec Ideal S8192x128 .f32)⟩, ⟨S8192x128, (mulf sinPart lifts : FVec Ideal S8192x128 .f32)⟩, ⟨S8192x128, cosPart⟩, ⟨S8192x128, sinPart⟩]
    concatenates_S8192x128_S8192x128_S8192x128_S8192x128_S8192x512_d1

theorem four (A A' B B' C C' L L' M M' : Vec Ideal S8192x128 .f32) (hA : A = A') (hB : B = B') (hC : C = C') (hL : L = L') (hM : M = M') :
    (concatenate S8192x512 1 [⟨S8192x128, (mulf (addf A B) L : FVec Ideal S8192x128 .f32)⟩, ⟨S8192x128, (mulf C M : FVec Ideal S8192x128 .f32)⟩, ⟨S8192x128, A⟩, ⟨S8192x128, C⟩]
      concatenates_S8192x128_S8192x128_S8192x128_S8192x128_S8192x512_d1 : Vec Ideal S8192x512 .f32)
      = concatenate S8192x512 1 [⟨S8192x128, (mulf (addf A' B') L' : FVec Ideal S8192x128 .f32)⟩, ⟨S8192x128, (mulf C' M' : FVec Ideal S8192x128 .f32)⟩, ⟨S8192x128, A'⟩, ⟨S8192x128, C'⟩]
      concatenates_S8192x128_S8192x128_S8192x128_S8192x128_S8192x512_d1 := by
  subst hA hB hC hL hM
  rfl

/-- What the concatenation of the four parts writes. -/
theorem four_result (hxs hy) (F : Valuation τ sig (Elt Ideal)) :
    (StableHlo.nary (τ := τ) ![main_v83, main_v85, main_v73, main_v76] main_v86 (fun u => (concatenate S8192x512 1 [⟨S8192x128, (u 0 : (⟨S8192x128, .f32⟩ : BufTy).Contents (Elt Ideal))⟩, ⟨S8192x128, (u 1 : (⟨S8192x128, .f32⟩ : BufTy).Contents (Elt Ideal))⟩, ⟨S8192x128, (u 2 : (⟨S8192x128, .f32⟩ : BufTy).Contents (Elt Ideal))⟩, ⟨S8192x128, (u 3 : (⟨S8192x128, .f32⟩ : BufTy).Contents (Elt Ideal))⟩] concatenates_S8192x128_S8192x128_S8192x128_S8192x128_S8192x512_d1 : (⟨S8192x512, .f32⟩ : BufTy).Contents (Elt Ideal))) hxs hy).result F (Proc.devRef .tc main_v86)
      = (concatenate S8192x512 1 [⟨S8192x128, (F (Proc.devRef .tc main_v83) : (⟨S8192x128, .f32⟩ : BufTy).Contents (Elt Ideal))⟩, ⟨S8192x128, (F (Proc.devRef .tc main_v85) : (⟨S8192x128, .f32⟩ : BufTy).Contents (Elt Ideal))⟩, ⟨S8192x128, (F (Proc.devRef .tc main_v73) : (⟨S8192x128, .f32⟩ : BufTy).Contents (Elt Ideal))⟩, ⟨S8192x128, (F (Proc.devRef .tc main_v76) : (⟨S8192x128, .f32⟩ : BufTy).Contents (Elt Ideal))⟩] concatenates_S8192x128_S8192x128_S8192x128_S8192x128_S8192x512_d1 : (⟨S8192x512, .f32⟩ : BufTy).Contents (Elt Ideal)) := by
  rw [StableHlo.nary_result]
  rfl

/-- The table as the kernel is given it. -/
theorem table_row : V m c main_v86 = table := by
  unfold V
  simp only [StableHlo.after_cons, StableHlo.after_nil]
  repeat (first
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide)
    | (rw [StableHlo.nary_result_ne]; rotate_left; decide))
  refine (four_result _ _ _).trans ?_
  after_results
  exact four _ _ _ _ _ _ _ _ _ _ (put _ rfl rfl rfl) (put _ rfl rfl rfl) (put _ rfl rfl rfl) rfl rfl

/-! ## The norms' weights -/

theorem norm_row : V m c main_v87 = shapeCast S1x1024 (a3 m c) shapeCasts_S1024_S1x1024 := by
  unfold V
  after_results
  rfl
theorem normQ_row : V m c main_v88 = shapeCast S1x384 (a5 m c) shapeCasts_S384_S1x384 := by
  unfold V
  after_results
  rfl
theorem normKv_row : V m c main_v89 = shapeCast S1x256 (a7 m c) shapeCasts_S256_S1x256 := by
  unfold V
  after_results
  rfl

end Cert.Kernel4Ideal.InA

end
-- ==== Proof.InA.Entries.lean ====
/- What the weights and the table the host hands over hold, entry by entry. -/
module

public import proofs.«01_k».proof.Proof.InA.Host

@[expose] public section

set_option maxRecDepth 16384

noncomputable section

namespace Cert.Kernel4Ideal.InA

open Idealize.ShloMosaic Idealize.ShloMosaic.TcCoe Idealize.ShloMosaic.Tactic
open Cert.Kernel4Ideal.Gen Cert.Rows
open scoped BigOperators

/-! ## The first weights -/

theorem zeros1_at (k : Fin 1024) (l : Fin 128) : zeros1 (ix2 k l) = 0 := by
  pointwise [zeros1]
theorem keyCols_at (w : WIn) (k : Fin 1024) (l : Fin 32) : keyCols w (ix2 k l) = w (ix2 k ⟨640 + l.val, by omega⟩) := by
  pointwise [keyCols]
theorem swappedCols_at (w : WIn) (k : Fin 1024) (l : Fin 32) :
    swappedCols w (ix2 k l) = if h : l.val < 16 then - w (ix2 k ⟨656 + l.val, by omega⟩) else w (ix2 k ⟨624 + l.val, by omega⟩) := by
  pointwise [swappedCols, keyCols]
  split
  next h =>
    refine congrArg (fun e => - w (ix2 k e)) (Fin.ext ?_)
    show 640 + (16 + l.val) = 656 + l.val
    omega
  next h =>
    refine congrArg (fun e => w (ix2 k e)) (Fin.ext ?_)
    show 640 + (l.val - 16) = 624 + l.val
    omega
theorem gateCols_at (w : WIn) (k : Fin 1024) (l : Fin 8) : gateCols w (ix2 k l) = w (ix2 k ⟨1696 + l.val, by omega⟩) := by
  pointwise [gateCols]
  split
  next h => rfl
  next h =>
    refine congrArg (fun e => w (ix2 k e)) (Fin.ext ?_)
    show 1700 + (l.val - 4) = 1696 + l.val
    omega

theorem keyPart_at (w : WIn) (k : Fin 1024) (l : Fin 128) :
    keyPart w (ix2 k l) = if h : 64 ≤ l.val ∧ l.val - 64 < 32 then w (ix2 k ⟨640 + (l.val - 64), by omega⟩) else 0 := by
  refine (set_lanes scatter_S1024x128_S1_S1024x32_01_n_1_0 rfl rfl rfl _ 64 (fun _ => rfl) (by decide) _ _ k l).trans ?_
  simp only [keyCols_at, zeros1_at]
theorem swappedPart_at (w : WIn) (k : Fin 1024) (l : Fin 128) :
    swappedPart w (ix2 k l) = if h : 64 ≤ l.val ∧ l.val - 64 < 32 then
      (if h' : l.val - 64 < 16 then - w (ix2 k ⟨656 + (l.val - 64), by omega⟩) else w (ix2 k ⟨624 + (l.val - 64), by omega⟩)) else 0 := by
  refine (set_lanes scatter_S1024x128_S1_S1024x32_01_n_1_0 rfl rfl rfl _ 64 (fun _ => rfl) (by decide) _ _ k l).trans ?_
  simp only [swappedCols_at, zeros1_at]
theorem gatePart_at (w : WIn) (k : Fin 1024) (l : Fin 128) :
    gatePart w (ix2 k l) = if h : l.val < 8 then w (ix2 k ⟨1696 + l.val, by omega⟩) else 0 := by
  refine (set_lanes scatter_S1024x128_S1_S1024x8_01_n_1_0 rfl rfl rfl _ 0 (fun _ => rfl) (by decide) _ _ k l).trans ?_
  simp only [gateCols_at, zeros1_at, Nat.zero_le, true_and, Nat.sub_zero]

theorem packed1_at (w : WIn) (k : Fin 1024) (j : Fin 3584) :
    packed1 w (ix2 k j) =
      if h : j.val < 384 then w (ix2 k ⟨j.val, by omega⟩)
      else if h : j.val - 384 < 256 then w (ix2 k ⟨384 + (j.val - 384), by omega⟩)
      else if h : j.val - 384 - 256 < 128 then keyPart w (ix2 k ⟨j.val - 384 - 256, by omega⟩)
      else if h : j.val - 384 - 256 - 128 < 128 then swappedPart w (ix2 k ⟨j.val - 384 - 256 - 128, by omega⟩)
      else if h : j.val - 384 - 256 - 128 - 128 < 256 then w (ix2 k ⟨672 + (j.val - 384 - 256 - 128 - 128), by omega⟩)
      else if h : j.val - 384 - 256 - 128 - 128 - 256 < 256 then w (ix2 k ⟨928 + (j.val - 384 - 256 - 128 - 128 - 256), by omega⟩)
      else if h : j.val - 384 - 256 - 128 - 128 - 256 - 256 < 512 then w (ix2 k ⟨1184 + (j.val - 384 - 256 - 128 - 128 - 256 - 256), by omega⟩)
      else if h : j.val - 384 - 256 - 128 - 128 - 256 - 256 - 512 < 512 then w (ix2 k ⟨1704 + (j.val - 384 - 256 - 128 - 128 - 256 - 256 - 512), by omega⟩)
      else if h : j.val - 384 - 256 - 128 - 128 - 256 - 256 - 512 - 512 < 1024 then
        w (ix2 k ⟨2216 + (j.val - 384 - 256 - 128 - 128 - 256 - 256 - 512 - 512), by omega⟩)
      else gatePart w (ix2 k ⟨j.val - 384 - 256 - 128 - 128 - 256 - 256 - 512 - 512 - 1024, by omega⟩) := by
  unfold packed1
  generalize keyPart w = y
  generalize swappedPart w = y'
  generalize gatePart w = y''
  pointwise []
theorem packed1_q (w : WIn) (k : Fin 1024) (j : Fin 384) : packed1 w (ix2 k ⟨j.val, by omega⟩) = w (ix2 k ⟨j.val, by omega⟩) := by
  rw [packed1_at]
  dsimp only
  rw [dif_pos (by omega)]
theorem packed1_c (w : WIn) (k : Fin 1024) (j : Fin 256) : packed1 w (ix2 k ⟨384 + j.val, by omega⟩) = w (ix2 k ⟨384 + j.val, by omega⟩) := by
  rw [packed1_at]
  dsimp only
  rw [dif_neg (by omega), dif_pos (by omega)]
  exact congrArg (fun e => w (ix2 k e)) (Fin.ext (by dsimp only; omega))
theorem packed1_key (w : WIn) (k : Fin 1024) (j : Fin 128) : packed1 w (ix2 k ⟨640 + j.val, by omega⟩) = keyPart w (ix2 k j) := by
  rw [packed1_at]
  dsimp only
  rw [dif_neg (by omega), dif_neg (by omega), dif_pos (by omega)]
  exact congrArg (fun e => keyPart w (ix2 k e)) (Fin.ext (by dsimp only; omega))
theorem packed1_swapped (w : WIn) (k : Fin 1024) (j : Fin 128) : packed1 w (ix2 k ⟨768 + j.val, by omega⟩) = swappedPart w (ix2 k j) := by
  rw [packed1_at]
  dsimp only
  rw [dif_neg (by omega), dif_neg (by omega), dif_neg (by omega), dif_pos (by omega)]
  exact congrArg (fun e => swappedPart w (ix2 k e)) (Fin.ext (by dsimp only; omega))
theorem packed1_m (w : WIn) (k : Fin 1024) (j : Fin 1024) : packed1 w (ix2 k ⟨896 + j.val, by omega⟩) = w (ix2 k ⟨672 + j.val, by omega⟩) := by
  rw [packed1_at]
  dsimp only
  rw [dif_neg (by omega), dif_neg (by omega), dif_neg (by omega), dif_neg (by omega)]
  split_ifs <;> first | (exfalso; omega) | (refine congrArg (fun e => w (ix2 k e)) (Fin.ext ?_); dsimp only; omega)
theorem packed1_o (w : WIn) (k : Fin 1024) (j : Fin 512) : packed1 w (ix2 k ⟨1920 + j.val, by omega⟩) = w (ix2 k ⟨1704 + j.val, by omega⟩) := by
  rw [packed1_at]
  dsimp only
  rw [dif_neg (by omega), dif_neg (by omega), dif_neg (by omega), dif_neg (by omega), dif_neg (by omega), dif_neg (by omega), dif_neg (by omega), dif_pos (by omega)]
  exact congrArg (fun e => w (ix2 k e)) (Fin.ext (by dsimp only; omega))
theorem packed1_z (w : WIn) (k : Fin 1024) (j : Fin 1024) : packed1 w (ix2 k ⟨2432 + j.val, by omega⟩) = w (ix2 k ⟨2216 + j.val, by omega⟩) := by
  rw [packed1_at]
  dsimp only
  rw [dif_neg (by omega), dif_neg (by omega), dif_neg (by omega), dif_neg (by omega), dif_neg (by omega), dif_neg (by omega), dif_neg (by omega), dif_neg (by omega), dif_pos (by omega)]
  exact congrArg (fun e => w (ix2 k e)) (Fin.ext (by dsimp only; omega))
theorem packed1_gate (w : WIn) (k : Fin 1024) (j : Fin 128) : packed1 w (ix2 k ⟨3456 + j.val, by omega⟩) = gatePart w (ix2 k j) := by
  rw [packed1_at]
  dsimp only
  rw [dif_neg (by omega), dif_neg (by omega), dif_neg (by omega), dif_neg (by omega), dif_neg (by omega), dif_neg (by omega), dif_neg (by omega), dif_neg (by omega), dif_neg (by omega)]
  exact congrArg (fun e => gatePart w (ix2 k e)) (Fin.ext (by dsimp only; omega))

/-! ## The second and third weights -/

theorem zeros2_at (k : Fin 384) (h : Fin 8) (l : Fin 128) : zeros2 (ix3 k h l) = 0 := by
  pointwise [zeros2]
theorem zeros3_at (k : Fin 256) (h : Fin 8) (l : Fin 128) : zeros3 (ix3 k h l) = 0 := by
  pointwise [zeros3]
theorem swappedHeads_at (w : WQ) (k : Fin 384) (h : Fin 8) (l : Fin 32) :
    swappedHeads w (ix3 k h l) = if h' : l.val < 16 then - w (ix3 k h ⟨80 + l.val, by omega⟩) else w (ix3 k h ⟨48 + l.val, by omega⟩) := by
  pointwise [swappedHeads]
  split
  next h' =>
    refine congrArg (fun e => - w (ix3 k h e)) (Fin.ext ?_)
    show 64 + (16 + l.val) = 80 + l.val
    omega
  next h' =>
    refine congrArg (fun e => w (ix3 k h e)) (Fin.ext ?_)
    show 64 + (l.val - 16) = 48 + l.val
    omega
theorem queryHeads_at (w : WQ) (k : Fin 384) (h : Fin 8) (l : Fin 128) :
    queryHeads w (ix3 k h l) = if h' : l.val < 96 then w (ix3 k h ⟨l.val, h'⟩) else 0 := by
  refine (set_lanes3 scatter_S384x8x128_S1_S384x8x96_012_n_2_0 rfl rfl rfl _ 0 (fun _ => rfl) (by decide) _ _ k h l).trans ?_
  simp only [zeros2_at, Nat.zero_le, true_and, Nat.sub_zero]
theorem turnedHeads_at (w : WQ) (k : Fin 384) (h : Fin 8) (l : Fin 128) :
    turnedHeads w (ix3 k h l) = if h' : 64 ≤ l.val ∧ l.val - 64 < 32 then
      (if h'' : l.val - 64 < 16 then - w (ix3 k h ⟨80 + (l.val - 64), by omega⟩) else w (ix3 k h ⟨48 + (l.val - 64), by omega⟩)) else 0 := by
  refine (set_lanes3 scatter_S384x8x128_S1_S384x8x32_012_n_2_0 rfl rfl rfl _ 64 (fun _ => rfl) (by decide) _ _ k h l).trans ?_
  simp only [swappedHeads_at, zeros2_at]
theorem keyHeads_at (w : WKv) (k : Fin 256) (h : Fin 8) (l : Fin 128) :
    keyHeads w (ix3 k h l) = if h' : l.val < 64 then w (ix3 k h ⟨l.val, by omega⟩) else 0 := by
  refine (set_lanes3 scatter_S256x8x128_S1_S256x8x64_012_n_2_0 rfl rfl rfl _ 0 (fun _ => rfl) (by decide) _ _ k h l).trans ?_
  simp only [zeros3_at, Nat.zero_le, true_and, Nat.sub_zero]
  split
  next h' => pointwise []
  next h' => rfl

theorem packed2_at (w : WQ) (k : Fin 384) (j : Fin 2048) :
    packed2 w (ix2 k j) = if h : j.val < 1024 then queryHeads w (ix3 k ⟨j.val / 128, by omega⟩ ⟨j.val % 128, Nat.mod_lt _ (by decide)⟩)
      else turnedHeads w (ix3 k ⟨(j.val - 1024) / 128, by omega⟩ ⟨(j.val - 1024) % 128, Nat.mod_lt _ (by decide)⟩) := by
  unfold packed2
  generalize queryHeads w = y
  generalize turnedHeads w = y'
  pointwise []
theorem packed2_query (w : WQ) (k : Fin 384) (h : Fin 8) (l : Fin 128) : packed2 w (ix2 k ⟨128 * h.val + l.val, by omega⟩) = queryHeads w (ix3 k h l) := by
  rw [packed2_at]
  dsimp only
  rw [dif_pos (by omega)]
  exact congrArg₂ (fun a b => queryHeads w (ix3 k a b)) (Fin.ext (by dsimp only; omega)) (Fin.ext (by dsimp only; omega))
theorem packed2_turned (w : WQ) (k : Fin 384) (h : Fin 8) (l : Fin 128) :
    packed2 w (ix2 k ⟨1024 + (128 * h.val + l.val), by omega⟩) = turnedHeads w (ix3 k h l) := by
  rw [packed2_at]
  dsimp only
  rw [dif_neg (by omega)]
  exact congrArg₂ (fun a b => turnedHeads w (ix3 k a b)) (Fin.ext (by dsimp only; omega)) (Fin.ext (by dsimp only; omega))
theorem packed3_at (w : WKv) (k : Fin 256) (j : Fin 1536) :
    packed3 w (ix2 k j) = if h : j.val < 1024 then keyHeads w (ix3 k ⟨j.val / 128, by omega⟩ ⟨j.val % 128, Nat.mod_lt _ (by decide)⟩)
      else w (ix3 k ⟨(j.val - 1024) / 64, by omega⟩ ⟨64 + (j.val - 1024) % 64, by omega⟩) := by
  unfold packed3
  generalize keyHeads w = y
  pointwise []
theorem packed3_key (w : WKv) (k : Fin 256) (h : Fin 8) (l : Fin 128) : packed3 w (ix2 k ⟨128 * h.val + l.val, by omega⟩) = keyHeads w (ix3 k h l) := by
  rw [packed3_at]
  dsimp only
  rw [dif_pos (by omega)]
  exact congrArg₂ (fun a b => keyHeads w (ix3 k a b)) (Fin.ext (by dsimp only; omega)) (Fin.ext (by dsimp only; omega))
theorem packed3_value (w : WKv) (k : Fin 256) (j : Fin 512) :
    packed3 w (ix2 k ⟨1024 + j.val, by omega⟩) = w (ix3 k ⟨j.val / 64, by omega⟩ ⟨64 + j.val % 64, by omega⟩) := by
  rw [packed3_at]
  dsimp only
  rw [dif_neg (by omega)]
  exact congrArg₂ (fun a b => w (ix3 k a b)) (Fin.ext (by dsimp only; omega)) (Fin.ext (by dsimp only; omega))

/-! ## The table -/

theorem zerosT_at (r : Fin 8192) (l : Fin 128) : zerosT (ix2 r l) = 0 := by
  pointwise [zerosT]
theorem onesT_at (r : Fin 8192) (l : Fin 64) : onesT (ix2 r l) = 1 := by
  pointwise [onesT]
theorem angles_at (r : Fin 8192) (i : Fin 16) : angles (ix2 r i) = angle r.val i := by
  pointwise [angles, rates]
  rfl
theorem cosines_at (r : Fin 8192) (l : Fin 32) :
    cosines (ix2 r l) = if h : l.val < 16 then Ideal.cos (angle r.val ⟨l.val, h⟩) else Ideal.cos (angle r.val ⟨l.val - 16, by omega⟩) := by
  simp only [← angles_at]
  unfold cosines
  generalize angles = y
  pointwise []
theorem sines_at (r : Fin 8192) (l : Fin 32) :
    sines (ix2 r l) = if h : l.val < 16 then Ideal.sin (angle r.val ⟨l.val, h⟩) else Ideal.sin (angle r.val ⟨l.val - 16, by omega⟩) := by
  simp only [← angles_at]
  unfold sines
  generalize angles = y
  pointwise []
theorem cosPart_at (r : Fin 8192) (l : Fin 128) :
    cosPart (ix2 r l) = if h : 64 ≤ l.val ∧ l.val - 64 < 32 then
      (if h' : l.val - 64 < 16 then Ideal.cos (angle r.val ⟨l.val - 64, h'⟩) else Ideal.cos (angle r.val ⟨l.val - 64 - 16, by omega⟩)) else 0 := by
  refine (set_lanes scatter_S8192x128_S1_S8192x32_01_n_1_0 rfl rfl rfl _ 64 (fun _ => rfl) (by decide) _ _ r l).trans ?_
  simp only [cosines_at, zerosT_at]
theorem sinPart_at (r : Fin 8192) (l : Fin 128) :
    sinPart (ix2 r l) = if h : 64 ≤ l.val ∧ l.val - 64 < 32 then
      (if h' : l.val - 64 < 16 then Ideal.sin (angle r.val ⟨l.val - 64, h'⟩) else Ideal.sin (angle r.val ⟨l.val - 64 - 16, by omega⟩)) else 0 := by
  refine (set_lanes scatter_S8192x128_S1_S8192x32_01_n_1_0 rfl rfl rfl _ 64 (fun _ => rfl) (by decide) _ _ r l).trans ?_
  simp only [sines_at, zerosT_at]
theorem onePart_at (r : Fin 8192) (l : Fin 128) : onePart (ix2 r l) = if l.val < 64 then 1 else 0 := by
  refine (set_lanes scatter_S8192x128_S1_S8192x64_01_n_1_0 rfl rfl rfl _ 0 (fun _ => rfl) (by decide) _ _ r l).trans ?_
  simp only [onesT_at, zerosT_at, Nat.zero_le, true_and, Nat.sub_zero]
  rfl

theorem table_at (r : Fin 8192) (j : Fin 512) :
    table (ix2 r j) = if h : j.val < 128 then (cosPart (ix2 r ⟨j.val, h⟩) + onePart (ix2 r ⟨j.val, h⟩)) * lift
      else if h : j.val - 128 < 128 then sinPart (ix2 r ⟨j.val - 128, h⟩) * lift
      else if h : j.val - 128 - 128 < 128 then cosPart (ix2 r ⟨j.val - 128 - 128, h⟩) else sinPart (ix2 r ⟨j.val - 128 - 128 - 128, by omega⟩) := by
  unfold table
  generalize cosPart = y
  generalize sinPart = y'
  generalize onePart = y''
  pointwise [lifts]
  rfl
theorem table_0 (r : Fin 8192) (l : Fin 128) : table (ix2 r ⟨l.val, by omega⟩) = (cosPart (ix2 r l) + onePart (ix2 r l)) * lift := by
  rw [table_at, dif_pos l.isLt]
theorem table_1 (r : Fin 8192) (l : Fin 128) : table (ix2 r ⟨128 + l.val, by omega⟩) = sinPart (ix2 r l) * lift := by
  rw [table_at]
  dsimp only
  rw [dif_neg (by omega), dif_pos (by omega)]
  exact congrArg (fun e => sinPart (ix2 r e) * lift) (Fin.ext (by dsimp only; omega))
theorem table_2 (r : Fin 8192) (l : Fin 128) : table (ix2 r ⟨256 + l.val, by omega⟩) = cosPart (ix2 r l) := by
  rw [table_at]
  dsimp only
  rw [dif_neg (by omega), dif_neg (by omega), dif_pos (by omega)]
  exact congrArg (fun e => cosPart (ix2 r e)) (Fin.ext (by dsimp only; omega))
theorem table_3 (r : Fin 8192) (l : Fin 128) : table (ix2 r ⟨384 + l.val, by omega⟩) = sinPart (ix2 r l) := by
  rw [table_at]
  dsimp only
  rw [dif_neg (by omega), dif_neg (by omega), dif_neg (by omega)]
  exact congrArg (fun e => sinPart (ix2 r e)) (Fin.ext (by dsimp only; omega))

end Cert.Kernel4Ideal.InA

end
-- ==== Proof.InA.Finite.lean ====
/- Where the numbers of the call that opens the attention sublayer are real ones, and what that allows: a sign taken out of a
   sum, and a factor out of a difference. -/
module

public import proofs.«01_k».proof.Proof.InA.Spec

@[expose] public section

noncomputable section

namespace Cert.Rows

open Idealize.ShloMosaic
open scoped BigOperators

/-- A real number, no infinity. -/
def IsNum (e : EReal) : Prop := ∃ r : ℝ, e = (r : EReal)

theorem isNum_of {e : EReal} (h : e ≠ ⊤ ∧ e ≠ ⊥) : IsNum e := ⟨e.toReal, (EReal.coe_toReal h.1 h.2).symm⟩
theorem IsNum.add {a b : EReal} (ha : IsNum a) (hb : IsNum b) : IsNum (a + b) := by
  obtain ⟨a, rfl⟩ := ha
  obtain ⟨b, rfl⟩ := hb
  exact ⟨a + b, (EReal.coe_add a b).symm⟩
theorem IsNum.mul {a b : EReal} (ha : IsNum a) (hb : IsNum b) : IsNum (a * b) := by
  obtain ⟨a, rfl⟩ := ha
  obtain ⟨b, rfl⟩ := hb
  exact ⟨a * b, (EReal.coe_mul a b).symm⟩
theorem IsNum.zero : IsNum 0 := ⟨0, rfl⟩
theorem IsNum.one : IsNum 1 := ⟨1, rfl⟩
theorem IsNum.sum {ι : Type} (s : Finset ι) (f : ι → EReal) (h : ∀ i, IsNum (f i)) : IsNum (∑ i ∈ s, f i) := by
  classical
  induction s using Finset.induction_on with
  | empty => exact IsNum.zero
  | insert a s ha ih => rw [Finset.sum_insert ha]; exact (h a).add ih

/-- A sum of real numbers with their signs changed. -/
theorem sum_neg {ι : Type} (s : Finset ι) (f : ι → EReal) (h : ∀ i, IsNum (f i)) : ∑ i ∈ s, -(f i) = -∑ i ∈ s, f i := by
  classical
  induction s using Finset.induction_on with
  | empty => simp
  | insert a s ha ih =>
    rw [Finset.sum_insert ha, Finset.sum_insert ha, ih]
    obtain ⟨x, hx⟩ := h a
    obtain ⟨y, hy⟩ := IsNum.sum s f h
    rw [hx, hy, ← EReal.coe_neg, ← EReal.coe_neg, ← EReal.coe_add, ← EReal.coe_add, ← EReal.coe_neg]
    exact congrArg _ (by ring)

/-! ## Constants -/

theorem word_num (b : BitVec 32) (h : (b.extractLsb' 23 8).toNat ≠ 255) : IsNum (Ideal.ofBits .f32 b) := by
  show IsNum (Ideal.ieee 8 23 b)
  unfold Ideal.ieee
  dsimp only
  rw [if_neg (by simpa using h)]
  split
  · exact ⟨_, rfl⟩
  · exact ⟨_, rfl⟩
theorem word_pos (b : BitVec 32) (h : (b.extractLsb' 23 8).toNat ≠ 255) (h0 : (b.extractLsb' 23 8).toNat ≠ 0) (hs : (b.extractLsb' 31 1 == 1#1) = false) :
    ∃ r : ℝ, 0 < r ∧ Ideal.ofBits .f32 b = (r : EReal) := by
  show ∃ r : ℝ, 0 < r ∧ Ideal.ieee 8 23 b = (r : EReal)
  unfold Ideal.ieee
  dsimp only
  rw [if_neg (by simpa using h), if_neg h0]
  refine ⟨_, ?_, rfl⟩
  rw [show (b.extractLsb' (8 + 23) 1 == 1#1) = false from hs]
  simp only [Bool.false_eq_true, if_false]
  positivity

theorem lift_num : IsNum lift := word_num _ (by decide)

/-! ## The norm -/

/-- A row over its root mean square is real whatever the row: where the sum of squares is infinite, it is zero. -/
theorem rms_num {n : ℕ} (l e : EReal) (hl : ∃ r : ℝ, 0 < r ∧ l = (r : EReal)) (he : ∃ r : ℝ, 0 < r ∧ e = (r : EReal)) (x : Fin n → EReal) (c : Fin n) :
    IsNum (x c * Ideal.rsqrt (Ideal.div (∑ k, x k * x k) l + e)) := by
  obtain ⟨l, hl, rfl⟩ := hl
  obtain ⟨e, he, rfl⟩ := he
  have hl0 : (l : EReal) ≠ 0 := by
    intro h
    exact hl.ne' (by exact_mod_cast h)
  by_cases h : ∀ k, IsNum (x k)
  · choose f hf using h
    have hS : (∑ k, x k * x k) = ((∑ k, f k * f k : ℝ) : EReal) := by
      have : ∀ s : Finset (Fin n), (∑ k ∈ s, x k * x k) = ((∑ k ∈ s, f k * f k : ℝ) : EReal) := by
        classical
        intro s
        induction s using Finset.induction_on with
        | empty => simp
        | insert a s ha ih => rw [Finset.sum_insert ha, Finset.sum_insert ha, ih, hf a, ← EReal.coe_mul, ← EReal.coe_add]
      exact this _
    have hpos : 0 ≤ ∑ k, f k * f k := Finset.sum_nonneg fun k _ => mul_self_nonneg _
    have hd : Ideal.div (∑ k, x k * x k) l + e = (((∑ k, f k * f k) * l⁻¹ + e : ℝ) : EReal) := by
      unfold Ideal.div
      rw [if_neg hl0, hS, ← EReal.coe_inv, ← EReal.coe_mul, ← EReal.coe_add]
    have ht : 0 < (∑ k, f k * f k) * l⁻¹ + e := by positivity
    rw [hd, hf c]
    refine IsNum.mul ⟨_, rfl⟩ ?_
    show IsNum (if _ < 0 then ⊥ else if _ = 0 then ⊤ else _)
    rw [if_neg (not_lt.2 ht.le), if_neg ht.ne']
    exact ⟨_, rfl⟩
  · obtain ⟨a, ha⟩ := not_forall.1 h
    have hnn : ∀ k, 0 ≤ x k * x k := fun k => by
      rcases le_total 0 (x k) with h | h
      · exact mul_nonneg h h
      · have := mul_nonneg (EReal.neg_nonneg.2 h) (EReal.neg_nonneg.2 h)
        rwa [neg_mul_neg] at this
    have htop : x a * x a = ⊤ := by
      have h' : x a = ⊤ ∨ x a = ⊥ := by
        by_contra hc
        rw [not_or] at hc
        exact ha (isNum_of hc)
      rcases h' with h' | h' <;> rw [h'] <;> rfl
    have hS : (∑ k, x k * x k) = ⊤ := top_le_iff.1 (htop ▸ Finset.single_le_sum (fun k _ => hnn k) (Finset.mem_univ a))
    have hd : Ideal.div (∑ k, x k * x k) l + e = ⊤ := by
      unfold Ideal.div
      rw [if_neg hl0, hS, ← EReal.coe_inv, EReal.top_mul_coe_of_pos (inv_pos.2 hl), EReal.top_add_coe]
    rw [hd]
    show IsNum (x c * 0)
    rw [mul_zero]
    exact IsNum.zero

theorem eps_pos : ∃ r : ℝ, 0 < r ∧ Ideal.ofBits .f32 0x358637BD#32 = (r : EReal) := word_pos _ (by decide) (by decide) (by decide)
theorem n1024_pos : ∃ r : ℝ, 0 < r ∧ Ideal.ofBits .f32 0x44800000#32 = (r : EReal) := word_pos _ (by decide) (by decide) (by decide)
theorem n384_pos : ∃ r : ℝ, 0 < r ∧ n384 = (r : EReal) := word_pos _ (by decide) (by decide) (by decide)

theorem normedBy_num {n : ℕ} (l : EReal) (hl : ∃ r : ℝ, 0 < r ∧ l = (r : EReal)) (x g : Fin n → EReal) (hg : ∀ k, IsNum (g k)) (c : Fin n) : IsNum (normedBy l x g c) := by
  unfold normedBy
  exact IsNum.mul (rms_num l _ hl eps_pos x c) (hg c)

/-! ## The angles -/

theorem angle_num (p : ℕ) (i : Fin 16) : IsNum (angle p i) := by
  obtain ⟨t, ht⟩ : IsNum (Ideal.ofBits .f32 0x40000000#32 * FloatOps.sitofp (F := Ideal) .f32 (BitVec.ofNat 32 i.val) * Ideal.ofBits .f32 0xBE935D8E#32) :=
    IsNum.mul (IsNum.mul (word_num _ (by decide)) ⟨_, rfl⟩) (word_num _ (by decide))
  unfold angle
  rw [ht]
  exact IsNum.mul ⟨_, rfl⟩ ⟨_, rfl⟩
theorem cos_num (p : ℕ) (i : Fin 16) : IsNum (Ideal.cos (angle p i)) := by
  obtain ⟨t, ht⟩ := angle_num p i
  rw [ht]
  exact ⟨_, rfl⟩
theorem sin_num (p : ℕ) (i : Fin 16) : IsNum (Ideal.sin (angle p i)) := by
  obtain ⟨t, ht⟩ := angle_num p i
  rw [ht]
  exact ⟨_, rfl⟩

/-! ## The rows -/

section
variable {B R : ℕ} (x : (⟨3, ![B, R, 1024]⟩ : Shape).Idx → EReal) (shift scale : (⟨3, ![B, 1, 1024]⟩ : Shape).Idx → EReal) (g : Norm) (wi : WIn) (gq : NormQ) (wq : WQ)

theorem opened_num (hs : ∀ i, IsNum (shift i)) (hc : ∀ i, IsNum (scale i)) (hg : ∀ i, IsNum (g i)) (b : Fin B) (r : Fin R) (k : Fin 1024) :
    IsNum (opened x shift scale g b r k) := by
  unfold opened modulated normed
  exact IsNum.add (IsNum.mul (IsNum.mul (rms_num _ _ n1024_pos eps_pos (fun k => x (ix3 b r k)) k) (hg _)) (IsNum.one.add (hc _))) (hs _)
theorem col_num (hs : ∀ i, IsNum (shift i)) (hc : ∀ i, IsNum (scale i)) (hg : ∀ i, IsNum (g i)) (hw : ∀ i, IsNum (wi i)) (b : Fin B) (r : Fin R) (j : Fin 3240) :
    IsNum (col x shift scale g wi b r j) :=
  IsNum.sum _ _ fun k => (opened_num x shift scale g hs hc hg b r k).mul (hw _)
theorem latentQ_num (hgq : ∀ i, IsNum (gq i)) (b : Fin B) (r : Fin R) (k : Fin 384) : IsNum (latentQ x shift scale g wi gq b r k) :=
  normedBy_num n384 n384_pos _ _ (fun _ => hgq _) k
theorem query_num (hgq : ∀ i, IsNum (gq i)) (hwq : ∀ i, IsNum (wq i)) (b : Fin B) (r : Fin R) (h : Fin 8) (d : Fin 96) :
    IsNum (query x shift scale g wi gq wq b r h d) :=
  IsNum.sum _ _ fun k => (latentQ_num x shift scale g wi gq hgq b r k).mul (hwq _)
end

/-! ## What it allows -/

theorem sum_mul_neg {n : ℕ} (a w : Fin n → EReal) (ha : ∀ k, IsNum (a k)) (hw : ∀ k, IsNum (w k)) : ∑ k, a k * -(w k) = -∑ k, a k * w k := by
  rw [← sum_neg _ _ fun k => (ha k).mul (hw k)]
  exact Finset.sum_congr rfl fun k _ => mul_neg _ _
theorem turn_first {a b c s l : EReal} (ha : IsNum a) (hb : IsNum b) (hc : IsNum c) (hs : IsNum s) (hl : IsNum l) :
    a * (c * l) + -b * (s * l) = (a * c - b * s) * l := by
  obtain ⟨a, rfl⟩ := ha
  obtain ⟨b, rfl⟩ := hb
  obtain ⟨c, rfl⟩ := hc
  obtain ⟨s, rfl⟩ := hs
  obtain ⟨l, rfl⟩ := hl
  simp only [← EReal.coe_mul, ← EReal.coe_neg, ← EReal.coe_add, ← EReal.coe_sub]
  exact congrArg _ (by ring)
theorem turn_second {a b c s l : EReal} (ha : IsNum a) (hb : IsNum b) (hc : IsNum c) (hs : IsNum s) (hl : IsNum l) :
    a * (c * l) + b * (s * l) = (b * s + a * c) * l := by
  obtain ⟨a, rfl⟩ := ha
  obtain ⟨b, rfl⟩ := hb
  obtain ⟨c, rfl⟩ := hc
  obtain ⟨s, rfl⟩ := hs
  obtain ⟨l, rfl⟩ := hl
  simp only [← EReal.coe_mul, ← EReal.coe_add]
  exact congrArg _ (by ring)

end Cert.Rows

end
-- ==== Proof.InA.Rows.lean ====
/- The values of the idealized call that opens the attention sublayer: every block of its eight results is that part of the
   whole, and so are the results. -/
module

public import proofs.«01_k».proof.Proof.InA.Block
public import proofs.«01_k».proof.Proof.InA.Entries
public import proofs.«01_k».proof.Proof.InA.Finite
public import Idealize.ShloMosaic.Lib.Pipeline.ValueKit

@[expose] public section

set_option maxRecDepth 16384

noncomputable section

namespace Cert.Kernel4Ideal.InA

open Idealize.ShloMosaic Idealize.ShloMosaic.TcCoe Idealize.ShloMosaic.Tactic
open Cert.Kernel4Ideal.Gen Cert.Rows
open scoped BigOperators

variable (m : (ℓ : Loc nD τ sig) → Buf (Elt Ideal) ℓ) (c : Dev nD)

/-! ## The blocks in the arrays -/

/-- The batch and the block of rows of a grid point. -/
abbrev tb (t : Fin cfg0.N) : ℕ := t.val / 32
abbrev tr (t : Fin cfg0.N) : ℕ := t.val % 32

theorem point_lt (t : Fin cfg0.N) : t.val < 128 := lt_of_lt_of_eq t.isLt (show cfg0.N = 128 from N_0)

theorem index_0 : ∀ t : Fin cfg0.N, win0_0.index t = ![tb t, tr t, 0] :=
  (by decide +kernel : ∀ t : Fin grid0.N, cc0_transform_0 (grid0.coords t) = ![t.val / 32, t.val % 32, 0])
theorem index_1 : ∀ t : Fin cfg0.N, win0_1.index t = ![tb t, 0, 0] :=
  (by decide +kernel : ∀ t : Fin grid0.N, cc0_transform_1 (grid0.coords t) = ![t.val / 32, 0, 0])
theorem index_2 : ∀ t : Fin cfg0.N, win0_2.index t = ![tb t, 0, 0] :=
  (by decide +kernel : ∀ t : Fin grid0.N, cc0_transform_2 (grid0.coords t) = ![t.val / 32, 0, 0])
theorem index_3 : ∀ t : Fin cfg0.N, win0_3.index t = ![0, 0] :=
  (by decide +kernel : ∀ t : Fin grid0.N, cc0_transform_3 (grid0.coords t) = ![0, 0])
theorem index_4 : ∀ t : Fin cfg0.N, win0_4.index t = ![0, 0] :=
  (by decide +kernel : ∀ t : Fin grid0.N, cc0_transform_4 (grid0.coords t) = ![0, 0])
theorem index_5 : ∀ t : Fin cfg0.N, win0_5.index t = ![0, 0] :=
  (by decide +kernel : ∀ t : Fin grid0.N, cc0_transform_5 (grid0.coords t) = ![0, 0])
theorem index_6 : ∀ t : Fin cfg0.N, win0_6.index t = ![0, 0] :=
  (by decide +kernel : ∀ t : Fin grid0.N, cc0_transform_6 (grid0.coords t) = ![0, 0])
theorem index_7 : ∀ t : Fin cfg0.N, win0_7.index t = ![0, 0] :=
  (by decide +kernel : ∀ t : Fin grid0.N, cc0_transform_7 (grid0.coords t) = ![0, 0])
theorem index_8 : ∀ t : Fin cfg0.N, win0_8.index t = ![0, 0] :=
  (by decide +kernel : ∀ t : Fin grid0.N, cc0_transform_8 (grid0.coords t) = ![0, 0])
theorem index_9 : ∀ t : Fin cfg0.N, win0_9.index t = ![tr t, 0] :=
  (by decide +kernel : ∀ t : Fin grid0.N, cc0_transform_9 (grid0.coords t) = ![t.val % 32, 0])
theorem index_10 : ∀ t : Fin cfg0.N, win0_10.index t = ![tb t, tr t, 0] :=
  (by decide +kernel : ∀ t : Fin grid0.N, cc0_transform_10 (grid0.coords t) = ![t.val / 32, t.val % 32, 0])
theorem index_11 : ∀ t : Fin cfg0.N, win0_11.index t = ![tb t, tr t, 0] :=
  (by decide +kernel : ∀ t : Fin grid0.N, cc0_transform_11 (grid0.coords t) = ![t.val / 32, t.val % 32, 0])
theorem index_12 : ∀ t : Fin cfg0.N, win0_12.index t = ![tb t, tr t, 0] :=
  (by decide +kernel : ∀ t : Fin grid0.N, cc0_transform_12 (grid0.coords t) = ![t.val / 32, t.val % 32, 0])
theorem index_13 : ∀ t : Fin cfg0.N, win0_13.index t = ![tb t, tr t, 0] :=
  (by decide +kernel : ∀ t : Fin grid0.N, cc0_transform_13 (grid0.coords t) = ![t.val / 32, t.val % 32, 0])
theorem index_14 : ∀ t : Fin cfg0.N, win0_14.index t = ![tb t, tr t, 0] :=
  (by decide +kernel : ∀ t : Fin grid0.N, cc0_transform_14 (grid0.coords t) = ![t.val / 32, t.val % 32, 0])
theorem index_15 : ∀ t : Fin cfg0.N, win0_15.index t = ![tb t, tr t, 0] :=
  (by decide +kernel : ∀ t : Fin grid0.N, cc0_transform_15 (grid0.coords t) = ![t.val / 32, t.val % 32, 0])
theorem index_16 : ∀ t : Fin cfg0.N, win0_16.index t = ![tb t, tr t, 0] :=
  (by decide +kernel : ∀ t : Fin grid0.N, cc0_transform_16 (grid0.coords t) = ![t.val / 32, t.val % 32, 0])
theorem index_17 : ∀ t : Fin cfg0.N, win0_17.index t = ![tb t, tr t, 0] :=
  (by decide +kernel : ∀ t : Fin grid0.N, cc0_transform_17 (grid0.coords t) = ![t.val / 32, t.val % 32, 0])

theorem tb_lt (t : Fin cfg0.N) : tb t < 4 := by have := point_lt t; show t.val / 32 < 4; omega
theorem tr_lt (t : Fin cfg0.N) : tr t < 32 := by show t.val % 32 < 32; omega

/-- The batch of a point, and the row of the arrays that is row `r` of its block. -/
def pb (t : Fin cfg0.N) : Fin 4 := ⟨tb t, tb_lt t⟩
def pr (t : Fin cfg0.N) (r : Fin 256) : Fin 8192 := ⟨256 * tr t + r.val, by have := tr_lt t; have := r.isLt; omega⟩

theorem blk_0 (t : Fin cfg0.N) (r : Fin 256) (k : Fin 1024) : iblk m c 0 t (ix3 0 r k) = a0 m c (ix3 (pb t) (pr t r) k) := by
  blk_ext [iblk, V, index_0] <;> simp only [pb, pr] <;> omega
theorem blk_1 (t : Fin cfg0.N) (k : Fin 1024) : iblk m c 1 t (ix3 0 0 k) = a1 m c (ix3 (pb t) 0 k) := by
  blk_ext [iblk, V, index_1] <;> simp only [pb] <;> omega
theorem blk_2 (t : Fin cfg0.N) (k : Fin 1024) : iblk m c 2 t (ix3 0 0 k) = a2 m c (ix3 (pb t) 0 k) := by
  blk_ext [iblk, V, index_2] <;> simp only [pb] <;> omega
theorem norm_at (k : Fin 1024) : V m c main_v87 (ix2 0 k) = a3 m c (ix1 k) := by
  rw [norm_row]
  pointwise []
theorem normQ_at (k : Fin 384) : V m c main_v88 (ix2 0 k) = a5 m c (ix1 k) := by
  rw [normQ_row]
  pointwise []
theorem normKv_at (k : Fin 256) : V m c main_v89 (ix2 0 k) = a7 m c (ix1 k) := by
  rw [normKv_row]
  pointwise []
theorem blk_3 (t : Fin cfg0.N) (k : Fin 1024) : iblk m c 3 t (ix2 0 k) = a3 m c (ix1 k) := by
  rw [← norm_at]
  blk_ext [iblk, index_3]
theorem blk_4 (t : Fin cfg0.N) (k : Fin 1024) (j : Fin 3584) : iblk m c 4 t (ix2 k j) = packed1 (a4 m c) (ix2 k j) := by
  rw [← packed1_row]
  blk_ext [iblk, index_4]
theorem blk_5 (t : Fin cfg0.N) (k : Fin 384) : iblk m c 5 t (ix2 0 k) = a5 m c (ix1 k) := by
  rw [← normQ_at]
  blk_ext [iblk, index_5]
theorem blk_6 (t : Fin cfg0.N) (k : Fin 384) (j : Fin 2048) : iblk m c 6 t (ix2 k j) = packed2 (a6 m c) (ix2 k j) := by
  rw [← packed2_row]
  blk_ext [iblk, index_6]
theorem blk_7 (t : Fin cfg0.N) (k : Fin 256) : iblk m c 7 t (ix2 0 k) = a7 m c (ix1 k) := by
  rw [← normKv_at]
  blk_ext [iblk, index_7]
theorem blk_8 (t : Fin cfg0.N) (k : Fin 256) (j : Fin 1536) : iblk m c 8 t (ix2 k j) = packed3 (a8 m c) (ix2 k j) := by
  rw [← packed3_row]
  blk_ext [iblk, index_8]
theorem blk_9 (t : Fin cfg0.N) (r : Fin 256) (j : Fin 512) : iblk m c 9 t (ix2 r j) = table (ix2 (pr t r) j) := by
  rw [← table_row m c]
  blk_ext [iblk, index_9] <;> simp only [pr] <;> omega

/-! ## The rows of a block are those of the arrays -/

/-- The first product of a row of a block, and the columns it should hold. -/
abbrev Y (t : Fin cfg0.N) (r : Fin 256) (j : Fin 3584) : EReal := rowY (iblk m c 0 t) (iblk m c 1 t) (iblk m c 2 t) (iblk m c 3 t) (iblk m c 4 t) r j
abbrev H (t : Fin cfg0.N) (r : Fin 256) : Fin 1024 → EReal := opened (a0 m c) (a1 m c) (a2 m c) (a3 m c) (pb t) (pr t r)
abbrev C (t : Fin cfg0.N) (r : Fin 256) (j : Fin 3240) : EReal := col (a0 m c) (a1 m c) (a2 m c) (a3 m c) (a4 m c) (pb t) (pr t r) j

theorem Y_eq (t : Fin cfg0.N) (r : Fin 256) (j : Fin 3584) : Y m c t r j = ∑ k, H m c t r k * packed1 (a4 m c) (ix2 k j) := by
  unfold Y rowY rowH H opened
  simp only [blk_0, blk_1, blk_2, blk_3, blk_4]

theorem Y_q (t : Fin cfg0.N) (r : Fin 256) (j : Fin 384) : Y m c t r ⟨j.val, by omega⟩ = C m c t r ⟨j.val, by omega⟩ := by
  rw [Y_eq]
  simp only [packed1_q]
  rfl
theorem Y_c (t : Fin cfg0.N) (r : Fin 256) (j : Fin 256) : Y m c t r ⟨384 + j.val, by omega⟩ = C m c t r ⟨384 + j.val, by omega⟩ := by
  rw [Y_eq]
  simp only [packed1_c]
  rfl
theorem Y_m (t : Fin cfg0.N) (r : Fin 256) (j : Fin 1024) : Y m c t r ⟨896 + j.val, by omega⟩ = C m c t r ⟨672 + j.val, by omega⟩ := by
  rw [Y_eq]
  simp only [packed1_m]
  rfl
theorem Y_o (t : Fin cfg0.N) (r : Fin 256) (j : Fin 512) : Y m c t r ⟨1920 + j.val, by omega⟩ = C m c t r ⟨1704 + j.val, by omega⟩ := by
  rw [Y_eq]
  simp only [packed1_o]
  rfl
theorem Y_z (t : Fin cfg0.N) (r : Fin 256) (j : Fin 1024) : Y m c t r ⟨2432 + j.val, by omega⟩ = C m c t r ⟨2216 + j.val, by omega⟩ := by
  rw [Y_eq]
  simp only [packed1_z]
  rfl
theorem Y_gate (t : Fin cfg0.N) (r : Fin 256) (l : Fin 128) :
    Y m c t r ⟨3456 + l.val, by omega⟩ = if h : l.val < 8 then C m c t r ⟨1696 + l.val, by omega⟩ else 0 := by
  rw [Y_eq]
  simp only [packed1_gate, gatePart_at]
  by_cases h : l.val < 8
  · simp only [dif_pos h]
    rfl
  · simp only [dif_neg h, mul_zero, Finset.sum_const_zero]
theorem Y_key (t : Fin cfg0.N) (r : Fin 256) (l : Fin 128) :
    Y m c t r ⟨640 + l.val, by omega⟩ = if h : 64 ≤ l.val ∧ l.val - 64 < 32 then C m c t r ⟨640 + (l.val - 64), by omega⟩ else 0 := by
  rw [Y_eq]
  simp only [packed1_key, keyPart_at]
  by_cases h : 64 ≤ l.val ∧ l.val - 64 < 32
  · simp only [dif_pos h]
    rfl
  · simp only [dif_neg h, mul_zero, Finset.sum_const_zero]

/-- What is asked of the arrays the turned lanes are made of. -/
structure Fine : Prop where
  shift : ∀ i, IsNum (a1 m c i)
  scale : ∀ i, IsNum (a2 m c i)
  norm : ∀ i, IsNum (a3 m c i)
  weights : ∀ i, IsNum (a4 m c i)
  normQ : ∀ i, IsNum (a5 m c i)
  weightsQ : ∀ i, IsNum (a6 m c i)

theorem Y_swapped (hf : Fine m c) (t : Fin cfg0.N) (r : Fin 256) (l : Fin 128) :
    Y m c t r ⟨768 + l.val, by omega⟩ = if h : 64 ≤ l.val ∧ l.val - 64 < 32 then
      (if h' : l.val - 64 < 16 then - C m c t r ⟨656 + (l.val - 64), by omega⟩ else C m c t r ⟨624 + (l.val - 64), by omega⟩) else 0 := by
  rw [Y_eq]
  simp only [packed1_swapped, swappedPart_at]
  by_cases h : 64 ≤ l.val ∧ l.val - 64 < 32
  · simp only [dif_pos h]
    by_cases h' : l.val - 64 < 16
    · simp only [dif_pos h']
      exact sum_mul_neg _ _ (fun k => opened_num (a0 m c) _ _ _ hf.shift hf.scale hf.norm _ _ k) (fun k => hf.weights _)
    · simp only [dif_neg h']
      rfl
  · simp only [dif_neg h, mul_zero, Finset.sum_const_zero]

/-- The second product. -/
abbrev Q (t : Fin cfg0.N) (r : Fin 256) (j : Fin 2048) : EReal :=
  rowQ (iblk m c 0 t) (iblk m c 1 t) (iblk m c 2 t) (iblk m c 3 t) (iblk m c 4 t) (iblk m c 5 t) (iblk m c 6 t) r j
abbrev LQ (t : Fin cfg0.N) (r : Fin 256) : Fin 384 → EReal := latentQ (a0 m c) (a1 m c) (a2 m c) (a3 m c) (a4 m c) (a5 m c) (pb t) (pr t r)
abbrev SQ (t : Fin cfg0.N) (r : Fin 256) (h : Fin 8) (d : Fin 96) : EReal :=
  query (a0 m c) (a1 m c) (a2 m c) (a3 m c) (a4 m c) (a5 m c) (a6 m c) (pb t) (pr t r) h d

theorem Q_eq (t : Fin cfg0.N) (r : Fin 256) (j : Fin 2048) : Q m c t r j = ∑ k, LQ m c t r k * packed2 (a6 m c) (ix2 k j) := by
  have e : (fun k : Fin 384 => rowY (iblk m c 0 t) (iblk m c 1 t) (iblk m c 2 t) (iblk m c 3 t) (iblk m c 4 t) r ⟨k.val, by omega⟩)
      = fun k : Fin 384 => C m c t r ⟨k.val, by omega⟩ := funext fun k => Y_q m c t r k
  unfold Q rowQ LQ latentQ
  rw [e]
  simp only [blk_5, blk_6]
theorem Q_query (t : Fin cfg0.N) (r : Fin 256) (h : Fin 8) (l : Fin 128) :
    Q m c t r ⟨128 * h.val + l.val, by omega⟩ = if h' : l.val < 96 then SQ m c t r h ⟨l.val, h'⟩ else 0 := by
  rw [Q_eq]
  simp only [packed2_query, queryHeads_at]
  by_cases h' : l.val < 96
  · simp only [dif_pos h']
    rfl
  · simp only [dif_neg h', mul_zero, Finset.sum_const_zero]
theorem Q_turned (hf : Fine m c) (t : Fin cfg0.N) (r : Fin 256) (h : Fin 8) (l : Fin 128) :
    Q m c t r ⟨1024 + (128 * h.val + l.val), by omega⟩ = if h' : 64 ≤ l.val ∧ l.val - 64 < 32 then
      (if h'' : l.val - 64 < 16 then - SQ m c t r h ⟨80 + (l.val - 64), by omega⟩ else SQ m c t r h ⟨48 + (l.val - 64), by omega⟩) else 0 := by
  rw [Q_eq]
  simp only [packed2_turned, turnedHeads_at]
  by_cases h' : 64 ≤ l.val ∧ l.val - 64 < 32
  · simp only [dif_pos h']
    by_cases h'' : l.val - 64 < 16
    · simp only [dif_pos h'']
      exact sum_mul_neg _ _ (fun k => latentQ_num _ _ _ _ _ _ hf.normQ _ _ k) (fun k => hf.weightsQ _)
    · simp only [dif_neg h'']
      rfl
  · simp only [dif_neg h', mul_zero, Finset.sum_const_zero]

/-- The third product. -/
abbrev K (t : Fin cfg0.N) (r : Fin 256) (j : Fin 1536) : EReal :=
  rowK (iblk m c 0 t) (iblk m c 1 t) (iblk m c 2 t) (iblk m c 3 t) (iblk m c 4 t) (iblk m c 7 t) (iblk m c 8 t) r j
abbrev LK (t : Fin cfg0.N) (r : Fin 256) : Fin 256 → EReal := latentKv (a0 m c) (a1 m c) (a2 m c) (a3 m c) (a4 m c) (a7 m c) (pb t) (pr t r)
abbrev SK (t : Fin cfg0.N) (r : Fin 256) (h : Fin 8) (d : Fin 128) : EReal :=
  keyValue (a0 m c) (a1 m c) (a2 m c) (a3 m c) (a4 m c) (a7 m c) (a8 m c) (pb t) (pr t r) h d

theorem rowC_eq (t : Fin cfg0.N) (r : Fin 256) :
    rowC (iblk m c 0 t) (iblk m c 1 t) (iblk m c 2 t) (iblk m c 3 t) (iblk m c 4 t) (iblk m c 7 t) r = LK m c t r := by
  have e : (fun k : Fin 256 => rowY (iblk m c 0 t) (iblk m c 1 t) (iblk m c 2 t) (iblk m c 3 t) (iblk m c 4 t) r ⟨384 + k.val, by omega⟩)
      = fun k : Fin 256 => C m c t r ⟨384 + k.val, by omega⟩ := funext fun k => Y_c m c t r k
  unfold rowC LK latentKv
  rw [e]
  simp only [blk_7]
theorem K_eq (t : Fin cfg0.N) (r : Fin 256) (j : Fin 1536) : K m c t r j = ∑ k, LK m c t r k * packed3 (a8 m c) (ix2 k j) := by
  unfold K rowK
  rw [rowC_eq]
  simp only [blk_8]
theorem K_key (t : Fin cfg0.N) (r : Fin 256) (h : Fin 8) (l : Fin 128) :
    K m c t r ⟨128 * h.val + l.val, by omega⟩ = if h' : l.val < 64 then SK m c t r h ⟨l.val, by omega⟩ else 0 := by
  rw [K_eq]
  simp only [packed3_key, keyHeads_at]
  by_cases h' : l.val < 64
  · simp only [dif_pos h']
    rfl
  · simp only [dif_neg h', mul_zero, Finset.sum_const_zero]
theorem K_value (t : Fin cfg0.N) (r : Fin 256) (j : Fin 512) :
    K m c t r ⟨1024 + j.val, by omega⟩ = SK m c t r ⟨j.val / 64, by omega⟩ ⟨64 + j.val % 64, by omega⟩ := by
  rw [K_eq]
  simp only [packed3_value]
  rfl

/-! ## The turned lanes -/

theorem rowR_eq (hf : Fine m c) (t : Fin cfg0.N) (r : Fin 256) (l : Fin 128) :
    rowR (iblk m c 0 t) (iblk m c 1 t) (iblk m c 2 t) (iblk m c 3 t) (iblk m c 4 t) (iblk m c 9 t) r l
      = if h : 64 ≤ l.val ∧ l.val - 64 < 32 then keyRot (a0 m c) (a1 m c) (a2 m c) (a3 m c) (a4 m c) (pb t) (pr t r) ⟨l.val - 64, h.2⟩ else 0 := by
  unfold rowR
  show Y m c t r ⟨640 + l.val, by omega⟩ * _ + Y m c t r ⟨768 + l.val, by omega⟩ * _ = _
  rw [Y_key, Y_swapped m c hf, blk_9, blk_9, table_2, table_3, cosPart_at, sinPart_at]
  by_cases h : 64 ≤ l.val ∧ l.val - 64 < 32
  · simp only [dif_pos h]
    unfold keyRot turned
    by_cases h' : l.val - 64 < 16
    · simp only [dif_pos h']
      rw [neg_mul, ← sub_eq_add_neg]
      refine congrArg (fun e => _ - C m c t r e * _) (Fin.ext ?_)
      dsimp only
      omega
    · simp only [dif_neg h']
      rw [add_comm]
      refine congrArg (fun e => C m c t r e * _ + _) (Fin.ext ?_)
      dsimp only
      omega
  · simp only [dif_neg h, mul_zero, add_zero]

theorem laneK_eq (hf : Fine m c) (t : Fin cfg0.N) (r : Fin 256) (h : Fin 8) (l : Fin 128) :
    laneK (iblk m c 0 t) (iblk m c 1 t) (iblk m c 2 t) (iblk m c 3 t) (iblk m c 4 t) (iblk m c 7 t) (iblk m c 8 t) (iblk m c 9 t) r h l
      = keyLane (a0 m c) (a1 m c) (a2 m c) (a3 m c) (a4 m c) (a7 m c) (a8 m c) (pb t) (pr t r) h l := by
  unfold laneK
  show K m c t r ⟨128 * h.val + l.val, by omega⟩ + _ = _
  rw [rowR_eq m c hf, K_key]
  unfold keyLane
  by_cases h1 : l.val < 64
  · rw [dif_pos h1, dif_neg (by omega), dif_pos h1, add_zero]
  · by_cases h2 : l.val < 96
    · rw [dif_neg h1, dif_pos (by omega), dif_neg h1, dif_pos h2, zero_add]
    · rw [dif_neg h1, dif_neg (by omega), dif_neg h1, dif_neg h2, zero_add]

theorem laneQ_eq (hf : Fine m c) (t : Fin cfg0.N) (r : Fin 256) (h : Fin 8) (l : Fin 128) :
    laneQ (iblk m c 0 t) (iblk m c 1 t) (iblk m c 2 t) (iblk m c 3 t) (iblk m c 4 t) (iblk m c 5 t) (iblk m c 6 t) (iblk m c 9 t) r h l
      = queryLane (a0 m c) (a1 m c) (a2 m c) (a3 m c) (a4 m c) (a5 m c) (a6 m c) (pb t) (pr t r) h l := by
  have hq : ∀ d, IsNum (SQ m c t r h d) := fun d => query_num _ _ _ _ _ _ _ hf.normQ hf.weightsQ _ _ _ _
  unfold laneQ
  show Q m c t r ⟨128 * h.val + l.val, by omega⟩ * _ + Q m c t r ⟨1024 + (128 * h.val + l.val), by omega⟩ * _ = _
  rw [Q_query, Q_turned m c hf, blk_9, blk_9, table_0, table_1, cosPart_at, sinPart_at, onePart_at]
  unfold queryLane
  by_cases h1 : l.val < 64
  · rw [dif_pos (by omega), dif_neg (by omega), dif_neg (by omega), if_pos h1, dif_pos h1, zero_mul, add_zero, zero_add, one_mul]
  · by_cases h2 : l.val < 96
    · have h3 : 64 ≤ l.val ∧ l.val - 64 < 32 := by omega
      simp only [dif_pos h2, dif_pos h3, dif_neg h1, if_neg h1, add_zero]
      unfold turned
      by_cases h' : l.val - 64 < 16
      · simp only [dif_pos h']
        rw [turn_first (hq _) (hq _) (cos_num _ _) (sin_num _ _) lift_num]
        refine congrArg₂ (fun e e' => (SQ m c t r h e * _ - SQ m c t r h e' * _) * lift) (Fin.ext ?_) (Fin.ext ?_) <;> dsimp only <;> omega
      · simp only [dif_neg h']
        rw [turn_second (hq _) (hq _) (cos_num _ _) (sin_num _ _) lift_num]
        refine congrArg₂ (fun e e' => (SQ m c t r h e' * _ + SQ m c t r h e * _) * lift) (Fin.ext ?_) (Fin.ext ?_) <;> dsimp only <;> omega
    · have h3 : ¬ (64 ≤ l.val ∧ l.val - 64 < 32) := by omega
      simp only [dif_neg h1, dif_neg h2, dif_neg h3, zero_mul, add_zero]

end Cert.Kernel4Ideal.InA

end
-- ==== Proof.InA.Value.lean ====
/- The eight results of the idealized call that opens the attention sublayer, whole. -/
module

public import proofs.«01_k».proof.Proof.InA.Rows

@[expose] public section

set_option maxRecDepth 16384

noncomputable section

namespace Cert.Kernel4Ideal.InA

open Idealize.ShloMosaic Idealize.ShloMosaic.TcCoe Idealize.ShloMosaic.Tactic
open Cert.Kernel4Ideal.Gen Cert.Rows
open scoped BigOperators

variable (m : (ℓ : Loc nD τ sig) → Buf (Elt Ideal) ℓ) (c : Dev nD)

theorem out_10 (hf : Fine m c) (t : Fin cfg0.N) (i : S1x256x1024.Idx) :
    ((cfg0.win 10).blk t).view.read (Elt Ideal) (inQ (a0 m c) (a1 m c) (a2 m c) (a3 m c) (a4 m c) (a5 m c) (a6 m c)) i
      = out0_10 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  refine Eq.trans (b := inQ (a0 m c) (a1 m c) (a2 m c) (a3 m c) (a4 m c) (a5 m c) (a6 m c) (ix3 (pb t) (pr t r) k)) ?_ ?_
  · blk_ext [index_10] <;> simp only [pb, pr] <;> omega
  · obtain ⟨h, l, hk⟩ : ∃ (h : Fin 8) (l : Fin 128), k = ⟨128 * h.val + l.val, by omega⟩ :=
      ⟨⟨k.val / 128, by omega⟩, ⟨k.val % 128, Nat.mod_lt _ (by decide)⟩, Fin.ext (by dsimp only; omega)⟩
    subst hk
    rw [out10_apply, laneQ_eq m c hf]
    exact congrArg₂ (queryLane (a0 m c) (a1 m c) (a2 m c) (a3 m c) (a4 m c) (a5 m c) (a6 m c) (pb t) (pr t r)) (Fin.ext (by show (128 * h.val + l.val) / 128 = h.val; omega)) (Fin.ext (by show (128 * h.val + l.val) % 128 = l.val; omega))
theorem covers_10 (i : S4x8192x1024.Idx) : ∃ t : Fin cfg0.N, (cfg0.win 10).flush t = true ∧ i ∈ ((cfg0.win 10).blk t).view.set := by
  have h0 : (i 0).val < 4 := (i 0).isLt
  have h1 : (i 1).val < 8192 := (i 1).isLt
  have h2 : (i 2).val < 1024 := (i 2).isLt
  obtain ⟨t, ht⟩ : ∃ t : Fin cfg0.N, t.val = 32 * (i 0).val + (i 1).val / 256 :=
    ⟨⟨32 * (i 0).val + (i 1).val / 256, lt_of_lt_of_eq (by omega) N_0.symm⟩, rfl⟩
  refine ⟨t, flush0_10 t, ?_⟩
  mem_blk [index_10]
  simp only [tb, tr]
  omega
theorem arr_10 (hf : Fine m c) : (dats m 0 c).arrAt 10 cfg0.N = inQ (a0 m c) (a1 m c) (a2 m c) (a3 m c) (a4 m c) (a5 m c) (a6 m c) :=
  Pipeline.Dat.arrAt_eq_of_cover (dats m 0 c) 10 (inQ (a0 m c) (a1 m c) (a2 m c) (a3 m c) (a4 m c) (a5 m c) (a6 m c))
    (fun t _ => (flushed10 m c t).trans (funext fun i => (out_10 m c hf t i).symm))
    (fun i => covers_10 i)

theorem out_11 (t : Fin cfg0.N) (i : S1x256x256.Idx) :
    ((cfg0.win 11).blk t).view.read (Elt Ideal) (inC (a0 m c) (a1 m c) (a2 m c) (a3 m c) (a4 m c) (a7 m c)) i
      = out0_11 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  refine Eq.trans (b := inC (a0 m c) (a1 m c) (a2 m c) (a3 m c) (a4 m c) (a7 m c) (ix3 (pb t) (pr t r) k)) ?_ ?_
  · blk_ext [index_11] <;> simp only [pb, pr] <;> omega
  · rw [out11_apply, rowC_eq]
    rfl
theorem covers_11 (i : S4x8192x256.Idx) : ∃ t : Fin cfg0.N, (cfg0.win 11).flush t = true ∧ i ∈ ((cfg0.win 11).blk t).view.set := by
  have h0 : (i 0).val < 4 := (i 0).isLt
  have h1 : (i 1).val < 8192 := (i 1).isLt
  have h2 : (i 2).val < 256 := (i 2).isLt
  obtain ⟨t, ht⟩ : ∃ t : Fin cfg0.N, t.val = 32 * (i 0).val + (i 1).val / 256 :=
    ⟨⟨32 * (i 0).val + (i 1).val / 256, lt_of_lt_of_eq (by omega) N_0.symm⟩, rfl⟩
  refine ⟨t, flush0_11 t, ?_⟩
  mem_blk [index_11]
  simp only [tb, tr]
  omega
theorem arr_11 : (dats m 0 c).arrAt 11 cfg0.N = inC (a0 m c) (a1 m c) (a2 m c) (a3 m c) (a4 m c) (a7 m c) :=
  Pipeline.Dat.arrAt_eq_of_cover (dats m 0 c) 11 (inC (a0 m c) (a1 m c) (a2 m c) (a3 m c) (a4 m c) (a7 m c))
    (fun t _ => (flushed11 m c t).trans (funext fun i => (out_11 m c t i).symm))
    (fun i => covers_11 i)

theorem out_12 (hf : Fine m c) (t : Fin cfg0.N) (i : S1x256x32.Idx) :
    ((cfg0.win 12).blk t).view.read (Elt Ideal) (inR (a0 m c) (a1 m c) (a2 m c) (a3 m c) (a4 m c)) i
      = out0_12 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  refine Eq.trans (b := inR (a0 m c) (a1 m c) (a2 m c) (a3 m c) (a4 m c) (ix3 (pb t) (pr t r) k)) ?_ ?_
  · blk_ext [index_12] <;> simp only [pb, pr] <;> omega
  · have h : 64 ≤ (⟨64 + k.val, by omega⟩ : Fin 128).val ∧ (⟨64 + k.val, by omega⟩ : Fin 128).val - 64 < 32 := by dsimp only; omega
    rw [out12_apply, rowR_eq m c hf, dif_pos h]
    exact congrArg (keyRot (a0 m c) (a1 m c) (a2 m c) (a3 m c) (a4 m c) (pb t) (pr t r)) (Fin.ext (by show k.val = 64 + k.val - 64; omega))
theorem covers_12 (i : S4x8192x32.Idx) : ∃ t : Fin cfg0.N, (cfg0.win 12).flush t = true ∧ i ∈ ((cfg0.win 12).blk t).view.set := by
  have h0 : (i 0).val < 4 := (i 0).isLt
  have h1 : (i 1).val < 8192 := (i 1).isLt
  have h2 : (i 2).val < 32 := (i 2).isLt
  obtain ⟨t, ht⟩ : ∃ t : Fin cfg0.N, t.val = 32 * (i 0).val + (i 1).val / 256 :=
    ⟨⟨32 * (i 0).val + (i 1).val / 256, lt_of_lt_of_eq (by omega) N_0.symm⟩, rfl⟩
  refine ⟨t, flush0_12 t, ?_⟩
  mem_blk [index_12]
  simp only [tb, tr]
  omega
theorem arr_12 (hf : Fine m c) : (dats m 0 c).arrAt 12 cfg0.N = inR (a0 m c) (a1 m c) (a2 m c) (a3 m c) (a4 m c) :=
  Pipeline.Dat.arrAt_eq_of_cover (dats m 0 c) 12 (inR (a0 m c) (a1 m c) (a2 m c) (a3 m c) (a4 m c))
    (fun t _ => (flushed12 m c t).trans (funext fun i => (out_12 m c hf t i).symm))
    (fun i => covers_12 i)

theorem out_13 (t : Fin cfg0.N) (i : S1x256x1536.Idx) :
    ((cfg0.win 13).blk t).view.read (Elt Ideal) (inM (a0 m c) (a1 m c) (a2 m c) (a3 m c) (a4 m c)) i
      = out0_13 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  refine Eq.trans (b := inM (a0 m c) (a1 m c) (a2 m c) (a3 m c) (a4 m c) (ix3 (pb t) (pr t r) k)) ?_ ?_
  · blk_ext [index_13] <;> simp only [pb, pr] <;> omega
  · rw [out13_apply]
    unfold inM
    by_cases h : k.val < 1024
    · rw [dif_pos (show ((ix3 (pb t) (pr t r) k) 2).val < 1024 from h)]
      exact (Y_m m c t r ⟨k.val, h⟩).symm
    · rw [dif_neg (show ¬ ((ix3 (pb t) (pr t r) k) 2).val < 1024 from h)]
      have hk := k.isLt
      refine Eq.trans ?_ ((Y_o m c t r ⟨k.val - 1024, by omega⟩).symm.trans ?_)
      · exact congrArg (C m c t r) (Fin.ext (by show 680 + k.val = 1704 + (k.val - 1024); omega))
      · exact congrArg (Y m c t r) (Fin.ext (by show 1920 + (k.val - 1024) = 896 + k.val; omega))
theorem covers_13 (i : S4x8192x1536.Idx) : ∃ t : Fin cfg0.N, (cfg0.win 13).flush t = true ∧ i ∈ ((cfg0.win 13).blk t).view.set := by
  have h0 : (i 0).val < 4 := (i 0).isLt
  have h1 : (i 1).val < 8192 := (i 1).isLt
  have h2 : (i 2).val < 1536 := (i 2).isLt
  obtain ⟨t, ht⟩ : ∃ t : Fin cfg0.N, t.val = 32 * (i 0).val + (i 1).val / 256 :=
    ⟨⟨32 * (i 0).val + (i 1).val / 256, lt_of_lt_of_eq (by omega) N_0.symm⟩, rfl⟩
  refine ⟨t, flush0_13 t, ?_⟩
  mem_blk [index_13]
  simp only [tb, tr]
  omega
theorem arr_13 : (dats m 0 c).arrAt 13 cfg0.N = inM (a0 m c) (a1 m c) (a2 m c) (a3 m c) (a4 m c) :=
  Pipeline.Dat.arrAt_eq_of_cover (dats m 0 c) 13 (inM (a0 m c) (a1 m c) (a2 m c) (a3 m c) (a4 m c))
    (fun t _ => (flushed13 m c t).trans (funext fun i => (out_13 m c t i).symm))
    (fun i => covers_13 i)

theorem out_14 (t : Fin cfg0.N) (i : S1x256x1024.Idx) :
    ((cfg0.win 14).blk t).view.read (Elt Ideal) (inZ (a0 m c) (a1 m c) (a2 m c) (a3 m c) (a4 m c)) i
      = out0_14 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  refine Eq.trans (b := inZ (a0 m c) (a1 m c) (a2 m c) (a3 m c) (a4 m c) (ix3 (pb t) (pr t r) k)) ?_ ?_
  · blk_ext [index_14] <;> simp only [pb, pr] <;> omega
  · rw [out14_apply]
    exact (Y_z m c t r k).symm
theorem covers_14 (i : S4x8192x1024.Idx) : ∃ t : Fin cfg0.N, (cfg0.win 14).flush t = true ∧ i ∈ ((cfg0.win 14).blk t).view.set := by
  have h0 : (i 0).val < 4 := (i 0).isLt
  have h1 : (i 1).val < 8192 := (i 1).isLt
  have h2 : (i 2).val < 1024 := (i 2).isLt
  obtain ⟨t, ht⟩ : ∃ t : Fin cfg0.N, t.val = 32 * (i 0).val + (i 1).val / 256 :=
    ⟨⟨32 * (i 0).val + (i 1).val / 256, lt_of_lt_of_eq (by omega) N_0.symm⟩, rfl⟩
  refine ⟨t, flush0_14 t, ?_⟩
  mem_blk [index_14]
  simp only [tb, tr]
  omega
theorem arr_14 : (dats m 0 c).arrAt 14 cfg0.N = inZ (a0 m c) (a1 m c) (a2 m c) (a3 m c) (a4 m c) :=
  Pipeline.Dat.arrAt_eq_of_cover (dats m 0 c) 14 (inZ (a0 m c) (a1 m c) (a2 m c) (a3 m c) (a4 m c))
    (fun t _ => (flushed14 m c t).trans (funext fun i => (out_14 m c t i).symm))
    (fun i => covers_14 i)

theorem out_15 (t : Fin cfg0.N) (i : S1x256x128.Idx) :
    ((cfg0.win 15).blk t).view.read (Elt Ideal) (inG (a0 m c) (a1 m c) (a2 m c) (a3 m c) (a4 m c)) i
      = out0_15 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  refine Eq.trans (b := inG (a0 m c) (a1 m c) (a2 m c) (a3 m c) (a4 m c) (ix3 (pb t) (pr t r) k)) ?_ ?_
  · blk_ext [index_15] <;> simp only [pb, pr] <;> omega
  · rw [out15_apply]
    exact (Y_gate m c t r k).symm
theorem covers_15 (i : S4x8192x128.Idx) : ∃ t : Fin cfg0.N, (cfg0.win 15).flush t = true ∧ i ∈ ((cfg0.win 15).blk t).view.set := by
  have h0 : (i 0).val < 4 := (i 0).isLt
  have h1 : (i 1).val < 8192 := (i 1).isLt
  have h2 : (i 2).val < 128 := (i 2).isLt
  obtain ⟨t, ht⟩ : ∃ t : Fin cfg0.N, t.val = 32 * (i 0).val + (i 1).val / 256 :=
    ⟨⟨32 * (i 0).val + (i 1).val / 256, lt_of_lt_of_eq (by omega) N_0.symm⟩, rfl⟩
  refine ⟨t, flush0_15 t, ?_⟩
  mem_blk [index_15]
  simp only [tb, tr]
  omega
theorem arr_15 : (dats m 0 c).arrAt 15 cfg0.N = inG (a0 m c) (a1 m c) (a2 m c) (a3 m c) (a4 m c) :=
  Pipeline.Dat.arrAt_eq_of_cover (dats m 0 c) 15 (inG (a0 m c) (a1 m c) (a2 m c) (a3 m c) (a4 m c))
    (fun t _ => (flushed15 m c t).trans (funext fun i => (out_15 m c t i).symm))
    (fun i => covers_15 i)

theorem out_16 (hf : Fine m c) (t : Fin cfg0.N) (i : S1x256x1024.Idx) :
    ((cfg0.win 16).blk t).view.read (Elt Ideal) (inK (a0 m c) (a1 m c) (a2 m c) (a3 m c) (a4 m c) (a7 m c) (a8 m c)) i
      = out0_16 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  refine Eq.trans (b := inK (a0 m c) (a1 m c) (a2 m c) (a3 m c) (a4 m c) (a7 m c) (a8 m c) (ix3 (pb t) (pr t r) k)) ?_ ?_
  · blk_ext [index_16] <;> simp only [pb, pr] <;> omega
  · obtain ⟨h, l, hk⟩ : ∃ (h : Fin 8) (l : Fin 128), k = ⟨128 * h.val + l.val, by omega⟩ :=
      ⟨⟨k.val / 128, by omega⟩, ⟨k.val % 128, Nat.mod_lt _ (by decide)⟩, Fin.ext (by dsimp only; omega)⟩
    subst hk
    rw [out16_apply, laneK_eq m c hf]
    exact congrArg₂ (keyLane (a0 m c) (a1 m c) (a2 m c) (a3 m c) (a4 m c) (a7 m c) (a8 m c) (pb t) (pr t r)) (Fin.ext (by show (128 * h.val + l.val) / 128 = h.val; omega)) (Fin.ext (by show (128 * h.val + l.val) % 128 = l.val; omega))
theorem covers_16 (i : S4x8192x1024.Idx) : ∃ t : Fin cfg0.N, (cfg0.win 16).flush t = true ∧ i ∈ ((cfg0.win 16).blk t).view.set := by
  have h0 : (i 0).val < 4 := (i 0).isLt
  have h1 : (i 1).val < 8192 := (i 1).isLt
  have h2 : (i 2).val < 1024 := (i 2).isLt
  obtain ⟨t, ht⟩ : ∃ t : Fin cfg0.N, t.val = 32 * (i 0).val + (i 1).val / 256 :=
    ⟨⟨32 * (i 0).val + (i 1).val / 256, lt_of_lt_of_eq (by omega) N_0.symm⟩, rfl⟩
  refine ⟨t, flush0_16 t, ?_⟩
  mem_blk [index_16]
  simp only [tb, tr]
  omega
theorem arr_16 (hf : Fine m c) : (dats m 0 c).arrAt 16 cfg0.N = inK (a0 m c) (a1 m c) (a2 m c) (a3 m c) (a4 m c) (a7 m c) (a8 m c) :=
  Pipeline.Dat.arrAt_eq_of_cover (dats m 0 c) 16 (inK (a0 m c) (a1 m c) (a2 m c) (a3 m c) (a4 m c) (a7 m c) (a8 m c))
    (fun t _ => (flushed16 m c t).trans (funext fun i => (out_16 m c hf t i).symm))
    (fun i => covers_16 i)

theorem out_17 (t : Fin cfg0.N) (i : S1x256x512.Idx) :
    ((cfg0.win 17).blk t).view.read (Elt Ideal) (inV (a0 m c) (a1 m c) (a2 m c) (a3 m c) (a4 m c) (a7 m c) (a8 m c)) i
      = out0_17 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  refine Eq.trans (b := inV (a0 m c) (a1 m c) (a2 m c) (a3 m c) (a4 m c) (a7 m c) (a8 m c) (ix3 (pb t) (pr t r) k)) ?_ ?_
  · blk_ext [index_17] <;> simp only [pb, pr] <;> omega
  · rw [out17_apply]
    exact (K_value m c t r k).symm
theorem covers_17 (i : S4x8192x512.Idx) : ∃ t : Fin cfg0.N, (cfg0.win 17).flush t = true ∧ i ∈ ((cfg0.win 17).blk t).view.set := by
  have h0 : (i 0).val < 4 := (i 0).isLt
  have h1 : (i 1).val < 8192 := (i 1).isLt
  have h2 : (i 2).val < 512 := (i 2).isLt
  obtain ⟨t, ht⟩ : ∃ t : Fin cfg0.N, t.val = 32 * (i 0).val + (i 1).val / 256 :=
    ⟨⟨32 * (i 0).val + (i 1).val / 256, lt_of_lt_of_eq (by omega) N_0.symm⟩, rfl⟩
  refine ⟨t, flush0_17 t, ?_⟩
  mem_blk [index_17]
  simp only [tb, tr]
  omega
theorem arr_17 : (dats m 0 c).arrAt 17 cfg0.N = inV (a0 m c) (a1 m c) (a2 m c) (a3 m c) (a4 m c) (a7 m c) (a8 m c) :=
  Pipeline.Dat.arrAt_eq_of_cover (dats m 0 c) 17 (inV (a0 m c) (a1 m c) (a2 m c) (a3 m c) (a4 m c) (a7 m c) (a8 m c))
    (fun t _ => (flushed17 m c t).trans (funext fun i => (out_17 m c t i).symm))
    (fun i => covers_17 i)

end Cert.Kernel4Ideal.InA

end
-- ==== Proof.InA.Reference.lean ====
/- The values of the reference of the call that opens the attention sublayer. -/
module

public import proofs.«01_k».proof.Proof.Gen.Reference4Ideal.Read
public import proofs.«01_k».proof.Proof.InA.Spec

@[expose] public section

set_option maxRecDepth 16384

noncomputable section

namespace Cert.Reference4Ideal.InA

open Idealize.ShloMosaic Idealize.ShloMosaic.TcCoe Idealize.ShloMosaic.Tactic
open Cert.Reference4Ideal.Read Cert.Rows
open scoped BigOperators

variable (x : Rows) (shift scale : Mods) (g : Norm) (wi : WIn) (gq : NormQ) (wq : WQ) (gkv : NormKv) (wkv : WKv)

/-! ## The rows -/

theorem opened_at (b : Fin 4) (r : Fin 8192) (k : Fin 1024) : val_main_v19 (F := Ideal) x shift scale g (ix3 b r k) = opened x shift scale g b r k := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2]
  rfl
theorem col_at (b : Fin 4) (r : Fin 8192) (j : Fin 3240) : val_main_v20 (F := Ideal) x shift scale g wi (ix3 b r j) = col x shift scale g wi b r j := by
  pointwise [val_main_v20]
  simp only [opened_at]
  rfl
theorem zero_word : (((0#32 : BitVec 32).toInt : ℝ) : EReal) = 0 := by simp

theorem latentQ_at (b : Fin 4) (r : Fin 8192) (k : Fin 384) : val_main_v43 (F := Ideal) x shift scale g wi gq (ix3 b r k) = latentQ x shift scale g wi gq b r k := by
  pointwise [val_main_v43, val_main_v42, val_main_v41, val_main_v40, val_main_v39, val_main_v38, val_main_v37, val_main_v36, val_main_v35, val_main_v34, val_main_v33, val_main_v32, val_main_v31, val_main_cst_3, val_main_cst_4, val_main_cst_5, val_main_v21]
  simp only [col_at]
  rfl
theorem query_at (b : Fin 4) (r : Fin 8192) (h : Fin 8) (d : Fin 96) :
    val_main_v44 (F := Ideal) x shift scale g wi gq wq (ix4 b r h d) = query x shift scale g wi gq wq b r h d := by
  pointwise [val_main_v44]
  simp only [latentQ_at]
  rfl
theorem latentKv_at (b : Fin 4) (r : Fin 8192) (k : Fin 256) : val_main_v96 (F := Ideal) x shift scale g wi gkv (ix3 b r k) = latentKv x shift scale g wi gkv b r k := by
  pointwise [val_main_v96, val_main_v95, val_main_v94, val_main_v93, val_main_v92, val_main_v91, val_main_v90, val_main_v89, val_main_v88, val_main_v87, val_main_v86, val_main_v85, val_main_v84, val_main_cst_10, val_main_cst_11, val_main_cst_12, val_main_v22]
  simp only [col_at]
  rfl
theorem keyValue_at (b : Fin 4) (r : Fin 8192) (h : Fin 8) (d : Fin 128) :
    val_main_v130 (F := Ideal) x shift scale g wi gkv wkv (ix4 b r h d) = keyValue x shift scale g wi gkv wkv b r h d := by
  pointwise [val_main_v130]
  simp only [latentKv_at]
  rfl

/-! ## The rotation -/

theorem angle_at (r : Fin 8192) (i : Fin 16) : val_main_v110 (F := Ideal) (ix2 r i) = angle r.val i := by
  pointwise [val_main_v110, val_main_v109, val_main_v108, val_main_v107, val_main_v106, val_main_v105, val_main_v104, val_main_v103, val_main_v102, val_main_v101, val_main_v100, val_main_v99, val_main_v98, val_main_v97, val_main_cst_13, val_main_cst_14, val_main_cst_15, val_main_v0]
  rfl
theorem angle_at' (r : Fin 8192) (i : Fin 16) : val_main_v60 (F := Ideal) (ix2 r i) = angle r.val i := by
  pointwise [val_main_v60, val_main_v59, val_main_v58, val_main_v57, val_main_v56, val_main_v55, val_main_v54, val_main_v53, val_main_v52, val_main_v51, val_main_v50, val_main_v49, val_main_v48, val_main_v47, val_main_cst_6, val_main_cst_7, val_main_cst_8, val_main_v0]
  rfl
theorem plane_at (r : Fin 8192) (i : Fin 16) : val_main_v61 (F := Ideal) (ix3 r 0 i) = angle r.val i := by
  rw [← angle_at']
  pointwise [val_main_v61]

theorem keyRot_at (b : Fin 4) (r : Fin 8192) (c : Fin 32) : val_main_v129 (F := Ideal) x shift scale g wi (ix3 b r c) = keyRot x shift scale g wi b r c := by
  pointwise [val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v23]
  unfold keyRot turned
  by_cases h : c.val < 16
  · rw [dif_pos h, dif_pos h]
    simp only [col_at, angle_at]
    refine congrArg₂ (· - ·) rfl (congrArg (· * _) (congrArg (col x shift scale g wi b r) (Fin.ext ?_)))
    show 640 + (16 + c.val) = 640 + (c.val + 16)
    omega
  · rw [dif_neg h, dif_neg h]
    simp only [col_at, angle_at]
    refine congrArg₂ (· + ·) rfl (congrArg (· * _) (congrArg (col x shift scale g wi b r) (Fin.ext ?_)))
    show 640 + (16 + (c.val - 16)) = 640 + c.val
    omega

theorem queryRot_at (b : Fin 4) (r : Fin 8192) (h : Fin 8) (c : Fin 32) :
    val_main_v80 (F := Ideal) x shift scale g wi gq wq (ix4 b r h c) = turned (fun i => query x shift scale g wi gq wq b r h ⟨64 + i.val, by omega⟩) r.val c := by
  pointwise [val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v46]
  unfold turned
  by_cases h : c.val < 16
  · rw [dif_pos h, dif_pos h]
    simp only [query_at, plane_at]
    refine congrArg₂ (· - ·) rfl (congrArg (· * _) (congrArg (query x shift scale g wi gq wq b r _) (Fin.ext ?_)))
    show 64 + (16 + c.val) = 64 + (c.val + 16)
    omega
  · rw [dif_neg h, dif_neg h]
    simp only [query_at, plane_at]
    refine congrArg₂ (· + ·) rfl (congrArg (· * _) (congrArg (query x shift scale g wi gq wq b r _) (Fin.ext ?_)))
    show 64 + (16 + (c.val - 16)) = 64 + c.val
    omega

/-! ## The results -/

theorem queryLane_at (b : Fin 4) (r : Fin 8192) (h : Fin 8) (l : Fin 128) :
    val_main_v137 (F := Ideal) x shift scale g wi gq wq (ix4 b r h l) = queryLane x shift scale g wi gq wq b r h l := by
  pointwise [val_main_v137, val_main_v83, val_main_v82, val_main_v81, val_main_v45, val_main_cst_9, val_main_call1_v0, val_main_c_16]
  unfold queryLane
  by_cases h1 : l.val < 64
  · rw [dif_pos (show l.val < 96 by omega), dif_pos h1, dif_pos h1, query_at]
    rfl
  · rw [dif_neg h1]
    by_cases h2 : l.val < 96
    · rw [dif_pos h2, dif_neg h1, dif_pos h2, queryRot_at]
      rfl
    · rw [dif_neg h2, dif_neg h2]
      exact zero_word
theorem keyLane_at (b : Fin 4) (r : Fin 8192) (h : Fin 8) (l : Fin 128) :
    val_main_v141 (F := Ideal) x shift scale g wi gkv wkv (ix4 b r h l) = keyLane x shift scale g wi gkv wkv b r h l := by
  pointwise [val_main_v141, val_main_v134, val_main_v133, val_main_v132, val_main_v131, val_main_call2_v0, val_main_c_17]
  unfold keyLane
  by_cases h1 : l.val < 64
  · rw [dif_pos (show l.val < 96 by omega), dif_pos h1, dif_pos h1, keyValue_at]
  · rw [dif_neg h1]
    by_cases h2 : l.val < 96
    · rw [dif_pos h2, dif_neg h1, dif_pos h2, keyRot_at]
    · rw [dif_neg h2, dif_neg h2]
      exact zero_word

theorem q_at : val_main_v139 (F := Ideal) x shift scale g wi gq wq = inQ x shift scale g wi gq wq := by
  funext i
  obtain ⟨b, r, c, rfl⟩ : ∃ b r c, i = ix3 b r c := ⟨i 0, i 1, i 2, by idx_vars i⟩
  rw [val_main_v139_apply, val_main_v138_apply]
  refine Eq.trans (congrArg (val_main_v137 (F := Ideal) x shift scale g wi gq wq) ?_) (queryLane_at x shift scale g wi gq wq b r ⟨c.val / 128, by omega⟩ ⟨c.val % 128, Nat.mod_lt _ (by decide)⟩)
  funext a
  have h0 := b.isLt
  have h1 := r.isLt
  have h2 := c.isLt
  refine Fin.ext ?_
  match a with
  | ⟨0, _⟩ => show ((b.val * 8192 + r.val) * 1024 + c.val) / 8388608 = b.val; omega
  | ⟨1, _⟩ => show ((b.val * 8192 + r.val) * 1024 + c.val) / 1024 % 8192 = r.val; omega
  | ⟨2, _⟩ => show ((b.val * 8192 + r.val) * 1024 + c.val) / 128 % 8 = c.val / 128; omega
  | ⟨3, _⟩ => show ((b.val * 8192 + r.val) * 1024 + c.val) % 128 = c.val % 128; omega

theorem c_at : val_main_v96 (F := Ideal) x shift scale g wi gkv = inC x shift scale g wi gkv := by
  funext i
  obtain ⟨b, r, c, rfl⟩ : ∃ b r c, i = ix3 b r c := ⟨i 0, i 1, i 2, by idx_vars i⟩
  exact latentKv_at x shift scale g wi gkv b r c

theorem kr_at : val_main_v129 (F := Ideal) x shift scale g wi = inR x shift scale g wi := by
  funext i
  obtain ⟨b, r, c, rfl⟩ : ∃ b r c, i = ix3 b r c := ⟨i 0, i 1, i 2, by idx_vars i⟩
  exact keyRot_at x shift scale g wi b r c

theorem col_cast (b : Fin 4) (r : Fin 8192) (j j' : Fin 3240) (h : j.val = j'.val) :
    val_main_v20 (F := Ideal) x shift scale g wi (ix3 b r j) = col x shift scale g wi b r j' := by
  rw [col_at, Fin.ext h]

theorem m_at : val_main_v140 (F := Ideal) x shift scale g wi = inM x shift scale g wi := by
  funext i
  obtain ⟨b, r, c, rfl⟩ : ∃ b r c, i = ix3 b r c := ⟨i 0, i 1, i 2, by idx_vars i⟩
  pointwise [val_main_v140, val_main_v24, val_main_v25, val_main_v26, val_main_v29]
  unfold inM
  by_cases h : c.val < 1024
  · rw [dif_pos (show ((ix3 b r c) 2).val < 1024 from h)]
    split
    · exact col_cast x shift scale g wi b r _ _ rfl
    · split
      · exact col_cast x shift scale g wi b r _ _ (show 928 + (c.val - 256) = 672 + c.val by omega)
      · rw [dif_pos (by omega)]
        exact col_cast x shift scale g wi b r _ _ (show 1184 + (c.val - 256 - 256) = 672 + c.val by omega)
  · rw [dif_neg (show ¬ ((ix3 b r c) 2).val < 1024 from h), dif_neg (by omega), dif_neg (by omega), dif_neg (by omega)]
    exact col_cast x shift scale g wi b r _ _ (show 1704 + (c.val - 256 - 256 - 512) = 680 + c.val by omega)

theorem z_at : val_main_v30 (F := Ideal) x shift scale g wi = inZ x shift scale g wi := by
  funext i
  obtain ⟨b, r, c, rfl⟩ : ∃ b r c, i = ix3 b r c := ⟨i 0, i 1, i 2, by idx_vars i⟩
  pointwise [val_main_v30]
  exact col_at x shift scale g wi b r _

theorem gates_at : val_main_v136 (F := Ideal) x shift scale g wi = inG x shift scale g wi := by
  funext i
  obtain ⟨b, r, c, rfl⟩ : ∃ b r c, i = ix3 b r c := ⟨i 0, i 1, i 2, by idx_vars i⟩
  pointwise [val_main_v136, val_main_v135, val_main_v27, val_main_v28, val_main_call0_v0, val_main_c]
  unfold inG
  by_cases h : c.val < 8
  · rw [dif_pos h, dif_pos (show ((ix3 b r c) 2).val < 8 from h)]
    split
    · exact col_cast x shift scale g wi b r _ _ rfl
    · exact col_cast x shift scale g wi b r _ _ (show 1700 + (c.val - 4) = 1696 + c.val by omega)
  · rw [dif_neg h, dif_neg (show ¬ ((ix3 b r c) 2).val < 8 from h)]
    exact zero_word

theorem k_at : val_main_v143 (F := Ideal) x shift scale g wi gkv wkv = inK x shift scale g wi gkv wkv := by
  funext i
  obtain ⟨b, r, c, rfl⟩ : ∃ b r c, i = ix3 b r c := ⟨i 0, i 1, i 2, by idx_vars i⟩
  rw [val_main_v143_apply, val_main_v142_apply]
  refine Eq.trans (congrArg (val_main_v141 (F := Ideal) x shift scale g wi gkv wkv) ?_) (keyLane_at x shift scale g wi gkv wkv b r ⟨c.val / 128, by omega⟩ ⟨c.val % 128, Nat.mod_lt _ (by decide)⟩)
  funext a
  have h0 := b.isLt
  have h1 := r.isLt
  have h2 := c.isLt
  refine Fin.ext ?_
  match a with
  | ⟨0, _⟩ => show ((b.val * 8192 + r.val) * 1024 + c.val) / 8388608 = b.val; omega
  | ⟨1, _⟩ => show ((b.val * 8192 + r.val) * 1024 + c.val) / 1024 % 8192 = r.val; omega
  | ⟨2, _⟩ => show ((b.val * 8192 + r.val) * 1024 + c.val) / 128 % 8 = c.val / 128; omega
  | ⟨3, _⟩ => show ((b.val * 8192 + r.val) * 1024 + c.val) % 128 = c.val % 128; omega

theorem v_at : val_main_v146 (F := Ideal) x shift scale g wi gkv wkv = inV x shift scale g wi gkv wkv := by
  funext i
  obtain ⟨b, r, c, rfl⟩ : ∃ b r c, i = ix3 b r c := ⟨i 0, i 1, i 2, by idx_vars i⟩
  rw [val_main_v146_apply, val_main_v145_apply, val_main_v144_apply]
  refine Eq.trans (congrArg (val_main_v130 (F := Ideal) x shift scale g wi gkv wkv) ?_) (keyValue_at x shift scale g wi gkv wkv b r ⟨c.val / 64, by omega⟩ ⟨64 + c.val % 64, by omega⟩)
  funext a
  have h0 := b.isLt
  have h1 := r.isLt
  have h2 := c.isLt
  refine Fin.ext ?_
  match a with
  | ⟨0, _⟩ => show ((b.val * 8192 + r.val) * 512 + c.val) / 4194304 = b.val; omega
  | ⟨1, _⟩ => show ((b.val * 8192 + r.val) * 512 + c.val) / 512 % 8192 = r.val; omega
  | ⟨2, _⟩ => show ((b.val * 8192 + r.val) * 512 + c.val) / 64 % 8 = c.val / 64; omega
  | ⟨3, _⟩ => show 64 + ((b.val * 8192 + r.val) * 512 + c.val) % 64 = 64 + c.val % 64; omega

end Cert.Reference4Ideal.InA

end
-- ==== Proof.InAS.Run.lean ====
/- The run of the idealized call that opens the attention sublayer over the sample: what it leaves in each of its six results,
   block by block. -/
module

public import proofs.«01_k».proof.Proof.Gen.Kernel8Ideal.Frame
public import Idealize.ShloMosaic.Lib.Pipeline.Value

@[expose] public section

noncomputable section

namespace Cert.Kernel8Ideal.InAS

open Cert.Kernel8Ideal Cert.Kernel8Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What a grid point writes back to result 0: what the body leaves there of the blocks it reads. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t) (iblk m c 7 t) (iblk m c 8 t) (iblk m c 9 t)) :=
  congrArg ((cfg0.win 10).cut (grid0.coords t)) (after0_10 m c t)

/-- What a grid point writes back to result 1: what the body leaves there of the blocks it reads. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t) (iblk m c 8 t) (iblk m c 9 t)) :=
  congrArg ((cfg0.win 11).cut (grid0.coords t)) (after0_11 m c t)

/-- What a grid point writes back to result 2: what the body leaves there of the blocks it reads. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t) (iblk m c 9 t)) :=
  congrArg ((cfg0.win 12).cut (grid0.coords t)) (after0_12 m c t)

/-- What a grid point writes back to result 3: what the body leaves there of the blocks it reads. -/
theorem flushed13 (c : Dev nD) (t : Fin cfg0.N) :
    (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t)) :=
  congrArg ((cfg0.win 13).cut (grid0.coords t)) (after0_13 m c t)

/-- What a grid point writes back to result 4: what the body leaves there of the blocks it reads. -/
theorem flushed14 (c : Dev nD) (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t)) :=
  congrArg ((cfg0.win 14).cut (grid0.coords t)) (after0_14 m c t)

/-- What a grid point writes back to result 5: what the body leaves there of the blocks it reads. -/
theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t)) :=
  congrArg ((cfg0.win 15).cut (grid0.coords t)) (after0_15 m c t)

theorem post10 (r : PUnit × MemSt nD τ sig (Elt F)) (h : Pipeline.FramePost cfgs (dats m) 0 (V m) r) (c : Dev nD) :
    r.2.mem ((c : Thread nD τ).loc main_v92_0) = (dats m 0 c).arrAt 10 cfg0.N :=
  (h c).1 10

theorem post11 (r : PUnit × MemSt nD τ sig (Elt F)) (h : Pipeline.FramePost cfgs (dats m) 0 (V m) r) (c : Dev nD) :
    r.2.mem ((c : Thread nD τ).loc main_v92_1) = (dats m 0 c).arrAt 11 cfg0.N :=
  (h c).1 11

theorem post12 (r : PUnit × MemSt nD τ sig (Elt F)) (h : Pipeline.FramePost cfgs (dats m) 0 (V m) r) (c : Dev nD) :
    r.2.mem ((c : Thread nD τ).loc main_v92_2) = (dats m 0 c).arrAt 12 cfg0.N :=
  (h c).1 12

theorem post13 (r : PUnit × MemSt nD τ sig (Elt F)) (h : Pipeline.FramePost cfgs (dats m) 0 (V m) r) (c : Dev nD) :
    r.2.mem ((c : Thread nD τ).loc main_v92_3) = (dats m 0 c).arrAt 13 cfg0.N :=
  (h c).1 13

theorem post14 (r : PUnit × MemSt nD τ sig (Elt F)) (h : Pipeline.FramePost cfgs (dats m) 0 (V m) r) (c : Dev nD) :
    r.2.mem ((c : Thread nD τ).loc main_v92_4) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v92_5) = (dats m 0 c).arrAt 15 cfg0.N :=
  (h c).1 15

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

set_option maxHeartbeats 300820 in
/-- The run leaves in every result the array its blocks make up, and the arguments unchanged. -/
theorem run_blocks : θ_run defs (onTc (τ := τ) (main (F := F))) ⟨m, fun _ => 0, ρ⟩ fun r => ∀ c : Dev nD,
      r.2.mem ((c : Thread nD τ).loc main_v92_0) = (dats m 0 c).arrAt 10 cfg0.N
      ∧ r.2.mem ((c : Thread nD τ).loc main_v92_1) = (dats m 0 c).arrAt 11 cfg0.N
      ∧ r.2.mem ((c : Thread nD τ).loc main_v92_2) = (dats m 0 c).arrAt 12 cfg0.N
      ∧ r.2.mem ((c : Thread nD τ).loc main_v92_3) = (dats m 0 c).arrAt 13 cfg0.N
      ∧ r.2.mem ((c : Thread nD τ).loc main_v92_4) = (dats m 0 c).arrAt 14 cfg0.N
      ∧ r.2.mem ((c : Thread nD τ).loc main_v92_5) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post10 m r h c,
      post11 m r h c,
      post12 m r h c,
      post13 m r h c,
      post14 m r h c,
      post15 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.Kernel8Ideal.InAS

end
-- ==== Proof.InAS.Block.lean ====
/- One block of rows of the call that opens the attention sublayer over the sample: what its body leaves of every result, as
   sums over the rows, weights and tables it is given. -/
module

public import proofs.«01_k».proof.Proof.InAS.Run
public import proofs.«01_k».proof.Proof.InA.Heads
public import Idealize.ShloMosaic.Lib.Pipeline.ValueKit

@[expose] public section

set_option maxRecDepth 16384

noncomputable section

namespace Cert.Kernel8Ideal.InAS

open Idealize.ShloMosaic Idealize.ShloMosaic.TcCoe Idealize.ShloMosaic.Tactic
open Cert.Kernel8Ideal.Gen
open Cert.Rows (modulated normedBy n384 n256 heads canon_heads)
open scoped BigOperators

theorem zero2 : (![0, 0] : Fin 2 → ℕ) = fun _ => 0 := by funext a; fin_cases a <;> rfl
theorem zero3 : (![0, 0, 0] : Fin 3 → ℕ) = fun _ => 0 := by funext a; fin_cases a <;> rfl

/-! ## The values of the body -/

variable (x : Vec Ideal S1x64x1024 .f32) (shift scale : Vec Ideal S1x1x1024 .f32) (g : Vec Ideal S1x1024 .f32) (w1 : Vec Ideal S1024x3584 .bf16)
  (gq : Vec Ideal S1x384 .f32) (wq : Vec Ideal S384x2048 .bf16) (gkv : Vec Ideal S1x256 .f32) (wkv : Vec Ideal S256x1536 .bf16) (tab : Vec Ideal S64x512 .f32)

/-- A row of the block, normed and modulated. -/
def rowH (r : Fin 64) : Fin 1024 → EReal :=
  modulated (fun k => x (ix3 0 r k)) (fun k => g (ix2 0 k)) (fun k => scale (ix3 0 0 k)) (fun k => shift (ix3 0 0 k))
/-- Its product with a column of the first weights. -/
def rowY (r : Fin 64) (j : Fin 3584) : EReal := ∑ k, rowH x shift scale g r k * w1 (ix2 k j)
/-- The queries' latent row, normed, times a column of the second weights. -/
def rowQ (r : Fin 64) (j : Fin 2048) : EReal :=
  ∑ k : Fin 384, normedBy n384 (fun k : Fin 384 => rowY x shift scale g w1 r ⟨k.val, by omega⟩) (fun k => gq (ix2 0 k)) k * wq (ix2 k j)
/-- The keys' and values' latent row, normed. -/
def rowC (r : Fin 64) : Fin 256 → EReal :=
  normedBy n256 (fun k : Fin 256 => rowY x shift scale g w1 r ⟨384 + k.val, by omega⟩) (fun k => gkv (ix2 0 k))
/-- The rotated part of the keys. -/
def rowR (r : Fin 64) (l : Fin 128) : EReal :=
  rowY x shift scale g w1 r ⟨640 + l.val, by omega⟩ * tab (ix2 r ⟨256 + l.val, by omega⟩)
    + rowY x shift scale g w1 r ⟨768 + l.val, by omega⟩ * tab (ix2 r ⟨384 + l.val, by omega⟩)

theorem product_at (r : Fin 64) (j : Fin 3584) : k0_pay3 x g scale shift w1 (ix2 r j) = rowY x shift scale g w1 r j := by
  pointwise [k0_pay3]
  rfl
theorem pay30_at (r : Fin 64) (j : Fin 3584) : k0_pay30 x shift scale g w1 gq wq gkv wkv tab (ix2 r j) = rowY x shift scale g w1 r j := by
  unfold k0_pay30
  rw [View.ld_unit_zero zero3 _ x, View.ld_unit_zero zero2 _ g, View.ld_unit_zero zero3 _ scale, View.ld_unit_zero zero3 _ shift, View.ld_unit_zero zero2 _ w1, product_at]
theorem pay31_at (r : Fin 64) (j : Fin 384) : k0_pay31 x shift scale g w1 gq wq gkv wkv tab (ix2 r j) = rowY x shift scale g w1 r ⟨j.val, by omega⟩ := by
  rw [← pay30_at x shift scale g w1 gq wq gkv wkv tab]
  unfold k0_pay31 k0_pay4 k0_pay30
  pointwise []
theorem pay5_at (r : Fin 64) (j : Fin 256) : k0_pay5 x g scale shift w1 (ix2 r j) = rowY x shift scale g w1 r ⟨384 + j.val, by omega⟩ := by
  rw [← product_at]
  unfold k0_pay5
  pointwise []
theorem pay32_at (r : Fin 64) (j : Fin 128) : k0_pay32 x shift scale g w1 gq wq gkv wkv tab (ix2 r j) = tab (ix2 r ⟨j.val, by omega⟩) := by
  unfold k0_pay32
  rw [View.ld_unit_zero zero2 _ tab]
  pointwise [k0_pay13, k0_pay12]
theorem pay33_at (r : Fin 64) (j : Fin 128) : k0_pay33 x shift scale g w1 gq wq gkv wkv tab (ix2 r j) = tab (ix2 r ⟨128 + j.val, by omega⟩) := by
  unfold k0_pay33
  rw [View.ld_unit_zero zero2 _ tab]
  pointwise [k0_pay14, k0_pay12]
theorem pay17_apply (a : FVec Ideal S64x384 .f32) (r : Fin 64) (j : Fin 2048) :
    k0_pay17 a gq wq (ix2 r j) = ∑ k : Fin 384, normedBy n384 (fun k => a (ix2 r k)) (fun k => gq (ix2 0 k)) k * wq (ix2 k j) := by
  pointwise [k0_pay17]
  rfl
theorem pay34_at (r : Fin 64) (j : Fin 2048) : k0_pay34 x shift scale g w1 gq wq gkv wkv tab (ix2 r j) = rowQ x shift scale g w1 gq wq r j := by
  unfold k0_pay34
  rw [View.ld_unit_zero zero2 _ gq, View.ld_unit_zero zero2 _ wq, pay17_apply]
  simp only [pay31_at]
  rfl
theorem pay29_apply (a : FVec Ideal S64x256 .f32) (r : Fin 64) (j : Fin 256) :
    k0_pay29 a gkv (ix2 r j) = normedBy n256 (fun k => a (ix2 r k)) (fun k => gkv (ix2 0 k)) j := by
  pointwise [k0_pay29]
  rfl
theorem pay6_at (r : Fin 64) (j : Fin 128) : k0_pay6 x g scale shift w1 (ix2 r j) = rowY x shift scale g w1 r ⟨640 + j.val, by omega⟩ := by
  rw [← product_at]
  unfold k0_pay6
  pointwise []
theorem pay7_at (r : Fin 64) (j : Fin 128) : k0_pay7 x g scale shift w1 (ix2 r j) = rowY x shift scale g w1 r ⟨768 + j.val, by omega⟩ := by
  rw [← product_at]
  unfold k0_pay7
  pointwise []

/-! ## What the body leaves in the blocks of the six results -/

theorem out11_apply (r : Fin 64) (j : Fin 256) : out0_11 x shift scale g w1 gq wq gkv wkv tab (ix3 0 r j) = rowC x shift scale g w1 gkv r j := by
  have e : k0_pay29 (k0_pay5 x g scale shift w1) gkv (ix2 r j) = rowC x shift scale g w1 gkv r j := by
    rw [pay29_apply]
    simp only [pay5_at]
    rfl
  unfold out0_11
  rw [View.canon_unit_zero zero3, View.ld_unit_zero zero3 _ x, View.ld_unit_zero zero2 _ g, View.ld_unit_zero zero3 _ scale, View.ld_unit_zero zero3 _ shift,
    View.ld_unit_zero zero2 _ w1, View.ld_unit_zero zero2 _ gkv, ← e]
  pointwise [k0_pay1]
theorem out12_apply (r : Fin 64) (j : Fin 32) : out0_12 x shift scale g w1 gq wq gkv wkv tab (ix3 0 r j) = rowR x shift scale g w1 tab r ⟨64 + j.val, by omega⟩ := by
  unfold out0_12 rowR
  rw [View.canon_unit_zero zero3, View.ld_unit_zero zero3 _ x, View.ld_unit_zero zero2 _ g, View.ld_unit_zero zero3 _ scale, View.ld_unit_zero zero3 _ shift,
    View.ld_unit_zero zero2 _ w1, View.ld_unit_zero zero2 _ tab]
  have e := pay6_at x shift scale g w1 r ⟨64 + j.val, by omega⟩
  have e' := pay7_at x shift scale g w1 r ⟨64 + j.val, by omega⟩
  dsimp only at e e'
  rw [← e, ← e']
  generalize k0_pay6 x g scale shift w1 = y
  generalize k0_pay7 x g scale shift w1 = y'
  pointwise [k0_pay2, k0_pay15, k0_pay16, k0_pay12]
theorem out13_apply (r : Fin 64) (j : Fin 1536) : out0_13 x shift scale g w1 gq wq gkv wkv tab (ix3 0 r j) = rowY x shift scale g w1 r ⟨896 + j.val, by omega⟩ := by
  unfold out0_13
  rw [View.canon_unit_zero zero3, ← pay30_at x shift scale g w1 gq wq gkv wkv tab]
  unfold k0_pay8 k0_pay30
  pointwise [k0_pay9]
theorem out14_apply (r : Fin 64) (j : Fin 1024) : out0_14 x shift scale g w1 gq wq gkv wkv tab (ix3 0 r j) = rowY x shift scale g w1 r ⟨2432 + j.val, by omega⟩ := by
  unfold out0_14
  rw [View.canon_unit_zero zero3, ← pay30_at x shift scale g w1 gq wq gkv wkv tab]
  pointwise [k0_pay10]
theorem out15_apply (r : Fin 64) (j : Fin 128) : out0_15 x shift scale g w1 gq wq gkv wkv tab (ix3 0 r j) = rowY x shift scale g w1 r ⟨3456 + j.val, by omega⟩ := by
  unfold out0_15
  rw [View.canon_unit_zero zero3, ← pay30_at x shift scale g w1 gq wq gkv wkv tab]
  pointwise [k0_pay11]
/-- The queries of one head in its 128 lanes. -/
def laneQ (r : Fin 64) (h : Fin 8) (l : Fin 128) : EReal :=
  rowQ x shift scale g w1 gq wq r ⟨128 * h.val + l.val, by omega⟩ * tab (ix2 r ⟨l.val, by omega⟩)
    + rowQ x shift scale g w1 gq wq r ⟨1024 + (128 * h.val + l.val), by omega⟩ * tab (ix2 r ⟨128 + l.val, by omega⟩)
theorem both (q : FVec Ideal S64x2048 .f32) (r : Fin 64) (i i' j j' : Fin 2048) (y z : EReal) (hi : i.val = i'.val) (hj : j.val = j'.val) :
    q (ix2 r i) * y + q (ix2 r j) * z = q (ix2 r i') * y + q (ix2 r j') * z := by
  rw [Fin.ext hi, Fin.ext hj]
theorem eight_at (a b : FVec Ideal S64x128 .f32) (q : FVec Ideal S64x2048 .f32) (p : Vec Ideal S1x64x128 .bf16) (h : Fin 8) (r : Fin 64) (l : Fin 128) (hc)
    (hp : p (ix3 0 r l) = q (ix2 r ⟨l.val, by omega⟩) * a (ix2 r l) + q (ix2 r ⟨1024 + l.val, by omega⟩) * b (ix2 r l)) :
    View.canon (heads ![p, k0_pay20 a b q, k0_pay21 a b q, k0_pay22 a b q, k0_pay23 a b q, k0_pay26 b (k0_pay24 a q) (k0_pay25 q), k0_pay27 a b q, k0_pay28 a b q])
        (ix3 0 r ⟨128 * h.val + l.val, hc⟩)
      = q (ix2 r ⟨128 * h.val + l.val, by omega⟩) * a (ix2 r l) + q (ix2 r ⟨1024 + (128 * h.val + l.val), by omega⟩) * b (ix2 r l) := by
  rw [canon_heads]
  obtain ⟨h, hh⟩ := h
  rcases (by omega : h = 0 ∨ h = 1 ∨ h = 2 ∨ h = 3 ∨ h = 4 ∨ h = 5 ∨ h = 6 ∨ h = 7) with rfl | rfl | rfl | rfl | rfl | rfl | rfl | rfl
  · refine hp.trans ?_
    exact both _ _ _ _ _ _ _ _ (by simp) (by simp)
  · show k0_pay20 a b q (ix3 0 r l) = _
    pointwise [k0_pay20]
    exact both _ _ _ _ _ _ _ _ (by simp) (by simp; omega)
  · show k0_pay21 a b q (ix3 0 r l) = _
    pointwise [k0_pay21]
    exact both _ _ _ _ _ _ _ _ (by simp) (by simp; omega)
  · show k0_pay22 a b q (ix3 0 r l) = _
    pointwise [k0_pay22]
    exact both _ _ _ _ _ _ _ _ (by simp) (by simp; omega)
  · show k0_pay23 a b q (ix3 0 r l) = _
    pointwise [k0_pay23]
    exact both _ _ _ _ _ _ _ _ (by simp) (by simp; omega)
  · show k0_pay26 b (k0_pay24 a q) (k0_pay25 q) (ix3 0 r l) = _
    pointwise [k0_pay26, k0_pay24, k0_pay25]
    exact both _ _ _ _ _ _ _ _ (by simp) (by simp; omega)
  · show k0_pay27 a b q (ix3 0 r l) = _
    pointwise [k0_pay27]
    exact both _ _ _ _ _ _ _ _ (by simp) (by simp; omega)
  · show k0_pay28 a b q (ix3 0 r l) = _
    pointwise [k0_pay28]
    exact both _ _ _ _ _ _ _ _ (by simp) (by simp; omega)
theorem out10_apply (r : Fin 64) (h : Fin 8) (l : Fin 128) :
    out0_10 x shift scale g w1 gq wq gkv wkv tab (ix3 0 r ⟨128 * h.val + l.val, by omega⟩) = laneQ x shift scale g w1 gq wq tab r h l := by
  refine (eight_at (k0_pay32 x shift scale g w1 gq wq gkv wkv tab) (k0_pay33 x shift scale g w1 gq wq gkv wkv tab) (k0_pay34 x shift scale g w1 gq wq gkv wkv tab)
    (k0_pay19 (k0_pay18 (k0_pay31 x shift scale g w1 gq wq gkv wkv tab) (View.ld tab r0_6) (View.ld gq r0_7) (View.ld wq r0_8))) h r l (by omega) ?_).trans ?_
  · unfold k0_pay19 k0_pay18 k0_pay32 k0_pay33 k0_pay34
    pointwise []
  · unfold laneQ
    rw [pay34_at, pay34_at, pay32_at, pay33_at]

end Cert.Kernel8Ideal.InAS

end
-- ==== Proof.Rows.Sample.lean ====
/- What the calls between and after the layers do to the sample: rows for 32 batches of 64 positions. -/
module

public import proofs.«01_k».proof.Proof.Rows.Spec

@[expose] public section

noncomputable section

namespace Cert.Sample

open Idealize.ShloMosaic
open Cert.Rows (mixed normed modulated column Weights Norm Packed)
open scoped BigOperators

/-- Rows of 1024 for 32 batches of 64 positions. -/
abbrev Rows := (⟨3, ![32, 64, 1024]⟩ : Shape).Idx → EReal
/-- One row for each of 32 batches. -/
abbrev Mods := (⟨3, ![32, 1, 1024]⟩ : Shape).Idx → EReal

/-- The rows with the gated mix added. -/
def sum (o z x : Rows) (gate : Mods) (w : Weights) (b : Fin 32) (r : Fin 64) : Fin 1024 → EReal :=
  mixed (fun k => o (ix3 b r k)) (fun k => z (ix3 b r k)) (fun k => x (ix3 b r k)) (fun k => gate (ix3 b 0 k)) (fun k c => w (ix2 k c))

/-- The norm of the rows with the gated mix added. -/
def final (o z x : Rows) (gate : Mods) (w : Weights) (g : Norm) : Rows := fun i =>
  normed (sum o z x gate w (i 0) (i 1)) (fun k => g (ix1 k)) (i 2)

/-! ## The call between the two halves of the layer -/

abbrev Halves := (⟨3, ![32, 64, 512]⟩ : Shape).Idx → EReal

/-- Two half rows side by side. -/
def joined (oa ob : Halves) : Rows := fun i =>
  if h : (i 2).val < 512 then oa (ix3 (i 0) (i 1) ⟨(i 2).val, h⟩)
  else ob (ix3 (i 0) (i 1) ⟨(i 2).val - 512, by have : (i 2).val < 1024 := (i 2).isLt; omega⟩)

/-- The rows handed on, normed and modulated. -/
def handed (oa ob : Halves) (z x : Rows) (gate : Mods) (w : Weights) (shift scale : Mods) (g : Norm) (b : Fin 32) (r : Fin 64) : Fin 1024 → EReal :=
  modulated (sum (joined oa ob) z x gate w b r) (fun k => g (ix1 k)) (fun k => scale (ix3 b 0 k)) (fun k => shift (ix3 b 0 k))

variable (oa ob : Halves) (z x : Rows) (gate : Mods) (w : Weights) (shift scale : Mods) (g : Norm) (wi : Packed)

/-- The rows with the gated mix added. -/
def midX : Rows := fun i => sum (joined oa ob) z x gate w (i 0) (i 1) (i 2)
/-- The first 3072 columns of the product. -/
def midQkv : (⟨3, ![32, 64, 3072]⟩ : Shape).Idx → EReal := fun i =>
  column (handed oa ob z x gate w shift scale g (i 0) (i 1)) wi ⟨(i 2).val, by have : (i 2).val < 3072 := (i 2).isLt; omega⟩
/-- The last 1024. -/
def midZ : Rows := fun i =>
  column (handed oa ob z x gate w shift scale g (i 0) (i 1)) wi ⟨3088 + (i 2).val, by have : (i 2).val < 1024 := (i 2).isLt; omega⟩
/-- The sixteen between, in the first lanes, and zeros. -/
def midAb : (⟨3, ![32, 64, 128]⟩ : Shape).Idx → EReal := fun i =>
  if h : (i 2).val < 16 then column (handed oa ob z x gate w shift scale g (i 0) (i 1)) wi ⟨3072 + (i 2).val, by omega⟩ else 0

end Cert.Sample

end
-- ==== Proof.InAS.Spec.lean ====
/- What the call that opens the attention sublayer computes over the sample, whose positions come after 4096 that are cached. -/
module

public import proofs.«01_k».proof.Proof.InA.Spec
public import proofs.«01_k».proof.Proof.Rows.Sample

@[expose] public section

noncomputable section

namespace Cert.Sample

open Idealize.ShloMosaic
open Cert.Rows (Norm WIn NormQ WQ col query turned lift)
open scoped BigOperators

variable (x : Rows) (shift scale : Mods) (g : Norm) (wi : WIn) (gq : NormQ) (wq : WQ)

/-- The lanes of the keys that carry the position. -/
def keyRot (b : Fin 32) (r : Fin 64) : Fin 32 → EReal := turned (fun i => col x shift scale g wi b r ⟨640 + i.val, by omega⟩) (4096 + r.val)
/-- A lane of a head's queries: 64 as they are, 32 turned, zeros. -/
def queryLane (b : Fin 32) (r : Fin 64) (h : Fin 8) (l : Fin 128) : EReal :=
  if h1 : l.val < 64 then query x shift scale g wi gq wq b r h ⟨l.val, by omega⟩ * lift
  else if h2 : l.val < 96 then turned (fun i => query x shift scale g wi gq wq b r h ⟨64 + i.val, by omega⟩) (4096 + r.val) ⟨l.val - 64, by omega⟩ * lift
  else 0

def inQ : Rows := fun i =>
  queryLane x shift scale g wi gq wq (i 0) (i 1) ⟨(i 2).val / 128, by have : (i 2).val < 1024 := (i 2).isLt; omega⟩ ⟨(i 2).val % 128, Nat.mod_lt _ (by decide)⟩
def inR : (⟨3, ![32, 64, 32]⟩ : Shape).Idx → EReal := fun i => keyRot x shift scale g wi (i 0) (i 1) (i 2)

/-- Counting the positions from 4096 on. -/
theorem position (r : ℕ) : IntOp.addi 4096#32 (BitVec.ofNat 32 r) = BitVec.ofNat 32 (4096 + r) := (BitVec.ofNat_add 4096 r).symm

end Cert.Sample

end
-- ==== Proof.InAS.Host.lean ====
/- The arrays the host hands the call that opens the attention sublayer over the sample: the same weights, and the table of
   cosines and sines of the sample's positions. -/
module

public import proofs.«01_k».proof.Proof.InA.Entries
public import proofs.«01_k».proof.Proof.InAS.Spec
public import proofs.«01_k».proof.Proof.InAS.Run

@[expose] public section

set_option maxRecDepth 16384

noncomputable section

namespace Cert.Kernel8Ideal.InAS

open Idealize.ShloMosaic Idealize.ShloMosaic.TcCoe Idealize.ShloMosaic.Tactic
open Cert.Kernel8Ideal.Gen Cert.Sample
open Cert.Rows (Norm WIn NormQ WQ NormKv angle lift set_lanes)
open Cert.Kernel4Ideal.InA (packed1 packed2 ten two2 put half front rates)
open scoped BigOperators

variable (m : (ℓ : Loc nD τ sig) → Buf (Elt Ideal) ℓ) (c : Dev nD)

/-- The launched arrays. -/
abbrev a0 : Rows := m ((c : Thread nD τ).loc main_arg0)
abbrev a1 : Mods := m ((c : Thread nD τ).loc main_arg1)
abbrev a2 : Mods := m ((c : Thread nD τ).loc main_arg2)
abbrev a3 : Norm := m ((c : Thread nD τ).loc main_arg3)
abbrev a4 : WIn := m ((c : Thread nD τ).loc main_arg4)
abbrev a5 : NormQ := m ((c : Thread nD τ).loc main_arg5)
abbrev a6 : WQ := m ((c : Thread nD τ).loc main_arg6)
abbrev a7 : NormKv := m ((c : Thread nD τ).loc main_arg7)

/-! ## The weights -/

/-- What the concatenation of the ten parts writes. -/
theorem ten_result (hxs hy) (F : Valuation τ sig (Elt Ideal)) :
    (StableHlo.nary (τ := τ) ![main_v0, main_v1, main_v12, main_v19, main_v3, main_v4, main_v5, main_v8, main_v9, main_v23] main_v24 (fun u => (concatenate S1024x3584 1 [⟨S1024x384, (u 0 : (⟨S1024x384, .f32⟩ : BufTy).Contents (Elt Ideal))⟩, ⟨S1024x256, (u 1 : (⟨S1024x256, .f32⟩ : BufTy).Contents (Elt Ideal))⟩, ⟨S1024x128, (u 2 : (⟨S1024x128, .f32⟩ : BufTy).Contents (Elt Ideal))⟩, ⟨S1024x128, (u 3 : (⟨S1024x128, .f32⟩ : BufTy).Contents (Elt Ideal))⟩, ⟨S1024x256, (u 4 : (⟨S1024x256, .f32⟩ : BufTy).Contents (Elt Ideal))⟩, ⟨S1024x256, (u 5 : (⟨S1024x256, .f32⟩ : BufTy).Contents (Elt Ideal))⟩, ⟨S1024x512, (u 6 : (⟨S1024x512, .f32⟩ : BufTy).Contents (Elt Ideal))⟩, ⟨S1024x512, (u 7 : (⟨S1024x512, .f32⟩ : BufTy).Contents (Elt Ideal))⟩, ⟨S1024x1024, (u 8 : (⟨S1024x1024, .f32⟩ : BufTy).Contents (Elt Ideal))⟩, ⟨S1024x128, (u 9 : (⟨S1024x128, .f32⟩ : BufTy).Contents (Elt Ideal))⟩] concatenates_S1024x384_S1024x256_S1024x128_S1024x128_S1024x256_S1024x256_S1024x512_S1024x512_S1024x1024_S1024x128_S1024x3584_d1 : (⟨S1024x3584, .f32⟩ : BufTy).Contents (Elt Ideal))) hxs hy).result F (Proc.devRef .tc main_v24)
      = (concatenate S1024x3584 1 [⟨S1024x384, (F (Proc.devRef .tc main_v0) : (⟨S1024x384, .f32⟩ : BufTy).Contents (Elt Ideal))⟩, ⟨S1024x256, (F (Proc.devRef .tc main_v1) : (⟨S1024x256, .f32⟩ : BufTy).Contents (Elt Ideal))⟩, ⟨S1024x128, (F (Proc.devRef .tc main_v12) : (⟨S1024x128, .f32⟩ : BufTy).Contents (Elt Ideal))⟩, ⟨S1024x128, (F (Proc.devRef .tc main_v19) : (⟨S1024x128, .f32⟩ : BufTy).Contents (Elt Ideal))⟩, ⟨S1024x256, (F (Proc.devRef .tc main_v3) : (⟨S1024x256, .f32⟩ : BufTy).Contents (Elt Ideal))⟩, ⟨S1024x256, (F (Proc.devRef .tc main_v4) : (⟨S1024x256, .f32⟩ : BufTy).Contents (Elt Ideal))⟩, ⟨S1024x512, (F (Proc.devRef .tc main_v5) : (⟨S1024x512, .f32⟩ : BufTy).Contents (Elt Ideal))⟩, ⟨S1024x512, (F (Proc.devRef .tc main_v8) : (⟨S1024x512, .f32⟩ : BufTy).Contents (Elt Ideal))⟩, ⟨S1024x1024, (F (Proc.devRef .tc main_v9) : (⟨S1024x1024, .f32⟩ : BufTy).Contents (Elt Ideal))⟩, ⟨S1024x128, (F (Proc.devRef .tc main_v23) : (⟨S1024x128, .f32⟩ : BufTy).Contents (Elt Ideal))⟩] concatenates_S1024x384_S1024x256_S1024x128_S1024x128_S1024x256_S1024x256_S1024x512_S1024x512_S1024x1024_S1024x128_S1024x3584_d1 : (⟨S1024x3584, .f32⟩ : BufTy).Contents (Elt Ideal)) := by
  rw [StableHlo.nary_result]
  rfl

/-- The first weights as the kernel is given them. -/
theorem packed1_row : V m c main_v25 = packed1 (a4 m c) := by
  unfold V
  simp only [StableHlo.after_cons, StableHlo.after_nil]
  repeat (first
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide)
    | (rw [StableHlo.nary_result_ne]; rotate_left; decide)
    | rw [StableHlo.unary_result])
  refine Eq.trans (congrArg (fun a : Vec Ideal S1024x3584 .f32 => (truncf .bf16 a bitsLt_bf16_f32 : FVec Ideal _ _)) (ten_result _ _ _)) ?_
  after_results
  exact ten _ _ _ _ _ _ _ _ _ _ _ _ _ _ _ _ _ _ _ _ rfl rfl (put _ rfl rfl rfl) (put _ rfl rfl rfl) rfl rfl rfl rfl rfl (put _ rfl rfl rfl)

/-- The second weights as the kernel is given them. -/
theorem packed2_row : V m c main_v40 = packed2 (a6 m c) := by
  unfold V
  after_results
  exact two2 _ _ _ _ (put _ rfl rfl rfl) (put _ rfl rfl rfl)
/-! ## The table -/

def zerosT : Vec Ideal S64x128 .f32 := broadcastInDim S64x128 ![] bcast_S_S64x128 (constant (F := Ideal) S_ .f32 0x00000000#32)
def onesT : Vec Ideal S64x64 .f32 := broadcastInDim S64x64 ![] bcast_S_S64x64 (constant (F := Ideal) S_ .f32 0x3F800000#32)
def lifts : Vec Ideal S64x128 .f32 := broadcastInDim S64x128 ![] bcast_S_S64x128 (constant (F := Ideal) S_ .f32 0x3DD105EC#32)

/-- The angles of every position. -/
def angles : Vec Ideal S64x16 .f32 :=
  mulf (broadcastInDim S64x16 ![0, 1] bcast_S64x1_S64x16_0_1 (broadcastInDim S64x1 ![0] bcast_S64_S64x1_0 (sitofp (F := Ideal) .f32 (addi (broadcastInDim S64 ![] bcast_S_S64 (constantI S_ 32 4096#32)) (iotaInDim S64 32 0)))))
    (broadcastInDim S64x16 ![0, 1] bcast_S1x16_S64x16_0_1 (broadcastInDim S1x16 ![1] bcast_S16_S1x16_1 rates))
def cosines : Vec Ideal S64x32 .f32 :=
  concatenate S64x32 1 [⟨S64x16, Host.cos (F := Ideal) (φ := .f32) angles⟩, ⟨S64x16, Host.cos (F := Ideal) (φ := .f32) angles⟩] concatenates_S64x16_S64x16_S64x32_d1
def sines : Vec Ideal S64x32 .f32 :=
  concatenate S64x32 1 [⟨S64x16, Host.sin (F := Ideal) (φ := .f32) angles⟩, ⟨S64x16, Host.sin (F := Ideal) (φ := .f32) angles⟩] concatenates_S64x16_S64x16_S64x32_d1
def cosPart : Vec Ideal S64x128 .f32 := Host.scatter scatter_S64x128_S1_S64x32_01_n_1_0 (fun _ b => b) zerosT half cosines
def sinPart : Vec Ideal S64x128 .f32 := Host.scatter scatter_S64x128_S1_S64x32_01_n_1_0 (fun _ b => b) zerosT half sines
def onePart : Vec Ideal S64x128 .f32 := Host.scatter scatter_S64x128_S1_S64x64_01_n_1_0 (fun _ b => b) zerosT front onesT
def table : Vec Ideal S64x512 .f32 :=
  concatenate S64x512 1 [⟨S64x128, (mulf (addf cosPart onePart) lifts : FVec Ideal S64x128 .f32)⟩, ⟨S64x128, (mulf sinPart lifts : FVec Ideal S64x128 .f32)⟩, ⟨S64x128, cosPart⟩, ⟨S64x128, sinPart⟩]
    concatenates_S64x128_S64x128_S64x128_S64x128_S64x512_d1

theorem four (A A' B B' C C' L L' M M' : Vec Ideal S64x128 .f32) (hA : A = A') (hB : B = B') (hC : C = C') (hL : L = L') (hM : M = M') :
    (concatenate S64x512 1 [⟨S64x128, (mulf (addf A B) L : FVec Ideal S64x128 .f32)⟩, ⟨S64x128, (mulf C M : FVec Ideal S64x128 .f32)⟩, ⟨S64x128, A⟩, ⟨S64x128, C⟩]
      concatenates_S64x128_S64x128_S64x128_S64x128_S64x512_d1 : Vec Ideal S64x512 .f32)
      = concatenate S64x512 1 [⟨S64x128, (mulf (addf A' B') L' : FVec Ideal S64x128 .f32)⟩, ⟨S64x128, (mulf C' M' : FVec Ideal S64x128 .f32)⟩, ⟨S64x128, A'⟩, ⟨S64x128, C'⟩]
      concatenates_S64x128_S64x128_S64x128_S64x128_S64x512_d1 := by
  subst hA hB hC hL hM
  rfl

/-- What the concatenation of the four parts writes. -/
theorem four_result (hxs hy) (F : Valuation τ sig (Elt Ideal)) :
    (StableHlo.nary (τ := τ) ![main_v85, main_v87, main_v75, main_v78] main_v88 (fun u => (concatenate S64x512 1 [⟨S64x128, (u 0 : (⟨S64x128, .f32⟩ : BufTy).Contents (Elt Ideal))⟩, ⟨S64x128, (u 1 : (⟨S64x128, .f32⟩ : BufTy).Contents (Elt Ideal))⟩, ⟨S64x128, (u 2 : (⟨S64x128, .f32⟩ : BufTy).Contents (Elt Ideal))⟩, ⟨S64x128, (u 3 : (⟨S64x128, .f32⟩ : BufTy).Contents (Elt Ideal))⟩] concatenates_S64x128_S64x128_S64x128_S64x128_S64x512_d1 : (⟨S64x512, .f32⟩ : BufTy).Contents (Elt Ideal))) hxs hy).result F (Proc.devRef .tc main_v88)
      = (concatenate S64x512 1 [⟨S64x128, (F (Proc.devRef .tc main_v85) : (⟨S64x128, .f32⟩ : BufTy).Contents (Elt Ideal))⟩, ⟨S64x128, (F (Proc.devRef .tc main_v87) : (⟨S64x128, .f32⟩ : BufTy).Contents (Elt Ideal))⟩, ⟨S64x128, (F (Proc.devRef .tc main_v75) : (⟨S64x128, .f32⟩ : BufTy).Contents (Elt Ideal))⟩, ⟨S64x128, (F (Proc.devRef .tc main_v78) : (⟨S64x128, .f32⟩ : BufTy).Contents (Elt Ideal))⟩] concatenates_S64x128_S64x128_S64x128_S64x128_S64x512_d1 : (⟨S64x512, .f32⟩ : BufTy).Contents (Elt Ideal)) := by
  rw [StableHlo.nary_result]
  rfl

/-- The table as the kernel is given it. -/
theorem table_row : V m c main_v88 = table := by
  unfold V
  simp only [StableHlo.after_cons, StableHlo.after_nil]
  repeat (first
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide)
    | (rw [StableHlo.nary_result_ne]; rotate_left; decide))
  refine (four_result _ _ _).trans ?_
  after_results
  exact four _ _ _ _ _ _ _ _ _ _ (put _ rfl rfl rfl) (put _ rfl rfl rfl) (put _ rfl rfl rfl) rfl rfl

/-! ## The norms' weights -/

theorem norm_row : V m c main_v89 = shapeCast S1x1024 (a3 m c) shapeCasts_S1024_S1x1024 := by
  unfold V
  after_results
  rfl
theorem normQ_row : V m c main_v90 = shapeCast S1x384 (a5 m c) shapeCasts_S384_S1x384 := by
  unfold V
  after_results
  rfl
theorem normKv_row : V m c main_v91 = shapeCast S1x256 (a7 m c) shapeCasts_S256_S1x256 := by
  unfold V
  after_results
  rfl

/-! ## The table, entry by entry -/

theorem zerosT_at (r : Fin 64) (l : Fin 128) : zerosT (ix2 r l) = 0 := by
  pointwise [zerosT]
theorem onesT_at (r : Fin 64) (l : Fin 64) : onesT (ix2 r l) = 1 := by
  pointwise [onesT]
theorem angles_at (r : Fin 64) (i : Fin 16) : angles (ix2 r i) = angle (4096 + r.val) i := by
  pointwise [angles, rates]
  rw [position]
  rfl
theorem cosines_at (r : Fin 64) (l : Fin 32) :
    cosines (ix2 r l) = if h : l.val < 16 then Ideal.cos (angle (4096 + r.val) ⟨l.val, h⟩) else Ideal.cos (angle (4096 + r.val) ⟨l.val - 16, by omega⟩) := by
  simp only [← angles_at]
  unfold cosines
  generalize angles = y
  pointwise []
theorem sines_at (r : Fin 64) (l : Fin 32) :
    sines (ix2 r l) = if h : l.val < 16 then Ideal.sin (angle (4096 + r.val) ⟨l.val, h⟩) else Ideal.sin (angle (4096 + r.val) ⟨l.val - 16, by omega⟩) := by
  simp only [← angles_at]
  unfold sines
  generalize angles = y
  pointwise []
theorem cosPart_at (r : Fin 64) (l : Fin 128) :
    cosPart (ix2 r l) = if h : 64 ≤ l.val ∧ l.val - 64 < 32 then
      (if h' : l.val - 64 < 16 then Ideal.cos (angle (4096 + r.val) ⟨l.val - 64, h'⟩) else Ideal.cos (angle (4096 + r.val) ⟨l.val - 64 - 16, by omega⟩)) else 0 := by
  refine (set_lanes scatter_S64x128_S1_S64x32_01_n_1_0 rfl rfl rfl _ 64 (fun _ => rfl) (by decide) _ _ r l).trans ?_
  simp only [cosines_at, zerosT_at]
theorem sinPart_at (r : Fin 64) (l : Fin 128) :
    sinPart (ix2 r l) = if h : 64 ≤ l.val ∧ l.val - 64 < 32 then
      (if h' : l.val - 64 < 16 then Ideal.sin (angle (4096 + r.val) ⟨l.val - 64, h'⟩) else Ideal.sin (angle (4096 + r.val) ⟨l.val - 64 - 16, by omega⟩)) else 0 := by
  refine (set_lanes scatter_S64x128_S1_S64x32_01_n_1_0 rfl rfl rfl _ 64 (fun _ => rfl) (by decide) _ _ r l).trans ?_
  simp only [sines_at, zerosT_at]
theorem onePart_at (r : Fin 64) (l : Fin 128) : onePart (ix2 r l) = if l.val < 64 then 1 else 0 := by
  refine (set_lanes scatter_S64x128_S1_S64x64_01_n_1_0 rfl rfl rfl _ 0 (fun _ => rfl) (by decide) _ _ r l).trans ?_
  simp only [onesT_at, zerosT_at, Nat.zero_le, true_and, Nat.sub_zero]
  rfl

theorem table_at (r : Fin 64) (j : Fin 512) :
    table (ix2 r j) = if h : j.val < 128 then (cosPart (ix2 r ⟨j.val, h⟩) + onePart (ix2 r ⟨j.val, h⟩)) * lift
      else if h : j.val - 128 < 128 then sinPart (ix2 r ⟨j.val - 128, h⟩) * lift
      else if h : j.val - 128 - 128 < 128 then cosPart (ix2 r ⟨j.val - 128 - 128, h⟩) else sinPart (ix2 r ⟨j.val - 128 - 128 - 128, by omega⟩) := by
  unfold table
  generalize cosPart = y
  generalize sinPart = y'
  generalize onePart = y''
  pointwise [lifts]
  rfl
theorem table_0 (r : Fin 64) (l : Fin 128) : table (ix2 r ⟨l.val, by omega⟩) = (cosPart (ix2 r l) + onePart (ix2 r l)) * lift := by
  rw [table_at, dif_pos l.isLt]
theorem table_1 (r : Fin 64) (l : Fin 128) : table (ix2 r ⟨128 + l.val, by omega⟩) = sinPart (ix2 r l) * lift := by
  rw [table_at]
  dsimp only
  rw [dif_neg (by omega), dif_pos (by omega)]
  exact congrArg (fun e => sinPart (ix2 r e) * lift) (Fin.ext (by dsimp only; omega))
theorem table_2 (r : Fin 64) (l : Fin 128) : table (ix2 r ⟨256 + l.val, by omega⟩) = cosPart (ix2 r l) := by
  rw [table_at]
  dsimp only
  rw [dif_neg (by omega), dif_neg (by omega), dif_pos (by omega)]
  exact congrArg (fun e => cosPart (ix2 r e)) (Fin.ext (by dsimp only; omega))
theorem table_3 (r : Fin 64) (l : Fin 128) : table (ix2 r ⟨384 + l.val, by omega⟩) = sinPart (ix2 r l) := by
  rw [table_at]
  dsimp only
  rw [dif_neg (by omega), dif_neg (by omega), dif_neg (by omega)]
  exact congrArg (fun e => sinPart (ix2 r e)) (Fin.ext (by dsimp only; omega))

end Cert.Kernel8Ideal.InAS

end
-- ==== Proof.InAS.Rows.lean ====
/- The values of the idealized call that opens the attention sublayer over the sample: the rows of every block are those of the
   arrays. -/
module

public import proofs.«01_k».proof.Proof.InAS.Block
public import proofs.«01_k».proof.Proof.InAS.Host
public import proofs.«01_k».proof.Proof.InA.Finite
public import Idealize.ShloMosaic.Lib.Pipeline.ValueKit

@[expose] public section

set_option maxRecDepth 16384

noncomputable section

namespace Cert.Kernel8Ideal.InAS

open Idealize.ShloMosaic Idealize.ShloMosaic.TcCoe Idealize.ShloMosaic.Tactic
open Cert.Kernel8Ideal.Gen Cert.Sample
open Cert.Rows (WIn IsNum opened col latentQ query latentKv turned lift sum_mul_neg opened_num latentQ_num query_num lift_num cos_num sin_num turn_first turn_second)
open Cert.Kernel4Ideal.InA (packed1 packed2 packed1_q packed1_c packed1_m packed1_o packed1_z packed1_gate gatePart_at packed1_key keyPart_at packed1_swapped
  swappedPart_at packed2_query queryHeads_at packed2_turned turnedHeads_at)
open scoped BigOperators

variable (m : (ℓ : Loc nD τ sig) → Buf (Elt Ideal) ℓ) (c : Dev nD)

/-! ## The blocks in the arrays -/

theorem point_lt (t : Fin cfg0.N) : t.val < 32 := lt_of_lt_of_eq t.isLt (show cfg0.N = 32 from N_0)

theorem index_0 : ∀ t : Fin cfg0.N, win0_0.index t = ![t.val, 0, 0] :=
  (by decide +kernel : ∀ t : Fin grid0.N, cc0_transform_0 (grid0.coords t) = ![t.val, 0, 0])
theorem index_1 : ∀ t : Fin cfg0.N, win0_1.index t = ![t.val, 0, 0] :=
  (by decide +kernel : ∀ t : Fin grid0.N, cc0_transform_1 (grid0.coords t) = ![t.val, 0, 0])
theorem index_2 : ∀ t : Fin cfg0.N, win0_2.index t = ![t.val, 0, 0] :=
  (by decide +kernel : ∀ t : Fin grid0.N, cc0_transform_2 (grid0.coords t) = ![t.val, 0, 0])
theorem index_3 : ∀ t : Fin cfg0.N, win0_3.index t = ![0, 0] :=
  (by decide +kernel : ∀ t : Fin grid0.N, cc0_transform_3 (grid0.coords t) = ![0, 0])
theorem index_4 : ∀ t : Fin cfg0.N, win0_4.index t = ![0, 0] :=
  (by decide +kernel : ∀ t : Fin grid0.N, cc0_transform_4 (grid0.coords t) = ![0, 0])
theorem index_5 : ∀ t : Fin cfg0.N, win0_5.index t = ![0, 0] :=
  (by decide +kernel : ∀ t : Fin grid0.N, cc0_transform_5 (grid0.coords t) = ![0, 0])
theorem index_6 : ∀ t : Fin cfg0.N, win0_6.index t = ![0, 0] :=
  (by decide +kernel : ∀ t : Fin grid0.N, cc0_transform_6 (grid0.coords t) = ![0, 0])
theorem index_7 : ∀ t : Fin cfg0.N, win0_7.index t = ![0, 0] :=
  (by decide +kernel : ∀ t : Fin grid0.N, cc0_transform_7 (grid0.coords t) = ![0, 0])
theorem index_8 : ∀ t : Fin cfg0.N, win0_8.index t = ![0, 0] :=
  (by decide +kernel : ∀ t : Fin grid0.N, cc0_transform_8 (grid0.coords t) = ![0, 0])
theorem index_9 : ∀ t : Fin cfg0.N, win0_9.index t = ![0, 0] :=
  (by decide +kernel : ∀ t : Fin grid0.N, cc0_transform_9 (grid0.coords t) = ![0, 0])
theorem index_10 : ∀ t : Fin cfg0.N, win0_10.index t = ![t.val, 0, 0] :=
  (by decide +kernel : ∀ t : Fin grid0.N, cc0_transform_10 (grid0.coords t) = ![t.val, 0, 0])
theorem index_11 : ∀ t : Fin cfg0.N, win0_11.index t = ![t.val, 0, 0] :=
  (by decide +kernel : ∀ t : Fin grid0.N, cc0_transform_11 (grid0.coords t) = ![t.val, 0, 0])
theorem index_12 : ∀ t : Fin cfg0.N, win0_12.index t = ![t.val, 0, 0] :=
  (by decide +kernel : ∀ t : Fin grid0.N, cc0_transform_12 (grid0.coords t) = ![t.val, 0, 0])
theorem index_13 : ∀ t : Fin cfg0.N, win0_13.index t = ![t.val, 0, 0] :=
  (by decide +kernel : ∀ t : Fin grid0.N, cc0_transform_13 (grid0.coords t) = ![t.val, 0, 0])
theorem index_14 : ∀ t : Fin cfg0.N, win0_14.index t = ![t.val, 0, 0] :=
  (by decide +kernel : ∀ t : Fin grid0.N, cc0_transform_14 (grid0.coords t) = ![t.val, 0, 0])
theorem index_15 : ∀ t : Fin cfg0.N, win0_15.index t = ![t.val, 0, 0] :=
  (by decide +kernel : ∀ t : Fin grid0.N, cc0_transform_15 (grid0.coords t) = ![t.val, 0, 0])
/-- The batch of a point. -/
def pb (t : Fin cfg0.N) : Fin 32 := ⟨t.val, point_lt t⟩
theorem blk_0 (t : Fin cfg0.N) (r : Fin 64) (k : Fin 1024) : iblk m c 0 t (ix3 0 r k) = a0 m c (ix3 (pb t) r k) := by
  blk_ext [iblk, V, index_0] <;> simp only [pb] <;> omega
theorem blk_1 (t : Fin cfg0.N) (k : Fin 1024) : iblk m c 1 t (ix3 0 0 k) = a1 m c (ix3 (pb t) 0 k) := by
  blk_ext [iblk, V, index_1] <;> simp only [pb] <;> omega
theorem blk_2 (t : Fin cfg0.N) (k : Fin 1024) : iblk m c 2 t (ix3 0 0 k) = a2 m c (ix3 (pb t) 0 k) := by
  blk_ext [iblk, V, index_2] <;> simp only [pb] <;> omega
theorem norm_at (k : Fin 1024) : V m c main_v89 (ix2 0 k) = a3 m c (ix1 k) := by
  rw [norm_row]
  pointwise []
theorem normQ_at (k : Fin 384) : V m c main_v90 (ix2 0 k) = a5 m c (ix1 k) := by
  rw [normQ_row]
  pointwise []
theorem normKv_at (k : Fin 256) : V m c main_v91 (ix2 0 k) = a7 m c (ix1 k) := by
  rw [normKv_row]
  pointwise []
theorem blk_3 (t : Fin cfg0.N) (k : Fin 1024) : iblk m c 3 t (ix2 0 k) = a3 m c (ix1 k) := by
  rw [← norm_at]
  blk_ext [iblk, index_3]
theorem blk_4 (t : Fin cfg0.N) (k : Fin 1024) (j : Fin 3584) : iblk m c 4 t (ix2 k j) = packed1 (a4 m c) (ix2 k j) := by
  rw [← packed1_row]
  blk_ext [iblk, index_4]
theorem blk_5 (t : Fin cfg0.N) (k : Fin 384) : iblk m c 5 t (ix2 0 k) = a5 m c (ix1 k) := by
  rw [← normQ_at]
  blk_ext [iblk, index_5]
theorem blk_6 (t : Fin cfg0.N) (k : Fin 384) (j : Fin 2048) : iblk m c 6 t (ix2 k j) = packed2 (a6 m c) (ix2 k j) := by
  rw [← packed2_row]
  blk_ext [iblk, index_6]
theorem blk_7 (t : Fin cfg0.N) (k : Fin 256) : iblk m c 7 t (ix2 0 k) = a7 m c (ix1 k) := by
  rw [← normKv_at]
  blk_ext [iblk, index_7]
theorem blk_9 (t : Fin cfg0.N) (r : Fin 64) (j : Fin 512) : iblk m c 9 t (ix2 r j) = table (ix2 r j) := by
  rw [← table_row m c]
  blk_ext [iblk, index_9]

/-! ## The rows of a block are those of the arrays -/

/-- The first product of a row of a block, and the columns it should hold. -/
abbrev Y (t : Fin cfg0.N) (r : Fin 64) (j : Fin 3584) : EReal := rowY (iblk m c 0 t) (iblk m c 1 t) (iblk m c 2 t) (iblk m c 3 t) (iblk m c 4 t) r j
abbrev H (t : Fin cfg0.N) (r : Fin 64) : Fin 1024 → EReal := opened (a0 m c) (a1 m c) (a2 m c) (a3 m c) (pb t) r
abbrev C (t : Fin cfg0.N) (r : Fin 64) (j : Fin 3240) : EReal := col (a0 m c) (a1 m c) (a2 m c) (a3 m c) (a4 m c) (pb t) r j

theorem Y_eq (t : Fin cfg0.N) (r : Fin 64) (j : Fin 3584) : Y m c t r j = ∑ k, H m c t r k * packed1 (a4 m c) (ix2 k j) := by
  unfold Y rowY rowH H opened
  simp only [blk_0, blk_1, blk_2, blk_3, blk_4]

theorem Y_q (t : Fin cfg0.N) (r : Fin 64) (j : Fin 384) : Y m c t r ⟨j.val, by omega⟩ = C m c t r ⟨j.val, by omega⟩ := by
  rw [Y_eq]
  simp only [packed1_q]
  rfl
theorem Y_c (t : Fin cfg0.N) (r : Fin 64) (j : Fin 256) : Y m c t r ⟨384 + j.val, by omega⟩ = C m c t r ⟨384 + j.val, by omega⟩ := by
  rw [Y_eq]
  simp only [packed1_c]
  rfl
theorem Y_m (t : Fin cfg0.N) (r : Fin 64) (j : Fin 1024) : Y m c t r ⟨896 + j.val, by omega⟩ = C m c t r ⟨672 + j.val, by omega⟩ := by
  rw [Y_eq]
  simp only [packed1_m]
  rfl
theorem Y_o (t : Fin cfg0.N) (r : Fin 64) (j : Fin 512) : Y m c t r ⟨1920 + j.val, by omega⟩ = C m c t r ⟨1704 + j.val, by omega⟩ := by
  rw [Y_eq]
  simp only [packed1_o]
  rfl
theorem Y_z (t : Fin cfg0.N) (r : Fin 64) (j : Fin 1024) : Y m c t r ⟨2432 + j.val, by omega⟩ = C m c t r ⟨2216 + j.val, by omega⟩ := by
  rw [Y_eq]
  simp only [packed1_z]
  rfl
theorem Y_gate (t : Fin cfg0.N) (r : Fin 64) (l : Fin 128) :
    Y m c t r ⟨3456 + l.val, by omega⟩ = if h : l.val < 8 then C m c t r ⟨1696 + l.val, by omega⟩ else 0 := by
  rw [Y_eq]
  simp only [packed1_gate, gatePart_at]
  by_cases h : l.val < 8
  · simp only [dif_pos h]
    rfl
  · simp only [dif_neg h, mul_zero, Finset.sum_const_zero]
theorem Y_key (t : Fin cfg0.N) (r : Fin 64) (l : Fin 128) :
    Y m c t r ⟨640 + l.val, by omega⟩ = if h : 64 ≤ l.val ∧ l.val - 64 < 32 then C m c t r ⟨640 + (l.val - 64), by omega⟩ else 0 := by
  rw [Y_eq]
  simp only [packed1_key, keyPart_at]
  by_cases h : 64 ≤ l.val ∧ l.val - 64 < 32
  · simp only [dif_pos h]
    rfl
  · simp only [dif_neg h, mul_zero, Finset.sum_const_zero]

/-- What is asked of the arrays the turned lanes are made of. -/
structure Fine : Prop where
  shift : ∀ i, IsNum (a1 m c i)
  scale : ∀ i, IsNum (a2 m c i)
  norm : ∀ i, IsNum (a3 m c i)
  weights : ∀ i, IsNum (a4 m c i)
  normQ : ∀ i, IsNum (a5 m c i)
  weightsQ : ∀ i, IsNum (a6 m c i)

theorem Y_swapped (hf : Fine m c) (t : Fin cfg0.N) (r : Fin 64) (l : Fin 128) :
    Y m c t r ⟨768 + l.val, by omega⟩ = if h : 64 ≤ l.val ∧ l.val - 64 < 32 then
      (if h' : l.val - 64 < 16 then - C m c t r ⟨656 + (l.val - 64), by omega⟩ else C m c t r ⟨624 + (l.val - 64), by omega⟩) else 0 := by
  rw [Y_eq]
  simp only [packed1_swapped, swappedPart_at]
  by_cases h : 64 ≤ l.val ∧ l.val - 64 < 32
  · simp only [dif_pos h]
    by_cases h' : l.val - 64 < 16
    · simp only [dif_pos h']
      exact sum_mul_neg _ _ (fun k => opened_num (a0 m c) _ _ _ hf.shift hf.scale hf.norm _ _ k) (fun k => hf.weights _)
    · simp only [dif_neg h']
      rfl
  · simp only [dif_neg h, mul_zero, Finset.sum_const_zero]

/-- The second product. -/
abbrev Q (t : Fin cfg0.N) (r : Fin 64) (j : Fin 2048) : EReal :=
  rowQ (iblk m c 0 t) (iblk m c 1 t) (iblk m c 2 t) (iblk m c 3 t) (iblk m c 4 t) (iblk m c 5 t) (iblk m c 6 t) r j
abbrev LQ (t : Fin cfg0.N) (r : Fin 64) : Fin 384 → EReal := latentQ (a0 m c) (a1 m c) (a2 m c) (a3 m c) (a4 m c) (a5 m c) (pb t) r
abbrev SQ (t : Fin cfg0.N) (r : Fin 64) (h : Fin 8) (d : Fin 96) : EReal :=
  query (a0 m c) (a1 m c) (a2 m c) (a3 m c) (a4 m c) (a5 m c) (a6 m c) (pb t) r h d

theorem Q_eq (t : Fin cfg0.N) (r : Fin 64) (j : Fin 2048) : Q m c t r j = ∑ k, LQ m c t r k * packed2 (a6 m c) (ix2 k j) := by
  have e : (fun k : Fin 384 => rowY (iblk m c 0 t) (iblk m c 1 t) (iblk m c 2 t) (iblk m c 3 t) (iblk m c 4 t) r ⟨k.val, by omega⟩)
      = fun k : Fin 384 => C m c t r ⟨k.val, by omega⟩ := funext fun k => Y_q m c t r k
  unfold Q rowQ LQ latentQ
  rw [e]
  simp only [blk_5, blk_6]
theorem Q_query (t : Fin cfg0.N) (r : Fin 64) (h : Fin 8) (l : Fin 128) :
    Q m c t r ⟨128 * h.val + l.val, by omega⟩ = if h' : l.val < 96 then SQ m c t r h ⟨l.val, h'⟩ else 0 := by
  rw [Q_eq]
  simp only [packed2_query, queryHeads_at]
  by_cases h' : l.val < 96
  · simp only [dif_pos h']
    rfl
  · simp only [dif_neg h', mul_zero, Finset.sum_const_zero]
theorem Q_turned (hf : Fine m c) (t : Fin cfg0.N) (r : Fin 64) (h : Fin 8) (l : Fin 128) :
    Q m c t r ⟨1024 + (128 * h.val + l.val), by omega⟩ = if h' : 64 ≤ l.val ∧ l.val - 64 < 32 then
      (if h'' : l.val - 64 < 16 then - SQ m c t r h ⟨80 + (l.val - 64), by omega⟩ else SQ m c t r h ⟨48 + (l.val - 64), by omega⟩) else 0 := by
  rw [Q_eq]
  simp only [packed2_turned, turnedHeads_at]
  by_cases h' : 64 ≤ l.val ∧ l.val - 64 < 32
  · simp only [dif_pos h']
    by_cases h'' : l.val - 64 < 16
    · simp only [dif_pos h'']
      exact sum_mul_neg _ _ (fun k => latentQ_num _ _ _ _ _ _ hf.normQ _ _ k) (fun k => hf.weightsQ _)
    · simp only [dif_neg h'']
      rfl
  · simp only [dif_neg h', mul_zero, Finset.sum_const_zero]

abbrev LK (t : Fin cfg0.N) (r : Fin 64) : Fin 256 → EReal := latentKv (a0 m c) (a1 m c) (a2 m c) (a3 m c) (a4 m c) (a7 m c) (pb t) r
theorem rowC_eq (t : Fin cfg0.N) (r : Fin 64) :
    rowC (iblk m c 0 t) (iblk m c 1 t) (iblk m c 2 t) (iblk m c 3 t) (iblk m c 4 t) (iblk m c 7 t) r = LK m c t r := by
  have e : (fun k : Fin 256 => rowY (iblk m c 0 t) (iblk m c 1 t) (iblk m c 2 t) (iblk m c 3 t) (iblk m c 4 t) r ⟨384 + k.val, by omega⟩)
      = fun k : Fin 256 => C m c t r ⟨384 + k.val, by omega⟩ := funext fun k => Y_c m c t r k
  unfold rowC LK latentKv
  rw [e]
  simp only [blk_7]
/-! ## The turned lanes -/

theorem rowR_eq (hf : Fine m c) (t : Fin cfg0.N) (r : Fin 64) (l : Fin 128) :
    rowR (iblk m c 0 t) (iblk m c 1 t) (iblk m c 2 t) (iblk m c 3 t) (iblk m c 4 t) (iblk m c 9 t) r l
      = if h : 64 ≤ l.val ∧ l.val - 64 < 32 then keyRot (a0 m c) (a1 m c) (a2 m c) (a3 m c) (a4 m c) (pb t) r ⟨l.val - 64, h.2⟩ else 0 := by
  unfold rowR
  show Y m c t r ⟨640 + l.val, by omega⟩ * _ + Y m c t r ⟨768 + l.val, by omega⟩ * _ = _
  rw [Y_key, Y_swapped m c hf, blk_9, blk_9, table_2, table_3, cosPart_at, sinPart_at]
  by_cases h : 64 ≤ l.val ∧ l.val - 64 < 32
  · simp only [dif_pos h]
    unfold keyRot turned
    by_cases h' : l.val - 64 < 16
    · simp only [dif_pos h']
      rw [neg_mul, ← sub_eq_add_neg]
      refine congrArg (fun e => _ - C m c t r e * _) (Fin.ext ?_)
      dsimp only
      omega
    · simp only [dif_neg h']
      rw [add_comm]
      refine congrArg (fun e => C m c t r e * _ + _) (Fin.ext ?_)
      dsimp only
      omega
  · simp only [dif_neg h, mul_zero, add_zero]

theorem laneQ_eq (hf : Fine m c) (t : Fin cfg0.N) (r : Fin 64) (h : Fin 8) (l : Fin 128) :
    laneQ (iblk m c 0 t) (iblk m c 1 t) (iblk m c 2 t) (iblk m c 3 t) (iblk m c 4 t) (iblk m c 5 t) (iblk m c 6 t) (iblk m c 9 t) r h l
      = queryLane (a0 m c) (a1 m c) (a2 m c) (a3 m c) (a4 m c) (a5 m c) (a6 m c) (pb t) r h l := by
  have hq : ∀ d, IsNum (SQ m c t r h d) := fun d => query_num _ _ _ _ _ _ _ hf.normQ hf.weightsQ _ _ _ _
  unfold laneQ
  show Q m c t r ⟨128 * h.val + l.val, by omega⟩ * _ + Q m c t r ⟨1024 + (128 * h.val + l.val), by omega⟩ * _ = _
  rw [Q_query, Q_turned m c hf, blk_9, blk_9, table_0, table_1, cosPart_at, sinPart_at, onePart_at]
  unfold queryLane
  by_cases h1 : l.val < 64
  · rw [dif_pos (by omega), dif_neg (by omega), dif_neg (by omega), if_pos h1, dif_pos h1, zero_mul, add_zero, zero_add, one_mul]
  · by_cases h2 : l.val < 96
    · have h3 : 64 ≤ l.val ∧ l.val - 64 < 32 := by omega
      simp only [dif_pos h2, dif_pos h3, dif_neg h1, if_neg h1, add_zero]
      unfold turned
      by_cases h' : l.val - 64 < 16
      · simp only [dif_pos h']
        rw [turn_first (hq _) (hq _) (cos_num _ _) (sin_num _ _) lift_num]
        refine congrArg₂ (fun e e' => (SQ m c t r h e * _ - SQ m c t r h e' * _) * lift) (Fin.ext ?_) (Fin.ext ?_) <;> dsimp only <;> omega
      · simp only [dif_neg h']
        rw [turn_second (hq _) (hq _) (cos_num _ _) (sin_num _ _) lift_num]
        refine congrArg₂ (fun e e' => (SQ m c t r h e' * _ + SQ m c t r h e * _) * lift) (Fin.ext ?_) (Fin.ext ?_) <;> dsimp only <;> omega
    · have h3 : ¬ (64 ≤ l.val ∧ l.val - 64 < 32) := by omega
      simp only [dif_neg h1, dif_neg h2, dif_neg h3, zero_mul, add_zero]

end Cert.Kernel8Ideal.InAS

end
-- ==== Proof.InAS.Value.lean ====
/- The six results of the idealized call that opens the attention sublayer over the sample, whole. -/
module

public import proofs.«01_k».proof.Proof.InAS.Rows

@[expose] public section

set_option maxRecDepth 16384

noncomputable section

namespace Cert.Kernel8Ideal.InAS

open Idealize.ShloMosaic Idealize.ShloMosaic.TcCoe Idealize.ShloMosaic.Tactic
open Cert.Kernel8Ideal.Gen Cert.Sample
open Cert.Rows (inC inM inZ inG)
open scoped BigOperators

variable (m : (ℓ : Loc nD τ sig) → Buf (Elt Ideal) ℓ) (c : Dev nD)

theorem out_10 (hf : Fine m c) (t : Fin cfg0.N) (i : S1x64x1024.Idx) :
    ((cfg0.win 10).blk t).view.read (Elt Ideal) (inQ (a0 m c) (a1 m c) (a2 m c) (a3 m c) (a4 m c) (a5 m c) (a6 m c)) i
      = out0_10 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  refine Eq.trans (b := inQ (a0 m c) (a1 m c) (a2 m c) (a3 m c) (a4 m c) (a5 m c) (a6 m c) (ix3 (pb t) r k)) ?_ ?_
  · blk_ext [index_10] <;> simp only [pb] <;> omega
  · obtain ⟨h, l, hk⟩ : ∃ (h : Fin 8) (l : Fin 128), k = ⟨128 * h.val + l.val, by omega⟩ :=
      ⟨⟨k.val / 128, by omega⟩, ⟨k.val % 128, Nat.mod_lt _ (by decide)⟩, Fin.ext (by dsimp only; omega)⟩
    subst hk
    rw [out10_apply, laneQ_eq m c hf]
    exact congrArg₂ (queryLane (a0 m c) (a1 m c) (a2 m c) (a3 m c) (a4 m c) (a5 m c) (a6 m c) (pb t) r) (Fin.ext (by show (128 * h.val + l.val) / 128 = h.val; omega)) (Fin.ext (by show (128 * h.val + l.val) % 128 = l.val; omega))
theorem covers_10 (i : S32x64x1024.Idx) : ∃ t : Fin cfg0.N, (cfg0.win 10).flush t = true ∧ i ∈ ((cfg0.win 10).blk t).view.set := by
  have h0 : (i 0).val < 32 := (i 0).isLt
  have h1 : (i 1).val < 64 := (i 1).isLt
  have h2 : (i 2).val < 1024 := (i 2).isLt
  obtain ⟨t, ht⟩ : ∃ t : Fin cfg0.N, t.val = (i 0).val :=
    ⟨⟨(i 0).val, lt_of_lt_of_eq (by omega) N_0.symm⟩, rfl⟩
  refine ⟨t, flush0_10 t, ?_⟩
  mem_blk [index_10]
  omega
theorem arr_10 (hf : Fine m c) : (dats m 0 c).arrAt 10 cfg0.N = inQ (a0 m c) (a1 m c) (a2 m c) (a3 m c) (a4 m c) (a5 m c) (a6 m c) :=
  Pipeline.Dat.arrAt_eq_of_cover (dats m 0 c) 10 (inQ (a0 m c) (a1 m c) (a2 m c) (a3 m c) (a4 m c) (a5 m c) (a6 m c))
    (fun t _ => (flushed10 m c t).trans (funext fun i => (out_10 m c hf t i).symm))
    (fun i => covers_10 i)

theorem out_11 (t : Fin cfg0.N) (i : S1x64x256.Idx) :
    ((cfg0.win 11).blk t).view.read (Elt Ideal) (inC (a0 m c) (a1 m c) (a2 m c) (a3 m c) (a4 m c) (a7 m c)) i
      = out0_11 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  refine Eq.trans (b := inC (a0 m c) (a1 m c) (a2 m c) (a3 m c) (a4 m c) (a7 m c) (ix3 (pb t) r k)) ?_ ?_
  · blk_ext [index_11] <;> simp only [pb] <;> omega
  · rw [out11_apply, rowC_eq]
    rfl
theorem covers_11 (i : S32x64x256.Idx) : ∃ t : Fin cfg0.N, (cfg0.win 11).flush t = true ∧ i ∈ ((cfg0.win 11).blk t).view.set := by
  have h0 : (i 0).val < 32 := (i 0).isLt
  have h1 : (i 1).val < 64 := (i 1).isLt
  have h2 : (i 2).val < 256 := (i 2).isLt
  obtain ⟨t, ht⟩ : ∃ t : Fin cfg0.N, t.val = (i 0).val :=
    ⟨⟨(i 0).val, lt_of_lt_of_eq (by omega) N_0.symm⟩, rfl⟩
  refine ⟨t, flush0_11 t, ?_⟩
  mem_blk [index_11]
  omega
theorem arr_11 : (dats m 0 c).arrAt 11 cfg0.N = inC (a0 m c) (a1 m c) (a2 m c) (a3 m c) (a4 m c) (a7 m c) :=
  Pipeline.Dat.arrAt_eq_of_cover (dats m 0 c) 11 (inC (a0 m c) (a1 m c) (a2 m c) (a3 m c) (a4 m c) (a7 m c))
    (fun t _ => (flushed11 m c t).trans (funext fun i => (out_11 m c t i).symm))
    (fun i => covers_11 i)

theorem out_12 (hf : Fine m c) (t : Fin cfg0.N) (i : S1x64x32.Idx) :
    ((cfg0.win 12).blk t).view.read (Elt Ideal) (inR (a0 m c) (a1 m c) (a2 m c) (a3 m c) (a4 m c)) i
      = out0_12 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  refine Eq.trans (b := inR (a0 m c) (a1 m c) (a2 m c) (a3 m c) (a4 m c) (ix3 (pb t) r k)) ?_ ?_
  · blk_ext [index_12] <;> simp only [pb] <;> omega
  · have h : 64 ≤ (⟨64 + k.val, by omega⟩ : Fin 128).val ∧ (⟨64 + k.val, by omega⟩ : Fin 128).val - 64 < 32 := by dsimp only; omega
    rw [out12_apply, rowR_eq m c hf, dif_pos h]
    exact congrArg (keyRot (a0 m c) (a1 m c) (a2 m c) (a3 m c) (a4 m c) (pb t) r) (Fin.ext (by show k.val = 64 + k.val - 64; omega))
theorem covers_12 (i : S32x64x32.Idx) : ∃ t : Fin cfg0.N, (cfg0.win 12).flush t = true ∧ i ∈ ((cfg0.win 12).blk t).view.set := by
  have h0 : (i 0).val < 32 := (i 0).isLt
  have h1 : (i 1).val < 64 := (i 1).isLt
  have h2 : (i 2).val < 32 := (i 2).isLt
  obtain ⟨t, ht⟩ : ∃ t : Fin cfg0.N, t.val = (i 0).val :=
    ⟨⟨(i 0).val, lt_of_lt_of_eq (by omega) N_0.symm⟩, rfl⟩
  refine ⟨t, flush0_12 t, ?_⟩
  mem_blk [index_12]
  omega
theorem arr_12 (hf : Fine m c) : (dats m 0 c).arrAt 12 cfg0.N = inR (a0 m c) (a1 m c) (a2 m c) (a3 m c) (a4 m c) :=
  Pipeline.Dat.arrAt_eq_of_cover (dats m 0 c) 12 (inR (a0 m c) (a1 m c) (a2 m c) (a3 m c) (a4 m c))
    (fun t _ => (flushed12 m c t).trans (funext fun i => (out_12 m c hf t i).symm))
    (fun i => covers_12 i)

theorem out_13 (t : Fin cfg0.N) (i : S1x64x1536.Idx) :
    ((cfg0.win 13).blk t).view.read (Elt Ideal) (inM (a0 m c) (a1 m c) (a2 m c) (a3 m c) (a4 m c)) i
      = out0_13 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  refine Eq.trans (b := inM (a0 m c) (a1 m c) (a2 m c) (a3 m c) (a4 m c) (ix3 (pb t) r k)) ?_ ?_
  · blk_ext [index_13] <;> simp only [pb] <;> omega
  · rw [out13_apply]
    unfold inM
    by_cases h : k.val < 1024
    · rw [dif_pos (show ((ix3 (pb t) r k) 2).val < 1024 from h)]
      exact (Y_m m c t r ⟨k.val, h⟩).symm
    · rw [dif_neg (show ¬ ((ix3 (pb t) r k) 2).val < 1024 from h)]
      have hk := k.isLt
      refine Eq.trans ?_ ((Y_o m c t r ⟨k.val - 1024, by omega⟩).symm.trans ?_)
      · exact congrArg (C m c t r) (Fin.ext (by show 680 + k.val = 1704 + (k.val - 1024); omega))
      · exact congrArg (Y m c t r) (Fin.ext (by show 1920 + (k.val - 1024) = 896 + k.val; omega))
theorem covers_13 (i : S32x64x1536.Idx) : ∃ t : Fin cfg0.N, (cfg0.win 13).flush t = true ∧ i ∈ ((cfg0.win 13).blk t).view.set := by
  have h0 : (i 0).val < 32 := (i 0).isLt
  have h1 : (i 1).val < 64 := (i 1).isLt
  have h2 : (i 2).val < 1536 := (i 2).isLt
  obtain ⟨t, ht⟩ : ∃ t : Fin cfg0.N, t.val = (i 0).val :=
    ⟨⟨(i 0).val, lt_of_lt_of_eq (by omega) N_0.symm⟩, rfl⟩
  refine ⟨t, flush0_13 t, ?_⟩
  mem_blk [index_13]
  omega
theorem arr_13 : (dats m 0 c).arrAt 13 cfg0.N = inM (a0 m c) (a1 m c) (a2 m c) (a3 m c) (a4 m c) :=
  Pipeline.Dat.arrAt_eq_of_cover (dats m 0 c) 13 (inM (a0 m c) (a1 m c) (a2 m c) (a3 m c) (a4 m c))
    (fun t _ => (flushed13 m c t).trans (funext fun i => (out_13 m c t i).symm))
    (fun i => covers_13 i)

theorem out_14 (t : Fin cfg0.N) (i : S1x64x1024.Idx) :
    ((cfg0.win 14).blk t).view.read (Elt Ideal) (inZ (a0 m c) (a1 m c) (a2 m c) (a3 m c) (a4 m c)) i
      = out0_14 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  refine Eq.trans (b := inZ (a0 m c) (a1 m c) (a2 m c) (a3 m c) (a4 m c) (ix3 (pb t) r k)) ?_ ?_
  · blk_ext [index_14] <;> simp only [pb] <;> omega
  · rw [out14_apply]
    exact (Y_z m c t r k).symm
theorem covers_14 (i : S32x64x1024.Idx) : ∃ t : Fin cfg0.N, (cfg0.win 14).flush t = true ∧ i ∈ ((cfg0.win 14).blk t).view.set := by
  have h0 : (i 0).val < 32 := (i 0).isLt
  have h1 : (i 1).val < 64 := (i 1).isLt
  have h2 : (i 2).val < 1024 := (i 2).isLt
  obtain ⟨t, ht⟩ : ∃ t : Fin cfg0.N, t.val = (i 0).val :=
    ⟨⟨(i 0).val, lt_of_lt_of_eq (by omega) N_0.symm⟩, rfl⟩
  refine ⟨t, flush0_14 t, ?_⟩
  mem_blk [index_14]
  omega
theorem arr_14 : (dats m 0 c).arrAt 14 cfg0.N = inZ (a0 m c) (a1 m c) (a2 m c) (a3 m c) (a4 m c) :=
  Pipeline.Dat.arrAt_eq_of_cover (dats m 0 c) 14 (inZ (a0 m c) (a1 m c) (a2 m c) (a3 m c) (a4 m c))
    (fun t _ => (flushed14 m c t).trans (funext fun i => (out_14 m c t i).symm))
    (fun i => covers_14 i)

theorem out_15 (t : Fin cfg0.N) (i : S1x64x128.Idx) :
    ((cfg0.win 15).blk t).view.read (Elt Ideal) (inG (a0 m c) (a1 m c) (a2 m c) (a3 m c) (a4 m c)) i
      = out0_15 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  refine Eq.trans (b := inG (a0 m c) (a1 m c) (a2 m c) (a3 m c) (a4 m c) (ix3 (pb t) r k)) ?_ ?_
  · blk_ext [index_15] <;> simp only [pb] <;> omega
  · rw [out15_apply]
    exact (Y_gate m c t r k).symm
theorem covers_15 (i : S32x64x128.Idx) : ∃ t : Fin cfg0.N, (cfg0.win 15).flush t = true ∧ i ∈ ((cfg0.win 15).blk t).view.set := by
  have h0 : (i 0).val < 32 := (i 0).isLt
  have h1 : (i 1).val < 64 := (i 1).isLt
  have h2 : (i 2).val < 128 := (i 2).isLt
  obtain ⟨t, ht⟩ : ∃ t : Fin cfg0.N, t.val = (i 0).val :=
    ⟨⟨(i 0).val, lt_of_lt_of_eq (by omega) N_0.symm⟩, rfl⟩
  refine ⟨t, flush0_15 t, ?_⟩
  mem_blk [index_15]
  omega
theorem arr_15 : (dats m 0 c).arrAt 15 cfg0.N = inG (a0 m c) (a1 m c) (a2 m c) (a3 m c) (a4 m c) :=
  Pipeline.Dat.arrAt_eq_of_cover (dats m 0 c) 15 (inG (a0 m c) (a1 m c) (a2 m c) (a3 m c) (a4 m c))
    (fun t _ => (flushed15 m c t).trans (funext fun i => (out_15 m c t i).symm))
    (fun i => covers_15 i)

end Cert.Kernel8Ideal.InAS

end
-- ==== Proof.InAS.Reference.lean ====
/- The values of the reference of the call that opens the attention sublayer over the sample. -/
module

public import proofs.«01_k».proof.Proof.Gen.Reference8Ideal.Read
public import proofs.«01_k».proof.Proof.InAS.Spec

@[expose] public section

set_option maxRecDepth 16384

noncomputable section

namespace Cert.Reference8Ideal.InAS

open Idealize.ShloMosaic Idealize.ShloMosaic.TcCoe Idealize.ShloMosaic.Tactic
open Cert.Reference8Ideal.Read Cert.Sample
open Cert.Rows (WIn Norm NormQ NormKv WQ opened col latentQ query latentKv turned angle inC inM inZ inG)
open scoped BigOperators

variable (x : Rows) (shift scale : Mods) (g : Norm) (wi : WIn) (gq : NormQ) (wq : WQ) (gkv : NormKv)

/-! ## The rows -/

theorem opened_at (b : Fin 32) (r : Fin 64) (k : Fin 1024) : val_main_v21 (F := Ideal) x shift scale g (ix3 b r k) = opened x shift scale g b r k := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2]
  rfl
theorem col_at (b : Fin 32) (r : Fin 64) (j : Fin 3240) : val_main_v22 (F := Ideal) x shift scale g wi (ix3 b r j) = col x shift scale g wi b r j := by
  pointwise [val_main_v22]
  simp only [opened_at]
  rfl
theorem zero_word : (((0#32 : BitVec 32).toInt : ℝ) : EReal) = 0 := by simp

theorem latentQ_at (b : Fin 32) (r : Fin 64) (k : Fin 384) : val_main_v45 (F := Ideal) x shift scale g wi gq (ix3 b r k) = latentQ x shift scale g wi gq b r k := by
  pointwise [val_main_v45, val_main_v44, val_main_v43, val_main_v42, val_main_v41, val_main_v40, val_main_v39, val_main_v38, val_main_v37, val_main_v36, val_main_v35, val_main_v34, val_main_v33, val_main_cst_3, val_main_cst_4, val_main_cst_5, val_main_v23]
  simp only [col_at]
  rfl
theorem query_at (b : Fin 32) (r : Fin 64) (h : Fin 8) (d : Fin 96) :
    val_main_v46 (F := Ideal) x shift scale g wi gq wq (ix4 b r h d) = query x shift scale g wi gq wq b r h d := by
  pointwise [val_main_v46]
  simp only [latentQ_at]
  rfl
theorem latentKv_at (b : Fin 32) (r : Fin 64) (k : Fin 256) : val_main_v103 (F := Ideal) x shift scale g wi gkv (ix3 b r k) = latentKv x shift scale g wi gkv b r k := by
  pointwise [val_main_v103, val_main_v102, val_main_v101, val_main_v100, val_main_v99, val_main_v98, val_main_v97, val_main_v96, val_main_v95, val_main_v94, val_main_v93, val_main_v92, val_main_v91, val_main_cst_12, val_main_cst_13, val_main_cst_14, val_main_v24]
  simp only [col_at]
  rfl
/-! ## The rotation -/

theorem angle_at (r : Fin 64) (i : Fin 16) : val_main_v117 (F := Ideal) (ix2 r i) = angle (4096 + r.val) i := by
  pointwise [val_main_v117, val_main_v116, val_main_v115, val_main_v114, val_main_v113, val_main_v112, val_main_v111, val_main_v110, val_main_v109, val_main_v108, val_main_v107, val_main_v106, val_main_v105, val_main_v104, val_main_cst_15, val_main_cst_16, val_main_cst_17, val_main_v2, val_main_v1, val_main_v0, val_main_c]
  rw [position]
  rfl
theorem angle_at' (r : Fin 64) (i : Fin 16) : val_main_v62 (F := Ideal) (ix2 r i) = angle (4096 + r.val) i := by
  pointwise [val_main_v62, val_main_v61, val_main_v60, val_main_v59, val_main_v58, val_main_v57, val_main_v56, val_main_v55, val_main_v54, val_main_v53, val_main_v52, val_main_v51, val_main_v50, val_main_v49, val_main_cst_6, val_main_cst_7, val_main_cst_8, val_main_v2, val_main_v1, val_main_v0, val_main_c]
  rw [position]
  rfl
theorem plane_at (r : Fin 64) (i : Fin 16) : val_main_v63 (F := Ideal) (ix3 r 0 i) = angle (4096 + r.val) i := by
  rw [← angle_at']
  pointwise [val_main_v63]

theorem keyRot_at (b : Fin 32) (r : Fin 64) (c : Fin 32) : val_main_v136 (F := Ideal) x shift scale g wi (ix3 b r c) = keyRot x shift scale g wi b r c := by
  pointwise [val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v25]
  unfold keyRot turned
  by_cases h : c.val < 16
  · rw [dif_pos h, dif_pos h]
    simp only [col_at, angle_at]
    refine congrArg₂ (· - ·) rfl (congrArg (· * _) (congrArg (col x shift scale g wi b r) (Fin.ext ?_)))
    show 640 + (16 + c.val) = 640 + (c.val + 16)
    omega
  · rw [dif_neg h, dif_neg h]
    simp only [col_at, angle_at]
    refine congrArg₂ (· + ·) rfl (congrArg (· * _) (congrArg (col x shift scale g wi b r) (Fin.ext ?_)))
    show 640 + (16 + (c.val - 16)) = 640 + c.val
    omega

theorem queryRot_at (b : Fin 32) (r : Fin 64) (h : Fin 8) (c : Fin 32) :
    val_main_v82 (F := Ideal) x shift scale g wi gq wq (ix4 b r h c) = turned (fun i => query x shift scale g wi gq wq b r h ⟨64 + i.val, by omega⟩) (4096 + r.val) c := by
  pointwise [val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v48]
  unfold turned
  by_cases h : c.val < 16
  · rw [dif_pos h, dif_pos h]
    simp only [query_at, plane_at]
    refine congrArg₂ (· - ·) rfl (congrArg (· * _) (congrArg (query x shift scale g wi gq wq b r _) (Fin.ext ?_)))
    show 64 + (16 + c.val) = 64 + (c.val + 16)
    omega
  · rw [dif_neg h, dif_neg h]
    simp only [query_at, plane_at]
    refine congrArg₂ (· + ·) rfl (congrArg (· * _) (congrArg (query x shift scale g wi gq wq b r _) (Fin.ext ?_)))
    show 64 + (16 + (c.val - 16)) = 64 + c.val
    omega

/-! ## The results -/

theorem queryLane_at (b : Fin 32) (r : Fin 64) (h : Fin 8) (l : Fin 128) :
    val_main_v88 (F := Ideal) x shift scale g wi gq wq (ix4 b r h l) = queryLane x shift scale g wi gq wq b r h l := by
  pointwise [val_main_v88, val_main_v85, val_main_v84, val_main_v83, val_main_v47, val_main_cst_9, val_main_call1_v0, val_main_c_11]
  unfold queryLane
  by_cases h1 : l.val < 64
  · rw [dif_pos (show l.val < 96 by omega), dif_pos h1, dif_pos h1, query_at]
    rfl
  · rw [dif_neg h1]
    by_cases h2 : l.val < 96
    · rw [dif_pos h2, dif_neg h1, dif_pos h2, queryRot_at]
      rfl
    · rw [dif_neg h2, dif_neg h2]
      exact zero_word
theorem q_at : val_main_v90 (F := Ideal) x shift scale g wi gq wq = inQ x shift scale g wi gq wq := by
  funext i
  obtain ⟨b, r, c, rfl⟩ : ∃ b r c, i = ix3 b r c := ⟨i 0, i 1, i 2, by idx_vars i⟩
  rw [val_main_v90_apply, val_main_v89_apply]
  refine Eq.trans (congrArg (val_main_v88 (F := Ideal) x shift scale g wi gq wq) ?_) (queryLane_at x shift scale g wi gq wq b r ⟨c.val / 128, by omega⟩ ⟨c.val % 128, Nat.mod_lt _ (by decide)⟩)
  funext a
  have h0 := b.isLt
  have h1 := r.isLt
  have h2 := c.isLt
  refine Fin.ext ?_
  match a with
  | ⟨0, _⟩ => show ((b.val * 64 + r.val) * 1024 + c.val) / 65536 = b.val; omega
  | ⟨1, _⟩ => show ((b.val * 64 + r.val) * 1024 + c.val) / 1024 % 64 = r.val; omega
  | ⟨2, _⟩ => show ((b.val * 64 + r.val) * 1024 + c.val) / 128 % 8 = c.val / 128; omega
  | ⟨3, _⟩ => show ((b.val * 64 + r.val) * 1024 + c.val) % 128 = c.val % 128; omega

theorem c_at : val_main_v103 (F := Ideal) x shift scale g wi gkv = inC x shift scale g wi gkv := by
  funext i
  obtain ⟨b, r, c, rfl⟩ : ∃ b r c, i = ix3 b r c := ⟨i 0, i 1, i 2, by idx_vars i⟩
  exact latentKv_at x shift scale g wi gkv b r c

theorem kr_at : val_main_v136 (F := Ideal) x shift scale g wi = inR x shift scale g wi := by
  funext i
  obtain ⟨b, r, c, rfl⟩ : ∃ b r c, i = ix3 b r c := ⟨i 0, i 1, i 2, by idx_vars i⟩
  exact keyRot_at x shift scale g wi b r c

theorem col_cast (b : Fin 32) (r : Fin 64) (j j' : Fin 3240) (h : j.val = j'.val) :
    val_main_v22 (F := Ideal) x shift scale g wi (ix3 b r j) = col x shift scale g wi b r j' := by
  rw [col_at, Fin.ext h]

theorem m_at : val_main_v137 (F := Ideal) x shift scale g wi = inM x shift scale g wi := by
  funext i
  obtain ⟨b, r, c, rfl⟩ : ∃ b r c, i = ix3 b r c := ⟨i 0, i 1, i 2, by idx_vars i⟩
  pointwise [val_main_v137, val_main_v26, val_main_v27, val_main_v28, val_main_v31]
  unfold inM
  by_cases h : c.val < 1024
  · rw [dif_pos (show ((ix3 b r c) 2).val < 1024 from h)]
    split
    · exact col_cast x shift scale g wi b r _ _ rfl
    · split
      · exact col_cast x shift scale g wi b r _ _ (show 928 + (c.val - 256) = 672 + c.val by omega)
      · rw [dif_pos (by omega)]
        exact col_cast x shift scale g wi b r _ _ (show 1184 + (c.val - 256 - 256) = 672 + c.val by omega)
  · rw [dif_neg (show ¬ ((ix3 b r c) 2).val < 1024 from h), dif_neg (by omega), dif_neg (by omega), dif_neg (by omega)]
    exact col_cast x shift scale g wi b r _ _ (show 1704 + (c.val - 256 - 256 - 512) = 680 + c.val by omega)

theorem z_at : val_main_v32 (F := Ideal) x shift scale g wi = inZ x shift scale g wi := by
  funext i
  obtain ⟨b, r, c, rfl⟩ : ∃ b r c, i = ix3 b r c := ⟨i 0, i 1, i 2, by idx_vars i⟩
  pointwise [val_main_v32]
  exact col_at x shift scale g wi b r _

theorem gates_at : val_main_v87 (F := Ideal) x shift scale g wi = inG x shift scale g wi := by
  funext i
  obtain ⟨b, r, c, rfl⟩ : ∃ b r c, i = ix3 b r c := ⟨i 0, i 1, i 2, by idx_vars i⟩
  pointwise [val_main_v87, val_main_v86, val_main_v29, val_main_v30, val_main_call0_v0, val_main_c_10]
  unfold inG
  by_cases h : c.val < 8
  · rw [dif_pos h, dif_pos (show ((ix3 b r c) 2).val < 8 from h)]
    split
    · exact col_cast x shift scale g wi b r _ _ rfl
    · exact col_cast x shift scale g wi b r _ _ (show 1700 + (c.val - 4) = 1696 + c.val by omega)
  · rw [dif_neg h, dif_neg (show ¬ ((ix3 b r c) 2).val < 8 from h)]
    exact zero_word

end Cert.Reference8Ideal.InAS

end
-- ==== Proof.Ada.Spec.lean ====
/- The modulations of a layer: what both batches are conditioned on, through the SiLU and the layer's weights. -/
module

public import proofs.«01_k».proof.Proof.Rows.Spec

@[expose] public section

noncomputable section

namespace Cert.Rows

open Idealize.ShloMosaic
open scoped BigOperators

abbrev CondP := (⟨2, ![4, 1024]⟩ : Shape).Idx → EReal
abbrev CondS := (⟨2, ![32, 1024]⟩ : Shape).Idx → EReal
abbrev WAda := (⟨2, ![1024, 3072]⟩ : Shape).Idx → EReal
abbrev BAda := (⟨1, ![3072]⟩ : Shape).Idx → EReal
abbrev Mod := (⟨2, ![40, 3072]⟩ : Shape).Idx → EReal

/-- The rows of the first batch, those of the second, and four rows of zeros. -/
def condRow (cp : CondP) (cs : CondS) (r : Fin 40) (k : Fin 1024) : EReal :=
  if h : r.val < 4 then cp (ix2 ⟨r.val, h⟩ k) else if h : r.val < 36 then cs (ix2 ⟨r.val - 4, by omega⟩ k) else 0

def ada (cp : CondP) (cs : CondS) (w : WAda) (b : BAda) : Mod := fun i => ∑ k, silu (condRow cp cs (i 0) k) * w (ix2 k (i 1)) + b (ix1 (i 1))

end Cert.Rows

end
-- ==== Proof.Ada.Value.lean ====
/- The values of the idealized call for the modulations: every block of the result is that part of them, and so is the
   whole result. -/
module

public import proofs.«01_k».proof.Proof.Gen.Kernel5Ideal.Value
public import proofs.«01_k».proof.Proof.Ada.Spec
public import Idealize.ShloMosaic.Lib.Pipeline.ValueKit

@[expose] public section

set_option maxRecDepth 16384

noncomputable section

namespace Cert.Kernel5Ideal.Ada

open Idealize.ShloMosaic Idealize.ShloMosaic.TcCoe Idealize.ShloMosaic.Tactic
open Cert.Kernel5Ideal.Gen Cert.Rows
open scoped BigOperators

/-! ## One block -/

section
variable (c : Vec Ideal S40x1024 .f32) (w : Vec Ideal S1024x1024 .f32) (b : Vec Ideal S1x1024 .f32)

theorem block_apply (r : Fin 40) (j : Fin 1024) : k0_pay1 c w b (ix2 r j) = ∑ k, silu (c (ix2 r k)) * w (ix2 k j) + b (ix2 0 j) := by
  pointwise [k0_pay1]
  simp only [zero_sub]
  rfl

theorem zero2 : (![0, 0] : Fin 2 → ℕ) = fun _ => 0 := by funext a; fin_cases a <;> rfl

/-- What the body leaves in the result's block. -/
theorem out_apply (r : Fin 40) (j : Fin 1024) : out0_3 c w b (ix2 r j) = ∑ k, silu (c (ix2 r k)) * w (ix2 k j) + b (ix2 0 j) := by
  unfold out0_3
  rw [View.canon_unit_zero zero2]
  rw [View.ld_unit_zero zero2 _ c, View.ld_unit_zero zero2 _ w, View.ld_unit_zero zero2 _ b]
  exact block_apply c w b r j
end

/-! ## The blocks in the arrays -/

variable (m : (ℓ : Loc nD τ sig) → Buf (Elt Ideal) ℓ) (c : Dev nD)

theorem point_lt (t : Fin cfg0.N) : t.val < 3 := lt_of_lt_of_eq t.isLt (show cfg0.N = 3 from N_0)

theorem index_0 : ∀ t : Fin cfg0.N, win0_0.index t = ![0, 0] :=
  (by decide +kernel : ∀ t : Fin grid0.N, cc0_transform_0 (grid0.coords t) = ![0, 0])
theorem index_1 : ∀ t : Fin cfg0.N, win0_1.index t = ![0, t.val] :=
  (by decide +kernel : ∀ t : Fin grid0.N, cc0_transform_1 (grid0.coords t) = ![0, t.val])
theorem index_2 : ∀ t : Fin cfg0.N, win0_2.index t = ![0, t.val] :=
  (by decide +kernel : ∀ t : Fin grid0.N, cc0_transform_2 (grid0.coords t) = ![0, t.val])
theorem index_3 : ∀ t : Fin cfg0.N, win0_3.index t = ![0, t.val] :=
  (by decide +kernel : ∀ t : Fin grid0.N, cc0_transform_3 (grid0.coords t) = ![0, t.val])

/-- The column of the arrays that is column `j` of a point's block. -/
def pc (t : Fin cfg0.N) (j : Fin 1024) : Fin 3072 := ⟨1024 * t.val + j.val, by have := point_lt t; have := j.isLt; omega⟩

/-- The launched arrays. -/
abbrev a0 : CondP := m ((c : Thread nD τ).loc main_arg0)
abbrev a1 : CondS := m ((c : Thread nD τ).loc main_arg1)
abbrev a2 : WAda := m ((c : Thread nD τ).loc main_arg2)
abbrev a3 : BAda := m ((c : Thread nD τ).loc main_arg3)

/-- The conditioning rows as the kernel is given them. -/
theorem cond_row : V m c main_v1 = pad S40x1024 ![0, 0] ![4, 0] ![0, 0]
    (concatenate S36x1024 0 [⟨S4x1024, a0 m c⟩, ⟨S32x1024, a1 m c⟩] concatenates_S4x1024_S32x1024_S36x1024_d0) (sitofp (F := Ideal) .f32 (constantI S_ 32 0#32)) pads_S36x1024_S40x1024_040_000 h_S_ := by
  unfold V
  simp only [hostOps0, hostOps0_1, hostOps0_2, List.flatten_cons, List.flatten_nil, List.append_nil, List.cons_append, List.nil_append, StableHlo.TRef.binary,
    StableHlo.TRef.unary, StableHlo.TRef.toBuf, StableHlo.TRef.ofBuf, cast_eq]
  after_results
theorem cond_at (r : Fin 40) (k : Fin 1024) : V m c main_v1 (ix2 r k) = condRow (a0 m c) (a1 m c) r k := by
  rw [cond_row]
  pointwise []
  unfold condRow
  by_cases h : r.val < 4
  · rw [dif_pos (show r.val < 36 by omega), dif_pos h, dif_pos h]
  · rw [dif_neg h]
    by_cases h' : r.val < 36
    · rw [dif_pos h', dif_neg h, dif_pos h']
    · rw [dif_neg h', dif_neg h']
      show (((0#32 : BitVec 32).toInt : ℝ) : EReal) = 0
      simp
/-- The bias as the kernel is given it: one row. -/
theorem bias_row : V m c main_v2 = shapeCast S1x3072 (a3 m c) shapeCasts_S3072_S1x3072 := by
  unfold V
  simp only [hostOps0, hostOps0_1, hostOps0_2, List.flatten_cons, List.flatten_nil, List.append_nil, List.cons_append, List.nil_append, StableHlo.TRef.binary,
    StableHlo.TRef.unary, StableHlo.TRef.toBuf, StableHlo.TRef.ofBuf, cast_eq]
  after_results
  rfl
theorem bias_at (k : Fin 3072) : V m c main_v2 (ix2 0 k) = a3 m c (ix1 k) := by
  rw [bias_row]
  pointwise []

theorem blk_0 (t : Fin cfg0.N) (r : Fin 40) (k : Fin 1024) : iblk m c 0 t (ix2 r k) = condRow (a0 m c) (a1 m c) r k := by
  rw [← cond_at]
  blk_ext [iblk, index_0]
theorem blk_1 (t : Fin cfg0.N) (k j : Fin 1024) : iblk m c 1 t (ix2 k j) = a2 m c (ix2 k (pc t j)) := by
  blk_ext [iblk, V, index_1] <;> simp only [pc] <;> omega
theorem blk_2 (t : Fin cfg0.N) (j : Fin 1024) : iblk m c 2 t (ix2 0 j) = a3 m c (ix1 (pc t j)) := by
  rw [← bias_at]
  blk_ext [iblk, index_2] <;> simp only [pc] <;> omega

/-- The result's block at a point is that part of the whole result. -/
theorem out_3 (t : Fin cfg0.N) (i : S40x1024.Idx) :
    ((cfg0.win 3).blk t).view.read (Elt Ideal) (ada (a0 m c) (a1 m c) (a2 m c) (a3 m c)) i = out0_3 (iblk m c 0 t) (iblk m c 1 t) (iblk m c 2 t) i := by
  obtain ⟨r, j, rfl⟩ : ∃ r j, i = ix2 r j := ⟨i 0, i 1, by idx_vars i⟩
  rw [out_apply]
  simp only [blk_0, blk_1, blk_2]
  show _ = ada (a0 m c) (a1 m c) (a2 m c) (a3 m c) (ix2 r (pc t j))
  blk_ext [index_3] <;> simp only [pc] <;> omega

theorem covers_3 (i : S40x3072.Idx) : ∃ t : Fin cfg0.N, (cfg0.win 3).flush t = true ∧ i ∈ ((cfg0.win 3).blk t).view.set := by
  have h0 : (i 0).val < 40 := (i 0).isLt
  have h1 : (i 1).val < 3072 := (i 1).isLt
  obtain ⟨t, ht⟩ : ∃ t : Fin cfg0.N, t.val = (i 1).val / 1024 := ⟨⟨(i 1).val / 1024, lt_of_lt_of_eq (by omega) N_0.symm⟩, rfl⟩
  refine ⟨t, flush0_3 t, ?_⟩
  mem_blk [index_3]
  omega

/-- The result is written block by block to the modulations of the launched arrays. -/
theorem arr_3 : (dats m 0 c).arrAt 3 cfg0.N = ada (a0 m c) (a1 m c) (a2 m c) (a3 m c) :=
  Pipeline.Dat.arrAt_eq_of_cover (dats m 0 c) 3 (ada (a0 m c) (a1 m c) (a2 m c) (a3 m c))
    (fun t _ => (Cert.Kernel5Ideal.Value.flushed3 m c t).trans (funext fun i => (out_3 m c t i).symm)) (fun i => covers_3 i)

end Cert.Kernel5Ideal.Ada

end
-- ==== Proof.Ada.Reference.lean ====
/- The values of the reference of the modulations. -/
module

public import proofs.«01_k».proof.Proof.Gen.Reference5Ideal.Read
public import proofs.«01_k».proof.Proof.Ada.Spec

@[expose] public section

set_option maxRecDepth 16384

noncomputable section

namespace Cert.Reference5Ideal.Ada

open Idealize.ShloMosaic Idealize.ShloMosaic.TcCoe Idealize.ShloMosaic.Tactic
open Cert.Reference5Ideal.Read Cert.Rows
open scoped BigOperators

variable (cp : CondP) (cs : CondS) (w : WAda) (b : BAda)

theorem cond_at (r : Fin 40) (k : Fin 1024) : val_main_v1 (F := Ideal) cp cs (ix2 r k) = condRow cp cs r k := by
  pointwise [val_main_v1, val_main_v0, val_main_cst]
  unfold condRow
  by_cases h : r.val < 4
  · rw [dif_pos h, dif_pos h]
  · rw [dif_neg h, dif_neg h]
    by_cases h' : r.val < 36
    · rw [dif_pos (show r.val - 4 < 32 by omega), dif_pos h']
    · rw [dif_neg (show ¬r.val - 4 < 32 by omega), dif_neg h']

theorem result_at : val_main_v6 (F := Ideal) cp cs w b = ada cp cs w b := by
  funext i
  obtain ⟨r, c, rfl⟩ : ∃ r c, i = ix2 r c := ⟨i 0, i 1, by idx_vars i⟩
  pointwise [val_main_v6, val_main_v5, val_main_v4, val_main_v3, val_main_v2, val_main_call0_v5, val_main_call0_v4, val_main_call0_v3, val_main_call0_v2,
    val_main_call0_v1, val_main_call0_v0, val_main_call0_cst, val_main_call0_cst_0]
  simp only [cond_at]
  rfl

end Cert.Reference5Ideal.Ada

end
-- ==== Proof.MidS.Value.lean ====
/- The values of the idealized call between the two halves of the layer, on the sample: every block of its four results is that part of
   the whole, and so are the results. -/
module

public import proofs.«01_k».proof.Proof.Gen.Kernel6Ideal.Value
public import proofs.«01_k».proof.Proof.Rows.Sample
public import proofs.«01_k».proof.Proof.Rows.Pad
public import Idealize.ShloMosaic.Lib.Pipeline.ValueKit

@[expose] public section

set_option maxRecDepth 16384

noncomputable section

namespace Cert.Kernel6Ideal.MidS

open Idealize.ShloMosaic Idealize.ShloMosaic.TcCoe Idealize.ShloMosaic.Tactic
open Cert.Kernel6Ideal.Gen Cert.Sample
open Cert.Rows (silu mixed normed modulated column Weights Norm Packed sum_halves front_apply)
open scoped BigOperators

/-! ## One block -/

variable (oa ob : Vec Ideal S1x64x512 .f32) (z x : Vec Ideal S1x64x1024 .f32) (gate : Vec Ideal S1x1x1024 .f32) (w : Vec Ideal S1024x1024 .bf16)
  (shift scale : Vec Ideal S1x1x1024 .f32) (g : Vec Ideal S1x1024 .f32) (wi : Vec Ideal S1024x4224 .bf16)

/-- A row of the two halves side by side. -/
def two (r : Fin 64) (k : Fin 1024) : EReal :=
  if h : k.val < 512 then oa (ix3 0 r ⟨k.val, h⟩) else ob (ix3 0 r ⟨k.val - 512, by omega⟩)

theorem two_left (r : Fin 64) (k : Fin 512) : two oa ob r ⟨k.val, by omega⟩ = oa (ix3 0 r k) := dif_pos k.isLt
theorem two_right (r : Fin 64) (k : Fin 512) : two oa ob r ⟨512 + k.val, by omega⟩ = ob (ix3 0 r k) := by
  unfold two
  rw [dif_neg (by simp)]
  refine congrArg (fun e => ob (ix3 0 r e)) (Fin.ext ?_)
  show 512 + k.val - 512 = k.val
  omega

theorem zero2 : (![0, 0] : Fin 2 → ℕ) = fun _ => 0 := by funext a; fin_cases a <;> rfl
theorem zero3 : (![0, 0, 0] : Fin 3 → ℕ) = fun _ => 0 := by funext a; fin_cases a <;> rfl

theorem upper_at (k : Fin 512) (c : Fin 1024) : View.ld w r0_2 (ix2 k c) = w (ix2 ⟨k.val, by omega⟩ c) := by
  refine congrArg w (funext fun a => Fin.ext ?_)
  match a with
  | ⟨0, _⟩ => show 0 + 1 * k.val = k.val; omega
  | ⟨1, _⟩ => show 0 + 1 * c.val = c.val; omega
theorem lower_at (k : Fin 512) (c : Fin 1024) : View.ld w r0_3 (ix2 k c) = w (ix2 ⟨512 + k.val, by omega⟩ c) := by
  refine congrArg w (funext fun a => Fin.ext ?_)
  match a with
  | ⟨0, _⟩ => show 512 + 1 * k.val = 512 + k.val; omega
  | ⟨1, _⟩ => show 0 + 1 * c.val = c.val; omega

theorem mix_apply (u v : Vec Ideal S512x1024 .bf16) (r : Fin 64) (c : Fin 1024) :
    k0_pay5 z oa ob u v (ix2 r c)
      = ∑ k : Fin 512, oa (ix3 0 r k) * silu (z (ix3 0 r ⟨k.val, by omega⟩)) * u (ix2 k c)
        + ∑ k : Fin 512, ob (ix3 0 r k) * silu (z (ix3 0 r ⟨512 + k.val, by omega⟩)) * v (ix2 k c) := by
  pointwise [k0_pay5]
  simp only [zero_sub]
  rfl

/-- The mix, its two halves taken together. -/
theorem mix_at (r : Fin 64) (c : Fin 1024) :
    k0_pay10 oa ob z x gate w shift scale g wi (ix2 r c) = ∑ k : Fin 1024, two oa ob r k * silu (z (ix3 0 r k)) * w (ix2 k c) := by
  unfold k0_pay10
  rw [View.ld_unit_zero zero3 _ z, View.ld_unit_zero zero3 _ oa, View.ld_unit_zero zero3 _ ob, mix_apply, sum_halves]
  simp only [two_left, two_right]
  exact congrArg₂ (· + ·) (Finset.sum_congr rfl fun k _ => congrArg (oa (ix3 0 r k) * silu (z (ix3 0 r ⟨k.val, by omega⟩)) * ·) (upper_at w k c))
    (Finset.sum_congr rfl fun k _ => congrArg (ob (ix3 0 r k) * silu (z (ix3 0 r ⟨512 + k.val, by omega⟩)) * ·) (lower_at w k c))

theorem add_apply (p : FVec Ideal S64x1024 .f32) (r : Fin 64) (c : Fin 1024) :
    k0_pay6 p x gate (ix2 r c) = x (ix3 0 r c) + gate (ix3 0 0 c) * p (ix2 r c) := by
  pointwise [k0_pay6]

/-- A row of the block with the gated mix added. -/
abbrev rowX (r : Fin 64) : Fin 1024 → EReal :=
  mixed (two oa ob r) (fun k => z (ix3 0 r k)) (fun k => x (ix3 0 r k)) (fun k => gate (ix3 0 0 k)) (fun k c => w (ix2 k c))
/-- The same normed and modulated. -/
abbrev rowH (r : Fin 64) : Fin 1024 → EReal :=
  modulated (rowX oa ob z x gate w r) (fun k => g (ix2 0 k)) (fun k => scale (ix3 0 0 k)) (fun k => shift (ix3 0 0 k))

theorem sum_at (r : Fin 64) (c : Fin 1024) :
    k0_pay6 (k0_pay10 oa ob z x gate w shift scale g wi) x gate (ix2 r c) = rowX oa ob z x gate w r c := by
  rw [add_apply, mix_at]
  rfl

theorem norm_apply (p : FVec Ideal S64x1024 .f32) (r : Fin 64) (c : Fin 1024) :
    k0_pay8 p x gate g scale shift (ix2 r c)
      = modulated (fun k => k0_pay6 p x gate (ix2 r k)) (fun k => g (ix2 0 k)) (fun k => scale (ix3 0 0 k)) (fun k => shift (ix3 0 0 k)) c := by
  pointwise [k0_pay8]
  rfl

theorem handed_at (r : Fin 64) (c : Fin 1024) :
    k0_pay12 oa ob z x gate w shift scale g wi (ix2 r c) = rowH oa ob z x gate w shift scale g r c := by
  unfold k0_pay12
  rw [View.ld_unit_zero zero3 _ x, View.ld_unit_zero zero3 _ gate, View.ld_unit_zero zero2 _ g, View.ld_unit_zero zero3 _ scale, View.ld_unit_zero zero3 _ shift,
    norm_apply]
  simp only [sum_at]

theorem product_at (r : Fin 64) (j : Fin 4224) :
    k0_pay1 (k0_pay12 oa ob z x gate w shift scale g wi) (k0_pay13 oa ob z x gate w shift scale g wi) (k0_pay11 oa ob z x gate w shift scale g wi) (ix2 r j)
      = ∑ k, rowH oa ob z x gate w shift scale g r k * wi (ix2 k j) := by
  unfold k0_pay13 k0_pay11
  rw [View.ld_unit_zero zero2 _ wi]
  pointwise [k0_pay1, k0_pay9]
  simp only [handed_at]

/-! What the body leaves in the blocks of the four results. -/

theorem out10_apply (r : Fin 64) (c : Fin 1024) : out0_10 oa ob z x gate w shift scale g wi (ix3 0 r c) = rowX oa ob z x gate w r c := by
  unfold out0_10
  rw [View.canon_unit_zero zero3, View.ld_unit_zero zero3 _ x, View.ld_unit_zero zero3 _ gate, ← sum_at oa ob z x gate w shift scale g wi]
  pointwise [k0_pay7]
theorem out11_apply (r : Fin 64) (c : Fin 3072) :
    out0_11 oa ob z x gate w shift scale g wi (ix3 0 r c) = ∑ k, rowH oa ob z x gate w shift scale g r k * wi (ix2 k ⟨c.val, by omega⟩) := by
  unfold out0_11
  rw [View.canon_unit_zero zero3, ← product_at]
  pointwise [k0_pay2]
theorem out12_apply (r : Fin 64) (c : Fin 1024) :
    out0_12 oa ob z x gate w shift scale g wi (ix3 0 r c) = ∑ k, rowH oa ob z x gate w shift scale g r k * wi (ix2 k ⟨3072 + c.val, by omega⟩) := by
  unfold out0_12
  rw [View.canon_unit_zero zero3, ← product_at]
  pointwise [k0_pay3]
theorem out13_apply (r : Fin 64) (c : Fin 128) :
    out0_13 oa ob z x gate w shift scale g wi (ix3 0 r c) = ∑ k, rowH oa ob z x gate w shift scale g r k * wi (ix2 k ⟨4096 + c.val, by omega⟩) := by
  unfold out0_13
  rw [View.canon_unit_zero zero3, ← product_at]
  pointwise [k0_pay4]

/-! ## The blocks in the arrays -/

variable (m : (ℓ : Loc nD τ sig) → Buf (Elt Ideal) ℓ) (c : Dev nD)

theorem point_lt (t : Fin cfg0.N) : t.val < 32 := lt_of_lt_of_eq t.isLt (show cfg0.N = 32 from N_0)

theorem index_0 : ∀ t : Fin cfg0.N, win0_0.index t = ![t.val, 0, 0] :=
  (by decide +kernel : ∀ t : Fin grid0.N, cc0_transform_0 (grid0.coords t) = ![t.val, 0, 0])
theorem index_1 : ∀ t : Fin cfg0.N, win0_1.index t = ![t.val, 0, 0] :=
  (by decide +kernel : ∀ t : Fin grid0.N, cc0_transform_1 (grid0.coords t) = ![t.val, 0, 0])
theorem index_2 : ∀ t : Fin cfg0.N, win0_2.index t = ![t.val, 0, 0] :=
  (by decide +kernel : ∀ t : Fin grid0.N, cc0_transform_2 (grid0.coords t) = ![t.val, 0, 0])
theorem index_3 : ∀ t : Fin cfg0.N, win0_3.index t = ![t.val, 0, 0] :=
  (by decide +kernel : ∀ t : Fin grid0.N, cc0_transform_3 (grid0.coords t) = ![t.val, 0, 0])
theorem index_4 : ∀ t : Fin cfg0.N, win0_4.index t = ![t.val, 0, 0] :=
  (by decide +kernel : ∀ t : Fin grid0.N, cc0_transform_4 (grid0.coords t) = ![t.val, 0, 0])
theorem index_5 : ∀ t : Fin cfg0.N, win0_5.index t = ![0, 0] :=
  (by decide +kernel : ∀ t : Fin grid0.N, cc0_transform_5 (grid0.coords t) = ![0, 0])
theorem index_6 : ∀ t : Fin cfg0.N, win0_6.index t = ![t.val, 0, 0] :=
  (by decide +kernel : ∀ t : Fin grid0.N, cc0_transform_6 (grid0.coords t) = ![t.val, 0, 0])
theorem index_7 : ∀ t : Fin cfg0.N, win0_7.index t = ![t.val, 0, 0] :=
  (by decide +kernel : ∀ t : Fin grid0.N, cc0_transform_7 (grid0.coords t) = ![t.val, 0, 0])
theorem index_8 : ∀ t : Fin cfg0.N, win0_8.index t = ![0, 0] :=
  (by decide +kernel : ∀ t : Fin grid0.N, cc0_transform_8 (grid0.coords t) = ![0, 0])
theorem index_9 : ∀ t : Fin cfg0.N, win0_9.index t = ![0, 0] :=
  (by decide +kernel : ∀ t : Fin grid0.N, cc0_transform_9 (grid0.coords t) = ![0, 0])
theorem index_10 : ∀ t : Fin cfg0.N, win0_10.index t = ![t.val, 0, 0] :=
  (by decide +kernel : ∀ t : Fin grid0.N, cc0_transform_10 (grid0.coords t) = ![t.val, 0, 0])
theorem index_11 : ∀ t : Fin cfg0.N, win0_11.index t = ![t.val, 0, 0] :=
  (by decide +kernel : ∀ t : Fin grid0.N, cc0_transform_11 (grid0.coords t) = ![t.val, 0, 0])
theorem index_12 : ∀ t : Fin cfg0.N, win0_12.index t = ![t.val, 0, 0] :=
  (by decide +kernel : ∀ t : Fin grid0.N, cc0_transform_12 (grid0.coords t) = ![t.val, 0, 0])
theorem index_13 : ∀ t : Fin cfg0.N, win0_13.index t = ![t.val, 0, 0] :=
  (by decide +kernel : ∀ t : Fin grid0.N, cc0_transform_13 (grid0.coords t) = ![t.val, 0, 0])

/-- The batch of a point. -/
def pb (t : Fin cfg0.N) : Fin 32 := ⟨t.val, point_lt t⟩

/-- The launched arrays. -/
abbrev a0 : Halves := m ((c : Thread nD τ).loc main_arg0)
abbrev a1 : Halves := m ((c : Thread nD τ).loc main_arg1)
abbrev a2 : Rows := m ((c : Thread nD τ).loc main_arg2)
abbrev a3 : Rows := m ((c : Thread nD τ).loc main_arg3)
abbrev a4 : Mods := m ((c : Thread nD τ).loc main_arg4)
abbrev a5 : Weights := m ((c : Thread nD τ).loc main_arg5)
abbrev a6 : Mods := m ((c : Thread nD τ).loc main_arg6)
abbrev a7 : Mods := m ((c : Thread nD τ).loc main_arg7)
abbrev a8 : Norm := m ((c : Thread nD τ).loc main_arg8)
abbrev a9 : Packed := m ((c : Thread nD τ).loc main_arg9)

theorem blk_0 (t : Fin cfg0.N) (r : Fin 64) (k : Fin 512) : iblk m c 0 t (ix3 0 r k) = a0 m c (ix3 (pb t) r k) := by
  blk_ext [iblk, V, index_0] <;> simp only [pb] <;> omega
theorem blk_1 (t : Fin cfg0.N) (r : Fin 64) (k : Fin 512) : iblk m c 1 t (ix3 0 r k) = a1 m c (ix3 (pb t) r k) := by
  blk_ext [iblk, V, index_1] <;> simp only [pb] <;> omega
theorem blk_2 (t : Fin cfg0.N) (r : Fin 64) (k : Fin 1024) : iblk m c 2 t (ix3 0 r k) = a2 m c (ix3 (pb t) r k) := by
  blk_ext [iblk, V, index_2] <;> simp only [pb] <;> omega
theorem blk_3 (t : Fin cfg0.N) (r : Fin 64) (k : Fin 1024) : iblk m c 3 t (ix3 0 r k) = a3 m c (ix3 (pb t) r k) := by
  blk_ext [iblk, V, index_3] <;> simp only [pb] <;> omega
theorem blk_4 (t : Fin cfg0.N) (k : Fin 1024) : iblk m c 4 t (ix3 0 0 k) = a4 m c (ix3 (pb t) 0 k) := by
  blk_ext [iblk, V, index_4] <;> simp only [pb] <;> omega
theorem blk_6 (t : Fin cfg0.N) (k : Fin 1024) : iblk m c 6 t (ix3 0 0 k) = a6 m c (ix3 (pb t) 0 k) := by
  blk_ext [iblk, V, index_6] <;> simp only [pb] <;> omega
theorem blk_7 (t : Fin cfg0.N) (k : Fin 1024) : iblk m c 7 t (ix3 0 0 k) = a7 m c (ix3 (pb t) 0 k) := by
  blk_ext [iblk, V, index_7] <;> simp only [pb] <;> omega
/-- The first weights as the kernel is given them: as they were launched. -/
theorem weights_row : V m c main_v0 = a5 m c := by
  unfold V
  after_results
  rfl
theorem blk_5 (t : Fin cfg0.N) (k l : Fin 1024) : iblk m c 5 t (ix2 k l) = a5 m c (ix2 k l) := by
  rw [← weights_row]
  blk_ext [iblk, index_5]
/-- The norm's weights as the kernel is given them: one row. -/
theorem norm_row : V m c main_v11 = shapeCast S1x1024 (a8 m c) shapeCasts_S1024_S1x1024 := by
  unfold V
  after_results
  rfl
theorem norm_at (k : Fin 1024) : V m c main_v11 (ix2 0 k) = a8 m c (ix1 k) := by
  rw [norm_row]
  pointwise []
theorem blk_8 (t : Fin cfg0.N) (k : Fin 1024) : iblk m c 8 t (ix2 0 k) = a8 m c (ix1 k) := by
  rw [← norm_at]
  blk_ext [iblk, index_8]

/-! The second weights: the columns of the packed ones put in another order. -/

/-- The sixteen columns in the middle, then zeros. -/
def middle (w : Packed) : Vec Ideal S1024x128 .f32 :=
  Host.scatter scatter_S1024x128_S1_S1024x16_01_n_1_0 (fun _ b => b) (broadcastInDim S1024x128 ![] bcast_S_S1024x128 (constant (F := Ideal) S_ .f32 0x00000000#32))
    (broadcastInDim S1 ![] bcast_S_S1 (constantI S_ 32 0#32))
    (concatenate S1024x16 1 [⟨S1024x8, extractStridedSlice S1024x8 ![0, 3072] w slices_S1024x4112_S1024x8_0_3072⟩,
      ⟨S1024x8, extractStridedSlice S1024x8 ![0, 3080] w slices_S1024x4112_S1024x8_0_3080⟩] concatenates_S1024x8_S1024x8_S1024x16_d1)
def packed (w : Packed) : Vec Ideal S1024x4224 .f32 :=
  concatenate S1024x4224 1 [⟨S1024x3072, extractStridedSlice S1024x3072 ![0, 0] w slices_S1024x4112_S1024x3072_0_0⟩,
    ⟨S1024x1024, extractStridedSlice S1024x1024 ![0, 3088] w slices_S1024x4112_S1024x1024_0_3088⟩, ⟨S1024x128, middle w⟩] concatenates_S1024x3072_S1024x1024_S1024x128_S1024x4224_d1

/-! The stages it is made by. -/

theorem row_1 : V m c main_v1 = extractStridedSlice S1024x3072 ![0, 0] (a9 m c) slices_S1024x4112_S1024x3072_0_0 := by
  unfold V
  after_results
theorem row_4 : V m c main_v4 = extractStridedSlice S1024x1024 ![0, 3088] (a9 m c) slices_S1024x4112_S1024x1024_0_3088 := by
  unfold V
  after_results
theorem row_5 : V m c main_v5 = concatenate S1024x16 1 [⟨S1024x8, extractStridedSlice S1024x8 ![0, 3072] (a9 m c) slices_S1024x4112_S1024x8_0_3072⟩,
      ⟨S1024x8, extractStridedSlice S1024x8 ![0, 3080] (a9 m c) slices_S1024x4112_S1024x8_0_3080⟩] concatenates_S1024x8_S1024x8_S1024x16_d1 := by
  unfold V
  after_results
theorem row_6 : V m c main_v6 = broadcastInDim S1024x128 ![] bcast_S_S1024x128 (constant (F := Ideal) S_ .f32 0x00000000#32) := by
  unfold V
  after_results
theorem row_7 : V m c main_v7 = broadcastInDim S1 ![] bcast_S_S1 (constantI S_ 32 0#32) := by
  unfold V
  after_results

/-- A scatter is its three arguments'. -/
theorem put (A A' : Vec Ideal S1024x128 .f32) (B B' : S1.Idx → BitVec 32) (C C' : Vec Ideal S1024x16 .f32) (ha : A = A') (hb : B = B') (hc : C = C') :
    Host.scatter scatter_S1024x128_S1_S1024x16_01_n_1_0 (fun _ b => b) A B C = Host.scatter scatter_S1024x128_S1_S1024x16_01_n_1_0 (fun _ b => b) A' B' C' := by
  subst ha hb hc
  rfl

/-- And a concatenation its parts'. -/
theorem three (A A' : Vec Ideal S1024x3072 .f32) (B B' : Vec Ideal S1024x1024 .f32) (C C' : Vec Ideal S1024x128 .f32) (ha : A = A') (hb : B = B') (hc : C = C') :
    (truncf .bf16 (concatenate S1024x4224 1 [⟨S1024x3072, A⟩, ⟨S1024x1024, B⟩, ⟨S1024x128, C⟩] concatenates_S1024x3072_S1024x1024_S1024x128_S1024x4224_d1) bitsLt_bf16_f32 : FVec Ideal _ _) =
    truncf .bf16 (concatenate S1024x4224 1 [⟨S1024x3072, A'⟩, ⟨S1024x1024, B'⟩, ⟨S1024x128, C'⟩] concatenates_S1024x3072_S1024x1024_S1024x128_S1024x4224_d1) bitsLt_bf16_f32 := by
  subst ha hb hc
  rfl

/-- The second weights as the kernel is given them. -/
theorem packed_row : V m c main_v10 = packed (a9 m c) := by
  unfold V
  after_results
  refine three _ _ _ _ _ _ ?_ ?_ ?_
  · refine Eq.trans ?_ (row_1 m c)
    unfold V
    after_results
    rfl
  · refine Eq.trans ?_ (row_4 m c)
    unfold V
    after_results
    rfl
  · refine (StableHlo.ternary_result main_v6 main_v7 main_v5 main_v8 _ _ _ _ _ _).trans ?_
    refine put _ _ _ _ _ _ ?_ ?_ ?_
    · refine Eq.trans ?_ (row_6 m c)
      unfold V
      after_results
    · refine Eq.trans ?_ (row_7 m c)
      unfold V
      after_results
    · refine Eq.trans ?_ (row_5 m c)
      unfold V
      after_results

theorem middle_at (w : Packed) (k : Fin 1024) (j : Fin 128) :
    middle w (ix2 k j) = if h : j.val < 16 then w (ix2 k ⟨3072 + j.val, by omega⟩) else 0 := by
  refine (front_apply scatter_S1024x128_S1_S1024x16_01_n_1_0 rfl rfl rfl _ (fun _ => rfl) (by decide) _ _ k j).trans ?_
  split
  next h =>
    pointwise []
    by_cases h' : j.val < 8
    · rw [dif_pos h']
    · rw [dif_neg h']
      refine congrArg (fun e => w (ix2 k e)) (Fin.ext ?_)
      show 3080 + (j.val - 8) = 3072 + j.val
      omega
  next h =>
    pointwise []

theorem packed_at (w : Packed) (k : Fin 1024) (j : Fin 4224) :
    packed w (ix2 k j) = if h : j.val < 3072 then w (ix2 k ⟨j.val, by omega⟩)
      else if h' : j.val - 3072 < 1024 then w (ix2 k ⟨3088 + (j.val - 3072), by omega⟩) else middle w (ix2 k ⟨j.val - 3072 - 1024, by omega⟩) := by
  unfold packed
  generalize middle w = y
  pointwise []
theorem packed_qkv (w : Packed) (k : Fin 1024) (j : Fin 3072) : packed w (ix2 k ⟨j.val, by omega⟩) = w (ix2 k ⟨j.val, by omega⟩) := by
  rw [packed_at, dif_pos j.isLt]
theorem packed_z (w : Packed) (k : Fin 1024) (j : Fin 1024) : packed w (ix2 k ⟨3072 + j.val, by omega⟩) = w (ix2 k ⟨3088 + j.val, by omega⟩) := by
  rw [packed_at, dif_neg (by simp), dif_pos (by simp)]
  refine congrArg (fun e => w (ix2 k e)) (Fin.ext ?_)
  show 3088 + (3072 + j.val - 3072) = 3088 + j.val
  omega
theorem packed_ab (w : Packed) (k : Fin 1024) (j : Fin 128) : packed w (ix2 k ⟨4096 + j.val, by omega⟩) = middle w (ix2 k j) := by
  rw [packed_at, dif_neg (by simp; omega), dif_neg (by simp; omega)]
  refine congrArg (fun e => middle w (ix2 k e)) (Fin.ext ?_)
  show 4096 + j.val - 3072 - 1024 = j.val
  omega

theorem blk_9 (t : Fin cfg0.N) (k : Fin 1024) (j : Fin 4224) : iblk m c 9 t (ix2 k j) = packed (a9 m c) (ix2 k j) := by
  rw [← packed_row]
  blk_ext [iblk, index_9]

/-! The rows of a block are those of the arrays. -/

theorem rowX_eq (t : Fin cfg0.N) (r : Fin 64) :
    rowX (iblk m c 0 t) (iblk m c 1 t) (iblk m c 2 t) (iblk m c 3 t) (iblk m c 4 t) (iblk m c 5 t) r
      = sum (joined (a0 m c) (a1 m c)) (a2 m c) (a3 m c) (a4 m c) (a5 m c) (pb t) r := by
  have e : two (iblk m c 0 t) (iblk m c 1 t) r = fun k => joined (a0 m c) (a1 m c) (ix3 (pb t) r k) := by
    funext k
    unfold two joined
    by_cases h : k.val < 512
    · rw [dif_pos h, dif_pos (show ((ix3 (pb t) r k) 2).val < 512 from h), blk_0]
      rfl
    · rw [dif_neg h, dif_neg (show ¬ ((ix3 (pb t) r k) 2).val < 512 from h), blk_1]
      rfl
  unfold rowX Cert.Sample.sum
  rw [e]
  simp only [blk_2, blk_3, blk_4, blk_5]

theorem rowH_eq (t : Fin cfg0.N) (r : Fin 64) :
    rowH (iblk m c 0 t) (iblk m c 1 t) (iblk m c 2 t) (iblk m c 3 t) (iblk m c 4 t) (iblk m c 5 t) (iblk m c 6 t) (iblk m c 7 t) (iblk m c 8 t) r
      = handed (a0 m c) (a1 m c) (a2 m c) (a3 m c) (a4 m c) (a5 m c) (a6 m c) (a7 m c) (a8 m c) (pb t) r := by
  unfold rowH handed
  rw [rowX_eq]
  simp only [blk_6, blk_7, blk_8]

theorem out_10 (t : Fin cfg0.N) (i : S1x64x1024.Idx) :
    ((cfg0.win 10).blk t).view.read (Elt Ideal) (midX (a0 m c) (a1 m c) (a2 m c) (a3 m c) (a4 m c) (a5 m c)) i
      = out0_10 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  rw [out10_apply, rowX_eq]
  refine Eq.trans (b := midX (a0 m c) (a1 m c) (a2 m c) (a3 m c) (a4 m c) (a5 m c) (ix3 (pb t) r k)) ?_ ?_
  · blk_ext [index_10] <;> simp only [pb] <;> omega
  · rfl

theorem covers_10 (i : S32x64x1024.Idx) : ∃ t : Fin cfg0.N, (cfg0.win 10).flush t = true ∧ i ∈ ((cfg0.win 10).blk t).view.set := by
  have h0 : (i 0).val < 32 := (i 0).isLt
  have h1 : (i 1).val < 64 := (i 1).isLt
  have h2 : (i 2).val < 1024 := (i 2).isLt
  obtain ⟨t, ht⟩ : ∃ t : Fin cfg0.N, t.val = (i 0).val :=
    ⟨⟨(i 0).val, lt_of_lt_of_eq (by omega) N_0.symm⟩, rfl⟩
  refine ⟨t, flush0_10 t, ?_⟩
  mem_blk [index_10]
  omega

theorem arr_10 : (dats m 0 c).arrAt 10 cfg0.N = midX (a0 m c) (a1 m c) (a2 m c) (a3 m c) (a4 m c) (a5 m c) :=
  Pipeline.Dat.arrAt_eq_of_cover (dats m 0 c) 10 (midX (a0 m c) (a1 m c) (a2 m c) (a3 m c) (a4 m c) (a5 m c))
    (fun t _ => (Cert.Kernel6Ideal.Value.flushed10 m c t).trans (funext fun i => (out_10 m c t i).symm))
    (fun i => covers_10 i)

theorem out_11 (t : Fin cfg0.N) (i : S1x64x3072.Idx) :
    ((cfg0.win 11).blk t).view.read (Elt Ideal) (midQkv (a0 m c) (a1 m c) (a2 m c) (a3 m c) (a4 m c) (a5 m c) (a6 m c) (a7 m c) (a8 m c) (a9 m c)) i
      = out0_11 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  rw [out11_apply, rowH_eq]
  simp only [blk_9, packed_qkv]
  refine Eq.trans (b := midQkv (a0 m c) (a1 m c) (a2 m c) (a3 m c) (a4 m c) (a5 m c) (a6 m c) (a7 m c) (a8 m c) (a9 m c) (ix3 (pb t) r k)) ?_ ?_
  · blk_ext [index_11] <;> simp only [pb] <;> omega
  · rfl

theorem covers_11 (i : S32x64x3072.Idx) : ∃ t : Fin cfg0.N, (cfg0.win 11).flush t = true ∧ i ∈ ((cfg0.win 11).blk t).view.set := by
  have h0 : (i 0).val < 32 := (i 0).isLt
  have h1 : (i 1).val < 64 := (i 1).isLt
  have h2 : (i 2).val < 3072 := (i 2).isLt
  obtain ⟨t, ht⟩ : ∃ t : Fin cfg0.N, t.val = (i 0).val :=
    ⟨⟨(i 0).val, lt_of_lt_of_eq (by omega) N_0.symm⟩, rfl⟩
  refine ⟨t, flush0_11 t, ?_⟩
  mem_blk [index_11]
  omega

theorem arr_11 : (dats m 0 c).arrAt 11 cfg0.N = midQkv (a0 m c) (a1 m c) (a2 m c) (a3 m c) (a4 m c) (a5 m c) (a6 m c) (a7 m c) (a8 m c) (a9 m c) :=
  Pipeline.Dat.arrAt_eq_of_cover (dats m 0 c) 11 (midQkv (a0 m c) (a1 m c) (a2 m c) (a3 m c) (a4 m c) (a5 m c) (a6 m c) (a7 m c) (a8 m c) (a9 m c))
    (fun t _ => (Cert.Kernel6Ideal.Value.flushed11 m c t).trans (funext fun i => (out_11 m c t i).symm))
    (fun i => covers_11 i)

theorem out_12 (t : Fin cfg0.N) (i : S1x64x1024.Idx) :
    ((cfg0.win 12).blk t).view.read (Elt Ideal) (midZ (a0 m c) (a1 m c) (a2 m c) (a3 m c) (a4 m c) (a5 m c) (a6 m c) (a7 m c) (a8 m c) (a9 m c)) i
      = out0_12 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  rw [out12_apply, rowH_eq]
  simp only [blk_9, packed_z]
  refine Eq.trans (b := midZ (a0 m c) (a1 m c) (a2 m c) (a3 m c) (a4 m c) (a5 m c) (a6 m c) (a7 m c) (a8 m c) (a9 m c) (ix3 (pb t) r k)) ?_ ?_
  · blk_ext [index_12] <;> simp only [pb] <;> omega
  · rfl

theorem covers_12 (i : S32x64x1024.Idx) : ∃ t : Fin cfg0.N, (cfg0.win 12).flush t = true ∧ i ∈ ((cfg0.win 12).blk t).view.set := by
  have h0 : (i 0).val < 32 := (i 0).isLt
  have h1 : (i 1).val < 64 := (i 1).isLt
  have h2 : (i 2).val < 1024 := (i 2).isLt
  obtain ⟨t, ht⟩ : ∃ t : Fin cfg0.N, t.val = (i 0).val :=
    ⟨⟨(i 0).val, lt_of_lt_of_eq (by omega) N_0.symm⟩, rfl⟩
  refine ⟨t, flush0_12 t, ?_⟩
  mem_blk [index_12]
  omega

theorem arr_12 : (dats m 0 c).arrAt 12 cfg0.N = midZ (a0 m c) (a1 m c) (a2 m c) (a3 m c) (a4 m c) (a5 m c) (a6 m c) (a7 m c) (a8 m c) (a9 m c) :=
  Pipeline.Dat.arrAt_eq_of_cover (dats m 0 c) 12 (midZ (a0 m c) (a1 m c) (a2 m c) (a3 m c) (a4 m c) (a5 m c) (a6 m c) (a7 m c) (a8 m c) (a9 m c))
    (fun t _ => (Cert.Kernel6Ideal.Value.flushed12 m c t).trans (funext fun i => (out_12 m c t i).symm))
    (fun i => covers_12 i)

theorem out_13 (t : Fin cfg0.N) (i : S1x64x128.Idx) :
    ((cfg0.win 13).blk t).view.read (Elt Ideal) (midAb (a0 m c) (a1 m c) (a2 m c) (a3 m c) (a4 m c) (a5 m c) (a6 m c) (a7 m c) (a8 m c) (a9 m c)) i
      = out0_13 (iblk m c 0 t) (iblk m c 1 t) (iblk m c 2 t) (iblk m c 3 t) (iblk m c 4 t) (iblk m c 5 t) (iblk m c 6 t) (iblk m c 7 t) (iblk m c 8 t) (iblk m c 9 t) i := by
  obtain ⟨s, r, k, rfl⟩ : ∃ s r k, i = ix3 s r k := ⟨i 0, i 1, i 2, by idx_vars i⟩
  obtain rfl : s = 0 := Subsingleton.elim _ _
  rw [out13_apply, rowH_eq]
  simp only [blk_9, packed_ab, middle_at]
  refine Eq.trans (b := midAb (a0 m c) (a1 m c) (a2 m c) (a3 m c) (a4 m c) (a5 m c) (a6 m c) (a7 m c) (a8 m c) (a9 m c) (ix3 (pb t) r k)) ?_ ?_
  · blk_ext [index_13] <;> simp only [pb] <;> omega
  · unfold midAb
    by_cases h : k.val < 16
    · rw [dif_pos (show ((ix3 (pb t) r k) 2).val < 16 from h)]
      simp only [dif_pos h]
      rfl
    · rw [dif_neg (show ¬ ((ix3 (pb t) r k) 2).val < 16 from h)]
      simp only [dif_neg h, mul_zero, Finset.sum_const_zero]

theorem covers_13 (i : S32x64x128.Idx) : ∃ t : Fin cfg0.N, (cfg0.win 13).flush t = true ∧ i ∈ ((cfg0.win 13).blk t).view.set := by
  have h0 : (i 0).val < 32 := (i 0).isLt
  have h1 : (i 1).val < 64 := (i 1).isLt
  have h2 : (i 2).val < 128 := (i 2).isLt
  obtain ⟨t, ht⟩ : ∃ t : Fin cfg0.N, t.val = (i 0).val :=
    ⟨⟨(i 0).val, lt_of_lt_of_eq (by omega) N_0.symm⟩, rfl⟩
  refine ⟨t, flush0_13 t, ?_⟩
  mem_blk [index_13]
  omega

theorem arr_13 : (dats m 0 c).arrAt 13 cfg0.N = midAb (a0 m c) (a1 m c) (a2 m c) (a3 m c) (a4 m c) (a5 m c) (a6 m c) (a7 m c) (a8 m c) (a9 m c) :=
  Pipeline.Dat.arrAt_eq_of_cover (dats m 0 c) 13 (midAb (a0 m c) (a1 m c) (a2 m c) (a3 m c) (a4 m c) (a5 m c) (a6 m c) (a7 m c) (a8 m c) (a9 m c))
    (fun t _ => (Cert.Kernel6Ideal.Value.flushed13 m c t).trans (funext fun i => (out_13 m c t i).symm))
    (fun i => covers_13 i)

end Cert.Kernel6Ideal.MidS

end
-- ==== Proof.MidS.Reference.lean ====
/- The values of the reference of the call between the two halves of the layer, on the sample. -/
module

public import proofs.«01_k».proof.Proof.Gen.Reference6Ideal.Read
public import proofs.«01_k».proof.Proof.Rows.Sample

@[expose] public section

set_option maxRecDepth 16384

noncomputable section

namespace Cert.Reference6Ideal.MidS

open Idealize.ShloMosaic Idealize.ShloMosaic.TcCoe Idealize.ShloMosaic.Tactic
open Cert.Reference6Ideal.Read Cert.Sample
open Cert.Rows (silu mixed normed modulated column Weights Norm Packed)
open scoped BigOperators

variable (oa ob : Halves) (z x : Rows) (gate : Mods) (w : Weights) (shift scale : Mods) (g : Norm) (wi : Packed)

theorem joined_at (b : Fin 32) (r : Fin 64) (c : Fin 1024) : val_main_v0 (F := Ideal) oa ob (ix3 b r c) = joined oa ob (ix3 b r c) := by
  pointwise [val_main_v0]
  rfl

theorem sum_at (b : Fin 32) (r : Fin 64) (c : Fin 1024) :
    val_main_v6 (F := Ideal) oa ob z x gate w (ix3 b r c) = sum (joined oa ob) z x gate w b r c := by
  pointwise [val_main_v6, val_main_v5, val_main_v4, val_main_v3, val_main_v2, val_main_v1, val_main_call0_v5, val_main_call0_v4, val_main_call0_v3, val_main_call0_v2,
    val_main_call0_v1, val_main_call0_v0, val_main_call0_cst, val_main_call0_cst_0]
  simp only [joined_at]
  rfl

theorem x_at : val_main_v6 (F := Ideal) oa ob z x gate w = midX oa ob z x gate w := by
  funext i
  obtain ⟨b, r, c, rfl⟩ : ∃ b r c, i = ix3 b r c := ⟨i 0, i 1, i 2, by idx_vars i⟩
  exact sum_at oa ob z x gate w b r c

theorem handed_at (b : Fin 32) (r : Fin 64) (c : Fin 1024) :
    val_main_v25 (F := Ideal) oa ob z x gate w shift scale g (ix3 b r c) = handed oa ob z x gate w shift scale g b r c := by
  pointwise [val_main_v25, val_main_v24, val_main_v23, val_main_v22, val_main_v21, val_main_v20, val_main_cst_2, val_main_v19, val_main_v18, val_main_v17, val_main_v16, val_main_v15,
    val_main_v14, val_main_v13, val_main_v12, val_main_cst_1, val_main_v11, val_main_v10, val_main_cst_0, val_main_v9, val_main_v8, val_main_cst, val_main_v7]
  simp only [sum_at]
  rfl

theorem column_at (b : Fin 32) (r : Fin 64) (j : Fin 4112) :
    val_main_v26 (F := Ideal) oa ob z x gate w shift scale g wi (ix3 b r j) = column (handed oa ob z x gate w shift scale g b r) wi j := by
  pointwise [val_main_v26]
  simp only [handed_at]
  rfl

theorem qkv_at : val_main_v27 (F := Ideal) oa ob z x gate w shift scale g wi = midQkv oa ob z x gate w shift scale g wi := by
  funext i
  obtain ⟨b, r, c, rfl⟩ : ∃ b r c, i = ix3 b r c := ⟨i 0, i 1, i 2, by idx_vars i⟩
  pointwise [val_main_v27]
  rw [column_at]
  rfl

theorem z_at : val_main_v30 (F := Ideal) oa ob z x gate w shift scale g wi = midZ oa ob z x gate w shift scale g wi := by
  funext i
  obtain ⟨b, r, c, rfl⟩ : ∃ b r c, i = ix3 b r c := ⟨i 0, i 1, i 2, by idx_vars i⟩
  pointwise [val_main_v30]
  rw [column_at]
  rfl

theorem ab_at : val_main_v32 (F := Ideal) oa ob z x gate w shift scale g wi = midAb oa ob z x gate w shift scale g wi := by
  funext i
  obtain ⟨b, r, c, rfl⟩ : ∃ b r c, i = ix3 b r c := ⟨i 0, i 1, i 2, by idx_vars i⟩
  pointwise [val_main_v32, val_main_v31, val_main_v29, val_main_v28, val_main_call1_v0, val_main_c]
  unfold midAb
  by_cases h : c.val < 16
  · rw [dif_pos h, dif_pos (show ((ix3 b r c) 2).val < 16 from h)]
    by_cases h' : c.val < 8
    · rw [dif_pos h', column_at]; rfl
    · rw [dif_neg h', column_at]
      refine congrArg (column _ wi) (Fin.ext ?_)
      show 3080 + (c.val - 8) = 3072 + c.val
      omega
  · rw [dif_neg h, dif_neg (show ¬ ((ix3 b r c) 2).val < 16 from h)]
    show (((0#32 : BitVec 32).toInt : ℝ) : EReal) = 0
    simp

end Cert.Reference6Ideal.MidS

end
-- ==== Proof.FinalS.Value.lean ====
/- The values of the idealized final call on the sample: every block of the result is that part of the normed rows, and so is the
   whole result. -/
module

public import proofs.«01_k».proof.Proof.Gen.Kernel7Ideal.Value
public import proofs.«01_k».proof.Proof.Rows.Sample
public import Idealize.ShloMosaic.Lib.Pipeline.ValueKit

@[expose] public section

set_option maxRecDepth 16384

noncomputable section

namespace Cert.Kernel7Ideal.FinalS

open Idealize.ShloMosaic Idealize.ShloMosaic.TcCoe Idealize.ShloMosaic.Tactic
open Cert.Kernel7Ideal.Gen Cert.Sample
open Cert.Rows (silu mixed normed modulated Weights Norm)
open scoped BigOperators

/-! ## One block -/

variable (o z x : Vec Ideal S1x64x1024 .f32) (gate : Vec Ideal S1x1x1024 .f32) (w : Vec Ideal S1024x1024 .bf16) (g : Vec Ideal S1x1024 .f32)

theorem sum_apply (r : Fin 64) (c : Fin 1024) :
    k0_pay2 o z x gate w (ix2 r c) = mixed (fun k => o (ix3 0 r k)) (fun k => z (ix3 0 r k)) (fun k => x (ix3 0 r k)) (fun k => gate (ix3 0 0 k)) (fun k c => w (ix2 k c)) c := by
  pointwise [k0_pay2]
  simp only [zero_sub]
  rfl

theorem scale_apply (r : Fin 64) (c : Fin 1024) :
    k0_pay4 o z x gate w (ix2 r c) = Ideal.rsqrt (Ideal.div (∑ k, k0_pay2 o z x gate w (ix2 r k) * k0_pay2 o z x gate w (ix2 r k))
      (Ideal.ofBits .f32 0x44800000#32) + Ideal.ofBits .f32 0x358637BD#32) := by
  pointwise [k0_pay4]

theorem block_apply (r : Fin 64) (c : Fin 1024) :
    k0_pay1 (k0_pay2 o z x gate w) (k0_pay3 g) (k0_pay4 o z x gate w) (ix3 0 r c)
      = normed (mixed (fun k => o (ix3 0 r k)) (fun k => z (ix3 0 r k)) (fun k => x (ix3 0 r k)) (fun k => gate (ix3 0 0 k)) (fun k c => w (ix2 k c)))
          (fun k => g (ix2 0 k)) c := by
  pointwise [k0_pay1, k0_pay3]
  simp only [scale_apply, sum_apply]
  rfl

theorem zero2 : (![0, 0] : Fin 2 → ℕ) = fun _ => 0 := by funext a; fin_cases a <;> rfl
theorem zero3 : (![0, 0, 0] : Fin 3 → ℕ) = fun _ => 0 := by funext a; fin_cases a <;> rfl

/-- What the body leaves in the result's block. -/
theorem out_apply (r : Fin 64) (c : Fin 1024) :
    out0_6 o z x gate w g (ix3 0 r c)
      = normed (mixed (fun k => o (ix3 0 r k)) (fun k => z (ix3 0 r k)) (fun k => x (ix3 0 r k)) (fun k => gate (ix3 0 0 k)) (fun k c => w (ix2 k c)))
          (fun k => g (ix2 0 k)) c := by
  unfold out0_6
  rw [View.canon_unit_zero zero3]
  rw [View.ld_unit_zero zero3 _ o, View.ld_unit_zero zero3 _ z, View.ld_unit_zero zero3 _ x, View.ld_unit_zero zero3 _ gate, View.ld_unit_zero zero2 _ w,
    View.ld_unit_zero zero2 _ g]
  exact block_apply o z x gate w g r c

/-! ## The blocks in the arrays -/

variable (m : (ℓ : Loc nD τ sig) → Buf (Elt Ideal) ℓ) (c : Dev nD)

theorem point_lt (t : Fin cfg0.N) : t.val < 32 := lt_of_lt_of_eq t.isLt (show cfg0.N = 32 from N_0)

theorem index_0 : ∀ t : Fin cfg0.N, win0_0.index t = ![t.val, 0, 0] :=
  (by decide +kernel : ∀ t : Fin grid0.N, cc0_transform_0 (grid0.coords t) = ![t.val, 0, 0])
theorem index_1 : ∀ t : Fin cfg0.N, win0_1.index t = ![t.val, 0, 0] :=
  (by decide +kernel : ∀ t : Fin grid0.N, cc0_transform_1 (grid0.coords t) = ![t.val, 0, 0])
theorem index_2 : ∀ t : Fin cfg0.N, win0_2.index t = ![t.val, 0, 0] :=
  (by decide +kernel : ∀ t : Fin grid0.N, cc0_transform_2 (grid0.coords t) = ![t.val, 0, 0])
theorem index_3 : ∀ t : Fin cfg0.N, win0_3.index t = ![t.val, 0, 0] :=
  (by decide +kernel : ∀ t : Fin grid0.N, cc0_transform_3 (grid0.coords t) = ![t.val, 0, 0])
theorem index_4 : ∀ t : Fin cfg0.N, win0_4.index t = ![0, 0] :=
  (by decide +kernel : ∀ t : Fin grid0.N, cc0_transform_4 (grid0.coords t) = ![0, 0])
theorem index_5 : ∀ t : Fin cfg0.N, win0_5.index t = ![0, 0] :=
  (by decide +kernel : ∀ t : Fin grid0.N, cc0_transform_5 (grid0.coords t) = ![0, 0])
theorem index_6 : ∀ t : Fin cfg0.N, win0_6.index t = ![t.val, 0, 0] :=
  (by decide +kernel : ∀ t : Fin grid0.N, cc0_transform_6 (grid0.coords t) = ![t.val, 0, 0])

/-- The batch of a point. -/
def pb (t : Fin cfg0.N) : Fin 32 := ⟨t.val, point_lt t⟩

/-- The launched arrays. -/
abbrev a0 : Rows := m ((c : Thread nD τ).loc main_arg0)
abbrev a1 : Rows := m ((c : Thread nD τ).loc main_arg1)
abbrev a2 : Rows := m ((c : Thread nD τ).loc main_arg2)
abbrev a3 : Mods := m ((c : Thread nD τ).loc main_arg3)
abbrev a4 : Weights := m ((c : Thread nD τ).loc main_arg4)
abbrev a5 : Norm := m ((c : Thread nD τ).loc main_arg5)

theorem blk_0 (t : Fin cfg0.N) (r : Fin 64) (k : Fin 1024) : iblk m c 0 t (ix3 0 r k) = a0 m c (ix3 (pb t) r k) := by
  blk_ext [iblk, V, index_0] <;> simp only [pb] <;> omega
theorem blk_1 (t : Fin cfg0.N) (r : Fin 64) (k : Fin 1024) : iblk m c 1 t (ix3 0 r k) = a1 m c (ix3 (pb t) r k) := by
  blk_ext [iblk, V, index_1] <;> simp only [pb] <;> omega
theorem blk_2 (t : Fin cfg0.N) (r : Fin 64) (k : Fin 1024) : iblk m c 2 t (ix3 0 r k) = a2 m c (ix3 (pb t) r k) := by
  blk_ext [iblk, V, index_2] <;> simp only [pb] <;> omega
theorem blk_3 (t : Fin cfg0.N) (k : Fin 1024) : iblk m c 3 t (ix3 0 0 k) = a3 m c (ix3 (pb t) 0 k) := by
  blk_ext [iblk, V, index_3] <;> simp only [pb] <;> omega
theorem blk_4 (t : Fin cfg0.N) (k l : Fin 1024) : iblk m c 4 t (ix2 k l) = a4 m c (ix2 k l) := by
  blk_ext [iblk, V, index_4]
/-- The norm's weights as the kernel is given them: one row. -/
theorem norm_row : V m c main_v1 = shapeCast S1x1024 (a5 m c) shapeCasts_S1024_S1x1024 := by
  unfold V
  after_results
  rfl
theorem norm_at (k : Fin 1024) : V m c main_v1 (ix2 0 k) = a5 m c (ix1 k) := by
  rw [norm_row]
  pointwise []
theorem blk_5 (t : Fin cfg0.N) (k : Fin 1024) : iblk m c 5 t (ix2 0 k) = a5 m c (ix1 k) := by
  rw [← norm_at]
  blk_ext [iblk, index_5]

/-- The result's block at a point is that part of the whole result. -/
theorem out_6 (t : Fin cfg0.N) (i : S1x64x1024.Idx) :
    ((cfg0.win 6).blk t).view.read (Elt Ideal) (final (a0 m c) (a1 m c) (a2 m c) (a3 m c) (a4 m c) (a5 m c)) i
      = out0_6 (iblk m c 0 t) (iblk m c 1 t) (iblk m c 2 t) (iblk m c 3 t) (iblk m c 4 t) (iblk m c 5 t) i := by
  obtain ⟨s, r, k, rfl⟩ : ∃ s r k, i = ix3 s r k := ⟨i 0, i 1, i 2, by idx_vars i⟩
  obtain rfl : s = 0 := Subsingleton.elim _ _
  rw [out_apply]
  simp only [blk_0, blk_1, blk_2, blk_3, blk_4, blk_5]
  show _ = final (a0 m c) (a1 m c) (a2 m c) (a3 m c) (a4 m c) (a5 m c) (ix3 (pb t) r k)
  blk_ext [index_6] <;> simp only [pb] <;> omega

theorem covers_6 (i : S32x64x1024.Idx) : ∃ t : Fin cfg0.N, (cfg0.win 6).flush t = true ∧ i ∈ ((cfg0.win 6).blk t).view.set := by
  have h0 : (i 0).val < 32 := (i 0).isLt
  have h1 : (i 1).val < 64 := (i 1).isLt
  have h2 : (i 2).val < 1024 := (i 2).isLt
  obtain ⟨t, ht⟩ : ∃ t : Fin cfg0.N, t.val = (i 0).val :=
    ⟨⟨(i 0).val, lt_of_lt_of_eq (by omega) N_0.symm⟩, rfl⟩
  refine ⟨t, flush0_6 t, ?_⟩
  mem_blk [index_6]
  omega

/-- The result is written block by block to the normed rows of the launched arrays. -/
theorem arr_6 : (dats m 0 c).arrAt 6 cfg0.N = final (a0 m c) (a1 m c) (a2 m c) (a3 m c) (a4 m c) (a5 m c) :=
  Pipeline.Dat.arrAt_eq_of_cover (dats m 0 c) 6 (final (a0 m c) (a1 m c) (a2 m c) (a3 m c) (a4 m c) (a5 m c))
    (fun t _ => (Cert.Kernel7Ideal.Value.flushed6 m c t).trans (funext fun i => (out_6 m c t i).symm))
    (fun i => covers_6 i)

end Cert.Kernel7Ideal.FinalS

end
-- ==== Proof.FinalS.Reference.lean ====
/- The values of the reference of the final call on the sample: the normed rows. -/
module

public import proofs.«01_k».proof.Proof.Gen.Reference7Ideal.Read
public import proofs.«01_k».proof.Proof.Rows.Sample

@[expose] public section

set_option maxRecDepth 16384

noncomputable section

namespace Cert.Reference7Ideal.FinalS

open Idealize.ShloMosaic Idealize.ShloMosaic.TcCoe Idealize.ShloMosaic.Tactic
open Cert.Reference7Ideal.Read Cert.Sample
open Cert.Rows (silu mixed normed modulated Weights Norm)
open scoped BigOperators

variable (o z x : Rows) (gate : Mods) (w : Weights) (g : Norm)

theorem sum_apply (b : Fin 32) (r : Fin 64) (c : Fin 1024) :
    val_main_v5 (F := Ideal) o z x gate w (ix3 b r c) = sum o z x gate w b r c := by
  pointwise [val_main_v5, val_main_v4, val_main_v3, val_main_v2, val_main_v1, val_main_v0, val_main_call0_v5, val_main_call0_v4, val_main_call0_v3, val_main_call0_v2,
    val_main_call0_v1, val_main_call0_v0, val_main_call0_cst, val_main_call0_cst_0]
  rfl

theorem result_at : val_main_v18 (F := Ideal) o z x gate w g = final o z x gate w g := by
  funext i
  obtain ⟨b, r, c, rfl⟩ : ∃ b r c, i = ix3 b r c := ⟨i 0, i 1, i 2, by idx_vars i⟩
  pointwise [val_main_v18, val_main_v17, val_main_v16, val_main_v15, val_main_v14, val_main_v13, val_main_v12, val_main_v11, val_main_cst_1, val_main_v10,
    val_main_v9, val_main_cst_0, val_main_v8, val_main_v7, val_main_cst, val_main_v6]
  simp only [sum_apply]
  rfl

end Cert.Reference7Ideal.FinalS

end
-- ==== Proof.lean ====
/- The claims: each program runs, leaves its arguments and its semaphore counters as they were, and the results of each
   of the eight calls are its reference's: those of the attention where no query and no key is infinite, those of the first
   projections, over the prompt and over the sample, where the modulation, the weights and the two norms before the queries are finite. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_qk
public import proofs.«01_k».proof.Proof.Frame.Frame
public import proofs.«01_k».proof.Proof.Flash.Value
public import proofs.«01_k».proof.Proof.Flash.Reference
public import proofs.«01_k».proof.Proof.Gen.Kernel2.Frame
public import proofs.«01_k».proof.Proof.Gen.Kernel2Ideal.Value
public import proofs.«01_k».proof.Proof.Gen.Reference2Ideal.Run
public import proofs.«01_k».proof.Proof.Mid.Value
public import proofs.«01_k».proof.Proof.Mid.Reference
public import proofs.«01_k».proof.Proof.Gen.Kernel3.Frame
public import proofs.«01_k».proof.Proof.Gen.Kernel3Ideal.Value
public import proofs.«01_k».proof.Proof.Gen.Reference3Ideal.Run
public import proofs.«01_k».proof.Proof.Final.Value
public import proofs.«01_k».proof.Proof.Final.Reference
public import proofs.«01_k».proof.Proof.Gen.Kernel4.Frame
public import proofs.«01_k».proof.Proof.Gen.Kernel4Ideal.Frame
public import proofs.«01_k».proof.Proof.Gen.Pre_finite_in
public import proofs.«01_k».proof.Proof.InA.Run
public import proofs.«01_k».proof.Proof.InA.Value
public import proofs.«01_k».proof.Proof.InA.Reference
public import proofs.«01_k».proof.Proof.Gen.Reference4Ideal.Run
public import proofs.«01_k».proof.Proof.Gen.Reference4Ideal.Read
public import proofs.«01_k».proof.Proof.Gen.Kernel8.Frame
public import proofs.«01_k».proof.Proof.Gen.Kernel8Ideal.Frame
public import proofs.«01_k».proof.Proof.Gen.Pre_finite_sample
public import proofs.«01_k».proof.Proof.Gen.Reference8Ideal.Run
public import proofs.«01_k».proof.Proof.Gen.Reference8Ideal.Read
public import proofs.«01_k».proof.Proof.InAS.Run
public import proofs.«01_k».proof.Proof.InAS.Value
public import proofs.«01_k».proof.Proof.InAS.Reference
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Ada.Value
public import proofs.«01_k».proof.Proof.Ada.Reference
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.MidS.Value
public import proofs.«01_k».proof.Proof.MidS.Reference
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.FinalS.Value
public import proofs.«01_k».proof.Proof.FinalS.Reference
public import Idealize.ShloMosaic.Lib.ReduceAll
public import Idealize.ShloMosaic.Lib.Quiescent
public import Idealize.ShloMosaic.Lib.Claim

@[expose] public section

set_option maxRecDepth 16384

noncomputable section

namespace Cert.Proof

open Idealize.ShloMosaic Idealize.ShloMosaic.TcCoe Idealize.SL.Sem

/-- A word below plus infinity in size is neither infinity. -/
theorem finite_of_lt (x : EReal) (h : Ideal.cmp .olt (max x (-x)) (Ideal.ofBits .f32 0x7F800000#32) = 1#1) : x ≠ ⊤ ∧ x ≠ ⊥ := by
  have hinf : Ideal.ofBits .f32 0x7F800000#32 = ⊤ := by simp [Ideal.ofBits, Ideal.ieee]
  rw [hinf] at h
  constructor
  · rintro rfl; simp [Ideal.cmp] at h
  · rintro rfl; simp [Ideal.cmp] at h

/-- What the precondition says of the queries and of the keys. -/
theorem finite_args [Cert.Pre_finite_qk.Facts] (q k : Soft.QArr) (v : Soft.VArr) (h : Cert.Pre_finite_qk.fn (F := Ideal) q k v = fun _ => 1#1) :
    (∀ i, q i ≠ ⊤ ∧ q i ≠ ⊥) ∧ ∀ i, k i ≠ ⊤ ∧ k i ≠ ⊥ := by
  have hi := fun i => IntOp.andi_eq_one.mp (congrFun h i)
  exact ⟨fun i => finite_of_lt _ (hi i).1, fun i => finite_of_lt _ (hi i).2⟩

theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, sem_eq_zero_of_no_sems (by decide) r.2⟩) (Cert.ReferenceIdeal.Value.run m g)

theorem same_result : algebraic_KernelIdeal_ReferenceIdeal_pre_finite_qk (hKernelIdeal := Cert.KernelIdeal.Gen.facts)
    (hReferenceIdeal := Cert.ReferenceIdeal.Gen.facts) (hPre_finite_qk := Cert.Pre_finite_qk.Gen.facts) := by
  intro m g m' g' hpre hargs
  refine ⟨fun c => Soft.attn (Cert.KernelIdeal.Flash.aq m c) (Cert.KernelIdeal.Flash.ak m c) (Cert.KernelIdeal.Flash.av m c),
    Cert.KernelIdeal.Flash.run m g, (θ_run _ _ _).mono (fun r h c => ⟨(h c).1.trans ?_, (h c).2⟩) (Cert.ReferenceIdeal.Value.run m' g')⟩
  have hf := @finite_args Cert.Pre_finite_qk.Gen.facts _ _ _ (hpre c)
  rw [Cert.ReferenceIdeal.Read.val_main_v29_eq, (hargs c).1, (hargs c).2.1, (hargs c).2.2]
  exact Cert.ReferenceIdeal.Attn.result_at _ _ _ hf.1 hf.2

theorem reference2_frame : quiescent_Reference2Ideal (hReference2Ideal := Cert.Reference2Ideal.Gen.facts) := fun m g _ =>
  (θ_run _ _ _).mono (fun r h => ⟨fun c => (h c).2.2.2.2, sem_eq_zero_of_no_sems (by decide) r.2⟩) (Cert.Reference2Ideal.Value.run m g)

theorem same_result2 : algebraic_Kernel2Ideal_Reference2Ideal (hKernel2Ideal := Cert.Kernel2Ideal.Gen.facts) (hReference2Ideal := Cert.Reference2Ideal.Gen.facts) := by
  intro m g m' g' _ hargs
  refine ⟨fun c => Rows.midX (Cert.Kernel2Ideal.Mid.a0 m c) (Cert.Kernel2Ideal.Mid.a1 m c) (Cert.Kernel2Ideal.Mid.a2 m c) (Cert.Kernel2Ideal.Mid.a3 m c) (Cert.Kernel2Ideal.Mid.a4 m c) (Cert.Kernel2Ideal.Mid.a5 m c),
    fun c => Rows.midQkv (Cert.Kernel2Ideal.Mid.a0 m c) (Cert.Kernel2Ideal.Mid.a1 m c) (Cert.Kernel2Ideal.Mid.a2 m c) (Cert.Kernel2Ideal.Mid.a3 m c) (Cert.Kernel2Ideal.Mid.a4 m c) (Cert.Kernel2Ideal.Mid.a5 m c) (Cert.Kernel2Ideal.Mid.a6 m c) (Cert.Kernel2Ideal.Mid.a7 m c) (Cert.Kernel2Ideal.Mid.a8 m c) (Cert.Kernel2Ideal.Mid.a9 m c),
    fun c => Rows.midZ (Cert.Kernel2Ideal.Mid.a0 m c) (Cert.Kernel2Ideal.Mid.a1 m c) (Cert.Kernel2Ideal.Mid.a2 m c) (Cert.Kernel2Ideal.Mid.a3 m c) (Cert.Kernel2Ideal.Mid.a4 m c) (Cert.Kernel2Ideal.Mid.a5 m c) (Cert.Kernel2Ideal.Mid.a6 m c) (Cert.Kernel2Ideal.Mid.a7 m c) (Cert.Kernel2Ideal.Mid.a8 m c) (Cert.Kernel2Ideal.Mid.a9 m c),
    fun c => Rows.midAb (Cert.Kernel2Ideal.Mid.a0 m c) (Cert.Kernel2Ideal.Mid.a1 m c) (Cert.Kernel2Ideal.Mid.a2 m c) (Cert.Kernel2Ideal.Mid.a3 m c) (Cert.Kernel2Ideal.Mid.a4 m c) (Cert.Kernel2Ideal.Mid.a5 m c) (Cert.Kernel2Ideal.Mid.a6 m c) (Cert.Kernel2Ideal.Mid.a7 m c) (Cert.Kernel2Ideal.Mid.a8 m c) (Cert.Kernel2Ideal.Mid.a9 m c),
    (θ_run _ _ _).mono (fun r h c => ⟨(h c).1.trans (Cert.Kernel2Ideal.Mid.arr_10 m c), (h c).2.1.trans (Cert.Kernel2Ideal.Mid.arr_11 m c), (h c).2.2.1.trans (Cert.Kernel2Ideal.Mid.arr_12 m c),
      (h c).2.2.2.1.trans (Cert.Kernel2Ideal.Mid.arr_13 m c), (h c).2.2.2.2⟩) (Cert.Kernel2Ideal.Value.run_blocks m g),
    (θ_run _ _ _).mono (fun r h c => ⟨(h c).1.trans ?_, (h c).2.1.trans ?_, (h c).2.2.1.trans ?_, (h c).2.2.2.1.trans ?_, (h c).2.2.2.2⟩)
      (Cert.Reference2Ideal.Value.run m' g')⟩
  · rw [Cert.Reference2Ideal.Read.val_main_v6_eq, (hargs c).1, (hargs c).2.1, (hargs c).2.2.1, (hargs c).2.2.2.1, (hargs c).2.2.2.2.1, (hargs c).2.2.2.2.2.1]
    exact Cert.Reference2Ideal.Mid.x_at _ _ _ _ _ _
  · rw [Cert.Reference2Ideal.Read.val_main_v27_eq, (hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2]
    exact Cert.Reference2Ideal.Mid.qkv_at _ _ _ _ _ _ _ _ _ _
  · rw [Cert.Reference2Ideal.Read.val_main_v30_eq, (hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2]
    exact Cert.Reference2Ideal.Mid.z_at _ _ _ _ _ _ _ _ _ _
  · rw [Cert.Reference2Ideal.Read.val_main_v32_eq, (hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2]
    exact Cert.Reference2Ideal.Mid.ab_at _ _ _ _ _ _ _ _ _ _

theorem reference3_frame : quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)

theorem same_result3 : algebraic_Kernel3Ideal_Reference3Ideal (hKernel3Ideal := Cert.Kernel3Ideal.Gen.facts) (hReference3Ideal := Cert.Reference3Ideal.Gen.facts) := by
  intro m g m' g' _ hargs
  refine ⟨fun c => Rows.final (Cert.Kernel3Ideal.Final.a0 m c) (Cert.Kernel3Ideal.Final.a1 m c) (Cert.Kernel3Ideal.Final.a2 m c) (Cert.Kernel3Ideal.Final.a3 m c) (Cert.Kernel3Ideal.Final.a4 m c) (Cert.Kernel3Ideal.Final.a5 m c),
    (θ_run _ _ _).mono (fun r h c => ⟨(h c).1.trans (Cert.Kernel3Ideal.Final.arr_6 m c), (h c).2⟩) (Cert.Kernel3Ideal.Value.run_blocks m g),
    (θ_run _ _ _).mono (fun r h c => ⟨(h c).1.trans ?_, (h c).2⟩) (Cert.Reference3Ideal.Value.run m' g')⟩
  rw [Cert.Reference3Ideal.Read.val_main_v18_eq, (hargs c).1, (hargs c).2.1, (hargs c).2.2.1, (hargs c).2.2.2.1, (hargs c).2.2.2.2.1, (hargs c).2.2.2.2.2]
  exact Cert.Reference3Ideal.Final.result_at _ _ _ _ _ _

/-- What the precondition of the first call says of its arguments. -/
theorem finite_in_args [Cert.Pre_finite_in.Facts] (x : Rows.Rows) (shift scale : Rows.Mods) (g : Rows.Norm) (wi : Rows.WIn) (gq : Rows.NormQ) (wq : Rows.WQ) (gkv : Rows.NormKv)
    (wkv : Rows.WKv) (h : Cert.Pre_finite_in.fn (F := Ideal) x shift scale g wi gq wq gkv wkv = fun _ => 1#1) :
    (∀ i, Rows.IsNum (shift i)) ∧ (∀ i, Rows.IsNum (scale i)) ∧ (∀ i, Rows.IsNum (g i)) ∧ (∀ i, Rows.IsNum (wi i)) ∧ (∀ i, Rows.IsNum (gq i)) ∧ ∀ i, Rows.IsNum (wq i) := by
  obtain ⟨h, h5⟩ := IntOp.andi_eq_one.mp (congrFun h fun a => a.elim0)
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨fun i => Rows.isNum_of (finite_of_lt _ (Host.reduce_andi_all _ _ _ _ _ h0 i)), fun i => Rows.isNum_of (finite_of_lt _ (Host.reduce_andi_all _ _ _ _ _ h1 i)),
    fun i => Rows.isNum_of (finite_of_lt _ (Host.reduce_andi_all _ _ _ _ _ h2 i)), fun i => Rows.isNum_of (finite_of_lt _ (Host.reduce_andi_all _ _ _ _ _ h3 i)),
    fun i => Rows.isNum_of (finite_of_lt _ (Host.reduce_andi_all _ _ _ _ _ h4 i)), fun i => Rows.isNum_of (finite_of_lt _ (Host.reduce_andi_all _ _ _ _ _ h5 i))⟩

theorem fine (m : (ℓ : Loc Cert.Kernel4Ideal.nD Cert.Kernel4Ideal.τ Cert.Kernel4Ideal.sig) → Buf (Elt Ideal) ℓ)
    (h : Pre_Kernel4Ideal_finite_in (hPre_finite_in := Cert.Pre_finite_in.Gen.facts) m) (c : Dev Cert.Kernel4Ideal.nD) : Cert.Kernel4Ideal.InA.Fine m c :=
  have f := @finite_in_args Cert.Pre_finite_in.Gen.facts _ _ _ _ _ _ _ _ _ (h c)
  ⟨f.1, f.2.1, f.2.2.1, f.2.2.2.1, f.2.2.2.2.1, f.2.2.2.2.2⟩

theorem reference4_frame : quiescent_Reference4Ideal (hReference4Ideal := Cert.Reference4Ideal.Gen.facts) := fun m g _ =>
  (θ_run _ _ _).mono (fun r h => ⟨fun c => (h c).2.2.2.2.2.2.2.2, sem_eq_zero_of_no_sems (by decide) r.2⟩) (Cert.Reference4Ideal.Value.run m g)

open Cert.Kernel4Ideal.InA Cert.Reference4Ideal.InA Cert.Reference4Ideal.Read in
theorem same_result4 : algebraic_Kernel4Ideal_Reference4Ideal_pre_finite_in (hKernel4Ideal := Cert.Kernel4Ideal.Gen.facts) (hReference4Ideal := Cert.Reference4Ideal.Gen.facts)
    (hPre_finite_in := Cert.Pre_finite_in.Gen.facts) := by
  intro m g m' g' hpre hargs
  refine ⟨fun c => Rows.inQ (a0 m c) (a1 m c) (a2 m c) (a3 m c) (a4 m c) (a5 m c) (a6 m c),
    fun c => Rows.inC (a0 m c) (a1 m c) (a2 m c) (a3 m c) (a4 m c) (a7 m c),
    fun c => Rows.inR (a0 m c) (a1 m c) (a2 m c) (a3 m c) (a4 m c),
    fun c => Rows.inM (a0 m c) (a1 m c) (a2 m c) (a3 m c) (a4 m c),
    fun c => Rows.inZ (a0 m c) (a1 m c) (a2 m c) (a3 m c) (a4 m c),
    fun c => Rows.inG (a0 m c) (a1 m c) (a2 m c) (a3 m c) (a4 m c),
    fun c => Rows.inK (a0 m c) (a1 m c) (a2 m c) (a3 m c) (a4 m c) (a7 m c) (a8 m c),
    fun c => Rows.inV (a0 m c) (a1 m c) (a2 m c) (a3 m c) (a4 m c) (a7 m c) (a8 m c),
    (θ_run _ _ _).mono (fun r h c => ⟨(h c).1.trans (arr_10 m c (fine m hpre c)),
      ((h c).2.1).trans (arr_11 m c),
      ((h c).2.2.1).trans (arr_12 m c (fine m hpre c)),
      ((h c).2.2.2.1).trans (arr_13 m c),
      ((h c).2.2.2.2.1).trans (arr_14 m c),
      ((h c).2.2.2.2.2.1).trans (arr_15 m c),
      ((h c).2.2.2.2.2.2.1).trans (arr_16 m c (fine m hpre c)),
      ((h c).2.2.2.2.2.2.2.1).trans (arr_17 m c), (h c).2.2.2.2.2.2.2.2⟩) (run_blocks m g),
    (θ_run _ _ _).mono (fun r h c => ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, ((h c).2.2.2.2.2.2.2.1).trans ?_, (h c).2.2.2.2.2.2.2.2⟩)
      (Cert.Reference4Ideal.Value.run m' g')⟩
  · rw [val_main_v139_eq, (hargs c).1, (hargs c).2.1, (hargs c).2.2.1, (hargs c).2.2.2.1, (hargs c).2.2.2.2.1, (hargs c).2.2.2.2.2.1, (hargs c).2.2.2.2.2.2.1]
    exact q_at _ _ _ _ _ _ _
  · rw [val_main_v96_eq, (hargs c).1, (hargs c).2.1, (hargs c).2.2.1, (hargs c).2.2.2.1, (hargs c).2.2.2.2.1, (hargs c).2.2.2.2.2.2.2.1]
    exact c_at _ _ _ _ _ _
  · rw [val_main_v129_eq, (hargs c).1, (hargs c).2.1, (hargs c).2.2.1, (hargs c).2.2.2.1, (hargs c).2.2.2.2.1]
    exact kr_at _ _ _ _ _
  · rw [val_main_v140_eq, (hargs c).1, (hargs c).2.1, (hargs c).2.2.1, (hargs c).2.2.2.1, (hargs c).2.2.2.2.1]
    exact m_at _ _ _ _ _
  · refine (val_main_v30_eq _ _ _ _ _).trans ?_
    rw [(hargs c).1, (hargs c).2.1, (hargs c).2.2.1, (hargs c).2.2.2.1, (hargs c).2.2.2.2.1]
    exact z_at _ _ _ _ _
  · refine (val_main_v136_eq _ _ _ _ _).trans ?_
    rw [(hargs c).1, (hargs c).2.1, (hargs c).2.2.1, (hargs c).2.2.2.1, (hargs c).2.2.2.2.1]
    exact gates_at _ _ _ _ _
  · rw [val_main_v143_eq, (hargs c).1, (hargs c).2.1, (hargs c).2.2.1, (hargs c).2.2.2.1, (hargs c).2.2.2.2.1, (hargs c).2.2.2.2.2.2.2.1, (hargs c).2.2.2.2.2.2.2.2]
    exact k_at _ _ _ _ _ _ _
  · rw [val_main_v146_eq, (hargs c).1, (hargs c).2.1, (hargs c).2.2.1, (hargs c).2.2.2.1, (hargs c).2.2.2.2.1, (hargs c).2.2.2.2.2.2.2.1, (hargs c).2.2.2.2.2.2.2.2]
    exact v_at _ _ _ _ _ _ _

theorem reference5_frame : quiescent_Reference5Ideal (hReference5Ideal := Cert.Reference5Ideal.Gen.facts) := fun m g _ =>
  (θ_run _ _ _).mono (fun r h => ⟨fun c => (h c).2, sem_eq_zero_of_no_sems (by decide) r.2⟩) (Cert.Reference5Ideal.Value.run m g)

theorem same_result5 : algebraic_Kernel5Ideal_Reference5Ideal (hKernel5Ideal := Cert.Kernel5Ideal.Gen.facts) (hReference5Ideal := Cert.Reference5Ideal.Gen.facts) := by
  intro m g m' g' _ hargs
  refine ⟨fun c => Rows.ada (Cert.Kernel5Ideal.Ada.a0 m c) (Cert.Kernel5Ideal.Ada.a1 m c) (Cert.Kernel5Ideal.Ada.a2 m c) (Cert.Kernel5Ideal.Ada.a3 m c),
    (θ_run _ _ _).mono (fun r h c => ⟨(h c).1.trans (Cert.Kernel5Ideal.Ada.arr_3 m c), (h c).2⟩) (Cert.Kernel5Ideal.Value.run_blocks m g),
    (θ_run _ _ _).mono (fun r h c => ⟨(h c).1.trans ?_, (h c).2⟩) (Cert.Reference5Ideal.Value.run m' g')⟩
  refine (Cert.Reference5Ideal.Read.val_main_v6_eq _ _ _ _).trans ?_
  rw [(hargs c).1, (hargs c).2.1, (hargs c).2.2.1, (hargs c).2.2.2]
  exact Cert.Reference5Ideal.Ada.result_at _ _ _ _

theorem reference6_frame : quiescent_Reference6Ideal (hReference6Ideal := Cert.Reference6Ideal.Gen.facts) := fun m g _ =>
  (θ_run _ _ _).mono (fun r h => ⟨fun c => (h c).2.2.2.2, sem_eq_zero_of_no_sems (by decide) r.2⟩) (Cert.Reference6Ideal.Value.run m g)

theorem same_result6 : algebraic_Kernel6Ideal_Reference6Ideal (hKernel6Ideal := Cert.Kernel6Ideal.Gen.facts) (hReference6Ideal := Cert.Reference6Ideal.Gen.facts) := by
  intro m g m' g' _ hargs
  refine ⟨fun c => Sample.midX (Cert.Kernel6Ideal.MidS.a0 m c) (Cert.Kernel6Ideal.MidS.a1 m c) (Cert.Kernel6Ideal.MidS.a2 m c) (Cert.Kernel6Ideal.MidS.a3 m c) (Cert.Kernel6Ideal.MidS.a4 m c) (Cert.Kernel6Ideal.MidS.a5 m c),
    fun c => Sample.midQkv (Cert.Kernel6Ideal.MidS.a0 m c) (Cert.Kernel6Ideal.MidS.a1 m c) (Cert.Kernel6Ideal.MidS.a2 m c) (Cert.Kernel6Ideal.MidS.a3 m c) (Cert.Kernel6Ideal.MidS.a4 m c) (Cert.Kernel6Ideal.MidS.a5 m c) (Cert.Kernel6Ideal.MidS.a6 m c) (Cert.Kernel6Ideal.MidS.a7 m c) (Cert.Kernel6Ideal.MidS.a8 m c) (Cert.Kernel6Ideal.MidS.a9 m c),
    fun c => Sample.midZ (Cert.Kernel6Ideal.MidS.a0 m c) (Cert.Kernel6Ideal.MidS.a1 m c) (Cert.Kernel6Ideal.MidS.a2 m c) (Cert.Kernel6Ideal.MidS.a3 m c) (Cert.Kernel6Ideal.MidS.a4 m c) (Cert.Kernel6Ideal.MidS.a5 m c) (Cert.Kernel6Ideal.MidS.a6 m c) (Cert.Kernel6Ideal.MidS.a7 m c) (Cert.Kernel6Ideal.MidS.a8 m c) (Cert.Kernel6Ideal.MidS.a9 m c),
    fun c => Sample.midAb (Cert.Kernel6Ideal.MidS.a0 m c) (Cert.Kernel6Ideal.MidS.a1 m c) (Cert.Kernel6Ideal.MidS.a2 m c) (Cert.Kernel6Ideal.MidS.a3 m c) (Cert.Kernel6Ideal.MidS.a4 m c) (Cert.Kernel6Ideal.MidS.a5 m c) (Cert.Kernel6Ideal.MidS.a6 m c) (Cert.Kernel6Ideal.MidS.a7 m c) (Cert.Kernel6Ideal.MidS.a8 m c) (Cert.Kernel6Ideal.MidS.a9 m c),
    (θ_run _ _ _).mono (fun r h c => ⟨(h c).1.trans (Cert.Kernel6Ideal.MidS.arr_10 m c), (h c).2.1.trans (Cert.Kernel6Ideal.MidS.arr_11 m c), (h c).2.2.1.trans (Cert.Kernel6Ideal.MidS.arr_12 m c),
      (h c).2.2.2.1.trans (Cert.Kernel6Ideal.MidS.arr_13 m c), (h c).2.2.2.2⟩) (Cert.Kernel6Ideal.Value.run_blocks m g),
    (θ_run _ _ _).mono (fun r h c => ⟨(h c).1.trans ?_, (h c).2.1.trans ?_, (h c).2.2.1.trans ?_, (h c).2.2.2.1.trans ?_, (h c).2.2.2.2⟩)
      (Cert.Reference6Ideal.Value.run m' g')⟩
  · rw [Cert.Reference6Ideal.Read.val_main_v6_eq, (hargs c).1, (hargs c).2.1, (hargs c).2.2.1, (hargs c).2.2.2.1, (hargs c).2.2.2.2.1, (hargs c).2.2.2.2.2.1]
    exact Cert.Reference6Ideal.MidS.x_at _ _ _ _ _ _
  · rw [Cert.Reference6Ideal.Read.val_main_v27_eq, (hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2]
    exact Cert.Reference6Ideal.MidS.qkv_at _ _ _ _ _ _ _ _ _ _
  · rw [Cert.Reference6Ideal.Read.val_main_v30_eq, (hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2]
    exact Cert.Reference6Ideal.MidS.z_at _ _ _ _ _ _ _ _ _ _
  · rw [Cert.Reference6Ideal.Read.val_main_v32_eq, (hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2]
    exact Cert.Reference6Ideal.MidS.ab_at _ _ _ _ _ _ _ _ _ _

theorem reference7_frame : quiescent_Reference7Ideal (hReference7Ideal := Cert.Reference7Ideal.Gen.facts) := fun m g _ =>
  (θ_run _ _ _).mono (fun r h => ⟨fun c => (h c).2, sem_eq_zero_of_no_sems (by decide) r.2⟩) (Cert.Reference7Ideal.Value.run m g)

theorem same_result7 : algebraic_Kernel7Ideal_Reference7Ideal (hKernel7Ideal := Cert.Kernel7Ideal.Gen.facts) (hReference7Ideal := Cert.Reference7Ideal.Gen.facts) := by
  intro m g m' g' _ hargs
  refine ⟨fun c => Sample.final (Cert.Kernel7Ideal.FinalS.a0 m c) (Cert.Kernel7Ideal.FinalS.a1 m c) (Cert.Kernel7Ideal.FinalS.a2 m c) (Cert.Kernel7Ideal.FinalS.a3 m c) (Cert.Kernel7Ideal.FinalS.a4 m c) (Cert.Kernel7Ideal.FinalS.a5 m c),
    (θ_run _ _ _).mono (fun r h c => ⟨(h c).1.trans (Cert.Kernel7Ideal.FinalS.arr_6 m c), (h c).2⟩) (Cert.Kernel7Ideal.Value.run_blocks m g),
    (θ_run _ _ _).mono (fun r h c => ⟨(h c).1.trans ?_, (h c).2⟩) (Cert.Reference7Ideal.Value.run m' g')⟩
  rw [Cert.Reference7Ideal.Read.val_main_v18_eq, (hargs c).1, (hargs c).2.1, (hargs c).2.2.1, (hargs c).2.2.2.1, (hargs c).2.2.2.2.1, (hargs c).2.2.2.2.2]
  exact Cert.Reference7Ideal.FinalS.result_at _ _ _ _ _ _

/-- What the precondition of the first call over the sample says of its arguments. -/
theorem finite_sample_args [Cert.Pre_finite_sample.Facts] (x : Sample.Rows) (shift scale : Sample.Mods) (g : Rows.Norm) (wi : Rows.WIn) (gq : Rows.NormQ) (wq : Rows.WQ) (gkv : Rows.NormKv)
    (wkv : Rows.WKv) (h : Cert.Pre_finite_sample.fn (F := Ideal) x shift scale g wi gq wq gkv wkv = fun _ => 1#1) :
    (∀ i, Rows.IsNum (shift i)) ∧ (∀ i, Rows.IsNum (scale i)) ∧ (∀ i, Rows.IsNum (g i)) ∧ (∀ i, Rows.IsNum (wi i)) ∧ (∀ i, Rows.IsNum (gq i)) ∧ ∀ i, Rows.IsNum (wq i) := by
  obtain ⟨h, h5⟩ := IntOp.andi_eq_one.mp (congrFun h fun a => a.elim0)
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨fun i => Rows.isNum_of (finite_of_lt _ (Host.reduce_andi_all _ _ _ _ _ h0 i)), fun i => Rows.isNum_of (finite_of_lt _ (Host.reduce_andi_all _ _ _ _ _ h1 i)),
    fun i => Rows.isNum_of (finite_of_lt _ (Host.reduce_andi_all _ _ _ _ _ h2 i)), fun i => Rows.isNum_of (finite_of_lt _ (Host.reduce_andi_all _ _ _ _ _ h3 i)),
    fun i => Rows.isNum_of (finite_of_lt _ (Host.reduce_andi_all _ _ _ _ _ h4 i)), fun i => Rows.isNum_of (finite_of_lt _ (Host.reduce_andi_all _ _ _ _ _ h5 i))⟩

theorem fine8 (m : (ℓ : Loc Cert.Kernel8Ideal.nD Cert.Kernel8Ideal.τ Cert.Kernel8Ideal.sig) → Buf (Elt Ideal) ℓ)
    (h : Pre_Kernel8Ideal_finite_sample (hPre_finite_sample := Cert.Pre_finite_sample.Gen.facts) m) (c : Dev Cert.Kernel8Ideal.nD) : Cert.Kernel8Ideal.InAS.Fine m c :=
  have f := @finite_sample_args Cert.Pre_finite_sample.Gen.facts _ _ _ _ _ _ _ _ _ (h c)
  ⟨f.1, f.2.1, f.2.2.1, f.2.2.2.1, f.2.2.2.2.1, f.2.2.2.2.2⟩

theorem reference8_frame : quiescent_Reference8Ideal (hReference8Ideal := Cert.Reference8Ideal.Gen.facts) := fun m g _ =>
  (θ_run _ _ _).mono (fun r h => ⟨fun c => (h c).2.2.2.2.2.2, sem_eq_zero_of_no_sems (by decide) r.2⟩) (Cert.Reference8Ideal.Value.run m g)

open Cert.Kernel8Ideal.InAS Cert.Reference8Ideal.InAS Cert.Reference8Ideal.Read in
theorem same_result8 : algebraic_Kernel8Ideal_Reference8Ideal_pre_finite_sample (hKernel8Ideal := Cert.Kernel8Ideal.Gen.facts) (hReference8Ideal := Cert.Reference8Ideal.Gen.facts)
    (hPre_finite_sample := Cert.Pre_finite_sample.Gen.facts) := by
  intro m g m' g' hpre hargs
  refine ⟨fun c => Sample.inQ (a0 m c) (a1 m c) (a2 m c) (a3 m c) (a4 m c) (a5 m c) (a6 m c),
    fun c => Rows.inC (a0 m c) (a1 m c) (a2 m c) (a3 m c) (a4 m c) (a7 m c),
    fun c => Sample.inR (a0 m c) (a1 m c) (a2 m c) (a3 m c) (a4 m c),
    fun c => Rows.inM (a0 m c) (a1 m c) (a2 m c) (a3 m c) (a4 m c),
    fun c => Rows.inZ (a0 m c) (a1 m c) (a2 m c) (a3 m c) (a4 m c),
    fun c => Rows.inG (a0 m c) (a1 m c) (a2 m c) (a3 m c) (a4 m c),
    (θ_run _ _ _).mono (fun r h c => ⟨(h c).1.trans (arr_10 m c (fine8 m hpre c)),
      ((h c).2.1).trans (arr_11 m c),
      ((h c).2.2.1).trans (arr_12 m c (fine8 m hpre c)),
      ((h c).2.2.2.1).trans (arr_13 m c),
      ((h c).2.2.2.2.1).trans (arr_14 m c),
      ((h c).2.2.2.2.2.1).trans (arr_15 m c),
      (h c).2.2.2.2.2.2⟩) (run_blocks m g),
    (θ_run _ _ _).mono (fun r h c => ⟨((h c).1).trans ?_, ((h c).2.1).trans ?_, ((h c).2.2.1).trans ?_, ((h c).2.2.2.1).trans ?_, ((h c).2.2.2.2.1).trans ?_, ((h c).2.2.2.2.2.1).trans ?_, (h c).2.2.2.2.2.2⟩)
      (Cert.Reference8Ideal.Value.run m' g')⟩
  · rw [val_main_v90_eq, (hargs c).1, (hargs c).2.1, (hargs c).2.2.1, (hargs c).2.2.2.1, (hargs c).2.2.2.2.1, (hargs c).2.2.2.2.2.1, (hargs c).2.2.2.2.2.2.1]
    exact q_at _ _ _ _ _ _ _
  · rw [val_main_v103_eq, (hargs c).1, (hargs c).2.1, (hargs c).2.2.1, (hargs c).2.2.2.1, (hargs c).2.2.2.2.1, (hargs c).2.2.2.2.2.2.2.1]
    exact c_at _ _ _ _ _ _
  · rw [val_main_v136_eq, (hargs c).1, (hargs c).2.1, (hargs c).2.2.1, (hargs c).2.2.2.1, (hargs c).2.2.2.2.1]
    exact kr_at _ _ _ _ _
  · rw [val_main_v137_eq, (hargs c).1, (hargs c).2.1, (hargs c).2.2.1, (hargs c).2.2.2.1, (hargs c).2.2.2.2.1]
    exact m_at _ _ _ _ _
  · refine (val_main_v32_eq _ _ _ _ _).trans ?_
    rw [(hargs c).1, (hargs c).2.1, (hargs c).2.2.1, (hargs c).2.2.2.1, (hargs c).2.2.2.2.1]
    exact z_at _ _ _ _ _
  · refine (val_main_v87_eq _ _ _ _ _).trans ?_
    rw [(hargs c).1, (hargs c).2.1, (hargs c).2.2.1, (hargs c).2.2.2.1, (hargs c).2.2.2.2.1]
    exact gates_at _ _ _ _ _

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite_qk.Gen.facts, Cert.Pre_finite_in.Gen.facts, Cert.Pre_finite_sample.Gen.facts,
    fun m g _ => Cert.Kernel.Forget.frame m g, fun m g _ => Cert.KernelIdeal.Flash.frame m g,
    fun m g _ => Cert.KernelIdeal.Flash.frame m g, fun m g _ => reference_frame m g, fun m g _ => reference_frame m g,
    fun m g _ => Cert.Kernel2.Gen.frame m g, fun m g _ => Cert.Kernel2Ideal.Gen.frame m g, reference2_frame,
    fun m g _ => Cert.Kernel3.Gen.frame m g, fun m g _ => Cert.Kernel3Ideal.Gen.frame m g, reference3_frame,
    fun m g _ => Cert.Kernel4.Gen.frame m g, fun m g _ => Cert.Kernel4Ideal.Gen.frame m g, fun m g _ => Cert.Kernel4Ideal.Gen.frame m g,
    reference4_frame, fun m g _ => reference4_frame m g trivial,
    fun m g _ => Cert.Kernel5.Gen.frame m g, fun m g _ => Cert.Kernel5Ideal.Gen.frame m g, reference5_frame,
    fun m g _ => Cert.Kernel6.Gen.frame m g, fun m g _ => Cert.Kernel6Ideal.Gen.frame m g, reference6_frame,
    fun m g _ => Cert.Kernel7.Gen.frame m g, fun m g _ => Cert.Kernel7Ideal.Gen.frame m g, reference7_frame,
    fun m g _ => Cert.Kernel8.Gen.frame m g, fun m g _ => Cert.Kernel8Ideal.Gen.frame m g, fun m g _ => Cert.Kernel8Ideal.Gen.frame m g,
    reference8_frame, fun m g _ => reference8_frame m g trivial,
    trivial, same_result, trivial, same_result2, trivial, same_result3, trivial, same_result4, trivial, same_result5, trivial, same_result6,
    trivial, same_result7, trivial, same_result8⟩

end Cert.Proof

end
